-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_and_keys_finite [hPre_queries_and_keys_finite : Cert.Pre_queries_and_keys_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queries_and_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_queries_and_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_and_keys_finite [hPre_queries_and_keys_finite : Cert.Pre_queries_and_keys_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_and_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_queries_and_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_KernelKvIdeal_weights_finite [hPre_weights_finite : Cert.Pre_weights_finite.Facts] (m : (ℓ : Loc Cert.KernelKvIdeal.nD Cert.KernelKvIdeal.τ Cert.KernelKvIdeal.sig) → Buf (Elt Ideal) ℓ) : Prop :=
  ∀ c : Dev Cert.KernelKvIdeal.nD,
    (Cert.Pre_weights_finite.fn (F := Ideal) (m ((c.tc : Thread Cert.KernelKvIdeal.nD Cert.KernelKvIdeal.τ).loc Cert.KernelKvIdeal.main_arg0)) (m ((c.tc : Thread Cert.KernelKvIdeal.nD Cert.KernelKvIdeal.τ).loc Cert.KernelKvIdeal.main_arg1)) (m ((c.tc : Thread Cert.KernelKvIdeal.nD Cert.KernelKvIdeal.τ).loc Cert.KernelKvIdeal.main_arg2)) (m ((c.tc : Thread Cert.KernelKvIdeal.nD Cert.KernelKvIdeal.τ).loc Cert.KernelKvIdeal.main_arg3)) (m ((c.tc : Thread Cert.KernelKvIdeal.nD Cert.KernelKvIdeal.τ).loc Cert.KernelKvIdeal.main_arg4)) (m ((c.tc : Thread Cert.KernelKvIdeal.nD Cert.KernelKvIdeal.τ).loc Cert.KernelKvIdeal.main_arg5))).1 = (fun _ => 1#1)
    ∧ (Cert.Pre_weights_finite.fn (F := Ideal) (m ((c.tc : Thread Cert.KernelKvIdeal.nD Cert.KernelKvIdeal.τ).loc Cert.KernelKvIdeal.main_arg0)) (m ((c.tc : Thread Cert.KernelKvIdeal.nD Cert.KernelKvIdeal.τ).loc Cert.KernelKvIdeal.main_arg1)) (m ((c.tc : Thread Cert.KernelKvIdeal.nD Cert.KernelKvIdeal.τ).loc Cert.KernelKvIdeal.main_arg2)) (m ((c.tc : Thread Cert.KernelKvIdeal.nD Cert.KernelKvIdeal.τ).loc Cert.KernelKvIdeal.main_arg3)) (m ((c.tc : Thread Cert.KernelKvIdeal.nD Cert.KernelKvIdeal.τ).loc Cert.KernelKvIdeal.main_arg4)) (m ((c.tc : Thread Cert.KernelKvIdeal.nD Cert.KernelKvIdeal.τ).loc Cert.KernelKvIdeal.main_arg5))).2.1 = (fun _ => 1#1)
    ∧ (Cert.Pre_weights_finite.fn (F := Ideal) (m ((c.tc : Thread Cert.KernelKvIdeal.nD Cert.KernelKvIdeal.τ).loc Cert.KernelKvIdeal.main_arg0)) (m ((c.tc : Thread Cert.KernelKvIdeal.nD Cert.KernelKvIdeal.τ).loc Cert.KernelKvIdeal.main_arg1)) (m ((c.tc : Thread Cert.KernelKvIdeal.nD Cert.KernelKvIdeal.τ).loc Cert.KernelKvIdeal.main_arg2)) (m ((c.tc : Thread Cert.KernelKvIdeal.nD Cert.KernelKvIdeal.τ).loc Cert.KernelKvIdeal.main_arg3)) (m ((c.tc : Thread Cert.KernelKvIdeal.nD Cert.KernelKvIdeal.τ).loc Cert.KernelKvIdeal.main_arg4)) (m ((c.tc : Thread Cert.KernelKvIdeal.nD Cert.KernelKvIdeal.τ).loc Cert.KernelKvIdeal.main_arg5))).2.2.1 = (fun _ => 1#1)
    ∧ (Cert.Pre_weights_finite.fn (F := Ideal) (m ((c.tc : Thread Cert.KernelKvIdeal.nD Cert.KernelKvIdeal.τ).loc Cert.KernelKvIdeal.main_arg0)) (m ((c.tc : Thread Cert.KernelKvIdeal.nD Cert.KernelKvIdeal.τ).loc Cert.KernelKvIdeal.main_arg1)) (m ((c.tc : Thread Cert.KernelKvIdeal.nD Cert.KernelKvIdeal.τ).loc Cert.KernelKvIdeal.main_arg2)) (m ((c.tc : Thread Cert.KernelKvIdeal.nD Cert.KernelKvIdeal.τ).loc Cert.KernelKvIdeal.main_arg3)) (m ((c.tc : Thread Cert.KernelKvIdeal.nD Cert.KernelKvIdeal.τ).loc Cert.KernelKvIdeal.main_arg4)) (m ((c.tc : Thread Cert.KernelKvIdeal.nD Cert.KernelKvIdeal.τ).loc Cert.KernelKvIdeal.main_arg5))).2.2.2 = (fun _ => 1#1)

def Pre_ReferenceKvIdeal (m : (ℓ : Loc Cert.ReferenceKvIdeal.nD Cert.ReferenceKvIdeal.τ Cert.ReferenceKvIdeal.sig) → Buf (Elt Ideal) ℓ) : Prop :=
  True

def Pre_ReferenceKvIdeal_weights_finite [hPre_weights_finite : Cert.Pre_weights_finite.Facts] (m : (ℓ : Loc Cert.ReferenceKvIdeal.nD Cert.ReferenceKvIdeal.τ Cert.ReferenceKvIdeal.sig) → Buf (Elt Ideal) ℓ) : Prop :=
  ∀ c : Dev Cert.ReferenceKvIdeal.nD,
    (Cert.Pre_weights_finite.fn (F := Ideal) (m ((c.tc : Thread Cert.ReferenceKvIdeal.nD Cert.ReferenceKvIdeal.τ).loc Cert.ReferenceKvIdeal.main_arg0)) (m ((c.tc : Thread Cert.ReferenceKvIdeal.nD Cert.ReferenceKvIdeal.τ).loc Cert.ReferenceKvIdeal.main_arg1)) (m ((c.tc : Thread Cert.ReferenceKvIdeal.nD Cert.ReferenceKvIdeal.τ).loc Cert.ReferenceKvIdeal.main_arg2)) (m ((c.tc : Thread Cert.ReferenceKvIdeal.nD Cert.ReferenceKvIdeal.τ).loc Cert.ReferenceKvIdeal.main_arg3)) (m ((c.tc : Thread Cert.ReferenceKvIdeal.nD Cert.ReferenceKvIdeal.τ).loc Cert.ReferenceKvIdeal.main_arg4)) (m ((c.tc : Thread Cert.ReferenceKvIdeal.nD Cert.ReferenceKvIdeal.τ).loc Cert.ReferenceKvIdeal.main_arg5))).1 = (fun _ => 1#1)
    ∧ (Cert.Pre_weights_finite.fn (F := Ideal) (m ((c.tc : Thread Cert.ReferenceKvIdeal.nD Cert.ReferenceKvIdeal.τ).loc Cert.ReferenceKvIdeal.main_arg0)) (m ((c.tc : Thread Cert.ReferenceKvIdeal.nD Cert.ReferenceKvIdeal.τ).loc Cert.ReferenceKvIdeal.main_arg1)) (m ((c.tc : Thread Cert.ReferenceKvIdeal.nD Cert.ReferenceKvIdeal.τ).loc Cert.ReferenceKvIdeal.main_arg2)) (m ((c.tc : Thread Cert.ReferenceKvIdeal.nD Cert.ReferenceKvIdeal.τ).loc Cert.ReferenceKvIdeal.main_arg3)) (m ((c.tc : Thread Cert.ReferenceKvIdeal.nD Cert.ReferenceKvIdeal.τ).loc Cert.ReferenceKvIdeal.main_arg4)) (m ((c.tc : Thread Cert.ReferenceKvIdeal.nD Cert.ReferenceKvIdeal.τ).loc Cert.ReferenceKvIdeal.main_arg5))).2.1 = (fun _ => 1#1)
    ∧ (Cert.Pre_weights_finite.fn (F := Ideal) (m ((c.tc : Thread Cert.ReferenceKvIdeal.nD Cert.ReferenceKvIdeal.τ).loc Cert.ReferenceKvIdeal.main_arg0)) (m ((c.tc : Thread Cert.ReferenceKvIdeal.nD Cert.ReferenceKvIdeal.τ).loc Cert.ReferenceKvIdeal.main_arg1)) (m ((c.tc : Thread Cert.ReferenceKvIdeal.nD Cert.ReferenceKvIdeal.τ).loc Cert.ReferenceKvIdeal.main_arg2)) (m ((c.tc : Thread Cert.ReferenceKvIdeal.nD Cert.ReferenceKvIdeal.τ).loc Cert.ReferenceKvIdeal.main_arg3)) (m ((c.tc : Thread Cert.ReferenceKvIdeal.nD Cert.ReferenceKvIdeal.τ).loc Cert.ReferenceKvIdeal.main_arg4)) (m ((c.tc : Thread Cert.ReferenceKvIdeal.nD Cert.ReferenceKvIdeal.τ).loc Cert.ReferenceKvIdeal.main_arg5))).2.2.1 = (fun _ => 1#1)
    ∧ (Cert.Pre_weights_finite.fn (F := Ideal) (m ((c.tc : Thread Cert.ReferenceKvIdeal.nD Cert.ReferenceKvIdeal.τ).loc Cert.ReferenceKvIdeal.main_arg0)) (m ((c.tc : Thread Cert.ReferenceKvIdeal.nD Cert.ReferenceKvIdeal.τ).loc Cert.ReferenceKvIdeal.main_arg1)) (m ((c.tc : Thread Cert.ReferenceKvIdeal.nD Cert.ReferenceKvIdeal.τ).loc Cert.ReferenceKvIdeal.main_arg2)) (m ((c.tc : Thread Cert.ReferenceKvIdeal.nD Cert.ReferenceKvIdeal.τ).loc Cert.ReferenceKvIdeal.main_arg3)) (m ((c.tc : Thread Cert.ReferenceKvIdeal.nD Cert.ReferenceKvIdeal.τ).loc Cert.ReferenceKvIdeal.main_arg4)) (m ((c.tc : Thread Cert.ReferenceKvIdeal.nD Cert.ReferenceKvIdeal.τ).loc Cert.ReferenceKvIdeal.main_arg5))).2.2.2 = (fun _ => 1#1)

def Pre_KernelPre (m : (ℓ : Loc Cert.KernelPre.nD Cert.KernelPre.τ Cert.KernelPre.sig) → Buf (Elt Bits) ℓ) : Prop :=
  True

def Pre_KernelPreIdeal (m : (ℓ : Loc Cert.KernelPreIdeal.nD Cert.KernelPreIdeal.τ Cert.KernelPreIdeal.sig) → Buf (Elt Ideal) ℓ) : Prop :=
  True

def Pre_ReferencePreIdeal (m : (ℓ : Loc Cert.ReferencePreIdeal.nD Cert.ReferencePreIdeal.τ Cert.ReferencePreIdeal.sig) → Buf (Elt Ideal) ℓ) : Prop :=
  True

def Pre_KernelBand (m : (ℓ : Loc Cert.KernelBand.nD Cert.KernelBand.τ Cert.KernelBand.sig) → Buf (Elt Bits) ℓ) : Prop :=
  True

def Pre_KernelBandIdeal (m : (ℓ : Loc Cert.KernelBandIdeal.nD Cert.KernelBandIdeal.τ Cert.KernelBandIdeal.sig) → Buf (Elt Ideal) ℓ) : Prop :=
  True

def Pre_KernelBandIdeal_query_weights_finite [hPre_query_weights_finite : Cert.Pre_query_weights_finite.Facts] (m : (ℓ : Loc Cert.KernelBandIdeal.nD Cert.KernelBandIdeal.τ Cert.KernelBandIdeal.sig) → Buf (Elt Ideal) ℓ) : Prop :=
  ∀ c : Dev Cert.KernelBandIdeal.nD,
    (Cert.Pre_query_weights_finite.fn (F := Ideal) (m ((c.tc : Thread Cert.KernelBandIdeal.nD Cert.KernelBandIdeal.τ).loc Cert.KernelBandIdeal.main_arg0)) (m ((c.tc : Thread Cert.KernelBandIdeal.nD Cert.KernelBandIdeal.τ).loc Cert.KernelBandIdeal.main_arg1)) (m ((c.tc : Thread Cert.KernelBandIdeal.nD Cert.KernelBandIdeal.τ).loc Cert.KernelBandIdeal.main_arg2)) (m ((c.tc : Thread Cert.KernelBandIdeal.nD Cert.KernelBandIdeal.τ).loc Cert.KernelBandIdeal.main_arg3)) (m ((c.tc : Thread Cert.KernelBandIdeal.nD Cert.KernelBandIdeal.τ).loc Cert.KernelBandIdeal.main_arg4)) (m ((c.tc : Thread Cert.KernelBandIdeal.nD Cert.KernelBandIdeal.τ).loc Cert.KernelBandIdeal.main_arg5))).1 = (fun _ => 1#1)
    ∧ (Cert.Pre_query_weights_finite.fn (F := Ideal) (m ((c.tc : Thread Cert.KernelBandIdeal.nD Cert.KernelBandIdeal.τ).loc Cert.KernelBandIdeal.main_arg0)) (m ((c.tc : Thread Cert.KernelBandIdeal.nD Cert.KernelBandIdeal.τ).loc Cert.KernelBandIdeal.main_arg1)) (m ((c.tc : Thread Cert.KernelBandIdeal.nD Cert.KernelBandIdeal.τ).loc Cert.KernelBandIdeal.main_arg2)) (m ((c.tc : Thread Cert.KernelBandIdeal.nD Cert.KernelBandIdeal.τ).loc Cert.KernelBandIdeal.main_arg3)) (m ((c.tc : Thread Cert.KernelBandIdeal.nD Cert.KernelBandIdeal.τ).loc Cert.KernelBandIdeal.main_arg4)) (m ((c.tc : Thread Cert.KernelBandIdeal.nD Cert.KernelBandIdeal.τ).loc Cert.KernelBandIdeal.main_arg5))).2.1 = (fun _ => 1#1)
    ∧ (Cert.Pre_query_weights_finite.fn (F := Ideal) (m ((c.tc : Thread Cert.KernelBandIdeal.nD Cert.KernelBandIdeal.τ).loc Cert.KernelBandIdeal.main_arg0)) (m ((c.tc : Thread Cert.KernelBandIdeal.nD Cert.KernelBandIdeal.τ).loc Cert.KernelBandIdeal.main_arg1)) (m ((c.tc : Thread Cert.KernelBandIdeal.nD Cert.KernelBandIdeal.τ).loc Cert.KernelBandIdeal.main_arg2)) (m ((c.tc : Thread Cert.KernelBandIdeal.nD Cert.KernelBandIdeal.τ).loc Cert.KernelBandIdeal.main_arg3)) (m ((c.tc : Thread Cert.KernelBandIdeal.nD Cert.KernelBandIdeal.τ).loc Cert.KernelBandIdeal.main_arg4)) (m ((c.tc : Thread Cert.KernelBandIdeal.nD Cert.KernelBandIdeal.τ).loc Cert.KernelBandIdeal.main_arg5))).2.2.1 = (fun _ => 1#1)
    ∧ (Cert.Pre_query_weights_finite.fn (F := Ideal) (m ((c.tc : Thread Cert.KernelBandIdeal.nD Cert.KernelBandIdeal.τ).loc Cert.KernelBandIdeal.main_arg0)) (m ((c.tc : Thread Cert.KernelBandIdeal.nD Cert.KernelBandIdeal.τ).loc Cert.KernelBandIdeal.main_arg1)) (m ((c.tc : Thread Cert.KernelBandIdeal.nD Cert.KernelBandIdeal.τ).loc Cert.KernelBandIdeal.main_arg2)) (m ((c.tc : Thread Cert.KernelBandIdeal.nD Cert.KernelBandIdeal.τ).loc Cert.KernelBandIdeal.main_arg3)) (m ((c.tc : Thread Cert.KernelBandIdeal.nD Cert.KernelBandIdeal.τ).loc Cert.KernelBandIdeal.main_arg4)) (m ((c.tc : Thread Cert.KernelBandIdeal.nD Cert.KernelBandIdeal.τ).loc Cert.KernelBandIdeal.main_arg5))).2.2.2 = (fun _ => 1#1)

def Pre_ReferenceBandIdeal (m : (ℓ : Loc Cert.ReferenceBandIdeal.nD Cert.ReferenceBandIdeal.τ Cert.ReferenceBandIdeal.sig) → Buf (Elt Ideal) ℓ) : Prop :=
  True

def Pre_ReferenceBandIdeal_query_weights_finite [hPre_query_weights_finite : Cert.Pre_query_weights_finite.Facts] (m : (ℓ : Loc Cert.ReferenceBandIdeal.nD Cert.ReferenceBandIdeal.τ Cert.ReferenceBandIdeal.sig) → Buf (Elt Ideal) ℓ) : Prop :=
  ∀ c : Dev Cert.ReferenceBandIdeal.nD,
    (Cert.Pre_query_weights_finite.fn (F := Ideal) (m ((c.tc : Thread Cert.ReferenceBandIdeal.nD Cert.ReferenceBandIdeal.τ).loc Cert.ReferenceBandIdeal.main_arg0)) (m ((c.tc : Thread Cert.ReferenceBandIdeal.nD Cert.ReferenceBandIdeal.τ).loc Cert.ReferenceBandIdeal.main_arg1)) (m ((c.tc : Thread Cert.ReferenceBandIdeal.nD Cert.ReferenceBandIdeal.τ).loc Cert.ReferenceBandIdeal.main_arg2)) (m ((c.tc : Thread Cert.ReferenceBandIdeal.nD Cert.ReferenceBandIdeal.τ).loc Cert.ReferenceBandIdeal.main_arg3)) (m ((c.tc : Thread Cert.ReferenceBandIdeal.nD Cert.ReferenceBandIdeal.τ).loc Cert.ReferenceBandIdeal.main_arg4)) (m ((c.tc : Thread Cert.ReferenceBandIdeal.nD Cert.ReferenceBandIdeal.τ).loc Cert.ReferenceBandIdeal.main_arg5))).1 = (fun _ => 1#1)
    ∧ (Cert.Pre_query_weights_finite.fn (F := Ideal) (m ((c.tc : Thread Cert.ReferenceBandIdeal.nD Cert.ReferenceBandIdeal.τ).loc Cert.ReferenceBandIdeal.main_arg0)) (m ((c.tc : Thread Cert.ReferenceBandIdeal.nD Cert.ReferenceBandIdeal.τ).loc Cert.ReferenceBandIdeal.main_arg1)) (m ((c.tc : Thread Cert.ReferenceBandIdeal.nD Cert.ReferenceBandIdeal.τ).loc Cert.ReferenceBandIdeal.main_arg2)) (m ((c.tc : Thread Cert.ReferenceBandIdeal.nD Cert.ReferenceBandIdeal.τ).loc Cert.ReferenceBandIdeal.main_arg3)) (m ((c.tc : Thread Cert.ReferenceBandIdeal.nD Cert.ReferenceBandIdeal.τ).loc Cert.ReferenceBandIdeal.main_arg4)) (m ((c.tc : Thread Cert.ReferenceBandIdeal.nD Cert.ReferenceBandIdeal.τ).loc Cert.ReferenceBandIdeal.main_arg5))).2.1 = (fun _ => 1#1)
    ∧ (Cert.Pre_query_weights_finite.fn (F := Ideal) (m ((c.tc : Thread Cert.ReferenceBandIdeal.nD Cert.ReferenceBandIdeal.τ).loc Cert.ReferenceBandIdeal.main_arg0)) (m ((c.tc : Thread Cert.ReferenceBandIdeal.nD Cert.ReferenceBandIdeal.τ).loc Cert.ReferenceBandIdeal.main_arg1)) (m ((c.tc : Thread Cert.ReferenceBandIdeal.nD Cert.ReferenceBandIdeal.τ).loc Cert.ReferenceBandIdeal.main_arg2)) (m ((c.tc : Thread Cert.ReferenceBandIdeal.nD Cert.ReferenceBandIdeal.τ).loc Cert.ReferenceBandIdeal.main_arg3)) (m ((c.tc : Thread Cert.ReferenceBandIdeal.nD Cert.ReferenceBandIdeal.τ).loc Cert.ReferenceBandIdeal.main_arg4)) (m ((c.tc : Thread Cert.ReferenceBandIdeal.nD Cert.ReferenceBandIdeal.τ).loc Cert.ReferenceBandIdeal.main_arg5))).2.2.1 = (fun _ => 1#1)
    ∧ (Cert.Pre_query_weights_finite.fn (F := Ideal) (m ((c.tc : Thread Cert.ReferenceBandIdeal.nD Cert.ReferenceBandIdeal.τ).loc Cert.ReferenceBandIdeal.main_arg0)) (m ((c.tc : Thread Cert.ReferenceBandIdeal.nD Cert.ReferenceBandIdeal.τ).loc Cert.ReferenceBandIdeal.main_arg1)) (m ((c.tc : Thread Cert.ReferenceBandIdeal.nD Cert.ReferenceBandIdeal.τ).loc Cert.ReferenceBandIdeal.main_arg2)) (m ((c.tc : Thread Cert.ReferenceBandIdeal.nD Cert.ReferenceBandIdeal.τ).loc Cert.ReferenceBandIdeal.main_arg3)) (m ((c.tc : Thread Cert.ReferenceBandIdeal.nD Cert.ReferenceBandIdeal.τ).loc Cert.ReferenceBandIdeal.main_arg4)) (m ((c.tc : Thread Cert.ReferenceBandIdeal.nD Cert.ReferenceBandIdeal.τ).loc Cert.ReferenceBandIdeal.main_arg5))).2.2.2 = (fun _ => 1#1)

def Pre_KernelStep (m : (ℓ : Loc Cert.KernelStep.nD Cert.KernelStep.τ Cert.KernelStep.sig) → Buf (Elt Bits) ℓ) : Prop :=
  True

def Pre_KernelStepIdeal (m : (ℓ : Loc Cert.KernelStepIdeal.nD Cert.KernelStepIdeal.τ Cert.KernelStepIdeal.sig) → Buf (Elt Ideal) ℓ) : Prop :=
  True

def Pre_ReferenceStepIdeal (m : (ℓ : Loc Cert.ReferenceStepIdeal.nD Cert.ReferenceStepIdeal.τ Cert.ReferenceStepIdeal.sig) → Buf (Elt Ideal) ℓ) : Prop :=
  True

def Pre_KernelCache (m : (ℓ : Loc Cert.KernelCache.nD Cert.KernelCache.τ Cert.KernelCache.sig) → Buf (Elt Bits) ℓ) : Prop :=
  True

def Pre_KernelCacheIdeal (m : (ℓ : Loc Cert.KernelCacheIdeal.nD Cert.KernelCacheIdeal.τ Cert.KernelCacheIdeal.sig) → Buf (Elt Ideal) ℓ) : Prop :=
  True

def Pre_KernelCacheIdeal_step_weights_finite [hPre_step_weights_finite : Cert.Pre_step_weights_finite.Facts] (m : (ℓ : Loc Cert.KernelCacheIdeal.nD Cert.KernelCacheIdeal.τ Cert.KernelCacheIdeal.sig) → Buf (Elt Ideal) ℓ) : Prop :=
  ∀ c : Dev Cert.KernelCacheIdeal.nD,
    (Cert.Pre_step_weights_finite.fn (F := Ideal) (m ((c.tc : Thread Cert.KernelCacheIdeal.nD Cert.KernelCacheIdeal.τ).loc Cert.KernelCacheIdeal.main_arg0)) (m ((c.tc : Thread Cert.KernelCacheIdeal.nD Cert.KernelCacheIdeal.τ).loc Cert.KernelCacheIdeal.main_arg1)) (m ((c.tc : Thread Cert.KernelCacheIdeal.nD Cert.KernelCacheIdeal.τ).loc Cert.KernelCacheIdeal.main_arg2)) (m ((c.tc : Thread Cert.KernelCacheIdeal.nD Cert.KernelCacheIdeal.τ).loc Cert.KernelCacheIdeal.main_arg3)) (m ((c.tc : Thread Cert.KernelCacheIdeal.nD Cert.KernelCacheIdeal.τ).loc Cert.KernelCacheIdeal.main_arg4)) (m ((c.tc : Thread Cert.KernelCacheIdeal.nD Cert.KernelCacheIdeal.τ).loc Cert.KernelCacheIdeal.main_arg5))).1 = (fun _ => 1#1)
    ∧ (Cert.Pre_step_weights_finite.fn (F := Ideal) (m ((c.tc : Thread Cert.KernelCacheIdeal.nD Cert.KernelCacheIdeal.τ).loc Cert.KernelCacheIdeal.main_arg0)) (m ((c.tc : Thread Cert.KernelCacheIdeal.nD Cert.KernelCacheIdeal.τ).loc Cert.KernelCacheIdeal.main_arg1)) (m ((c.tc : Thread Cert.KernelCacheIdeal.nD Cert.KernelCacheIdeal.τ).loc Cert.KernelCacheIdeal.main_arg2)) (m ((c.tc : Thread Cert.KernelCacheIdeal.nD Cert.KernelCacheIdeal.τ).loc Cert.KernelCacheIdeal.main_arg3)) (m ((c.tc : Thread Cert.KernelCacheIdeal.nD Cert.KernelCacheIdeal.τ).loc Cert.KernelCacheIdeal.main_arg4)) (m ((c.tc : Thread Cert.KernelCacheIdeal.nD Cert.KernelCacheIdeal.τ).loc Cert.KernelCacheIdeal.main_arg5))).2.1 = (fun _ => 1#1)
    ∧ (Cert.Pre_step_weights_finite.fn (F := Ideal) (m ((c.tc : Thread Cert.KernelCacheIdeal.nD Cert.KernelCacheIdeal.τ).loc Cert.KernelCacheIdeal.main_arg0)) (m ((c.tc : Thread Cert.KernelCacheIdeal.nD Cert.KernelCacheIdeal.τ).loc Cert.KernelCacheIdeal.main_arg1)) (m ((c.tc : Thread Cert.KernelCacheIdeal.nD Cert.KernelCacheIdeal.τ).loc Cert.KernelCacheIdeal.main_arg2)) (m ((c.tc : Thread Cert.KernelCacheIdeal.nD Cert.KernelCacheIdeal.τ).loc Cert.KernelCacheIdeal.main_arg3)) (m ((c.tc : Thread Cert.KernelCacheIdeal.nD Cert.KernelCacheIdeal.τ).loc Cert.KernelCacheIdeal.main_arg4)) (m ((c.tc : Thread Cert.KernelCacheIdeal.nD Cert.KernelCacheIdeal.τ).loc Cert.KernelCacheIdeal.main_arg5))).2.2.1 = (fun _ => 1#1)
    ∧ (Cert.Pre_step_weights_finite.fn (F := Ideal) (m ((c.tc : Thread Cert.KernelCacheIdeal.nD Cert.KernelCacheIdeal.τ).loc Cert.KernelCacheIdeal.main_arg0)) (m ((c.tc : Thread Cert.KernelCacheIdeal.nD Cert.KernelCacheIdeal.τ).loc Cert.KernelCacheIdeal.main_arg1)) (m ((c.tc : Thread Cert.KernelCacheIdeal.nD Cert.KernelCacheIdeal.τ).loc Cert.KernelCacheIdeal.main_arg2)) (m ((c.tc : Thread Cert.KernelCacheIdeal.nD Cert.KernelCacheIdeal.τ).loc Cert.KernelCacheIdeal.main_arg3)) (m ((c.tc : Thread Cert.KernelCacheIdeal.nD Cert.KernelCacheIdeal.τ).loc Cert.KernelCacheIdeal.main_arg4)) (m ((c.tc : Thread Cert.KernelCacheIdeal.nD Cert.KernelCacheIdeal.τ).loc Cert.KernelCacheIdeal.main_arg5))).2.2.2 = (fun _ => 1#1)

def Pre_ReferenceCacheIdeal (m : (ℓ : Loc Cert.ReferenceCacheIdeal.nD Cert.ReferenceCacheIdeal.τ Cert.ReferenceCacheIdeal.sig) → Buf (Elt Ideal) ℓ) : Prop :=
  True

def Pre_ReferenceCacheIdeal_step_weights_finite [hPre_step_weights_finite : Cert.Pre_step_weights_finite.Facts] (m : (ℓ : Loc Cert.ReferenceCacheIdeal.nD Cert.ReferenceCacheIdeal.τ Cert.ReferenceCacheIdeal.sig) → Buf (Elt Ideal) ℓ) : Prop :=
  ∀ c : Dev Cert.ReferenceCacheIdeal.nD,
    (Cert.Pre_step_weights_finite.fn (F := Ideal) (m ((c.tc : Thread Cert.ReferenceCacheIdeal.nD Cert.ReferenceCacheIdeal.τ).loc Cert.ReferenceCacheIdeal.main_arg0)) (m ((c.tc : Thread Cert.ReferenceCacheIdeal.nD Cert.ReferenceCacheIdeal.τ).loc Cert.ReferenceCacheIdeal.main_arg1)) (m ((c.tc : Thread Cert.ReferenceCacheIdeal.nD Cert.ReferenceCacheIdeal.τ).loc Cert.ReferenceCacheIdeal.main_arg2)) (m ((c.tc : Thread Cert.ReferenceCacheIdeal.nD Cert.ReferenceCacheIdeal.τ).loc Cert.ReferenceCacheIdeal.main_arg3)) (m ((c.tc : Thread Cert.ReferenceCacheIdeal.nD Cert.ReferenceCacheIdeal.τ).loc Cert.ReferenceCacheIdeal.main_arg4)) (m ((c.tc : Thread Cert.ReferenceCacheIdeal.nD Cert.ReferenceCacheIdeal.τ).loc Cert.ReferenceCacheIdeal.main_arg5))).1 = (fun _ => 1#1)
    ∧ (Cert.Pre_step_weights_finite.fn (F := Ideal) (m ((c.tc : Thread Cert.ReferenceCacheIdeal.nD Cert.ReferenceCacheIdeal.τ).loc Cert.ReferenceCacheIdeal.main_arg0)) (m ((c.tc : Thread Cert.ReferenceCacheIdeal.nD Cert.ReferenceCacheIdeal.τ).loc Cert.ReferenceCacheIdeal.main_arg1)) (m ((c.tc : Thread Cert.ReferenceCacheIdeal.nD Cert.ReferenceCacheIdeal.τ).loc Cert.ReferenceCacheIdeal.main_arg2)) (m ((c.tc : Thread Cert.ReferenceCacheIdeal.nD Cert.ReferenceCacheIdeal.τ).loc Cert.ReferenceCacheIdeal.main_arg3)) (m ((c.tc : Thread Cert.ReferenceCacheIdeal.nD Cert.ReferenceCacheIdeal.τ).loc Cert.ReferenceCacheIdeal.main_arg4)) (m ((c.tc : Thread Cert.ReferenceCacheIdeal.nD Cert.ReferenceCacheIdeal.τ).loc Cert.ReferenceCacheIdeal.main_arg5))).2.1 = (fun _ => 1#1)
    ∧ (Cert.Pre_step_weights_finite.fn (F := Ideal) (m ((c.tc : Thread Cert.ReferenceCacheIdeal.nD Cert.ReferenceCacheIdeal.τ).loc Cert.ReferenceCacheIdeal.main_arg0)) (m ((c.tc : Thread Cert.ReferenceCacheIdeal.nD Cert.ReferenceCacheIdeal.τ).loc Cert.ReferenceCacheIdeal.main_arg1)) (m ((c.tc : Thread Cert.ReferenceCacheIdeal.nD Cert.ReferenceCacheIdeal.τ).loc Cert.ReferenceCacheIdeal.main_arg2)) (m ((c.tc : Thread Cert.ReferenceCacheIdeal.nD Cert.ReferenceCacheIdeal.τ).loc Cert.ReferenceCacheIdeal.main_arg3)) (m ((c.tc : Thread Cert.ReferenceCacheIdeal.nD Cert.ReferenceCacheIdeal.τ).loc Cert.ReferenceCacheIdeal.main_arg4)) (m ((c.tc : Thread Cert.ReferenceCacheIdeal.nD Cert.ReferenceCacheIdeal.τ).loc Cert.ReferenceCacheIdeal.main_arg5))).2.2.1 = (fun _ => 1#1)
    ∧ (Cert.Pre_step_weights_finite.fn (F := Ideal) (m ((c.tc : Thread Cert.ReferenceCacheIdeal.nD Cert.ReferenceCacheIdeal.τ).loc Cert.ReferenceCacheIdeal.main_arg0)) (m ((c.tc : Thread Cert.ReferenceCacheIdeal.nD Cert.ReferenceCacheIdeal.τ).loc Cert.ReferenceCacheIdeal.main_arg1)) (m ((c.tc : Thread Cert.ReferenceCacheIdeal.nD Cert.ReferenceCacheIdeal.τ).loc Cert.ReferenceCacheIdeal.main_arg2)) (m ((c.tc : Thread Cert.ReferenceCacheIdeal.nD Cert.ReferenceCacheIdeal.τ).loc Cert.ReferenceCacheIdeal.main_arg3)) (m ((c.tc : Thread Cert.ReferenceCacheIdeal.nD Cert.ReferenceCacheIdeal.τ).loc Cert.ReferenceCacheIdeal.main_arg4)) (m ((c.tc : Thread Cert.ReferenceCacheIdeal.nD Cert.ReferenceCacheIdeal.τ).loc Cert.ReferenceCacheIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_queries_and_keys_finite [hKernelIdeal : Cert.KernelIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_and_keys_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_queries_and_keys_finite [hReferenceIdeal : Cert.ReferenceIdeal.Facts] [hPre_queries_and_keys_finite : Cert.Pre_queries_and_keys_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_and_keys_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2)
      ∧ r.2.mem ((c.tc : Thread Cert.KernelKv.nD Cert.KernelKv.τ).loc Cert.KernelKv.main_arg3) = m ((c.tc : Thread Cert.KernelKv.nD Cert.KernelKv.τ).loc Cert.KernelKv.main_arg3)
      ∧ r.2.mem ((c.tc : Thread Cert.KernelKv.nD Cert.KernelKv.τ).loc Cert.KernelKv.main_arg4) = m ((c.tc : Thread Cert.KernelKv.nD Cert.KernelKv.τ).loc Cert.KernelKv.main_arg4)
      ∧ r.2.mem ((c.tc : Thread Cert.KernelKv.nD Cert.KernelKv.τ).loc Cert.KernelKv.main_arg5) = m ((c.tc : Thread Cert.KernelKv.nD Cert.KernelKv.τ).loc Cert.KernelKv.main_arg5))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
      ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3)
      ∧ r.2.mem ((c.tc : Thread Cert.KernelKvIdeal.nD Cert.KernelKvIdeal.τ).loc Cert.KernelKvIdeal.main_arg4) = m ((c.tc : Thread Cert.KernelKvIdeal.nD Cert.KernelKvIdeal.τ).loc Cert.KernelKvIdeal.main_arg4)
      ∧ r.2.mem ((c.tc : Thread Cert.KernelKvIdeal.nD Cert.KernelKvIdeal.τ).loc Cert.KernelKvIdeal.main_arg5) = m ((c.tc : Thread Cert.KernelKvIdeal.nD Cert.KernelKvIdeal.τ).loc Cert.KernelKvIdeal.main_arg5))
      ∧ r.2.sem = fun _ => 0)

def quiescent_KernelKvIdeal_pre_weights_finite [hKernelKvIdeal : Cert.KernelKvIdeal.Facts] [hPre_weights_finite : Cert.Pre_weights_finite.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal_weights_finite m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
      ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3)
      ∧ r.2.mem ((c.tc : Thread Cert.KernelKvIdeal.nD Cert.KernelKvIdeal.τ).loc Cert.KernelKvIdeal.main_arg4) = m ((c.tc : Thread Cert.KernelKvIdeal.nD Cert.KernelKvIdeal.τ).loc Cert.KernelKvIdeal.main_arg4)
      ∧ r.2.mem ((c.tc : Thread Cert.KernelKvIdeal.nD Cert.KernelKvIdeal.τ).loc Cert.KernelKvIdeal.main_arg5) = m ((c.tc : Thread Cert.KernelKvIdeal.nD Cert.KernelKvIdeal.τ).loc Cert.KernelKvIdeal.main_arg5))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2)
      ∧ r.2.mem ((c.tc : Thread Cert.ReferenceKvIdeal.nD Cert.ReferenceKvIdeal.τ).loc Cert.ReferenceKvIdeal.main_arg3) = m ((c.tc : Thread Cert.ReferenceKvIdeal.nD Cert.ReferenceKvIdeal.τ).loc Cert.ReferenceKvIdeal.main_arg3)
      ∧ r.2.mem ((c.tc : Thread Cert.ReferenceKvIdeal.nD Cert.ReferenceKvIdeal.τ).loc Cert.ReferenceKvIdeal.main_arg4) = m ((c.tc : Thread Cert.ReferenceKvIdeal.nD Cert.ReferenceKvIdeal.τ).loc Cert.ReferenceKvIdeal.main_arg4)
      ∧ r.2.mem ((c.tc : Thread Cert.ReferenceKvIdeal.nD Cert.ReferenceKvIdeal.τ).loc Cert.ReferenceKvIdeal.main_arg5) = m ((c.tc : Thread Cert.ReferenceKvIdeal.nD Cert.ReferenceKvIdeal.τ).loc Cert.ReferenceKvIdeal.main_arg5))
      ∧ r.2.sem = fun _ => 0)

def quiescent_ReferenceKvIdeal_pre_weights_finite [hReferenceKvIdeal : Cert.ReferenceKvIdeal.Facts] [hPre_weights_finite : Cert.Pre_weights_finite.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal_weights_finite m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2)
      ∧ r.2.mem ((c.tc : Thread Cert.ReferenceKvIdeal.nD Cert.ReferenceKvIdeal.τ).loc Cert.ReferenceKvIdeal.main_arg3) = m ((c.tc : Thread Cert.ReferenceKvIdeal.nD Cert.ReferenceKvIdeal.τ).loc Cert.ReferenceKvIdeal.main_arg3)
      ∧ r.2.mem ((c.tc : Thread Cert.ReferenceKvIdeal.nD Cert.ReferenceKvIdeal.τ).loc Cert.ReferenceKvIdeal.main_arg4) = m ((c.tc : Thread Cert.ReferenceKvIdeal.nD Cert.ReferenceKvIdeal.τ).loc Cert.ReferenceKvIdeal.main_arg4)
      ∧ r.2.mem ((c.tc : Thread Cert.ReferenceKvIdeal.nD Cert.ReferenceKvIdeal.τ).loc Cert.ReferenceKvIdeal.main_arg5) = m ((c.tc : Thread Cert.ReferenceKvIdeal.nD Cert.ReferenceKvIdeal.τ).loc Cert.ReferenceKvIdeal.main_arg5))
      ∧ r.2.sem = fun _ => 0)

def quiescent_KernelPre [hKernelPre : Cert.KernelPre.Facts] : Prop :=
  ∀ (m : (ℓ : Loc Cert.KernelPre.nD Cert.KernelPre.τ Cert.KernelPre.sig) → Buf (Elt Bits) ℓ) (g : Dev Cert.KernelPre.nD → PrngReg), Pre_KernelPre m →
    θ_run (Cert.KernelPre.defs (F := Bits)) (onTc (τ := Cert.KernelPre.τ) (Cert.KernelPre.main (F := Bits))) ⟨m, fun _ => 0, g⟩ (fun r => (∀ c : Dev Cert.KernelPre.nD,
      r.2.mem ((c.tc : Thread Cert.KernelPre.nD Cert.KernelPre.τ).loc Cert.KernelPre.main_arg0) = m ((c.tc : Thread Cert.KernelPre.nD Cert.KernelPre.τ).loc Cert.KernelPre.main_arg0)
      ∧ r.2.mem ((c.tc : Thread Cert.KernelPre.nD Cert.KernelPre.τ).loc Cert.KernelPre.main_arg1) = m ((c.tc : Thread Cert.KernelPre.nD Cert.KernelPre.τ).loc Cert.KernelPre.main_arg1)
      ∧ r.2.mem ((c.tc : Thread Cert.KernelPre.nD Cert.KernelPre.τ).loc Cert.KernelPre.main_arg2) = m ((c.tc : Thread Cert.KernelPre.nD Cert.KernelPre.τ).loc Cert.KernelPre.main_arg2)
      ∧ r.2.mem ((c.tc : Thread Cert.KernelPre.nD Cert.KernelPre.τ).loc Cert.KernelPre.main_arg3) = m ((c.tc : Thread Cert.KernelPre.nD Cert.KernelPre.τ).loc Cert.KernelPre.main_arg3)
      ∧ r.2.mem ((c.tc : Thread Cert.KernelPre.nD Cert.KernelPre.τ).loc Cert.KernelPre.main_arg4) = m ((c.tc : Thread Cert.KernelPre.nD Cert.KernelPre.τ).loc Cert.KernelPre.main_arg4)
      ∧ r.2.mem ((c.tc : Thread Cert.KernelPre.nD Cert.KernelPre.τ).loc Cert.KernelPre.main_arg5) = m ((c.tc : Thread Cert.KernelPre.nD Cert.KernelPre.τ).loc Cert.KernelPre.main_arg5)
      ∧ r.2.mem ((c.tc : Thread Cert.KernelPre.nD Cert.KernelPre.τ).loc Cert.KernelPre.main_arg6) = m ((c.tc : Thread Cert.KernelPre.nD Cert.KernelPre.τ).loc Cert.KernelPre.main_arg6)
      ∧ r.2.mem ((c.tc : Thread Cert.KernelPre.nD Cert.KernelPre.τ).loc Cert.KernelPre.main_arg7) = m ((c.tc : Thread Cert.KernelPre.nD Cert.KernelPre.τ).loc Cert.KernelPre.main_arg7)
      ∧ r.2.mem ((c.tc : Thread Cert.KernelPre.nD Cert.KernelPre.τ).loc Cert.KernelPre.main_arg8) = m ((c.tc : Thread Cert.KernelPre.nD Cert.KernelPre.τ).loc Cert.KernelPre.main_arg8))
      ∧ r.2.sem = fun _ => 0)

def quiescent_KernelPreIdeal [hKernelPreIdeal : Cert.KernelPreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
      ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
      ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3)
      ∧ r.2.mem ((c.tc : Thread Cert.KernelPreIdeal.nD Cert.KernelPreIdeal.τ).loc Cert.KernelPreIdeal.main_arg4) = m ((c.tc : Thread Cert.KernelPreIdeal.nD Cert.KernelPreIdeal.τ).loc Cert.KernelPreIdeal.main_arg4)
      ∧ r.2.mem ((c.tc : Thread Cert.KernelPreIdeal.nD Cert.KernelPreIdeal.τ).loc Cert.KernelPreIdeal.main_arg5) = m ((c.tc : Thread Cert.KernelPreIdeal.nD Cert.KernelPreIdeal.τ).loc Cert.KernelPreIdeal.main_arg5)
      ∧ r.2.mem ((c.tc : Thread Cert.KernelPreIdeal.nD Cert.KernelPreIdeal.τ).loc Cert.KernelPreIdeal.main_arg6) = m ((c.tc : Thread Cert.KernelPreIdeal.nD Cert.KernelPreIdeal.τ).loc Cert.KernelPreIdeal.main_arg6)
      ∧ r.2.mem ((c.tc : Thread Cert.KernelPreIdeal.nD Cert.KernelPreIdeal.τ).loc Cert.KernelPreIdeal.main_arg7) = m ((c.tc : Thread Cert.KernelPreIdeal.nD Cert.KernelPreIdeal.τ).loc Cert.KernelPreIdeal.main_arg7)
      ∧ r.2.mem ((c.tc : Thread Cert.KernelPreIdeal.nD Cert.KernelPreIdeal.τ).loc Cert.KernelPreIdeal.main_arg8) = m ((c.tc : Thread Cert.KernelPreIdeal.nD Cert.KernelPreIdeal.τ).loc Cert.KernelPreIdeal.main_arg8))
      ∧ r.2.sem = fun _ => 0)

def quiescent_ReferencePreIdeal [hReferencePreIdeal : Cert.ReferencePreIdeal.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1)
      ∧ r.2.mem ((c.tc : Thread Cert.ReferencePreIdeal.nD Cert.ReferencePreIdeal.τ).loc Cert.ReferencePreIdeal.main_arg2) = m ((c.tc : Thread Cert.ReferencePreIdeal.nD Cert.ReferencePreIdeal.τ).loc Cert.ReferencePreIdeal.main_arg2)
      ∧ r.2.mem ((c.tc : Thread Cert.ReferencePreIdeal.nD Cert.ReferencePreIdeal.τ).loc Cert.ReferencePreIdeal.main_arg3) = m ((c.tc : Thread Cert.ReferencePreIdeal.nD Cert.ReferencePreIdeal.τ).loc Cert.ReferencePreIdeal.main_arg3)
      ∧ r.2.mem ((c.tc : Thread Cert.ReferencePreIdeal.nD Cert.ReferencePreIdeal.τ).loc Cert.ReferencePreIdeal.main_arg4) = m ((c.tc : Thread Cert.ReferencePreIdeal.nD Cert.ReferencePreIdeal.τ).loc Cert.ReferencePreIdeal.main_arg4)
      ∧ r.2.mem ((c.tc : Thread Cert.ReferencePreIdeal.nD Cert.ReferencePreIdeal.τ).loc Cert.ReferencePreIdeal.main_arg5) = m ((c.tc : Thread Cert.ReferencePreIdeal.nD Cert.ReferencePreIdeal.τ).loc Cert.ReferencePreIdeal.main_arg5)
      ∧ r.2.mem ((c.tc : Thread Cert.ReferencePreIdeal.nD Cert.ReferencePreIdeal.τ).loc Cert.ReferencePreIdeal.main_arg6) = m ((c.tc : Thread Cert.ReferencePreIdeal.nD Cert.ReferencePreIdeal.τ).loc Cert.ReferencePreIdeal.main_arg6)
      ∧ r.2.mem ((c.tc : Thread Cert.ReferencePreIdeal.nD Cert.ReferencePreIdeal.τ).loc Cert.ReferencePreIdeal.main_arg7) = m ((c.tc : Thread Cert.ReferencePreIdeal.nD Cert.ReferencePreIdeal.τ).loc Cert.ReferencePreIdeal.main_arg7)
      ∧ r.2.mem ((c.tc : Thread Cert.ReferencePreIdeal.nD Cert.ReferencePreIdeal.τ).loc Cert.ReferencePreIdeal.main_arg8) = m ((c.tc : Thread Cert.ReferencePreIdeal.nD Cert.ReferencePreIdeal.τ).loc Cert.ReferencePreIdeal.main_arg8))
      ∧ r.2.sem = fun _ => 0)

def quiescent_KernelBand [hKernelBand : Cert.KernelBand.Facts] : Prop :=
  ∀ (m : (ℓ : Loc Cert.KernelBand.nD Cert.KernelBand.τ Cert.KernelBand.sig) → Buf (Elt Bits) ℓ) (g : Dev Cert.KernelBand.nD → PrngReg), Pre_KernelBand m →
    θ_run (Cert.KernelBand.defs (F := Bits)) (onTc (τ := Cert.KernelBand.τ) (Cert.KernelBand.main (F := Bits))) ⟨m, fun _ => 0, g⟩ (fun r => (∀ c : Dev Cert.KernelBand.nD,
      r.2.mem ((c.tc : Thread Cert.KernelBand.nD Cert.KernelBand.τ).loc Cert.KernelBand.main_arg0) = m ((c.tc : Thread Cert.KernelBand.nD Cert.KernelBand.τ).loc Cert.KernelBand.main_arg0)
      ∧ r.2.mem ((c.tc : Thread Cert.KernelBand.nD Cert.KernelBand.τ).loc Cert.KernelBand.main_arg1) = m ((c.tc : Thread Cert.KernelBand.nD Cert.KernelBand.τ).loc Cert.KernelBand.main_arg1)
      ∧ r.2.mem ((c.tc : Thread Cert.KernelBand.nD Cert.KernelBand.τ).loc Cert.KernelBand.main_arg2) = m ((c.tc : Thread Cert.KernelBand.nD Cert.KernelBand.τ).loc Cert.KernelBand.main_arg2)
      ∧ r.2.mem ((c.tc : Thread Cert.KernelBand.nD Cert.KernelBand.τ).loc Cert.KernelBand.main_arg3) = m ((c.tc : Thread Cert.KernelBand.nD Cert.KernelBand.τ).loc Cert.KernelBand.main_arg3)
      ∧ r.2.mem ((c.tc : Thread Cert.KernelBand.nD Cert.KernelBand.τ).loc Cert.KernelBand.main_arg4) = m ((c.tc : Thread Cert.KernelBand.nD Cert.KernelBand.τ).loc Cert.KernelBand.main_arg4)
      ∧ r.2.mem ((c.tc : Thread Cert.KernelBand.nD Cert.KernelBand.τ).loc Cert.KernelBand.main_arg5) = m ((c.tc : Thread Cert.KernelBand.nD Cert.KernelBand.τ).loc Cert.KernelBand.main_arg5))
      ∧ r.2.sem = fun _ => 0)

def quiescent_KernelBandIdeal [hKernelBandIdeal : Cert.KernelBandIdeal.Facts] : Prop :=
  ∀ (m : (ℓ : Loc Cert.KernelBandIdeal.nD Cert.KernelBandIdeal.τ Cert.KernelBandIdeal.sig) → Buf (Elt Ideal) ℓ) (g : Dev Cert.KernelBandIdeal.nD → PrngReg), Pre_KernelBandIdeal m →
    θ_run (Cert.KernelBandIdeal.defs (F := Ideal)) (onTc (τ := Cert.KernelBandIdeal.τ) (Cert.KernelBandIdeal.main (F := Ideal))) ⟨m, fun _ => 0, g⟩ (fun r => (∀ c : Dev Cert.KernelBandIdeal.nD,
      r.2.mem ((c.tc : Thread Cert.KernelBandIdeal.nD Cert.KernelBandIdeal.τ).loc Cert.KernelBandIdeal.main_arg0) = m ((c.tc : Thread Cert.KernelBandIdeal.nD Cert.KernelBandIdeal.τ).loc Cert.KernelBandIdeal.main_arg0)
      ∧ r.2.mem ((c.tc : Thread Cert.KernelBandIdeal.nD Cert.KernelBandIdeal.τ).loc Cert.KernelBandIdeal.main_arg1) = m ((c.tc : Thread Cert.KernelBandIdeal.nD Cert.KernelBandIdeal.τ).loc Cert.KernelBandIdeal.main_arg1)
      ∧ r.2.mem ((c.tc : Thread Cert.KernelBandIdeal.nD Cert.KernelBandIdeal.τ).loc Cert.KernelBandIdeal.main_arg2) = m ((c.tc : Thread Cert.KernelBandIdeal.nD Cert.KernelBandIdeal.τ).loc Cert.KernelBandIdeal.main_arg2)
      ∧ r.2.mem ((c.tc : Thread Cert.KernelBandIdeal.nD Cert.KernelBandIdeal.τ).loc Cert.KernelBandIdeal.main_arg3) = m ((c.tc : Thread Cert.KernelBandIdeal.nD Cert.KernelBandIdeal.τ).loc Cert.KernelBandIdeal.main_arg3)
      ∧ r.2.mem ((c.tc : Thread Cert.KernelBandIdeal.nD Cert.KernelBandIdeal.τ).loc Cert.KernelBandIdeal.main_arg4) = m ((c.tc : Thread Cert.KernelBandIdeal.nD Cert.KernelBandIdeal.τ).loc Cert.KernelBandIdeal.main_arg4)
      ∧ r.2.mem ((c.tc : Thread Cert.KernelBandIdeal.nD Cert.KernelBandIdeal.τ).loc Cert.KernelBandIdeal.main_arg5) = m ((c.tc : Thread Cert.KernelBandIdeal.nD Cert.KernelBandIdeal.τ).loc Cert.KernelBandIdeal.main_arg5))
      ∧ r.2.sem = fun _ => 0)

def quiescent_KernelBandIdeal_pre_query_weights_finite [hKernelBandIdeal : Cert.KernelBandIdeal.Facts] [hPre_query_weights_finite : Cert.Pre_query_weights_finite.Facts] : Prop :=
  ∀ (m : (ℓ : Loc Cert.KernelBandIdeal.nD Cert.KernelBandIdeal.τ Cert.KernelBandIdeal.sig) → Buf (Elt Ideal) ℓ) (g : Dev Cert.KernelBandIdeal.nD → PrngReg), Pre_KernelBandIdeal_query_weights_finite m →
    θ_run (Cert.KernelBandIdeal.defs (F := Ideal)) (onTc (τ := Cert.KernelBandIdeal.τ) (Cert.KernelBandIdeal.main (F := Ideal))) ⟨m, fun _ => 0, g⟩ (fun r => (∀ c : Dev Cert.KernelBandIdeal.nD,
      r.2.mem ((c.tc : Thread Cert.KernelBandIdeal.nD Cert.KernelBandIdeal.τ).loc Cert.KernelBandIdeal.main_arg0) = m ((c.tc : Thread Cert.KernelBandIdeal.nD Cert.KernelBandIdeal.τ).loc Cert.KernelBandIdeal.main_arg0)
      ∧ r.2.mem ((c.tc : Thread Cert.KernelBandIdeal.nD Cert.KernelBandIdeal.τ).loc Cert.KernelBandIdeal.main_arg1) = m ((c.tc : Thread Cert.KernelBandIdeal.nD Cert.KernelBandIdeal.τ).loc Cert.KernelBandIdeal.main_arg1)
      ∧ r.2.mem ((c.tc : Thread Cert.KernelBandIdeal.nD Cert.KernelBandIdeal.τ).loc Cert.KernelBandIdeal.main_arg2) = m ((c.tc : Thread Cert.KernelBandIdeal.nD Cert.KernelBandIdeal.τ).loc Cert.KernelBandIdeal.main_arg2)
      ∧ r.2.mem ((c.tc : Thread Cert.KernelBandIdeal.nD Cert.KernelBandIdeal.τ).loc Cert.KernelBandIdeal.main_arg3) = m ((c.tc : Thread Cert.KernelBandIdeal.nD Cert.KernelBandIdeal.τ).loc Cert.KernelBandIdeal.main_arg3)
      ∧ r.2.mem ((c.tc : Thread Cert.KernelBandIdeal.nD Cert.KernelBandIdeal.τ).loc Cert.KernelBandIdeal.main_arg4) = m ((c.tc : Thread Cert.KernelBandIdeal.nD Cert.KernelBandIdeal.τ).loc Cert.KernelBandIdeal.main_arg4)
      ∧ r.2.mem ((c.tc : Thread Cert.KernelBandIdeal.nD Cert.KernelBandIdeal.τ).loc Cert.KernelBandIdeal.main_arg5) = m ((c.tc : Thread Cert.KernelBandIdeal.nD Cert.KernelBandIdeal.τ).loc Cert.KernelBandIdeal.main_arg5))
      ∧ r.2.sem = fun _ => 0)

def quiescent_ReferenceBandIdeal [hReferenceBandIdeal : Cert.ReferenceBandIdeal.Facts] : Prop :=
  ∀ (m : (ℓ : Loc Cert.ReferenceBandIdeal.nD Cert.ReferenceBandIdeal.τ Cert.ReferenceBandIdeal.sig) → Buf (Elt Ideal) ℓ) (g : Dev Cert.ReferenceBandIdeal.nD → PrngReg), Pre_ReferenceBandIdeal m →
    θ_run (Cert.ReferenceBandIdeal.defs (F := Ideal)) (onTc (τ := Cert.ReferenceBandIdeal.τ) (Cert.ReferenceBandIdeal.main (F := Ideal))) ⟨m, fun _ => 0, g⟩ (fun r => (∀ c : Dev Cert.ReferenceBandIdeal.nD,
      r.2.mem ((c.tc : Thread Cert.ReferenceBandIdeal.nD Cert.ReferenceBandIdeal.τ).loc Cert.ReferenceBandIdeal.main_arg0) = m ((c.tc : Thread Cert.ReferenceBandIdeal.nD Cert.ReferenceBandIdeal.τ).loc Cert.ReferenceBandIdeal.main_arg0)
      ∧ r.2.mem ((c.tc : Thread Cert.ReferenceBandIdeal.nD Cert.ReferenceBandIdeal.τ).loc Cert.ReferenceBandIdeal.main_arg1) = m ((c.tc : Thread Cert.ReferenceBandIdeal.nD Cert.ReferenceBandIdeal.τ).loc Cert.ReferenceBandIdeal.main_arg1)
      ∧ r.2.mem ((c.tc : Thread Cert.ReferenceBandIdeal.nD Cert.ReferenceBandIdeal.τ).loc Cert.ReferenceBandIdeal.main_arg2) = m ((c.tc : Thread Cert.ReferenceBandIdeal.nD Cert.ReferenceBandIdeal.τ).loc Cert.ReferenceBandIdeal.main_arg2)
      ∧ r.2.mem ((c.tc : Thread Cert.ReferenceBandIdeal.nD Cert.ReferenceBandIdeal.τ).loc Cert.ReferenceBandIdeal.main_arg3) = m ((c.tc : Thread Cert.ReferenceBandIdeal.nD Cert.ReferenceBandIdeal.τ).loc Cert.ReferenceBandIdeal.main_arg3)
      ∧ r.2.mem ((c.tc : Thread Cert.ReferenceBandIdeal.nD Cert.ReferenceBandIdeal.τ).loc Cert.ReferenceBandIdeal.main_arg4) = m ((c.tc : Thread Cert.ReferenceBandIdeal.nD Cert.ReferenceBandIdeal.τ).loc Cert.ReferenceBandIdeal.main_arg4)
      ∧ r.2.mem ((c.tc : Thread Cert.ReferenceBandIdeal.nD Cert.ReferenceBandIdeal.τ).loc Cert.ReferenceBandIdeal.main_arg5) = m ((c.tc : Thread Cert.ReferenceBandIdeal.nD Cert.ReferenceBandIdeal.τ).loc Cert.ReferenceBandIdeal.main_arg5))
      ∧ r.2.sem = fun _ => 0)

def quiescent_ReferenceBandIdeal_pre_query_weights_finite [hReferenceBandIdeal : Cert.ReferenceBandIdeal.Facts] [hPre_query_weights_finite : Cert.Pre_query_weights_finite.Facts] : Prop :=
  ∀ (m : (ℓ : Loc Cert.ReferenceBandIdeal.nD Cert.ReferenceBandIdeal.τ Cert.ReferenceBandIdeal.sig) → Buf (Elt Ideal) ℓ) (g : Dev Cert.ReferenceBandIdeal.nD → PrngReg), Pre_ReferenceBandIdeal_query_weights_finite m →
    θ_run (Cert.ReferenceBandIdeal.defs (F := Ideal)) (onTc (τ := Cert.ReferenceBandIdeal.τ) (Cert.ReferenceBandIdeal.main (F := Ideal))) ⟨m, fun _ => 0, g⟩ (fun r => (∀ c : Dev Cert.ReferenceBandIdeal.nD,
      r.2.mem ((c.tc : Thread Cert.ReferenceBandIdeal.nD Cert.ReferenceBandIdeal.τ).loc Cert.ReferenceBandIdeal.main_arg0) = m ((c.tc : Thread Cert.ReferenceBandIdeal.nD Cert.ReferenceBandIdeal.τ).loc Cert.ReferenceBandIdeal.main_arg0)
      ∧ r.2.mem ((c.tc : Thread Cert.ReferenceBandIdeal.nD Cert.ReferenceBandIdeal.τ).loc Cert.ReferenceBandIdeal.main_arg1) = m ((c.tc : Thread Cert.ReferenceBandIdeal.nD Cert.ReferenceBandIdeal.τ).loc Cert.ReferenceBandIdeal.main_arg1)
      ∧ r.2.mem ((c.tc : Thread Cert.ReferenceBandIdeal.nD Cert.ReferenceBandIdeal.τ).loc Cert.ReferenceBandIdeal.main_arg2) = m ((c.tc : Thread Cert.ReferenceBandIdeal.nD Cert.ReferenceBandIdeal.τ).loc Cert.ReferenceBandIdeal.main_arg2)
      ∧ r.2.mem ((c.tc : Thread Cert.ReferenceBandIdeal.nD Cert.ReferenceBandIdeal.τ).loc Cert.ReferenceBandIdeal.main_arg3) = m ((c.tc : Thread Cert.ReferenceBandIdeal.nD Cert.ReferenceBandIdeal.τ).loc Cert.ReferenceBandIdeal.main_arg3)
      ∧ r.2.mem ((c.tc : Thread Cert.ReferenceBandIdeal.nD Cert.ReferenceBandIdeal.τ).loc Cert.ReferenceBandIdeal.main_arg4) = m ((c.tc : Thread Cert.ReferenceBandIdeal.nD Cert.ReferenceBandIdeal.τ).loc Cert.ReferenceBandIdeal.main_arg4)
      ∧ r.2.mem ((c.tc : Thread Cert.ReferenceBandIdeal.nD Cert.ReferenceBandIdeal.τ).loc Cert.ReferenceBandIdeal.main_arg5) = m ((c.tc : Thread Cert.ReferenceBandIdeal.nD Cert.ReferenceBandIdeal.τ).loc Cert.ReferenceBandIdeal.main_arg5))
      ∧ r.2.sem = fun _ => 0)

def quiescent_KernelStep [hKernelStep : Cert.KernelStep.Facts] : Prop :=
  ∀ (m : (ℓ : Loc Cert.KernelStep.nD Cert.KernelStep.τ Cert.KernelStep.sig) → Buf (Elt Bits) ℓ) (g : Dev Cert.KernelStep.nD → PrngReg), Pre_KernelStep m →
    θ_run (Cert.KernelStep.defs (F := Bits)) (onTc (τ := Cert.KernelStep.τ) (Cert.KernelStep.main (F := Bits))) ⟨m, fun _ => 0, g⟩ (fun r => (∀ c : Dev Cert.KernelStep.nD,
      r.2.mem ((c.tc : Thread Cert.KernelStep.nD Cert.KernelStep.τ).loc Cert.KernelStep.main_arg0) = m ((c.tc : Thread Cert.KernelStep.nD Cert.KernelStep.τ).loc Cert.KernelStep.main_arg0)
      ∧ r.2.mem ((c.tc : Thread Cert.KernelStep.nD Cert.KernelStep.τ).loc Cert.KernelStep.main_arg1) = m ((c.tc : Thread Cert.KernelStep.nD Cert.KernelStep.τ).loc Cert.KernelStep.main_arg1)
      ∧ r.2.mem ((c.tc : Thread Cert.KernelStep.nD Cert.KernelStep.τ).loc Cert.KernelStep.main_arg2) = m ((c.tc : Thread Cert.KernelStep.nD Cert.KernelStep.τ).loc Cert.KernelStep.main_arg2)
      ∧ r.2.mem ((c.tc : Thread Cert.KernelStep.nD Cert.KernelStep.τ).loc Cert.KernelStep.main_arg3) = m ((c.tc : Thread Cert.KernelStep.nD Cert.KernelStep.τ).loc Cert.KernelStep.main_arg3)
      ∧ r.2.mem ((c.tc : Thread Cert.KernelStep.nD Cert.KernelStep.τ).loc Cert.KernelStep.main_arg4) = m ((c.tc : Thread Cert.KernelStep.nD Cert.KernelStep.τ).loc Cert.KernelStep.main_arg4)
      ∧ r.2.mem ((c.tc : Thread Cert.KernelStep.nD Cert.KernelStep.τ).loc Cert.KernelStep.main_arg5) = m ((c.tc : Thread Cert.KernelStep.nD Cert.KernelStep.τ).loc Cert.KernelStep.main_arg5)
      ∧ r.2.mem ((c.tc : Thread Cert.KernelStep.nD Cert.KernelStep.τ).loc Cert.KernelStep.main_arg6) = m ((c.tc : Thread Cert.KernelStep.nD Cert.KernelStep.τ).loc Cert.KernelStep.main_arg6)
      ∧ r.2.mem ((c.tc : Thread Cert.KernelStep.nD Cert.KernelStep.τ).loc Cert.KernelStep.main_arg7) = m ((c.tc : Thread Cert.KernelStep.nD Cert.KernelStep.τ).loc Cert.KernelStep.main_arg7)
      ∧ r.2.mem ((c.tc : Thread Cert.KernelStep.nD Cert.KernelStep.τ).loc Cert.KernelStep.main_arg8) = m ((c.tc : Thread Cert.KernelStep.nD Cert.KernelStep.τ).loc Cert.KernelStep.main_arg8))
      ∧ r.2.sem = fun _ => 0)

def quiescent_KernelStepIdeal [hKernelStepIdeal : Cert.KernelStepIdeal.Facts] : Prop :=
  ∀ (m : (ℓ : Loc Cert.KernelStepIdeal.nD Cert.KernelStepIdeal.τ Cert.KernelStepIdeal.sig) → Buf (Elt Ideal) ℓ) (g : Dev Cert.KernelStepIdeal.nD → PrngReg), Pre_KernelStepIdeal m →
    θ_run (Cert.KernelStepIdeal.defs (F := Ideal)) (onTc (τ := Cert.KernelStepIdeal.τ) (Cert.KernelStepIdeal.main (F := Ideal))) ⟨m, fun _ => 0, g⟩ (fun r => (∀ c : Dev Cert.KernelStepIdeal.nD,
      r.2.mem ((c.tc : Thread Cert.KernelStepIdeal.nD Cert.KernelStepIdeal.τ).loc Cert.KernelStepIdeal.main_arg0) = m ((c.tc : Thread Cert.KernelStepIdeal.nD Cert.KernelStepIdeal.τ).loc Cert.KernelStepIdeal.main_arg0)
      ∧ r.2.mem ((c.tc : Thread Cert.KernelStepIdeal.nD Cert.KernelStepIdeal.τ).loc Cert.KernelStepIdeal.main_arg1) = m ((c.tc : Thread Cert.KernelStepIdeal.nD Cert.KernelStepIdeal.τ).loc Cert.KernelStepIdeal.main_arg1)
      ∧ r.2.mem ((c.tc : Thread Cert.KernelStepIdeal.nD Cert.KernelStepIdeal.τ).loc Cert.KernelStepIdeal.main_arg2) = m ((c.tc : Thread Cert.KernelStepIdeal.nD Cert.KernelStepIdeal.τ).loc Cert.KernelStepIdeal.main_arg2)
      ∧ r.2.mem ((c.tc : Thread Cert.KernelStepIdeal.nD Cert.KernelStepIdeal.τ).loc Cert.KernelStepIdeal.main_arg3) = m ((c.tc : Thread Cert.KernelStepIdeal.nD Cert.KernelStepIdeal.τ).loc Cert.KernelStepIdeal.main_arg3)
      ∧ r.2.mem ((c.tc : Thread Cert.KernelStepIdeal.nD Cert.KernelStepIdeal.τ).loc Cert.KernelStepIdeal.main_arg4) = m ((c.tc : Thread Cert.KernelStepIdeal.nD Cert.KernelStepIdeal.τ).loc Cert.KernelStepIdeal.main_arg4)
      ∧ r.2.mem ((c.tc : Thread Cert.KernelStepIdeal.nD Cert.KernelStepIdeal.τ).loc Cert.KernelStepIdeal.main_arg5) = m ((c.tc : Thread Cert.KernelStepIdeal.nD Cert.KernelStepIdeal.τ).loc Cert.KernelStepIdeal.main_arg5)
      ∧ r.2.mem ((c.tc : Thread Cert.KernelStepIdeal.nD Cert.KernelStepIdeal.τ).loc Cert.KernelStepIdeal.main_arg6) = m ((c.tc : Thread Cert.KernelStepIdeal.nD Cert.KernelStepIdeal.τ).loc Cert.KernelStepIdeal.main_arg6)
      ∧ r.2.mem ((c.tc : Thread Cert.KernelStepIdeal.nD Cert.KernelStepIdeal.τ).loc Cert.KernelStepIdeal.main_arg7) = m ((c.tc : Thread Cert.KernelStepIdeal.nD Cert.KernelStepIdeal.τ).loc Cert.KernelStepIdeal.main_arg7)
      ∧ r.2.mem ((c.tc : Thread Cert.KernelStepIdeal.nD Cert.KernelStepIdeal.τ).loc Cert.KernelStepIdeal.main_arg8) = m ((c.tc : Thread Cert.KernelStepIdeal.nD Cert.KernelStepIdeal.τ).loc Cert.KernelStepIdeal.main_arg8))
      ∧ r.2.sem = fun _ => 0)

def quiescent_ReferenceStepIdeal [hReferenceStepIdeal : Cert.ReferenceStepIdeal.Facts] : Prop :=
  ∀ (m : (ℓ : Loc Cert.ReferenceStepIdeal.nD Cert.ReferenceStepIdeal.τ Cert.ReferenceStepIdeal.sig) → Buf (Elt Ideal) ℓ) (g : Dev Cert.ReferenceStepIdeal.nD → PrngReg), Pre_ReferenceStepIdeal m →
    θ_run (Cert.ReferenceStepIdeal.defs (F := Ideal)) (onTc (τ := Cert.ReferenceStepIdeal.τ) (Cert.ReferenceStepIdeal.main (F := Ideal))) ⟨m, fun _ => 0, g⟩ (fun r => (∀ c : Dev Cert.ReferenceStepIdeal.nD,
      r.2.mem ((c.tc : Thread Cert.ReferenceStepIdeal.nD Cert.ReferenceStepIdeal.τ).loc Cert.ReferenceStepIdeal.main_arg0) = m ((c.tc : Thread Cert.ReferenceStepIdeal.nD Cert.ReferenceStepIdeal.τ).loc Cert.ReferenceStepIdeal.main_arg0)
      ∧ r.2.mem ((c.tc : Thread Cert.ReferenceStepIdeal.nD Cert.ReferenceStepIdeal.τ).loc Cert.ReferenceStepIdeal.main_arg1) = m ((c.tc : Thread Cert.ReferenceStepIdeal.nD Cert.ReferenceStepIdeal.τ).loc Cert.ReferenceStepIdeal.main_arg1)
      ∧ r.2.mem ((c.tc : Thread Cert.ReferenceStepIdeal.nD Cert.ReferenceStepIdeal.τ).loc Cert.ReferenceStepIdeal.main_arg2) = m ((c.tc : Thread Cert.ReferenceStepIdeal.nD Cert.ReferenceStepIdeal.τ).loc Cert.ReferenceStepIdeal.main_arg2)
      ∧ r.2.mem ((c.tc : Thread Cert.ReferenceStepIdeal.nD Cert.ReferenceStepIdeal.τ).loc Cert.ReferenceStepIdeal.main_arg3) = m ((c.tc : Thread Cert.ReferenceStepIdeal.nD Cert.ReferenceStepIdeal.τ).loc Cert.ReferenceStepIdeal.main_arg3)
      ∧ r.2.mem ((c.tc : Thread Cert.ReferenceStepIdeal.nD Cert.ReferenceStepIdeal.τ).loc Cert.ReferenceStepIdeal.main_arg4) = m ((c.tc : Thread Cert.ReferenceStepIdeal.nD Cert.ReferenceStepIdeal.τ).loc Cert.ReferenceStepIdeal.main_arg4)
      ∧ r.2.mem ((c.tc : Thread Cert.ReferenceStepIdeal.nD Cert.ReferenceStepIdeal.τ).loc Cert.ReferenceStepIdeal.main_arg5) = m ((c.tc : Thread Cert.ReferenceStepIdeal.nD Cert.ReferenceStepIdeal.τ).loc Cert.ReferenceStepIdeal.main_arg5)
      ∧ r.2.mem ((c.tc : Thread Cert.ReferenceStepIdeal.nD Cert.ReferenceStepIdeal.τ).loc Cert.ReferenceStepIdeal.main_arg6) = m ((c.tc : Thread Cert.ReferenceStepIdeal.nD Cert.ReferenceStepIdeal.τ).loc Cert.ReferenceStepIdeal.main_arg6)
      ∧ r.2.mem ((c.tc : Thread Cert.ReferenceStepIdeal.nD Cert.ReferenceStepIdeal.τ).loc Cert.ReferenceStepIdeal.main_arg7) = m ((c.tc : Thread Cert.ReferenceStepIdeal.nD Cert.ReferenceStepIdeal.τ).loc Cert.ReferenceStepIdeal.main_arg7)
      ∧ r.2.mem ((c.tc : Thread Cert.ReferenceStepIdeal.nD Cert.ReferenceStepIdeal.τ).loc Cert.ReferenceStepIdeal.main_arg8) = m ((c.tc : Thread Cert.ReferenceStepIdeal.nD Cert.ReferenceStepIdeal.τ).loc Cert.ReferenceStepIdeal.main_arg8))
      ∧ r.2.sem = fun _ => 0)

def quiescent_KernelCache [hKernelCache : Cert.KernelCache.Facts] : Prop :=
  ∀ (m : (ℓ : Loc Cert.KernelCache.nD Cert.KernelCache.τ Cert.KernelCache.sig) → Buf (Elt Bits) ℓ) (g : Dev Cert.KernelCache.nD → PrngReg), Pre_KernelCache m →
    θ_run (Cert.KernelCache.defs (F := Bits)) (onTc (τ := Cert.KernelCache.τ) (Cert.KernelCache.main (F := Bits))) ⟨m, fun _ => 0, g⟩ (fun r => (∀ c : Dev Cert.KernelCache.nD,
      r.2.mem ((c.tc : Thread Cert.KernelCache.nD Cert.KernelCache.τ).loc Cert.KernelCache.main_arg0) = m ((c.tc : Thread Cert.KernelCache.nD Cert.KernelCache.τ).loc Cert.KernelCache.main_arg0)
      ∧ r.2.mem ((c.tc : Thread Cert.KernelCache.nD Cert.KernelCache.τ).loc Cert.KernelCache.main_arg1) = m ((c.tc : Thread Cert.KernelCache.nD Cert.KernelCache.τ).loc Cert.KernelCache.main_arg1)
      ∧ r.2.mem ((c.tc : Thread Cert.KernelCache.nD Cert.KernelCache.τ).loc Cert.KernelCache.main_arg2) = m ((c.tc : Thread Cert.KernelCache.nD Cert.KernelCache.τ).loc Cert.KernelCache.main_arg2)
      ∧ r.2.mem ((c.tc : Thread Cert.KernelCache.nD Cert.KernelCache.τ).loc Cert.KernelCache.main_arg3) = m ((c.tc : Thread Cert.KernelCache.nD Cert.KernelCache.τ).loc Cert.KernelCache.main_arg3)
      ∧ r.2.mem ((c.tc : Thread Cert.KernelCache.nD Cert.KernelCache.τ).loc Cert.KernelCache.main_arg4) = m ((c.tc : Thread Cert.KernelCache.nD Cert.KernelCache.τ).loc Cert.KernelCache.main_arg4)
      ∧ r.2.mem ((c.tc : Thread Cert.KernelCache.nD Cert.KernelCache.τ).loc Cert.KernelCache.main_arg5) = m ((c.tc : Thread Cert.KernelCache.nD Cert.KernelCache.τ).loc Cert.KernelCache.main_arg5))
      ∧ r.2.sem = fun _ => 0)

def quiescent_KernelCacheIdeal [hKernelCacheIdeal : Cert.KernelCacheIdeal.Facts] : Prop :=
  ∀ (m : (ℓ : Loc Cert.KernelCacheIdeal.nD Cert.KernelCacheIdeal.τ Cert.KernelCacheIdeal.sig) → Buf (Elt Ideal) ℓ) (g : Dev Cert.KernelCacheIdeal.nD → PrngReg), Pre_KernelCacheIdeal m →
    θ_run (Cert.KernelCacheIdeal.defs (F := Ideal)) (onTc (τ := Cert.KernelCacheIdeal.τ) (Cert.KernelCacheIdeal.main (F := Ideal))) ⟨m, fun _ => 0, g⟩ (fun r => (∀ c : Dev Cert.KernelCacheIdeal.nD,
      r.2.mem ((c.tc : Thread Cert.KernelCacheIdeal.nD Cert.KernelCacheIdeal.τ).loc Cert.KernelCacheIdeal.main_arg0) = m ((c.tc : Thread Cert.KernelCacheIdeal.nD Cert.KernelCacheIdeal.τ).loc Cert.KernelCacheIdeal.main_arg0)
      ∧ r.2.mem ((c.tc : Thread Cert.KernelCacheIdeal.nD Cert.KernelCacheIdeal.τ).loc Cert.KernelCacheIdeal.main_arg1) = m ((c.tc : Thread Cert.KernelCacheIdeal.nD Cert.KernelCacheIdeal.τ).loc Cert.KernelCacheIdeal.main_arg1)
      ∧ r.2.mem ((c.tc : Thread Cert.KernelCacheIdeal.nD Cert.KernelCacheIdeal.τ).loc Cert.KernelCacheIdeal.main_arg2) = m ((c.tc : Thread Cert.KernelCacheIdeal.nD Cert.KernelCacheIdeal.τ).loc Cert.KernelCacheIdeal.main_arg2)
      ∧ r.2.mem ((c.tc : Thread Cert.KernelCacheIdeal.nD Cert.KernelCacheIdeal.τ).loc Cert.KernelCacheIdeal.main_arg3) = m ((c.tc : Thread Cert.KernelCacheIdeal.nD Cert.KernelCacheIdeal.τ).loc Cert.KernelCacheIdeal.main_arg3)
      ∧ r.2.mem ((c.tc : Thread Cert.KernelCacheIdeal.nD Cert.KernelCacheIdeal.τ).loc Cert.KernelCacheIdeal.main_arg4) = m ((c.tc : Thread Cert.KernelCacheIdeal.nD Cert.KernelCacheIdeal.τ).loc Cert.KernelCacheIdeal.main_arg4)
      ∧ r.2.mem ((c.tc : Thread Cert.KernelCacheIdeal.nD Cert.KernelCacheIdeal.τ).loc Cert.KernelCacheIdeal.main_arg5) = m ((c.tc : Thread Cert.KernelCacheIdeal.nD Cert.KernelCacheIdeal.τ).loc Cert.KernelCacheIdeal.main_arg5))
      ∧ r.2.sem = fun _ => 0)

def quiescent_KernelCacheIdeal_pre_step_weights_finite [hKernelCacheIdeal : Cert.KernelCacheIdeal.Facts] [hPre_step_weights_finite : Cert.Pre_step_weights_finite.Facts] : Prop :=
  ∀ (m : (ℓ : Loc Cert.KernelCacheIdeal.nD Cert.KernelCacheIdeal.τ Cert.KernelCacheIdeal.sig) → Buf (Elt Ideal) ℓ) (g : Dev Cert.KernelCacheIdeal.nD → PrngReg), Pre_KernelCacheIdeal_step_weights_finite m →
    θ_run (Cert.KernelCacheIdeal.defs (F := Ideal)) (onTc (τ := Cert.KernelCacheIdeal.τ) (Cert.KernelCacheIdeal.main (F := Ideal))) ⟨m, fun _ => 0, g⟩ (fun r => (∀ c : Dev Cert.KernelCacheIdeal.nD,
      r.2.mem ((c.tc : Thread Cert.KernelCacheIdeal.nD Cert.KernelCacheIdeal.τ).loc Cert.KernelCacheIdeal.main_arg0) = m ((c.tc : Thread Cert.KernelCacheIdeal.nD Cert.KernelCacheIdeal.τ).loc Cert.KernelCacheIdeal.main_arg0)
      ∧ r.2.mem ((c.tc : Thread Cert.KernelCacheIdeal.nD Cert.KernelCacheIdeal.τ).loc Cert.KernelCacheIdeal.main_arg1) = m ((c.tc : Thread Cert.KernelCacheIdeal.nD Cert.KernelCacheIdeal.τ).loc Cert.KernelCacheIdeal.main_arg1)
      ∧ r.2.mem ((c.tc : Thread Cert.KernelCacheIdeal.nD Cert.KernelCacheIdeal.τ).loc Cert.KernelCacheIdeal.main_arg2) = m ((c.tc : Thread Cert.KernelCacheIdeal.nD Cert.KernelCacheIdeal.τ).loc Cert.KernelCacheIdeal.main_arg2)
      ∧ r.2.mem ((c.tc : Thread Cert.KernelCacheIdeal.nD Cert.KernelCacheIdeal.τ).loc Cert.KernelCacheIdeal.main_arg3) = m ((c.tc : Thread Cert.KernelCacheIdeal.nD Cert.KernelCacheIdeal.τ).loc Cert.KernelCacheIdeal.main_arg3)
      ∧ r.2.mem ((c.tc : Thread Cert.KernelCacheIdeal.nD Cert.KernelCacheIdeal.τ).loc Cert.KernelCacheIdeal.main_arg4) = m ((c.tc : Thread Cert.KernelCacheIdeal.nD Cert.KernelCacheIdeal.τ).loc Cert.KernelCacheIdeal.main_arg4)
      ∧ r.2.mem ((c.tc : Thread Cert.KernelCacheIdeal.nD Cert.KernelCacheIdeal.τ).loc Cert.KernelCacheIdeal.main_arg5) = m ((c.tc : Thread Cert.KernelCacheIdeal.nD Cert.KernelCacheIdeal.τ).loc Cert.KernelCacheIdeal.main_arg5))
      ∧ r.2.sem = fun _ => 0)

def quiescent_ReferenceCacheIdeal [hReferenceCacheIdeal : Cert.ReferenceCacheIdeal.Facts] : Prop :=
  ∀ (m : (ℓ : Loc Cert.ReferenceCacheIdeal.nD Cert.ReferenceCacheIdeal.τ Cert.ReferenceCacheIdeal.sig) → Buf (Elt Ideal) ℓ) (g : Dev Cert.ReferenceCacheIdeal.nD → PrngReg), Pre_ReferenceCacheIdeal m →
    θ_run (Cert.ReferenceCacheIdeal.defs (F := Ideal)) (onTc (τ := Cert.ReferenceCacheIdeal.τ) (Cert.ReferenceCacheIdeal.main (F := Ideal))) ⟨m, fun _ => 0, g⟩ (fun r => (∀ c : Dev Cert.ReferenceCacheIdeal.nD,
      r.2.mem ((c.tc : Thread Cert.ReferenceCacheIdeal.nD Cert.ReferenceCacheIdeal.τ).loc Cert.ReferenceCacheIdeal.main_arg0) = m ((c.tc : Thread Cert.ReferenceCacheIdeal.nD Cert.ReferenceCacheIdeal.τ).loc Cert.ReferenceCacheIdeal.main_arg0)
      ∧ r.2.mem ((c.tc : Thread Cert.ReferenceCacheIdeal.nD Cert.ReferenceCacheIdeal.τ).loc Cert.ReferenceCacheIdeal.main_arg1) = m ((c.tc : Thread Cert.ReferenceCacheIdeal.nD Cert.ReferenceCacheIdeal.τ).loc Cert.ReferenceCacheIdeal.main_arg1)
      ∧ r.2.mem ((c.tc : Thread Cert.ReferenceCacheIdeal.nD Cert.ReferenceCacheIdeal.τ).loc Cert.ReferenceCacheIdeal.main_arg2) = m ((c.tc : Thread Cert.ReferenceCacheIdeal.nD Cert.ReferenceCacheIdeal.τ).loc Cert.ReferenceCacheIdeal.main_arg2)
      ∧ r.2.mem ((c.tc : Thread Cert.ReferenceCacheIdeal.nD Cert.ReferenceCacheIdeal.τ).loc Cert.ReferenceCacheIdeal.main_arg3) = m ((c.tc : Thread Cert.ReferenceCacheIdeal.nD Cert.ReferenceCacheIdeal.τ).loc Cert.ReferenceCacheIdeal.main_arg3)
      ∧ r.2.mem ((c.tc : Thread Cert.ReferenceCacheIdeal.nD Cert.ReferenceCacheIdeal.τ).loc Cert.ReferenceCacheIdeal.main_arg4) = m ((c.tc : Thread Cert.ReferenceCacheIdeal.nD Cert.ReferenceCacheIdeal.τ).loc Cert.ReferenceCacheIdeal.main_arg4)
      ∧ r.2.mem ((c.tc : Thread Cert.ReferenceCacheIdeal.nD Cert.ReferenceCacheIdeal.τ).loc Cert.ReferenceCacheIdeal.main_arg5) = m ((c.tc : Thread Cert.ReferenceCacheIdeal.nD Cert.ReferenceCacheIdeal.τ).loc Cert.ReferenceCacheIdeal.main_arg5))
      ∧ r.2.sem = fun _ => 0)

def quiescent_ReferenceCacheIdeal_pre_step_weights_finite [hReferenceCacheIdeal : Cert.ReferenceCacheIdeal.Facts] [hPre_step_weights_finite : Cert.Pre_step_weights_finite.Facts] : Prop :=
  ∀ (m : (ℓ : Loc Cert.ReferenceCacheIdeal.nD Cert.ReferenceCacheIdeal.τ Cert.ReferenceCacheIdeal.sig) → Buf (Elt Ideal) ℓ) (g : Dev Cert.ReferenceCacheIdeal.nD → PrngReg), Pre_ReferenceCacheIdeal_step_weights_finite m →
    θ_run (Cert.ReferenceCacheIdeal.defs (F := Ideal)) (onTc (τ := Cert.ReferenceCacheIdeal.τ) (Cert.ReferenceCacheIdeal.main (F := Ideal))) ⟨m, fun _ => 0, g⟩ (fun r => (∀ c : Dev Cert.ReferenceCacheIdeal.nD,
      r.2.mem ((c.tc : Thread Cert.ReferenceCacheIdeal.nD Cert.ReferenceCacheIdeal.τ).loc Cert.ReferenceCacheIdeal.main_arg0) = m ((c.tc : Thread Cert.ReferenceCacheIdeal.nD Cert.ReferenceCacheIdeal.τ).loc Cert.ReferenceCacheIdeal.main_arg0)
      ∧ r.2.mem ((c.tc : Thread Cert.ReferenceCacheIdeal.nD Cert.ReferenceCacheIdeal.τ).loc Cert.ReferenceCacheIdeal.main_arg1) = m ((c.tc : Thread Cert.ReferenceCacheIdeal.nD Cert.ReferenceCacheIdeal.τ).loc Cert.ReferenceCacheIdeal.main_arg1)
      ∧ r.2.mem ((c.tc : Thread Cert.ReferenceCacheIdeal.nD Cert.ReferenceCacheIdeal.τ).loc Cert.ReferenceCacheIdeal.main_arg2) = m ((c.tc : Thread Cert.ReferenceCacheIdeal.nD Cert.ReferenceCacheIdeal.τ).loc Cert.ReferenceCacheIdeal.main_arg2)
      ∧ r.2.mem ((c.tc : Thread Cert.ReferenceCacheIdeal.nD Cert.ReferenceCacheIdeal.τ).loc Cert.ReferenceCacheIdeal.main_arg3) = m ((c.tc : Thread Cert.ReferenceCacheIdeal.nD Cert.ReferenceCacheIdeal.τ).loc Cert.ReferenceCacheIdeal.main_arg3)
      ∧ r.2.mem ((c.tc : Thread Cert.ReferenceCacheIdeal.nD Cert.ReferenceCacheIdeal.τ).loc Cert.ReferenceCacheIdeal.main_arg4) = m ((c.tc : Thread Cert.ReferenceCacheIdeal.nD Cert.ReferenceCacheIdeal.τ).loc Cert.ReferenceCacheIdeal.main_arg4)
      ∧ r.2.mem ((c.tc : Thread Cert.ReferenceCacheIdeal.nD Cert.ReferenceCacheIdeal.τ).loc Cert.ReferenceCacheIdeal.main_arg5) = m ((c.tc : Thread Cert.ReferenceCacheIdeal.nD Cert.ReferenceCacheIdeal.τ).loc Cert.ReferenceCacheIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_queries_and_keys_finite [hKernelIdeal : Cert.KernelIdeal.Facts] [hReferenceIdeal : Cert.ReferenceIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_and_keys_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelKv_KernelKvIdeal : Prop :=
  True

def algebraic_KernelKvIdeal_ReferenceKvIdeal_pre_weights_finite [hKernelKvIdeal : Cert.KernelKvIdeal.Facts] [hReferenceKvIdeal : Cert.ReferenceKvIdeal.Facts] [hPre_weights_finite : Cert.Pre_weights_finite.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal_weights_finite m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)
      ∧ m' ((c.tc : Thread Cert.ReferenceKvIdeal.nD Cert.ReferenceKvIdeal.τ).loc Cert.ReferenceKvIdeal.main_arg3) = m ((c.tc : Thread Cert.KernelKvIdeal.nD Cert.KernelKvIdeal.τ).loc Cert.KernelKvIdeal.main_arg3)
      ∧ m' ((c.tc : Thread Cert.ReferenceKvIdeal.nD Cert.ReferenceKvIdeal.τ).loc Cert.ReferenceKvIdeal.main_arg4) = m ((c.tc : Thread Cert.KernelKvIdeal.nD Cert.KernelKvIdeal.τ).loc Cert.KernelKvIdeal.main_arg4)
      ∧ m' ((c.tc : Thread Cert.ReferenceKvIdeal.nD Cert.ReferenceKvIdeal.τ).loc Cert.ReferenceKvIdeal.main_arg5) = m ((c.tc : Thread Cert.KernelKvIdeal.nD Cert.KernelKvIdeal.τ).loc Cert.KernelKvIdeal.main_arg5)) →
    ∃ (v0 : (c : Dev Cert.KernelKvIdeal.nD) → Buf (Elt Ideal) ((c.tc : Thread Cert.KernelKvIdeal.nD Cert.KernelKvIdeal.τ).loc Cert.KernelKvIdeal.main_v11_0)) (v1 : (c : Dev Cert.KernelKvIdeal.nD) → Buf (Elt Ideal) ((c.tc : Thread Cert.KernelKvIdeal.nD Cert.KernelKvIdeal.τ).loc Cert.KernelKvIdeal.main_v11_1)) (v2 : (c : Dev Cert.KernelKvIdeal.nD) → Buf (Elt Ideal) ((c.tc : Thread Cert.KernelKvIdeal.nD Cert.KernelKvIdeal.τ).loc Cert.KernelKvIdeal.main_v11_2)) (v3 : (c : Dev Cert.KernelKvIdeal.nD) → Buf (Elt Ideal) ((c.tc : Thread Cert.KernelKvIdeal.nD Cert.KernelKvIdeal.τ).loc Cert.KernelKvIdeal.main_v11_3)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v11_0) = v0 c
          ∧ r.2.mem ((c.tc : Thread Cert.KernelKvIdeal.nD Cert.KernelKvIdeal.τ).loc Cert.KernelKvIdeal.main_v11_1) = v1 c
          ∧ r.2.mem ((c.tc : Thread Cert.KernelKvIdeal.nD Cert.KernelKvIdeal.τ).loc Cert.KernelKvIdeal.main_v11_2) = v2 c
          ∧ r.2.mem ((c.tc : Thread Cert.KernelKvIdeal.nD Cert.KernelKvIdeal.τ).loc Cert.KernelKvIdeal.main_v11_3) = v3 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
          ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3)
          ∧ r.2.mem ((c.tc : Thread Cert.KernelKvIdeal.nD Cert.KernelKvIdeal.τ).loc Cert.KernelKvIdeal.main_arg4) = m ((c.tc : Thread Cert.KernelKvIdeal.nD Cert.KernelKvIdeal.τ).loc Cert.KernelKvIdeal.main_arg4)
          ∧ r.2.mem ((c.tc : Thread Cert.KernelKvIdeal.nD Cert.KernelKvIdeal.τ).loc Cert.KernelKvIdeal.main_arg5) = m ((c.tc : Thread Cert.KernelKvIdeal.nD Cert.KernelKvIdeal.τ).loc Cert.KernelKvIdeal.main_arg5))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v42) = v0 c
          ∧ r.2.mem ((c.tc : Thread Cert.ReferenceKvIdeal.nD Cert.ReferenceKvIdeal.τ).loc Cert.ReferenceKvIdeal.main_v43) = v1 c
          ∧ r.2.mem ((c.tc : Thread Cert.ReferenceKvIdeal.nD Cert.ReferenceKvIdeal.τ).loc Cert.ReferenceKvIdeal.main_v44) = v2 c
          ∧ r.2.mem ((c.tc : Thread Cert.ReferenceKvIdeal.nD Cert.ReferenceKvIdeal.τ).loc Cert.ReferenceKvIdeal.main_v45) = v3 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2)
          ∧ r.2.mem ((c.tc : Thread Cert.ReferenceKvIdeal.nD Cert.ReferenceKvIdeal.τ).loc Cert.ReferenceKvIdeal.main_arg3) = m' ((c.tc : Thread Cert.ReferenceKvIdeal.nD Cert.ReferenceKvIdeal.τ).loc Cert.ReferenceKvIdeal.main_arg3)
          ∧ r.2.mem ((c.tc : Thread Cert.ReferenceKvIdeal.nD Cert.ReferenceKvIdeal.τ).loc Cert.ReferenceKvIdeal.main_arg4) = m' ((c.tc : Thread Cert.ReferenceKvIdeal.nD Cert.ReferenceKvIdeal.τ).loc Cert.ReferenceKvIdeal.main_arg4)
          ∧ r.2.mem ((c.tc : Thread Cert.ReferenceKvIdeal.nD Cert.ReferenceKvIdeal.τ).loc Cert.ReferenceKvIdeal.main_arg5) = m' ((c.tc : Thread Cert.ReferenceKvIdeal.nD Cert.ReferenceKvIdeal.τ).loc Cert.ReferenceKvIdeal.main_arg5))

def preserves_KernelPre_KernelPreIdeal : Prop :=
  True

def algebraic_KernelPreIdeal_ReferencePreIdeal [hKernelPreIdeal : Cert.KernelPreIdeal.Facts] [hReferencePreIdeal : Cert.ReferencePreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg)
    (m' : (ℓ : Loc Cert.ReferencePreIdeal.nD Cert.ReferencePreIdeal.τ Cert.ReferencePreIdeal.sig) → Buf (Elt Ideal) ℓ) (g' : Dev Cert.ReferencePreIdeal.nD → PrngReg), Pre_KernelPreIdeal m →
    (∀ c : Dev Cert.KernelPreIdeal.nD,
      m' ((c.tc : Thread Cert.ReferencePreIdeal.nD Cert.ReferencePreIdeal.τ).loc Cert.ReferencePreIdeal.main_arg0) = m ((c.tc : Thread Cert.KernelPreIdeal.nD Cert.KernelPreIdeal.τ).loc Cert.KernelPreIdeal.main_arg0)
      ∧ m' ((c.tc : Thread Cert.ReferencePreIdeal.nD Cert.ReferencePreIdeal.τ).loc Cert.ReferencePreIdeal.main_arg1) = m ((c.tc : Thread Cert.KernelPreIdeal.nD Cert.KernelPreIdeal.τ).loc Cert.KernelPreIdeal.main_arg1)
      ∧ m' ((c.tc : Thread Cert.ReferencePreIdeal.nD Cert.ReferencePreIdeal.τ).loc Cert.ReferencePreIdeal.main_arg2) = m ((c.tc : Thread Cert.KernelPreIdeal.nD Cert.KernelPreIdeal.τ).loc Cert.KernelPreIdeal.main_arg2)
      ∧ m' ((c.tc : Thread Cert.ReferencePreIdeal.nD Cert.ReferencePreIdeal.τ).loc Cert.ReferencePreIdeal.main_arg3) = m ((c.tc : Thread Cert.KernelPreIdeal.nD Cert.KernelPreIdeal.τ).loc Cert.KernelPreIdeal.main_arg3)
      ∧ m' ((c.tc : Thread Cert.ReferencePreIdeal.nD Cert.ReferencePreIdeal.τ).loc Cert.ReferencePreIdeal.main_arg4) = m ((c.tc : Thread Cert.KernelPreIdeal.nD Cert.KernelPreIdeal.τ).loc Cert.KernelPreIdeal.main_arg4)
      ∧ m' ((c.tc : Thread Cert.ReferencePreIdeal.nD Cert.ReferencePreIdeal.τ).loc Cert.ReferencePreIdeal.main_arg5) = m ((c.tc : Thread Cert.KernelPreIdeal.nD Cert.KernelPreIdeal.τ).loc Cert.KernelPreIdeal.main_arg5)
      ∧ m' ((c.tc : Thread Cert.ReferencePreIdeal.nD Cert.ReferencePreIdeal.τ).loc Cert.ReferencePreIdeal.main_arg6) = m ((c.tc : Thread Cert.KernelPreIdeal.nD Cert.KernelPreIdeal.τ).loc Cert.KernelPreIdeal.main_arg6)
      ∧ m' ((c.tc : Thread Cert.ReferencePreIdeal.nD Cert.ReferencePreIdeal.τ).loc Cert.ReferencePreIdeal.main_arg7) = m ((c.tc : Thread Cert.KernelPreIdeal.nD Cert.KernelPreIdeal.τ).loc Cert.KernelPreIdeal.main_arg7)
      ∧ m' ((c.tc : Thread Cert.ReferencePreIdeal.nD Cert.ReferencePreIdeal.τ).loc Cert.ReferencePreIdeal.main_arg8) = m ((c.tc : Thread Cert.KernelPreIdeal.nD Cert.KernelPreIdeal.τ).loc Cert.KernelPreIdeal.main_arg8)) →
    ∃ (v0 : (c : Dev Cert.KernelPreIdeal.nD) → Buf (Elt Ideal) ((c.tc : Thread Cert.KernelPreIdeal.nD Cert.KernelPreIdeal.τ).loc Cert.KernelPreIdeal.main_v62_0)) (v1 : (c : Dev Cert.KernelPreIdeal.nD) → Buf (Elt Ideal) ((c.tc : Thread Cert.KernelPreIdeal.nD Cert.KernelPreIdeal.τ).loc Cert.KernelPreIdeal.main_v62_1)),
      θ_run (Cert.KernelPreIdeal.defs (F := Ideal)) (onTc (τ := Cert.KernelPreIdeal.τ) (Cert.KernelPreIdeal.main (F := Ideal))) ⟨m, fun _ => 0, g⟩ (fun r => ∀ c : Dev Cert.KernelPreIdeal.nD,
          r.2.mem ((c.tc : Thread Cert.KernelPreIdeal.nD Cert.KernelPreIdeal.τ).loc Cert.KernelPreIdeal.main_v62_0) = v0 c
          ∧ r.2.mem ((c.tc : Thread Cert.KernelPreIdeal.nD Cert.KernelPreIdeal.τ).loc Cert.KernelPreIdeal.main_v62_1) = v1 c
          ∧ r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
          ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
          ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
          ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3)
          ∧ r.2.mem ((c.tc : Thread Cert.KernelPreIdeal.nD Cert.KernelPreIdeal.τ).loc Cert.KernelPreIdeal.main_arg4) = m ((c.tc : Thread Cert.KernelPreIdeal.nD Cert.KernelPreIdeal.τ).loc Cert.KernelPreIdeal.main_arg4)
          ∧ r.2.mem ((c.tc : Thread Cert.KernelPreIdeal.nD Cert.KernelPreIdeal.τ).loc Cert.KernelPreIdeal.main_arg5) = m ((c.tc : Thread Cert.KernelPreIdeal.nD Cert.KernelPreIdeal.τ).loc Cert.KernelPreIdeal.main_arg5)
          ∧ r.2.mem ((c.tc : Thread Cert.KernelPreIdeal.nD Cert.KernelPreIdeal.τ).loc Cert.KernelPreIdeal.main_arg6) = m ((c.tc : Thread Cert.KernelPreIdeal.nD Cert.KernelPreIdeal.τ).loc Cert.KernelPreIdeal.main_arg6)
          ∧ r.2.mem ((c.tc : Thread Cert.KernelPreIdeal.nD Cert.KernelPreIdeal.τ).loc Cert.KernelPreIdeal.main_arg7) = m ((c.tc : Thread Cert.KernelPreIdeal.nD Cert.KernelPreIdeal.τ).loc Cert.KernelPreIdeal.main_arg7)
          ∧ r.2.mem ((c.tc : Thread Cert.KernelPreIdeal.nD Cert.KernelPreIdeal.τ).loc Cert.KernelPreIdeal.main_arg8) = m ((c.tc : Thread Cert.KernelPreIdeal.nD Cert.KernelPreIdeal.τ).loc Cert.KernelPreIdeal.main_arg8))
      ∧ θ_run (Cert.ReferencePreIdeal.defs (F := Ideal)) (onTc (τ := Cert.ReferencePreIdeal.τ) (Cert.ReferencePreIdeal.main (F := Ideal))) ⟨m', fun _ => 0, g'⟩ (fun r => ∀ c : Dev Cert.ReferencePreIdeal.nD,
          r.2.mem ((c.tc : Thread Cert.ReferencePreIdeal.nD Cert.ReferencePreIdeal.τ).loc Cert.ReferencePreIdeal.main_v35) = v0 c
          ∧ r.2.mem ((c.tc : Thread Cert.ReferencePreIdeal.nD Cert.ReferencePreIdeal.τ).loc Cert.ReferencePreIdeal.main_v36) = v1 c
          ∧ r.2.mem ((c.tc : Thread Cert.ReferencePreIdeal.nD Cert.ReferencePreIdeal.τ).loc Cert.ReferencePreIdeal.main_arg0) = m' ((c.tc : Thread Cert.ReferencePreIdeal.nD Cert.ReferencePreIdeal.τ).loc Cert.ReferencePreIdeal.main_arg0)
          ∧ r.2.mem ((c.tc : Thread Cert.ReferencePreIdeal.nD Cert.ReferencePreIdeal.τ).loc Cert.ReferencePreIdeal.main_arg1) = m' ((c.tc : Thread Cert.ReferencePreIdeal.nD Cert.ReferencePreIdeal.τ).loc Cert.ReferencePreIdeal.main_arg1)
          ∧ r.2.mem ((c.tc : Thread Cert.ReferencePreIdeal.nD Cert.ReferencePreIdeal.τ).loc Cert.ReferencePreIdeal.main_arg2) = m' ((c.tc : Thread Cert.ReferencePreIdeal.nD Cert.ReferencePreIdeal.τ).loc Cert.ReferencePreIdeal.main_arg2)
          ∧ r.2.mem ((c.tc : Thread Cert.ReferencePreIdeal.nD Cert.ReferencePreIdeal.τ).loc Cert.ReferencePreIdeal.main_arg3) = m' ((c.tc : Thread Cert.ReferencePreIdeal.nD Cert.ReferencePreIdeal.τ).loc Cert.ReferencePreIdeal.main_arg3)
          ∧ r.2.mem ((c.tc : Thread Cert.ReferencePreIdeal.nD Cert.ReferencePreIdeal.τ).loc Cert.ReferencePreIdeal.main_arg4) = m' ((c.tc : Thread Cert.ReferencePreIdeal.nD Cert.ReferencePreIdeal.τ).loc Cert.ReferencePreIdeal.main_arg4)
          ∧ r.2.mem ((c.tc : Thread Cert.ReferencePreIdeal.nD Cert.ReferencePreIdeal.τ).loc Cert.ReferencePreIdeal.main_arg5) = m' ((c.tc : Thread Cert.ReferencePreIdeal.nD Cert.ReferencePreIdeal.τ).loc Cert.ReferencePreIdeal.main_arg5)
          ∧ r.2.mem ((c.tc : Thread Cert.ReferencePreIdeal.nD Cert.ReferencePreIdeal.τ).loc Cert.ReferencePreIdeal.main_arg6) = m' ((c.tc : Thread Cert.ReferencePreIdeal.nD Cert.ReferencePreIdeal.τ).loc Cert.ReferencePreIdeal.main_arg6)
          ∧ r.2.mem ((c.tc : Thread Cert.ReferencePreIdeal.nD Cert.ReferencePreIdeal.τ).loc Cert.ReferencePreIdeal.main_arg7) = m' ((c.tc : Thread Cert.ReferencePreIdeal.nD Cert.ReferencePreIdeal.τ).loc Cert.ReferencePreIdeal.main_arg7)
          ∧ r.2.mem ((c.tc : Thread Cert.ReferencePreIdeal.nD Cert.ReferencePreIdeal.τ).loc Cert.ReferencePreIdeal.main_arg8) = m' ((c.tc : Thread Cert.ReferencePreIdeal.nD Cert.ReferencePreIdeal.τ).loc Cert.ReferencePreIdeal.main_arg8))

def preserves_KernelBand_KernelBandIdeal : Prop :=
  True

def algebraic_KernelBandIdeal_ReferenceBandIdeal_pre_query_weights_finite [hKernelBandIdeal : Cert.KernelBandIdeal.Facts] [hReferenceBandIdeal : Cert.ReferenceBandIdeal.Facts] [hPre_query_weights_finite : Cert.Pre_query_weights_finite.Facts] : Prop :=
  ∀ (m : (ℓ : Loc Cert.KernelBandIdeal.nD Cert.KernelBandIdeal.τ Cert.KernelBandIdeal.sig) → Buf (Elt Ideal) ℓ) (g : Dev Cert.KernelBandIdeal.nD → PrngReg)
    (m' : (ℓ : Loc Cert.ReferenceBandIdeal.nD Cert.ReferenceBandIdeal.τ Cert.ReferenceBandIdeal.sig) → Buf (Elt Ideal) ℓ) (g' : Dev Cert.ReferenceBandIdeal.nD → PrngReg), Pre_KernelBandIdeal_query_weights_finite m →
    (∀ c : Dev Cert.KernelBandIdeal.nD,
      m' ((c.tc : Thread Cert.ReferenceBandIdeal.nD Cert.ReferenceBandIdeal.τ).loc Cert.ReferenceBandIdeal.main_arg0) = m ((c.tc : Thread Cert.KernelBandIdeal.nD Cert.KernelBandIdeal.τ).loc Cert.KernelBandIdeal.main_arg0)
      ∧ m' ((c.tc : Thread Cert.ReferenceBandIdeal.nD Cert.ReferenceBandIdeal.τ).loc Cert.ReferenceBandIdeal.main_arg1) = m ((c.tc : Thread Cert.KernelBandIdeal.nD Cert.KernelBandIdeal.τ).loc Cert.KernelBandIdeal.main_arg1)
      ∧ m' ((c.tc : Thread Cert.ReferenceBandIdeal.nD Cert.ReferenceBandIdeal.τ).loc Cert.ReferenceBandIdeal.main_arg2) = m ((c.tc : Thread Cert.KernelBandIdeal.nD Cert.KernelBandIdeal.τ).loc Cert.KernelBandIdeal.main_arg2)
      ∧ m' ((c.tc : Thread Cert.ReferenceBandIdeal.nD Cert.ReferenceBandIdeal.τ).loc Cert.ReferenceBandIdeal.main_arg3) = m ((c.tc : Thread Cert.KernelBandIdeal.nD Cert.KernelBandIdeal.τ).loc Cert.KernelBandIdeal.main_arg3)
      ∧ m' ((c.tc : Thread Cert.ReferenceBandIdeal.nD Cert.ReferenceBandIdeal.τ).loc Cert.ReferenceBandIdeal.main_arg4) = m ((c.tc : Thread Cert.KernelBandIdeal.nD Cert.KernelBandIdeal.τ).loc Cert.KernelBandIdeal.main_arg4)
      ∧ m' ((c.tc : Thread Cert.ReferenceBandIdeal.nD Cert.ReferenceBandIdeal.τ).loc Cert.ReferenceBandIdeal.main_arg5) = m ((c.tc : Thread Cert.KernelBandIdeal.nD Cert.KernelBandIdeal.τ).loc Cert.KernelBandIdeal.main_arg5)) →
    ∃ (v0 : (c : Dev Cert.KernelBandIdeal.nD) → Buf (Elt Ideal) ((c.tc : Thread Cert.KernelBandIdeal.nD Cert.KernelBandIdeal.τ).loc Cert.KernelBandIdeal.main_v8)),
      θ_run (Cert.KernelBandIdeal.defs (F := Ideal)) (onTc (τ := Cert.KernelBandIdeal.τ) (Cert.KernelBandIdeal.main (F := Ideal))) ⟨m, fun _ => 0, g⟩ (fun r => ∀ c : Dev Cert.KernelBandIdeal.nD,
          r.2.mem ((c.tc : Thread Cert.KernelBandIdeal.nD Cert.KernelBandIdeal.τ).loc Cert.KernelBandIdeal.main_v8) = v0 c
          ∧ r.2.mem ((c.tc : Thread Cert.KernelBandIdeal.nD Cert.KernelBandIdeal.τ).loc Cert.KernelBandIdeal.main_arg0) = m ((c.tc : Thread Cert.KernelBandIdeal.nD Cert.KernelBandIdeal.τ).loc Cert.KernelBandIdeal.main_arg0)
          ∧ r.2.mem ((c.tc : Thread Cert.KernelBandIdeal.nD Cert.KernelBandIdeal.τ).loc Cert.KernelBandIdeal.main_arg1) = m ((c.tc : Thread Cert.KernelBandIdeal.nD Cert.KernelBandIdeal.τ).loc Cert.KernelBandIdeal.main_arg1)
          ∧ r.2.mem ((c.tc : Thread Cert.KernelBandIdeal.nD Cert.KernelBandIdeal.τ).loc Cert.KernelBandIdeal.main_arg2) = m ((c.tc : Thread Cert.KernelBandIdeal.nD Cert.KernelBandIdeal.τ).loc Cert.KernelBandIdeal.main_arg2)
          ∧ r.2.mem ((c.tc : Thread Cert.KernelBandIdeal.nD Cert.KernelBandIdeal.τ).loc Cert.KernelBandIdeal.main_arg3) = m ((c.tc : Thread Cert.KernelBandIdeal.nD Cert.KernelBandIdeal.τ).loc Cert.KernelBandIdeal.main_arg3)
          ∧ r.2.mem ((c.tc : Thread Cert.KernelBandIdeal.nD Cert.KernelBandIdeal.τ).loc Cert.KernelBandIdeal.main_arg4) = m ((c.tc : Thread Cert.KernelBandIdeal.nD Cert.KernelBandIdeal.τ).loc Cert.KernelBandIdeal.main_arg4)
          ∧ r.2.mem ((c.tc : Thread Cert.KernelBandIdeal.nD Cert.KernelBandIdeal.τ).loc Cert.KernelBandIdeal.main_arg5) = m ((c.tc : Thread Cert.KernelBandIdeal.nD Cert.KernelBandIdeal.τ).loc Cert.KernelBandIdeal.main_arg5))
      ∧ θ_run (Cert.ReferenceBandIdeal.defs (F := Ideal)) (onTc (τ := Cert.ReferenceBandIdeal.τ) (Cert.ReferenceBandIdeal.main (F := Ideal))) ⟨m', fun _ => 0, g'⟩ (fun r => ∀ c : Dev Cert.ReferenceBandIdeal.nD,
          r.2.mem ((c.tc : Thread Cert.ReferenceBandIdeal.nD Cert.ReferenceBandIdeal.τ).loc Cert.ReferenceBandIdeal.main_v39) = v0 c
          ∧ r.2.mem ((c.tc : Thread Cert.ReferenceBandIdeal.nD Cert.ReferenceBandIdeal.τ).loc Cert.ReferenceBandIdeal.main_arg0) = m' ((c.tc : Thread Cert.ReferenceBandIdeal.nD Cert.ReferenceBandIdeal.τ).loc Cert.ReferenceBandIdeal.main_arg0)
          ∧ r.2.mem ((c.tc : Thread Cert.ReferenceBandIdeal.nD Cert.ReferenceBandIdeal.τ).loc Cert.ReferenceBandIdeal.main_arg1) = m' ((c.tc : Thread Cert.ReferenceBandIdeal.nD Cert.ReferenceBandIdeal.τ).loc Cert.ReferenceBandIdeal.main_arg1)
          ∧ r.2.mem ((c.tc : Thread Cert.ReferenceBandIdeal.nD Cert.ReferenceBandIdeal.τ).loc Cert.ReferenceBandIdeal.main_arg2) = m' ((c.tc : Thread Cert.ReferenceBandIdeal.nD Cert.ReferenceBandIdeal.τ).loc Cert.ReferenceBandIdeal.main_arg2)
          ∧ r.2.mem ((c.tc : Thread Cert.ReferenceBandIdeal.nD Cert.ReferenceBandIdeal.τ).loc Cert.ReferenceBandIdeal.main_arg3) = m' ((c.tc : Thread Cert.ReferenceBandIdeal.nD Cert.ReferenceBandIdeal.τ).loc Cert.ReferenceBandIdeal.main_arg3)
          ∧ r.2.mem ((c.tc : Thread Cert.ReferenceBandIdeal.nD Cert.ReferenceBandIdeal.τ).loc Cert.ReferenceBandIdeal.main_arg4) = m' ((c.tc : Thread Cert.ReferenceBandIdeal.nD Cert.ReferenceBandIdeal.τ).loc Cert.ReferenceBandIdeal.main_arg4)
          ∧ r.2.mem ((c.tc : Thread Cert.ReferenceBandIdeal.nD Cert.ReferenceBandIdeal.τ).loc Cert.ReferenceBandIdeal.main_arg5) = m' ((c.tc : Thread Cert.ReferenceBandIdeal.nD Cert.ReferenceBandIdeal.τ).loc Cert.ReferenceBandIdeal.main_arg5))

def preserves_KernelStep_KernelStepIdeal : Prop :=
  True

def algebraic_KernelStepIdeal_ReferenceStepIdeal [hKernelStepIdeal : Cert.KernelStepIdeal.Facts] [hReferenceStepIdeal : Cert.ReferenceStepIdeal.Facts] : Prop :=
  ∀ (m : (ℓ : Loc Cert.KernelStepIdeal.nD Cert.KernelStepIdeal.τ Cert.KernelStepIdeal.sig) → Buf (Elt Ideal) ℓ) (g : Dev Cert.KernelStepIdeal.nD → PrngReg)
    (m' : (ℓ : Loc Cert.ReferenceStepIdeal.nD Cert.ReferenceStepIdeal.τ Cert.ReferenceStepIdeal.sig) → Buf (Elt Ideal) ℓ) (g' : Dev Cert.ReferenceStepIdeal.nD → PrngReg), Pre_KernelStepIdeal m →
    (∀ c : Dev Cert.KernelStepIdeal.nD,
      m' ((c.tc : Thread Cert.ReferenceStepIdeal.nD Cert.ReferenceStepIdeal.τ).loc Cert.ReferenceStepIdeal.main_arg0) = m ((c.tc : Thread Cert.KernelStepIdeal.nD Cert.KernelStepIdeal.τ).loc Cert.KernelStepIdeal.main_arg0)
      ∧ m' ((c.tc : Thread Cert.ReferenceStepIdeal.nD Cert.ReferenceStepIdeal.τ).loc Cert.ReferenceStepIdeal.main_arg1) = m ((c.tc : Thread Cert.KernelStepIdeal.nD Cert.KernelStepIdeal.τ).loc Cert.KernelStepIdeal.main_arg1)
      ∧ m' ((c.tc : Thread Cert.ReferenceStepIdeal.nD Cert.ReferenceStepIdeal.τ).loc Cert.ReferenceStepIdeal.main_arg2) = m ((c.tc : Thread Cert.KernelStepIdeal.nD Cert.KernelStepIdeal.τ).loc Cert.KernelStepIdeal.main_arg2)
      ∧ m' ((c.tc : Thread Cert.ReferenceStepIdeal.nD Cert.ReferenceStepIdeal.τ).loc Cert.ReferenceStepIdeal.main_arg3) = m ((c.tc : Thread Cert.KernelStepIdeal.nD Cert.KernelStepIdeal.τ).loc Cert.KernelStepIdeal.main_arg3)
      ∧ m' ((c.tc : Thread Cert.ReferenceStepIdeal.nD Cert.ReferenceStepIdeal.τ).loc Cert.ReferenceStepIdeal.main_arg4) = m ((c.tc : Thread Cert.KernelStepIdeal.nD Cert.KernelStepIdeal.τ).loc Cert.KernelStepIdeal.main_arg4)
      ∧ m' ((c.tc : Thread Cert.ReferenceStepIdeal.nD Cert.ReferenceStepIdeal.τ).loc Cert.ReferenceStepIdeal.main_arg5) = m ((c.tc : Thread Cert.KernelStepIdeal.nD Cert.KernelStepIdeal.τ).loc Cert.KernelStepIdeal.main_arg5)
      ∧ m' ((c.tc : Thread Cert.ReferenceStepIdeal.nD Cert.ReferenceStepIdeal.τ).loc Cert.ReferenceStepIdeal.main_arg6) = m ((c.tc : Thread Cert.KernelStepIdeal.nD Cert.KernelStepIdeal.τ).loc Cert.KernelStepIdeal.main_arg6)
      ∧ m' ((c.tc : Thread Cert.ReferenceStepIdeal.nD Cert.ReferenceStepIdeal.τ).loc Cert.ReferenceStepIdeal.main_arg7) = m ((c.tc : Thread Cert.KernelStepIdeal.nD Cert.KernelStepIdeal.τ).loc Cert.KernelStepIdeal.main_arg7)
      ∧ m' ((c.tc : Thread Cert.ReferenceStepIdeal.nD Cert.ReferenceStepIdeal.τ).loc Cert.ReferenceStepIdeal.main_arg8) = m ((c.tc : Thread Cert.KernelStepIdeal.nD Cert.KernelStepIdeal.τ).loc Cert.KernelStepIdeal.main_arg8)) →
    ∃ (v0 : (c : Dev Cert.KernelStepIdeal.nD) → Buf (Elt Ideal) ((c.tc : Thread Cert.KernelStepIdeal.nD Cert.KernelStepIdeal.τ).loc Cert.KernelStepIdeal.main_v72_0)) (v1 : (c : Dev Cert.KernelStepIdeal.nD) → Buf (Elt Ideal) ((c.tc : Thread Cert.KernelStepIdeal.nD Cert.KernelStepIdeal.τ).loc Cert.KernelStepIdeal.main_v72_1)),
      θ_run (Cert.KernelStepIdeal.defs (F := Ideal)) (onTc (τ := Cert.KernelStepIdeal.τ) (Cert.KernelStepIdeal.main (F := Ideal))) ⟨m, fun _ => 0, g⟩ (fun r => ∀ c : Dev Cert.KernelStepIdeal.nD,
          r.2.mem ((c.tc : Thread Cert.KernelStepIdeal.nD Cert.KernelStepIdeal.τ).loc Cert.KernelStepIdeal.main_v72_0) = v0 c
          ∧ r.2.mem ((c.tc : Thread Cert.KernelStepIdeal.nD Cert.KernelStepIdeal.τ).loc Cert.KernelStepIdeal.main_v72_1) = v1 c
          ∧ r.2.mem ((c.tc : Thread Cert.KernelStepIdeal.nD Cert.KernelStepIdeal.τ).loc Cert.KernelStepIdeal.main_arg0) = m ((c.tc : Thread Cert.KernelStepIdeal.nD Cert.KernelStepIdeal.τ).loc Cert.KernelStepIdeal.main_arg0)
          ∧ r.2.mem ((c.tc : Thread Cert.KernelStepIdeal.nD Cert.KernelStepIdeal.τ).loc Cert.KernelStepIdeal.main_arg1) = m ((c.tc : Thread Cert.KernelStepIdeal.nD Cert.KernelStepIdeal.τ).loc Cert.KernelStepIdeal.main_arg1)
          ∧ r.2.mem ((c.tc : Thread Cert.KernelStepIdeal.nD Cert.KernelStepIdeal.τ).loc Cert.KernelStepIdeal.main_arg2) = m ((c.tc : Thread Cert.KernelStepIdeal.nD Cert.KernelStepIdeal.τ).loc Cert.KernelStepIdeal.main_arg2)
          ∧ r.2.mem ((c.tc : Thread Cert.KernelStepIdeal.nD Cert.KernelStepIdeal.τ).loc Cert.KernelStepIdeal.main_arg3) = m ((c.tc : Thread Cert.KernelStepIdeal.nD Cert.KernelStepIdeal.τ).loc Cert.KernelStepIdeal.main_arg3)
          ∧ r.2.mem ((c.tc : Thread Cert.KernelStepIdeal.nD Cert.KernelStepIdeal.τ).loc Cert.KernelStepIdeal.main_arg4) = m ((c.tc : Thread Cert.KernelStepIdeal.nD Cert.KernelStepIdeal.τ).loc Cert.KernelStepIdeal.main_arg4)
          ∧ r.2.mem ((c.tc : Thread Cert.KernelStepIdeal.nD Cert.KernelStepIdeal.τ).loc Cert.KernelStepIdeal.main_arg5) = m ((c.tc : Thread Cert.KernelStepIdeal.nD Cert.KernelStepIdeal.τ).loc Cert.KernelStepIdeal.main_arg5)
          ∧ r.2.mem ((c.tc : Thread Cert.KernelStepIdeal.nD Cert.KernelStepIdeal.τ).loc Cert.KernelStepIdeal.main_arg6) = m ((c.tc : Thread Cert.KernelStepIdeal.nD Cert.KernelStepIdeal.τ).loc Cert.KernelStepIdeal.main_arg6)
          ∧ r.2.mem ((c.tc : Thread Cert.KernelStepIdeal.nD Cert.KernelStepIdeal.τ).loc Cert.KernelStepIdeal.main_arg7) = m ((c.tc : Thread Cert.KernelStepIdeal.nD Cert.KernelStepIdeal.τ).loc Cert.KernelStepIdeal.main_arg7)
          ∧ r.2.mem ((c.tc : Thread Cert.KernelStepIdeal.nD Cert.KernelStepIdeal.τ).loc Cert.KernelStepIdeal.main_arg8) = m ((c.tc : Thread Cert.KernelStepIdeal.nD Cert.KernelStepIdeal.τ).loc Cert.KernelStepIdeal.main_arg8))
      ∧ θ_run (Cert.ReferenceStepIdeal.defs (F := Ideal)) (onTc (τ := Cert.ReferenceStepIdeal.τ) (Cert.ReferenceStepIdeal.main (F := Ideal))) ⟨m', fun _ => 0, g'⟩ (fun r => ∀ c : Dev Cert.ReferenceStepIdeal.nD,
          r.2.mem ((c.tc : Thread Cert.ReferenceStepIdeal.nD Cert.ReferenceStepIdeal.τ).loc Cert.ReferenceStepIdeal.main_v37) = v0 c
          ∧ r.2.mem ((c.tc : Thread Cert.ReferenceStepIdeal.nD Cert.ReferenceStepIdeal.τ).loc Cert.ReferenceStepIdeal.main_v38) = v1 c
          ∧ r.2.mem ((c.tc : Thread Cert.ReferenceStepIdeal.nD Cert.ReferenceStepIdeal.τ).loc Cert.ReferenceStepIdeal.main_arg0) = m' ((c.tc : Thread Cert.ReferenceStepIdeal.nD Cert.ReferenceStepIdeal.τ).loc Cert.ReferenceStepIdeal.main_arg0)
          ∧ r.2.mem ((c.tc : Thread Cert.ReferenceStepIdeal.nD Cert.ReferenceStepIdeal.τ).loc Cert.ReferenceStepIdeal.main_arg1) = m' ((c.tc : Thread Cert.ReferenceStepIdeal.nD Cert.ReferenceStepIdeal.τ).loc Cert.ReferenceStepIdeal.main_arg1)
          ∧ r.2.mem ((c.tc : Thread Cert.ReferenceStepIdeal.nD Cert.ReferenceStepIdeal.τ).loc Cert.ReferenceStepIdeal.main_arg2) = m' ((c.tc : Thread Cert.ReferenceStepIdeal.nD Cert.ReferenceStepIdeal.τ).loc Cert.ReferenceStepIdeal.main_arg2)
          ∧ r.2.mem ((c.tc : Thread Cert.ReferenceStepIdeal.nD Cert.ReferenceStepIdeal.τ).loc Cert.ReferenceStepIdeal.main_arg3) = m' ((c.tc : Thread Cert.ReferenceStepIdeal.nD Cert.ReferenceStepIdeal.τ).loc Cert.ReferenceStepIdeal.main_arg3)
          ∧ r.2.mem ((c.tc : Thread Cert.ReferenceStepIdeal.nD Cert.ReferenceStepIdeal.τ).loc Cert.ReferenceStepIdeal.main_arg4) = m' ((c.tc : Thread Cert.ReferenceStepIdeal.nD Cert.ReferenceStepIdeal.τ).loc Cert.ReferenceStepIdeal.main_arg4)
          ∧ r.2.mem ((c.tc : Thread Cert.ReferenceStepIdeal.nD Cert.ReferenceStepIdeal.τ).loc Cert.ReferenceStepIdeal.main_arg5) = m' ((c.tc : Thread Cert.ReferenceStepIdeal.nD Cert.ReferenceStepIdeal.τ).loc Cert.ReferenceStepIdeal.main_arg5)
          ∧ r.2.mem ((c.tc : Thread Cert.ReferenceStepIdeal.nD Cert.ReferenceStepIdeal.τ).loc Cert.ReferenceStepIdeal.main_arg6) = m' ((c.tc : Thread Cert.ReferenceStepIdeal.nD Cert.ReferenceStepIdeal.τ).loc Cert.ReferenceStepIdeal.main_arg6)
          ∧ r.2.mem ((c.tc : Thread Cert.ReferenceStepIdeal.nD Cert.ReferenceStepIdeal.τ).loc Cert.ReferenceStepIdeal.main_arg7) = m' ((c.tc : Thread Cert.ReferenceStepIdeal.nD Cert.ReferenceStepIdeal.τ).loc Cert.ReferenceStepIdeal.main_arg7)
          ∧ r.2.mem ((c.tc : Thread Cert.ReferenceStepIdeal.nD Cert.ReferenceStepIdeal.τ).loc Cert.ReferenceStepIdeal.main_arg8) = m' ((c.tc : Thread Cert.ReferenceStepIdeal.nD Cert.ReferenceStepIdeal.τ).loc Cert.ReferenceStepIdeal.main_arg8))

def preserves_KernelCache_KernelCacheIdeal : Prop :=
  True

def algebraic_KernelCacheIdeal_ReferenceCacheIdeal_pre_step_weights_finite [hKernelCacheIdeal : Cert.KernelCacheIdeal.Facts] [hReferenceCacheIdeal : Cert.ReferenceCacheIdeal.Facts] [hPre_step_weights_finite : Cert.Pre_step_weights_finite.Facts] : Prop :=
  ∀ (m : (ℓ : Loc Cert.KernelCacheIdeal.nD Cert.KernelCacheIdeal.τ Cert.KernelCacheIdeal.sig) → Buf (Elt Ideal) ℓ) (g : Dev Cert.KernelCacheIdeal.nD → PrngReg)
    (m' : (ℓ : Loc Cert.ReferenceCacheIdeal.nD Cert.ReferenceCacheIdeal.τ Cert.ReferenceCacheIdeal.sig) → Buf (Elt Ideal) ℓ) (g' : Dev Cert.ReferenceCacheIdeal.nD → PrngReg), Pre_KernelCacheIdeal_step_weights_finite m →
    (∀ c : Dev Cert.KernelCacheIdeal.nD,
      m' ((c.tc : Thread Cert.ReferenceCacheIdeal.nD Cert.ReferenceCacheIdeal.τ).loc Cert.ReferenceCacheIdeal.main_arg0) = m ((c.tc : Thread Cert.KernelCacheIdeal.nD Cert.KernelCacheIdeal.τ).loc Cert.KernelCacheIdeal.main_arg0)
      ∧ m' ((c.tc : Thread Cert.ReferenceCacheIdeal.nD Cert.ReferenceCacheIdeal.τ).loc Cert.ReferenceCacheIdeal.main_arg1) = m ((c.tc : Thread Cert.KernelCacheIdeal.nD Cert.KernelCacheIdeal.τ).loc Cert.KernelCacheIdeal.main_arg1)
      ∧ m' ((c.tc : Thread Cert.ReferenceCacheIdeal.nD Cert.ReferenceCacheIdeal.τ).loc Cert.ReferenceCacheIdeal.main_arg2) = m ((c.tc : Thread Cert.KernelCacheIdeal.nD Cert.KernelCacheIdeal.τ).loc Cert.KernelCacheIdeal.main_arg2)
      ∧ m' ((c.tc : Thread Cert.ReferenceCacheIdeal.nD Cert.ReferenceCacheIdeal.τ).loc Cert.ReferenceCacheIdeal.main_arg3) = m ((c.tc : Thread Cert.KernelCacheIdeal.nD Cert.KernelCacheIdeal.τ).loc Cert.KernelCacheIdeal.main_arg3)
      ∧ m' ((c.tc : Thread Cert.ReferenceCacheIdeal.nD Cert.ReferenceCacheIdeal.τ).loc Cert.ReferenceCacheIdeal.main_arg4) = m ((c.tc : Thread Cert.KernelCacheIdeal.nD Cert.KernelCacheIdeal.τ).loc Cert.KernelCacheIdeal.main_arg4)
      ∧ m' ((c.tc : Thread Cert.ReferenceCacheIdeal.nD Cert.ReferenceCacheIdeal.τ).loc Cert.ReferenceCacheIdeal.main_arg5) = m ((c.tc : Thread Cert.KernelCacheIdeal.nD Cert.KernelCacheIdeal.τ).loc Cert.KernelCacheIdeal.main_arg5)) →
    ∃ (v0 : (c : Dev Cert.KernelCacheIdeal.nD) → Buf (Elt Ideal) ((c.tc : Thread Cert.KernelCacheIdeal.nD Cert.KernelCacheIdeal.τ).loc Cert.KernelCacheIdeal.main_v16_0)) (v1 : (c : Dev Cert.KernelCacheIdeal.nD) → Buf (Elt Ideal) ((c.tc : Thread Cert.KernelCacheIdeal.nD Cert.KernelCacheIdeal.τ).loc Cert.KernelCacheIdeal.main_v16_1)) (v2 : (c : Dev Cert.KernelCacheIdeal.nD) → Buf (Elt Ideal) ((c.tc : Thread Cert.KernelCacheIdeal.nD Cert.KernelCacheIdeal.τ).loc Cert.KernelCacheIdeal.main_v16_2)) (v3 : (c : Dev Cert.KernelCacheIdeal.nD) → Buf (Elt Ideal) ((c.tc : Thread Cert.KernelCacheIdeal.nD Cert.KernelCacheIdeal.τ).loc Cert.KernelCacheIdeal.main_v16_3)),
      θ_run (Cert.KernelCacheIdeal.defs (F := Ideal)) (onTc (τ := Cert.KernelCacheIdeal.τ) (Cert.KernelCacheIdeal.main (F := Ideal))) ⟨m, fun _ => 0, g⟩ (fun r => ∀ c : Dev Cert.KernelCacheIdeal.nD,
          r.2.mem ((c.tc : Thread Cert.KernelCacheIdeal.nD Cert.KernelCacheIdeal.τ).loc Cert.KernelCacheIdeal.main_v16_0) = v0 c
          ∧ r.2.mem ((c.tc : Thread Cert.KernelCacheIdeal.nD Cert.KernelCacheIdeal.τ).loc Cert.KernelCacheIdeal.main_v16_1) = v1 c
          ∧ r.2.mem ((c.tc : Thread Cert.KernelCacheIdeal.nD Cert.KernelCacheIdeal.τ).loc Cert.KernelCacheIdeal.main_v16_2) = v2 c
          ∧ r.2.mem ((c.tc : Thread Cert.KernelCacheIdeal.nD Cert.KernelCacheIdeal.τ).loc Cert.KernelCacheIdeal.main_v16_3) = v3 c
          ∧ r.2.mem ((c.tc : Thread Cert.KernelCacheIdeal.nD Cert.KernelCacheIdeal.τ).loc Cert.KernelCacheIdeal.main_arg0) = m ((c.tc : Thread Cert.KernelCacheIdeal.nD Cert.KernelCacheIdeal.τ).loc Cert.KernelCacheIdeal.main_arg0)
          ∧ r.2.mem ((c.tc : Thread Cert.KernelCacheIdeal.nD Cert.KernelCacheIdeal.τ).loc Cert.KernelCacheIdeal.main_arg1) = m ((c.tc : Thread Cert.KernelCacheIdeal.nD Cert.KernelCacheIdeal.τ).loc Cert.KernelCacheIdeal.main_arg1)
          ∧ r.2.mem ((c.tc : Thread Cert.KernelCacheIdeal.nD Cert.KernelCacheIdeal.τ).loc Cert.KernelCacheIdeal.main_arg2) = m ((c.tc : Thread Cert.KernelCacheIdeal.nD Cert.KernelCacheIdeal.τ).loc Cert.KernelCacheIdeal.main_arg2)
          ∧ r.2.mem ((c.tc : Thread Cert.KernelCacheIdeal.nD Cert.KernelCacheIdeal.τ).loc Cert.KernelCacheIdeal.main_arg3) = m ((c.tc : Thread Cert.KernelCacheIdeal.nD Cert.KernelCacheIdeal.τ).loc Cert.KernelCacheIdeal.main_arg3)
          ∧ r.2.mem ((c.tc : Thread Cert.KernelCacheIdeal.nD Cert.KernelCacheIdeal.τ).loc Cert.KernelCacheIdeal.main_arg4) = m ((c.tc : Thread Cert.KernelCacheIdeal.nD Cert.KernelCacheIdeal.τ).loc Cert.KernelCacheIdeal.main_arg4)
          ∧ r.2.mem ((c.tc : Thread Cert.KernelCacheIdeal.nD Cert.KernelCacheIdeal.τ).loc Cert.KernelCacheIdeal.main_arg5) = m ((c.tc : Thread Cert.KernelCacheIdeal.nD Cert.KernelCacheIdeal.τ).loc Cert.KernelCacheIdeal.main_arg5))
      ∧ θ_run (Cert.ReferenceCacheIdeal.defs (F := Ideal)) (onTc (τ := Cert.ReferenceCacheIdeal.τ) (Cert.ReferenceCacheIdeal.main (F := Ideal))) ⟨m', fun _ => 0, g'⟩ (fun r => ∀ c : Dev Cert.ReferenceCacheIdeal.nD,
          r.2.mem ((c.tc : Thread Cert.ReferenceCacheIdeal.nD Cert.ReferenceCacheIdeal.τ).loc Cert.ReferenceCacheIdeal.main_v38) = v0 c
          ∧ r.2.mem ((c.tc : Thread Cert.ReferenceCacheIdeal.nD Cert.ReferenceCacheIdeal.τ).loc Cert.ReferenceCacheIdeal.main_v41) = v1 c
          ∧ r.2.mem ((c.tc : Thread Cert.ReferenceCacheIdeal.nD Cert.ReferenceCacheIdeal.τ).loc Cert.ReferenceCacheIdeal.main_v42) = v2 c
          ∧ r.2.mem ((c.tc : Thread Cert.ReferenceCacheIdeal.nD Cert.ReferenceCacheIdeal.τ).loc Cert.ReferenceCacheIdeal.main_v43) = v3 c
          ∧ r.2.mem ((c.tc : Thread Cert.ReferenceCacheIdeal.nD Cert.ReferenceCacheIdeal.τ).loc Cert.ReferenceCacheIdeal.main_arg0) = m' ((c.tc : Thread Cert.ReferenceCacheIdeal.nD Cert.ReferenceCacheIdeal.τ).loc Cert.ReferenceCacheIdeal.main_arg0)
          ∧ r.2.mem ((c.tc : Thread Cert.ReferenceCacheIdeal.nD Cert.ReferenceCacheIdeal.τ).loc Cert.ReferenceCacheIdeal.main_arg1) = m' ((c.tc : Thread Cert.ReferenceCacheIdeal.nD Cert.ReferenceCacheIdeal.τ).loc Cert.ReferenceCacheIdeal.main_arg1)
          ∧ r.2.mem ((c.tc : Thread Cert.ReferenceCacheIdeal.nD Cert.ReferenceCacheIdeal.τ).loc Cert.ReferenceCacheIdeal.main_arg2) = m' ((c.tc : Thread Cert.ReferenceCacheIdeal.nD Cert.ReferenceCacheIdeal.τ).loc Cert.ReferenceCacheIdeal.main_arg2)
          ∧ r.2.mem ((c.tc : Thread Cert.ReferenceCacheIdeal.nD Cert.ReferenceCacheIdeal.τ).loc Cert.ReferenceCacheIdeal.main_arg3) = m' ((c.tc : Thread Cert.ReferenceCacheIdeal.nD Cert.ReferenceCacheIdeal.τ).loc Cert.ReferenceCacheIdeal.main_arg3)
          ∧ r.2.mem ((c.tc : Thread Cert.ReferenceCacheIdeal.nD Cert.ReferenceCacheIdeal.τ).loc Cert.ReferenceCacheIdeal.main_arg4) = m' ((c.tc : Thread Cert.ReferenceCacheIdeal.nD Cert.ReferenceCacheIdeal.τ).loc Cert.ReferenceCacheIdeal.main_arg4)
          ∧ r.2.mem ((c.tc : Thread Cert.ReferenceCacheIdeal.nD Cert.ReferenceCacheIdeal.τ).loc Cert.ReferenceCacheIdeal.main_arg5) = m' ((c.tc : Thread Cert.ReferenceCacheIdeal.nD Cert.ReferenceCacheIdeal.τ).loc Cert.ReferenceCacheIdeal.main_arg5))

def Claim : Prop :=
  ∃ (hKernel : Cert.Kernel.Facts) (hKernelIdeal : Cert.KernelIdeal.Facts) (hReferenceIdeal : Cert.ReferenceIdeal.Facts) (hKernelKv : Cert.KernelKv.Facts) (hKernelKvIdeal : Cert.KernelKvIdeal.Facts) (hReferenceKvIdeal : Cert.ReferenceKvIdeal.Facts) (hKernelPre : Cert.KernelPre.Facts) (hKernelPreIdeal : Cert.KernelPreIdeal.Facts) (hReferencePreIdeal : Cert.ReferencePreIdeal.Facts) (hKernelBand : Cert.KernelBand.Facts) (hKernelBandIdeal : Cert.KernelBandIdeal.Facts) (hReferenceBandIdeal : Cert.ReferenceBandIdeal.Facts) (hKernelStep : Cert.KernelStep.Facts) (hKernelStepIdeal : Cert.KernelStepIdeal.Facts) (hReferenceStepIdeal : Cert.ReferenceStepIdeal.Facts) (hKernelCache : Cert.KernelCache.Facts) (hKernelCacheIdeal : Cert.KernelCacheIdeal.Facts) (hReferenceCacheIdeal : Cert.ReferenceCacheIdeal.Facts) (hPre_queries_and_keys_finite : Cert.Pre_queries_and_keys_finite.Facts) (hPre_weights_finite : Cert.Pre_weights_finite.Facts) (hPre_query_weights_finite : Cert.Pre_query_weights_finite.Facts) (hPre_step_weights_finite : Cert.Pre_step_weights_finite.Facts),
    quiescent_Kernel (hKernel := hKernel)
    ∧ quiescent_KernelIdeal (hKernelIdeal := hKernelIdeal)
    ∧ quiescent_KernelIdeal_pre_queries_and_keys_finite (hKernelIdeal := hKernelIdeal) (hPre_queries_and_keys_finite := hPre_queries_and_keys_finite)
    ∧ quiescent_ReferenceIdeal (hReferenceIdeal := hReferenceIdeal)
    ∧ quiescent_ReferenceIdeal_pre_queries_and_keys_finite (hReferenceIdeal := hReferenceIdeal) (hPre_queries_and_keys_finite := hPre_queries_and_keys_finite)
    ∧ quiescent_KernelKv (hKernelKv := hKernelKv)
    ∧ quiescent_KernelKvIdeal (hKernelKvIdeal := hKernelKvIdeal)
    ∧ quiescent_KernelKvIdeal_pre_weights_finite (hKernelKvIdeal := hKernelKvIdeal) (hPre_weights_finite := hPre_weights_finite)
    ∧ quiescent_ReferenceKvIdeal (hReferenceKvIdeal := hReferenceKvIdeal)
    ∧ quiescent_ReferenceKvIdeal_pre_weights_finite (hReferenceKvIdeal := hReferenceKvIdeal) (hPre_weights_finite := hPre_weights_finite)
    ∧ quiescent_KernelPre (hKernelPre := hKernelPre)
    ∧ quiescent_KernelPreIdeal (hKernelPreIdeal := hKernelPreIdeal)
    ∧ quiescent_ReferencePreIdeal (hReferencePreIdeal := hReferencePreIdeal)
    ∧ quiescent_KernelBand (hKernelBand := hKernelBand)
    ∧ quiescent_KernelBandIdeal (hKernelBandIdeal := hKernelBandIdeal)
    ∧ quiescent_KernelBandIdeal_pre_query_weights_finite (hKernelBandIdeal := hKernelBandIdeal) (hPre_query_weights_finite := hPre_query_weights_finite)
    ∧ quiescent_ReferenceBandIdeal (hReferenceBandIdeal := hReferenceBandIdeal)
    ∧ quiescent_ReferenceBandIdeal_pre_query_weights_finite (hReferenceBandIdeal := hReferenceBandIdeal) (hPre_query_weights_finite := hPre_query_weights_finite)
    ∧ quiescent_KernelStep (hKernelStep := hKernelStep)
    ∧ quiescent_KernelStepIdeal (hKernelStepIdeal := hKernelStepIdeal)
    ∧ quiescent_ReferenceStepIdeal (hReferenceStepIdeal := hReferenceStepIdeal)
    ∧ quiescent_KernelCache (hKernelCache := hKernelCache)
    ∧ quiescent_KernelCacheIdeal (hKernelCacheIdeal := hKernelCacheIdeal)
    ∧ quiescent_KernelCacheIdeal_pre_step_weights_finite (hKernelCacheIdeal := hKernelCacheIdeal) (hPre_step_weights_finite := hPre_step_weights_finite)
    ∧ quiescent_ReferenceCacheIdeal (hReferenceCacheIdeal := hReferenceCacheIdeal)
    ∧ quiescent_ReferenceCacheIdeal_pre_step_weights_finite (hReferenceCacheIdeal := hReferenceCacheIdeal) (hPre_step_weights_finite := hPre_step_weights_finite)
    ∧ preserves_Kernel_KernelIdeal
    ∧ algebraic_KernelIdeal_ReferenceIdeal_pre_queries_and_keys_finite (hKernelIdeal := hKernelIdeal) (hReferenceIdeal := hReferenceIdeal) (hPre_queries_and_keys_finite := hPre_queries_and_keys_finite)
    ∧ preserves_KernelKv_KernelKvIdeal
    ∧ algebraic_KernelKvIdeal_ReferenceKvIdeal_pre_weights_finite (hKernelKvIdeal := hKernelKvIdeal) (hReferenceKvIdeal := hReferenceKvIdeal) (hPre_weights_finite := hPre_weights_finite)
    ∧ preserves_KernelPre_KernelPreIdeal
    ∧ algebraic_KernelPreIdeal_ReferencePreIdeal (hKernelPreIdeal := hKernelPreIdeal) (hReferencePreIdeal := hReferencePreIdeal)
    ∧ preserves_KernelBand_KernelBandIdeal
    ∧ algebraic_KernelBandIdeal_ReferenceBandIdeal_pre_query_weights_finite (hKernelBandIdeal := hKernelBandIdeal) (hReferenceBandIdeal := hReferenceBandIdeal) (hPre_query_weights_finite := hPre_query_weights_finite)
    ∧ preserves_KernelStep_KernelStepIdeal
    ∧ algebraic_KernelStepIdeal_ReferenceStepIdeal (hKernelStepIdeal := hKernelStepIdeal) (hReferenceStepIdeal := hReferenceStepIdeal)
    ∧ preserves_KernelCache_KernelCacheIdeal
    ∧ algebraic_KernelCacheIdeal_ReferenceCacheIdeal_pre_step_weights_finite (hKernelCacheIdeal := hKernelCacheIdeal) (hReferenceCacheIdeal := hReferenceCacheIdeal) (hPre_step_weights_finite := hPre_step_weights_finite)
-- ==== Pre_queries_and_keys_finite.lean ====
abbrev S16x4096x16x96 : Shape := ⟨4, ![16, 4096, 16, 96]⟩
abbrev S16x4096x16x64 : Shape := ⟨4, ![16, 4096, 16, 64]⟩
abbrev S_ : Shape := ⟨0, ![]⟩

class Facts : Prop where
  bcast_S_S16x4096x16x96 : S_.BroadcastsInDim S16x4096x16x96 (![] : Fin 0 → Fin S16x4096x16x96.rank)

variable [Facts]

def fn {F : FTy → Type} [FloatOps F] (main_arg0 : FVec F S16x4096x16x96 .f32) (main_arg1 : FVec F S16x4096x16x96 .f32) (main_arg2 : FVec F S16x4096x16x64 .f32) : IVec S16x4096x16x96 1 × IVec S16x4096x16x96 1 :=
  let main_v0 : FVec F S16x4096x16x96 .f32 := Host.absf main_arg0
  let main_cst : FVec F S_ .f32 := constant S_ .f32 0x7F800000#32
  let main_v1 : FVec F S16x4096x16x96 .f32 := broadcastInDim S16x4096x16x96 ![] bcast_S_S16x4096x16x96 main_cst
  let main_v2 : IVec S16x4096x16x96 1 := cmpf .olt main_v0 main_v1
  let main_v3 : FVec F S16x4096x16x96 .f32 := Host.absf main_arg1
  let main_cst_0 : FVec F S_ .f32 := constant S_ .f32 0x7F800000#32
  let main_v4 : FVec F S16x4096x16x96 .f32 := broadcastInDim S16x4096x16x96 ![] bcast_S_S16x4096x16x96 main_cst_0
  let main_v5 : IVec S16x4096x16x96 1 := cmpf .olt main_v3 main_v4
  (main_v2, main_v5)
-- ==== Pre_query_weights_finite.lean ====
abbrev S16x4096x1024 : Shape := ⟨3, ![16, 4096, 1024]⟩
abbrev S16x1024 : Shape := ⟨2, ![16, 1024]⟩
abbrev S1024 : Shape := ⟨1, ![1024]⟩
abbrev S1024x1024 : Shape := ⟨2, ![1024, 1024]⟩
abbrev S64 : Shape := ⟨1, ![64]⟩
abbrev S_ : Shape := ⟨0, ![]⟩

class Facts : Prop where
  bcast_S_S16x1024 : S_.BroadcastsInDim S16x1024 (![] : Fin 0 → Fin S16x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S16x4096x1024 .f32) (main_arg1 : FVec F S16x1024 .f32) (main_arg2 : FVec F S16x1024 .f32) (main_arg3 : FVec F S1024 .f32) (main_arg4 : FVec F S1024x1024 .f32) (main_arg5 : FVec F S64 .f32) : IVec S16x1024 1 × IVec S16x1024 1 × IVec S1024 1 × IVec S1024x1024 1 :=
  let main_v0 : FVec F S16x1024 .f32 := Host.absf main_arg1
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_v3 : FVec F S16x1024 .f32 := Host.absf main_arg2
  let main_cst_0 : FVec F S_ .f32 := constant S_ .f32 0x7F800000#32
  let main_v4 : FVec F S16x1024 .f32 := broadcastInDim S16x1024 ![] bcast_S_S16x1024 main_cst_0
  let main_v5 : IVec S16x1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  (main_v2, main_v5, main_v8, main_v11)
-- ==== Pre_step_weights_finite.lean ====
abbrev S8x64x1024 : Shape := ⟨3, ![8, 64, 1024]⟩
abbrev S8x1024 : Shape := ⟨2, ![8, 1024]⟩
abbrev S1024 : Shape := ⟨1, ![1024]⟩
abbrev S1024x2048 : Shape := ⟨2, ![1024, 2048]⟩
abbrev S64 : Shape := ⟨1, ![64]⟩
abbrev S_ : Shape := ⟨0, ![]⟩

class Facts : Prop where
  bcast_S_S8x1024 : S_.BroadcastsInDim S8x1024 (![] : Fin 0 → Fin S8x1024.rank)
  bcast_S_S1024 : S_.BroadcastsInDim S1024 (![] : Fin 0 → Fin S1024.rank)
  bcast_S_S1024x2048 : S_.BroadcastsInDim S1024x2048 (![] : Fin 0 → Fin S1024x2048.rank)

variable [Facts]

def fn {F : FTy → Type} [FloatOps F] (main_arg0 : FVec F S8x64x1024 .f32) (main_arg1 : FVec F S8x1024 .f32) (main_arg2 : FVec F S8x1024 .f32) (main_arg3 : FVec F S1024 .f32) (main_arg4 : FVec F S1024x2048 .f32) (main_arg5 : FVec F S64 .f32) : IVec S8x1024 1 × IVec S8x1024 1 × IVec S1024 1 × IVec S1024x2048 1 :=
  let main_v0 : FVec F S8x1024 .f32 := Host.absf main_arg1
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S8x1024 .f32 := Host.absf main_arg2
  let main_cst_0 : FVec F S_ .f32 := constant S_ .f32 0x7F800000#32
  let main_v4 : FVec F S8x1024 .f32 := broadcastInDim S8x1024 ![] bcast_S_S8x1024 main_cst_0
  let main_v5 : IVec S8x1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2048 .f32 := Host.absf main_arg4
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  (main_v2, main_v5, main_v8, main_v11)
-- ==== Pre_weights_finite.lean ====
abbrev S16x4096x1024 : Shape := ⟨3, ![16, 4096, 1024]⟩
abbrev S16x1024 : Shape := ⟨2, ![16, 1024]⟩
abbrev S1024 : Shape := ⟨1, ![1024]⟩
abbrev S1024x2048 : Shape := ⟨2, ![1024, 2048]⟩
abbrev S64 : Shape := ⟨1, ![64]⟩
abbrev S_ : Shape := ⟨0, ![]⟩

class Facts : Prop where
  bcast_S_S16x1024 : S_.BroadcastsInDim S16x1024 (![] : Fin 0 → Fin S16x1024.rank)
  bcast_S_S1024 : S_.BroadcastsInDim S1024 (![] : Fin 0 → Fin S1024.rank)
  bcast_S_S1024x2048 : S_.BroadcastsInDim S1024x2048 (![] : Fin 0 → Fin S1024x2048.rank)

variable [Facts]

def fn {F : FTy → Type} [FloatOps F] (main_arg0 : FVec F S16x4096x1024 .f32) (main_arg1 : FVec F S16x1024 .f32) (main_arg2 : FVec F S16x1024 .f32) (main_arg3 : FVec F S1024 .f32) (main_arg4 : FVec F S1024x2048 .f32) (main_arg5 : FVec F S64 .f32) : IVec S16x1024 1 × IVec S16x1024 1 × IVec S1024 1 × IVec S1024x2048 1 :=
  let main_v0 : FVec F S16x1024 .f32 := Host.absf main_arg1
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_v3 : FVec F S16x1024 .f32 := Host.absf main_arg2
  let main_cst_0 : FVec F S_ .f32 := constant S_ .f32 0x7F800000#32
  let main_v4 : FVec F S16x1024 .f32 := broadcastInDim S16x1024 ![] bcast_S_S16x1024 main_cst_0
  let main_v5 : IVec S16x1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2048 .f32 := Host.absf main_arg4
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  (main_v2, main_v5, main_v8, main_v11)
-- ==== Kernel.lean ====
abbrev S16x4096x16x96 : Shape := ⟨4, ![16, 4096, 16, 96]⟩
abbrev S16x4096x16x64 : Shape := ⟨4, ![16, 4096, 16, 64]⟩
abbrev S128 : Shape := ⟨1, ![128]⟩
abbrev S1x2048 : Shape := ⟨2, ![1, 2048]⟩
abbrev S_ : Shape := ⟨0, ![]⟩
abbrev S16x4096x1536 : Shape := ⟨3, ![16, 4096, 1536]⟩
abbrev S16x4096x16x128 : Shape := ⟨4, ![16, 4096, 16, 128]⟩
abbrev S16x4096x2048 : Shape := ⟨3, ![16, 4096, 2048]⟩
abbrev S128x1 : Shape := ⟨2, ![128, 1]⟩
abbrev S16x4096x1024 : Shape := ⟨3, ![16, 4096, 1024]⟩
abbrev S1x1x2048 : Shape := ⟨3, ![1, 1, 2048]⟩
abbrev S1x1024x256 : Shape := ⟨3, ![1, 1024, 256]⟩
abbrev S1x4096x256 : Shape := ⟨3, ![1, 4096, 256]⟩
abbrev S1x1024x128 : Shape := ⟨3, ![1, 1024, 128]⟩
abbrev S2x1024x128 : Shape := ⟨3, ![2, 1024, 128]⟩
abbrev S1024x256 : Shape := ⟨2, ![1024, 256]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 52
  | .vmem => 10
  | .smem => 0
  | _ => 0

abbrev bufTy : (tb : Table) → Fin (tcTables nBuf tb) → BufTy
  | .hbm, ⟨0, _⟩ => ⟨S16x4096x16x96, .f32⟩
  | .hbm, ⟨1, _⟩ => ⟨S16x4096x16x96, .f32⟩
  | .hbm, ⟨2, _⟩ => ⟨S16x4096x16x64, .f32⟩
  | .hbm, ⟨3, _⟩ => ⟨S128, .i32⟩
  | .hbm, ⟨4, _⟩ => ⟨S128, .i1⟩
  | .hbm, ⟨5, _⟩ => ⟨S128, .i32⟩
  | .hbm, ⟨6, _⟩ => ⟨S128, .i1⟩
  | .hbm, ⟨7, _⟩ => ⟨S1x2048, .f32⟩
  | .hbm, ⟨8, _⟩ => ⟨S_, .f32⟩
  | .hbm, ⟨9, _⟩ => ⟨S16x4096x16x96, .f32⟩
  | .hbm, ⟨10, _⟩ => ⟨S16x4096x16x96, .f32⟩
  | .hbm, ⟨11, _⟩ => ⟨S16x4096x1536, .f32⟩
  | .hbm, ⟨12, _⟩ => ⟨S16x4096x16x96, .f32⟩
  | .hbm, ⟨13, _⟩ => ⟨S_, .i32⟩
  | .hbm, ⟨14, _⟩ => ⟨S_, .f32⟩
  | .hbm, ⟨15, _⟩ => ⟨S16x4096x16x128, .f32⟩
  | .hbm, ⟨16, _⟩ => ⟨S16x4096x2048, .f32⟩
  | .hbm, ⟨17, _⟩ => ⟨S16x4096x2048, .bf16⟩
  | .hbm, ⟨18, _⟩ => ⟨S16x4096x1536, .f32⟩
  | .hbm, ⟨19, _⟩ => ⟨S16x4096x16x96, .f32⟩
  | .hbm, ⟨20, _⟩ => ⟨S_, .i32⟩
  | .hbm, ⟨21, _⟩ => ⟨S_, .f32⟩
  | .hbm, ⟨22, _⟩ => ⟨S16x4096x16x128, .f32⟩
  | .hbm, ⟨23, _⟩ => ⟨S16x4096x2048, .f32⟩
  | .hbm, ⟨24, _⟩ => ⟨S16x4096x2048, .bf16⟩
  | .hbm, ⟨25, _⟩ => ⟨S16x4096x16x128, .bf16⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S16x4096x16x128, .bf16⟩
  | .hbm, ⟨32, _⟩ => ⟨S16x4096x2048, .bf16⟩
  | .hbm, ⟨33, _⟩ => ⟨S16x4096x16x128, .bf16⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S128, .i32⟩
  | .hbm, ⟨38, _⟩ => ⟨S128x1, .i32⟩
  | .hbm, ⟨39, _⟩ => ⟨S16x4096x16x128, .bf16⟩
  | .hbm, ⟨40, _⟩ => ⟨S16x4096x2048, .bf16⟩
  | .hbm, ⟨41, _⟩ => ⟨S16x4096x1024, .f32⟩
  | .hbm, ⟨42, _⟩ => ⟨S16x4096x16x64, .f32⟩
  | .hbm, ⟨43, _⟩ => ⟨S_, .i32⟩
  | .hbm, ⟨44, _⟩ => ⟨S_, .f32⟩
  | .hbm, ⟨45, _⟩ => ⟨S16x4096x16x128, .f32⟩
  | .hbm, ⟨46, _⟩ => ⟨S16x4096x2048, .f32⟩
  | .hbm, ⟨47, _⟩ => ⟨S1x1x2048, .f32⟩
  | .hbm, ⟨48, _⟩ => ⟨S16x4096x2048, .f32⟩
  | .hbm, ⟨49, _⟩ => ⟨S16x4096x2048, .f32⟩
  | .hbm, ⟨50, _⟩ => ⟨S16x4096x2048, .bf16⟩
  | .hbm, ⟨51, _⟩ => ⟨S16x4096x1024, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x1024x128, .bf16⟩
  | .local _ .vmem, ⟨7, _⟩ => ⟨S1x1024x128, .bf16⟩
  | .local _ .vmem, ⟨8, _⟩ => ⟨S2x1024x128, .f32⟩
  | .local _ .vmem, ⟨9, _⟩ => ⟨S2x1024x128, .f32⟩
  | _, _ => ⟨S16x4096x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_cst : Ref sig .tc := ⟨.hbm, 7, rfl⟩
abbrev main_cst_3 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_4 : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_5 : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_6 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_call2_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 4], ![false, false, false]⟩

@[reducible] def k0_t1_loop (i : grid0.Coords) : Scf.Loop 32 :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_7 : BitVec 32 := 1#32
  ⟨c0_i32_6, v12, c1_i32_7⟩
def k0_mult1 (i : grid0.Coords) (k0_t1 : Fin (k0_t1_loop i).trips) : BitVec 32 :=
  let c0_i32_6 : BitVec 32 := 0#32
  let c1_i32_7 : BitVec 32 := 1#32
  let arg9 : BitVec 32 := Scf.iv c0_i32_6 c1_i32_7 k0_t1
  let c1024_i32_73 : BitVec 32 := 1024#32
  let v151 : BitVec 32 := Scalar.muli arg9 c1024_i32_73
  v151
def k0_off1 (i : grid0.Coords) (k0_t1 : Fin (k0_t1_loop i).trips) : Fin 3 → Nat :=
  let c0_74 : Index := 0#32
  let c0_i32_6 : BitVec 32 := 0#32
  let c1_i32_7 : BitVec 32 := 1#32
  let arg9 : BitVec 32 := Scf.iv c0_i32_6 c1_i32_7 k0_t1
  let c1024_i32_73 : BitVec 32 := 1024#32
  let v151 : BitVec 32 := Scalar.muli arg9 c1024_i32_73
  let v152 : BitVec 32 := v151
  let v153 : Index := Scalar.indexCast v152
  let c0_75 : Index := 0#32
  ![0, v153.toNat, 0]
@[reducible] def k0_t2_loop (i : grid0.Coords) : Scf.Loop 32 :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let v9 : BitVec 32 := Scalar.addi c0_i32_6 v8
  let c1_i32_8 : BitVec 32 := 1#32
  ⟨v12, v9, c1_i32_8⟩
def k0_mult2 (i : grid0.Coords) (k0_t2 : Fin (k0_t2_loop i).trips) : BitVec 32 :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg9 : BitVec 32 := Scf.iv v12 c1_i32_8 k0_t2
  let c1024_i32_73 : BitVec 32 := 1024#32
  let v151 : BitVec 32 := Scalar.muli arg9 c1024_i32_73
  v151
def k0_off2 (i : grid0.Coords) (k0_t2 : Fin (k0_t2_loop i).trips) : Fin 3 → Nat :=
  let c0_74 : Index := 0#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg9 : BitVec 32 := Scf.iv v12 c1_i32_8 k0_t2
  let c1024_i32_73 : BitVec 32 := 1024#32
  let v151 : BitVec 32 := Scalar.muli arg9 c1024_i32_73
  let v152 : BitVec 32 := v151
  let v153 : Index := Scalar.indexCast v152
  let c0_75 : Index := 0#32
  ![0, v153.toNat, 0]
def k0_mult3 (i : grid0.Coords) : BitVec 32 :=
  let arg2 : BitVec 32 := BitVec.ofNat 32 (i 2).val
  let c1024_i32 : BitVec 32 := 1024#32
  let v13 : BitVec 32 := Scalar.muli arg2 c1024_i32
  v13
def k0_off3 (i : grid0.Coords) : Fin 3 → Nat :=
  let c0_9 : Index := 0#32
  let arg2 : BitVec 32 := BitVec.ofNat 32 (i 2).val
  let c1024_i32 : BitVec 32 := 1024#32
  let v13 : BitVec 32 := Scalar.muli arg2 c1024_i32
  let v14 : BitVec 32 := v13
  let v15 : Index := Scalar.indexCast v14
  let c0_10 : Index := 0#32
  ![0, v15.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x4096x16x96 : Shape := ⟨4, ![16, 4096, 16, 96]⟩
abbrev S16x4096x16x64 : Shape := ⟨4, ![16, 4096, 16, 64]⟩
abbrev S4096 : Shape := ⟨1, ![4096]⟩
abbrev S16x16x4096x4096 : Shape := ⟨4, ![16, 16, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S16x16x4096 : Shape := ⟨3, ![16, 16, 4096]⟩
abbrev S16x16x4096x1 : Shape := ⟨4, ![16, 16, 4096, 1]⟩
abbrev S16x16x64x4096 : Shape := ⟨4, ![16, 16, 64, 4096]⟩
abbrev S16x4096x1024 : Shape := ⟨3, ![16, 4096, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16x4096x16x96, .f32⟩
  | .hbm, ⟨1, _⟩ => ⟨S16x4096x16x96, .f32⟩
  | .hbm, ⟨2, _⟩ => ⟨S16x4096x16x64, .f32⟩
  | .hbm, ⟨3, _⟩ => ⟨S4096, .i32⟩
  | .hbm, ⟨4, _⟩ => ⟨S16x16x4096x4096, .f32⟩
  | .hbm, ⟨5, _⟩ => ⟨S_, .f32⟩
  | .hbm, ⟨6, _⟩ => ⟨S16x16x4096x4096, .f32⟩
  | .hbm, ⟨7, _⟩ => ⟨S16x16x4096x4096, .f32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S1x1x4096x4096, .i1⟩
  | .hbm, ⟨32, _⟩ => ⟨S_, .f32⟩
  | .hbm, ⟨33, _⟩ => ⟨S_, .f32⟩
  | .hbm, ⟨34, _⟩ => ⟨S16x16x4096x4096, .i1⟩
  | .hbm, ⟨35, _⟩ => ⟨S16x16x4096x4096, .f32⟩
  | .hbm, ⟨36, _⟩ => ⟨S16x16x4096x4096, .f32⟩
  | .hbm, ⟨37, _⟩ => ⟨S_, .f32⟩
  | .hbm, ⟨38, _⟩ => ⟨S16x16x4096, .f32⟩
  | .hbm, ⟨39, _⟩ => ⟨S_, .f32⟩
  | .hbm, ⟨40, _⟩ => ⟨S16x16x4096, .f32⟩
  | .hbm, ⟨41, _⟩ => ⟨S16x16x4096, .f32⟩
  | .hbm, ⟨42, _⟩ => ⟨S16x16x4096x1, .f32⟩
  | .hbm, ⟨43, _⟩ => ⟨S16x16x4096x4096, .f32⟩
  | .hbm, ⟨44, _⟩ => ⟨S16x16x4096x4096, .f32⟩
  | .hbm, ⟨45, _⟩ => ⟨S16x16x4096x4096, .f32⟩
  | .hbm, ⟨46, _⟩ => ⟨S_, .f32⟩
  | .hbm, ⟨47, _⟩ => ⟨S16x16x4096, .f32⟩
  | .hbm, ⟨48, _⟩ => ⟨S16x16x4096x1, .f32⟩
  | .hbm, ⟨49, _⟩ => ⟨S16x16x4096x4096, .f32⟩
  | .hbm, ⟨50, _⟩ => ⟨S16x16x4096x4096, .f32⟩
  | .hbm, ⟨51, _⟩ => ⟨S16x16x64x4096, .f32⟩
  | .hbm, ⟨52, _⟩ => ⟨S16x4096x16x64, .f32⟩
  | .hbm, ⟨53, _⟩ => ⟨S16x4096x1024, .f32⟩
  | .hbm, ⟨54, _⟩ => ⟨S16x4096x1024, .bf16⟩
  | _, _ => ⟨S16x4096x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩

abbrev nD : Nat := 1
abbrev τ : Topo := Topo.v7x

variable {F : FTy → Type} [FloatOps F]
-- ==== KernelKv.lean ====
abbrev S16x4096x1024 : Shape := ⟨3, ![16, 4096, 1024]⟩
abbrev S16x1024 : Shape := ⟨2, ![16, 1024]⟩
abbrev S1024 : Shape := ⟨1, ![1024]⟩
abbrev S1024x2048 : Shape := ⟨2, ![1024, 2048]⟩
abbrev S64 : Shape := ⟨1, ![64]⟩
abbrev S1024x1024 : Shape := ⟨2, ![1024, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16x1x1024 : Shape := ⟨3, ![16, 1, 1024]⟩
abbrev S1x1024 : Shape := ⟨2, ![1, 1024]⟩
abbrev S16x512x1024 : Shape := ⟨3, ![16, 512, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩

abbrev nBuf : Space → Nat
  | .hbm => 21
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .f32⟩
  | .hbm, ⟨2, _⟩ => ⟨S16x1024, .f32⟩
  | .hbm, ⟨3, _⟩ => ⟨S1024, .f32⟩
  | .hbm, ⟨4, _⟩ => ⟨S1024x2048, .f32⟩
  | .hbm, ⟨5, _⟩ => ⟨S64, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1x64, .f32⟩
  | .hbm, ⟨11, _⟩ => ⟨S2x64, .f32⟩
  | .hbm, ⟨12, _⟩ => ⟨S128, .f32⟩
  | .hbm, ⟨13, _⟩ => ⟨S1x128, .f32⟩
  | .hbm, ⟨14, _⟩ => ⟨S16x1x1024, .f32⟩
  | .hbm, ⟨15, _⟩ => ⟨S16x1x1024, .f32⟩
  | .hbm, ⟨16, _⟩ => ⟨S1x1024, .f32⟩
  | .hbm, ⟨17, _⟩ => ⟨S16x512x1024, .f32⟩
  | .hbm, ⟨18, _⟩ => ⟨S16x512x1024, .f32⟩
  | .hbm, ⟨19, _⟩ => ⟨S16x4096x1024, .bf16⟩
  | .hbm, ⟨20, _⟩ => ⟨S16x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x128, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c7_i32 : BitVec 32 := 7#32
  let v280 : BitVec 1 := Scalar.cmpi .sge arg1 c7_i32
  let v281 : BitVec 32 := Scalar.extui v280
  let c0_i32 : BitVec 32 := 0#32
  let v282 : BitVec 1 := Scalar.cmpi .ne v281 c0_i32
  v282

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceKvIdeal.lean ====
abbrev S16x4096x1024 : Shape := ⟨3, ![16, 4096, 1024]⟩
abbrev S16x1024 : Shape := ⟨2, ![16, 1024]⟩
abbrev S1024 : Shape := ⟨1, ![1024]⟩
abbrev S1024x2048 : Shape := ⟨2, ![1024, 2048]⟩
abbrev S64 : Shape := ⟨1, ![64]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S16x4096x2048 : Shape := ⟨3, ![16, 4096, 2048]⟩
abbrev S16x4096x2x16x64 : Shape := ⟨5, ![16, 4096, 2, 16, 64]⟩
abbrev S16x4096x1x16x64 : Shape := ⟨5, ![16, 4096, 1, 16, 64]⟩
abbrev S16x4096x16x64 : Shape := ⟨4, ![16, 4096, 16, 64]⟩
abbrev S16x4096x16 : Shape := ⟨3, ![16, 4096, 16]⟩
abbrev S16x4096x16x1 : Shape := ⟨4, ![16, 4096, 16, 1]⟩
abbrev S1x1x1x64 : Shape := ⟨4, ![1, 1, 1, 64]⟩
abbrev S16x512x1024 : Shape := ⟨3, ![16, 512, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .f32⟩
  | .hbm, ⟨2, _⟩ => ⟨S16x1024, .f32⟩
  | .hbm, ⟨3, _⟩ => ⟨S1024, .f32⟩
  | .hbm, ⟨4, _⟩ => ⟨S1024x2048, .f32⟩
  | .hbm, ⟨5, _⟩ => ⟨S64, .f32⟩
  | .hbm, ⟨6, _⟩ => ⟨S16x4096x1024, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S16x4096x1, .f32⟩
  | .hbm, ⟨17, _⟩ => ⟨S16x4096x1024, .f32⟩
  | .hbm, ⟨18, _⟩ => ⟨S16x4096x1024, .f32⟩
  | .hbm, ⟨19, _⟩ => ⟨S1x1x1024, .f32⟩
  | .hbm, ⟨20, _⟩ => ⟨S16x4096x1024, .f32⟩
  | .hbm, ⟨21, _⟩ => ⟨S16x4096x1024, .f32⟩
  | .hbm, ⟨22, _⟩ => ⟨S16x1x1024, .f32⟩
  | .hbm, ⟨23, _⟩ => ⟨S_, .f32⟩
  | .hbm, ⟨24, _⟩ => ⟨S16x1x1024, .f32⟩
  | .hbm, ⟨25, _⟩ => ⟨S16x1x1024, .f32⟩
  | .hbm, ⟨26, _⟩ => ⟨S16x4096x1024, .f32⟩
  | .hbm, ⟨27, _⟩ => ⟨S16x4096x1024, .f32⟩
  | .hbm, ⟨28, _⟩ => ⟨S16x1x1024, .f32⟩
  | .hbm, ⟨29, _⟩ => ⟨S16x4096x1024, .f32⟩
  | .hbm, ⟨30, _⟩ => ⟨S16x4096x1024, .f32⟩
  | .hbm, ⟨31, _⟩ => ⟨S16x4096x2048, .f32⟩
  | .hbm, ⟨32, _⟩ => ⟨S16x4096x2x16x64, .f32⟩
  | .hbm, ⟨33, _⟩ => ⟨S16x4096x1x16x64, .f32⟩
  | .hbm, ⟨34, _⟩ => ⟨S16x4096x16x64, .f32⟩
  | .hbm, ⟨35, _⟩ => ⟨S16x4096x16x64, .f32⟩
  | .hbm, ⟨36, _⟩ => ⟨S_, .f32⟩
  | .hbm, ⟨37, _⟩ => ⟨S16x4096x16, .f32⟩
  | .hbm, ⟨38, _⟩ => ⟨S16x4096x16x1, .f32⟩
  | .hbm, ⟨39, _⟩ => ⟨S_, .f32⟩
  | .hbm, ⟨40, _⟩ => ⟨S16x4096x16x1, .f32⟩
  | .hbm, ⟨41, _⟩ => ⟨S16x4096x16x1, .f32⟩
  | .hbm, ⟨42, _⟩ => ⟨S_, .f32⟩
  | .hbm, ⟨43, _⟩ => ⟨S16x4096x16x1, .f32⟩
  | .hbm, ⟨44, _⟩ => ⟨S16x4096x16x1, .f32⟩
  | .hbm, ⟨45, _⟩ => ⟨S16x4096x16x1, .f32⟩
  | .hbm, ⟨46, _⟩ => ⟨S16x4096x16x64, .f32⟩
  | .hbm, ⟨47, _⟩ => ⟨S16x4096x16x64, .f32⟩
  | .hbm, ⟨48, _⟩ => ⟨S1x1x1x64, .f32⟩
  | .hbm, ⟨49, _⟩ => ⟨S16x4096x16x64, .f32⟩
  | .hbm, ⟨50, _⟩ => ⟨S16x4096x16x64, .f32⟩
  | .hbm, ⟨51, _⟩ => ⟨S16x4096x1024, .f32⟩
  | .hbm, ⟨52, _⟩ => ⟨S16x4096x1x16x64, .f32⟩
  | .hbm, ⟨53, _⟩ => ⟨S16x4096x16x64, .f32⟩
  | .hbm, ⟨54, _⟩ => ⟨S16x4096x1024, .f32⟩
  | .hbm, ⟨55, _⟩ => ⟨S16x512x1024, .f32⟩
  | .hbm, ⟨56, _⟩ => ⟨S16x512x1024, .f32⟩
  | .hbm, ⟨57, _⟩ => ⟨S16x4096x1024, .bf16⟩
  | .hbm, ⟨58, _⟩ => ⟨S16x4096x1024, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== KernelPre.lean ====
abbrev S16x4096x1024 : Shape := ⟨3, ![16, 4096, 1024]⟩
abbrev S16x1024 : Shape := ⟨2, ![16, 1024]⟩
abbrev S1024 : Shape := ⟨1, ![1024]⟩
abbrev S1024x672 : Shape := ⟨2, ![1024, 672]⟩
abbrev S384 : Shape := ⟨1, ![384]⟩
abbrev S256 : Shape := ⟨1, ![256]⟩
abbrev S384x1536 : Shape := ⟨2, ![384, 1536]⟩
abbrev S96 : Shape := ⟨1, ![96]⟩
abbrev S128 : Shape := ⟨1, ![128]⟩
abbrev S1x384 : Shape := ⟨2, ![1, 384]⟩
abbrev S1x256 : Shape := ⟨2, ![1, 256]⟩
abbrev S384x16x96 : Shape := ⟨3, ![384, 16, 96]⟩
abbrev S_ : Shape := ⟨0, ![]⟩
abbrev S384x16x128 : Shape := ⟨3, ![384, 16, 128]⟩
abbrev S384x2048 : Shape := ⟨2, ![384, 2048]⟩
abbrev S1x128 : Shape := ⟨2, ![1, 128]⟩
abbrev S128x1 : Shape := ⟨2, ![128, 1]⟩
abbrev S1x1x128 : Shape := ⟨3, ![1, 1, 128]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S4096x1x128 : Shape := ⟨3, ![4096, 1, 128]⟩
abbrev S16x1x1024 : Shape := ⟨3, ![16, 1, 1024]⟩
abbrev S1x1024 : Shape := ⟨2, ![1, 1024]⟩
abbrev S16x4096x256 : Shape := ⟨3, ![16, 4096, 256]⟩
abbrev S16x4096x32 : Shape := ⟨3, ![16, 4096, 32]⟩
abbrev S16x4096x2048 : Shape := ⟨3, ![16, 4096, 2048]⟩
abbrev S1x256x1024 : Shape := ⟨3, ![1, 256, 1024]⟩
abbrev S1x1x1024 : Shape := ⟨3, ![1, 1, 1024]⟩
abbrev S256x128 : Shape := ⟨2, ![256, 128]⟩
abbrev S1x256x256 : Shape := ⟨3, ![1, 256, 256]⟩
abbrev S1x256x32 : Shape := ⟨3, ![1, 256, 32]⟩
abbrev S1x256x2048 : Shape := ⟨3, ![1, 256, 2048]⟩
abbrev S256x1024 : Shape := ⟨2, ![256, 1024]⟩
abbrev S256x1 : Shape := ⟨2, ![256, 1]⟩
abbrev S256x672 : Shape := ⟨2, ![256, 672]⟩
abbrev S256x384 : Shape := ⟨2, ![256, 384]⟩
abbrev S256x256 : Shape := ⟨2, ![256, 256]⟩
abbrev S256x32 : Shape := ⟨2, ![256, 32]⟩
abbrev S256x2048 : Shape := ⟨2, ![256, 2048]⟩
abbrev S1x256x128 : Shape := ⟨3, ![1, 256, 128]⟩

abbrev nBuf : Space → Nat
  | .hbm => 96
  | .vmem => 22
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .f32⟩
  | .hbm, ⟨2, _⟩ => ⟨S16x1024, .f32⟩
  | .hbm, ⟨3, _⟩ => ⟨S1024, .f32⟩
  | .hbm, ⟨4, _⟩ => ⟨S1024x672, .f32⟩
  | .hbm, ⟨5, _⟩ => ⟨S384, .f32⟩
  | .hbm, ⟨6, _⟩ => ⟨S256, .f32⟩
  | .hbm, ⟨7, _⟩ => ⟨S384x1536, .f32⟩
  | .hbm, ⟨8, _⟩ => ⟨S96, .f32⟩
  | .hbm, ⟨9, _⟩ => ⟨S128, .i32⟩
  | .hbm, ⟨10, _⟩ => ⟨S128, .i1⟩
  | .hbm, ⟨11, _⟩ => ⟨S128, .i32⟩
  | .hbm, ⟨12, _⟩ => ⟨S128, .i1⟩
  | .hbm, ⟨13, _⟩ => ⟨S128, .i32⟩
  | .hbm, ⟨14, _⟩ => ⟨S128, .i1⟩
  | .hbm, ⟨15, _⟩ => ⟨S128, .i32⟩
  | .hbm, ⟨16, _⟩ => ⟨S128, .i1⟩
  | .hbm, ⟨17, _⟩ => ⟨S1024x672, .bf16⟩
  | .hbm, ⟨18, _⟩ => ⟨S1x384, .f32⟩
  | .hbm, ⟨19, _⟩ => ⟨S1x256, .f32⟩
  | .hbm, ⟨20, _⟩ => ⟨S384x16x96, .f32⟩
  | .hbm, ⟨21, _⟩ => ⟨S_, .i32⟩
  | .hbm, ⟨22, _⟩ => ⟨S_, .f32⟩
  | .hbm, ⟨23, _⟩ => ⟨S384x16x128, .f32⟩
  | .hbm, ⟨24, _⟩ => ⟨S384x2048, .f32⟩
  | .hbm, ⟨25, _⟩ => ⟨S384x2048, .bf16⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S384x16x128, .bf16⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128, .i32⟩
  | .hbm, ⟨35, _⟩ => ⟨S128x1, .i32⟩
  | .hbm, ⟨36, _⟩ => ⟨S384x16x128, .bf16⟩
  | .hbm, ⟨37, _⟩ => ⟨S384x2048, .bf16⟩
  | .hbm, ⟨38, _⟩ => ⟨S1x1x128, .f32⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S128, .i32⟩
  | .hbm, ⟨43, _⟩ => ⟨S128x1, .i32⟩
  | .hbm, ⟨44, _⟩ => ⟨S1x1x128, .f32⟩
  | .hbm, ⟨45, _⟩ => ⟨S1x128, .f32⟩
  | .hbm, ⟨46, _⟩ => ⟨S4096, .i32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S4096, .f32⟩
  | .hbm, ⟨56, _⟩ => ⟨S4096x1, .f32⟩
  | .hbm, ⟨57, _⟩ => ⟨S1x16, .f32⟩
  | .hbm, ⟨58, _⟩ => ⟨S4096x16, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S4096x16, .f32⟩
  | .hbm, ⟨63, _⟩ => ⟨S_, .f32⟩
  | .hbm, ⟨64, _⟩ => ⟨S4096x64, .f32⟩
  | .hbm, ⟨65, _⟩ => ⟨S_, .f32⟩
  | .hbm, ⟨66, _⟩ => ⟨S4096x64, .f32⟩
  | .hbm, ⟨67, _⟩ => ⟨S_, .f32⟩
  | .hbm, ⟨68, _⟩ => ⟨S4096x32, .f32⟩
  | .hbm, ⟨69, _⟩ => ⟨S_, .f32⟩
  | .hbm, ⟨70, _⟩ => ⟨S4096x32, .f32⟩
  | .hbm, ⟨71, _⟩ => ⟨S4096x128, .f32⟩
  | .hbm, ⟨72, _⟩ => ⟨S4096x1x128, .f32⟩
  | .hbm, ⟨73, _⟩ => ⟨S_, .i32⟩
  | .hbm, ⟨74, _⟩ => ⟨S128, .i32⟩
  | .hbm, ⟨75, _⟩ => ⟨S128, .i32⟩
  | .hbm, ⟨76, _⟩ => ⟨S128, .i32⟩
  | .hbm, ⟨77, _⟩ => ⟨S128x1, .i32⟩
  | .hbm, ⟨78, _⟩ => ⟨S4096x1x128, .f32⟩
  | .hbm, ⟨79, _⟩ => ⟨S4096x128, .f32⟩
  | .hbm, ⟨80, _⟩ => ⟨S4096x16, .f32⟩
  | .hbm, ⟨81, _⟩ => ⟨S4096x128, .f32⟩
  | .hbm, ⟨82, _⟩ => ⟨S4096x1x128, .f32⟩
  | .hbm, ⟨83, _⟩ => ⟨S_, .i32⟩
  | .hbm, ⟨84, _⟩ => ⟨S128, .i32⟩
  | .hbm, ⟨85, _⟩ => ⟨S128, .i32⟩
  | .hbm, ⟨86, _⟩ => ⟨S128, .i32⟩
  | .hbm, ⟨87, _⟩ => ⟨S128x1, .i32⟩
  | .hbm, ⟨88, _⟩ => ⟨S4096x1x128, .f32⟩
  | .hbm, ⟨89, _⟩ => ⟨S4096x128, .f32⟩
  | .hbm, ⟨90, _⟩ => ⟨S16x1x1024, .f32⟩
  | .hbm, ⟨91, _⟩ => ⟨S16x1x1024, .f32⟩
  | .hbm, ⟨92, _⟩ => ⟨S1x1024, .f32⟩
  | .hbm, ⟨93, _⟩ => ⟨S16x4096x256, .f32⟩
  | .hbm, ⟨94, _⟩ => ⟨S16x4096x32, .f32⟩
  | .hbm, ⟨95, _⟩ => ⟨S16x4096x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x672, .bf16⟩
  | .local _ .vmem, ⟨8, _⟩ => ⟨S1x384, .f32⟩
  | .local _ .vmem, ⟨9, _⟩ => ⟨S1x256, .f32⟩
  | .local _ .vmem, ⟨10, _⟩ => ⟨S384x2048, .bf16⟩
  | .local _ .vmem, ⟨11, _⟩ => ⟨S1x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1x256x256, .f32⟩
  | .local _ .vmem, ⟨17, _⟩ => ⟨S1x256x256, .f32⟩
  | .local _ .vmem, ⟨18, _⟩ => ⟨S1x256x32, .f32⟩
  | .local _ .vmem, ⟨19, _⟩ => ⟨S1x256x32, .f32⟩
  | .local _ .vmem, ⟨20, _⟩ => ⟨S1x256x2048, .bf16⟩
  | .local _ .vmem, ⟨21, _⟩ => ⟨S1x256x2048, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_c_5 : Ref sig .tc := ⟨.hbm, 15, rfl⟩
abbrev main_c_6 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c_7 : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_8 : Ref sig .tc := ⟨.hbm, 26, rfl⟩
abbrev main_call1_v0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_10 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst : Ref sig .tc := ⟨.hbm, 49, rfl⟩
abbrev main_v26 : Ref sig .tc := ⟨.hbm, 50, rfl⟩
abbrev main_v27 : Ref sig .tc := ⟨.hbm, 51, rfl⟩
abbrev main_cst_11 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_12 : Ref sig .tc := ⟨.hbm, 63, rfl⟩
abbrev main_v38 : Ref sig .tc := ⟨.hbm, 64, rfl⟩
abbrev main_cst_13 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_cst_15 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_16 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_17 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62_0 : Ref sig .tc := ⟨.hbm, 93, rfl⟩
abbrev main_v62_1 : Ref sig .tc := ⟨.hbm, 94, rfl⟩
abbrev main_v62_2 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x672 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferencePreIdeal.lean ====
abbrev S16x4096x1024 : Shape := ⟨3, ![16, 4096, 1024]⟩
abbrev S16x1024 : Shape := ⟨2, ![16, 1024]⟩
abbrev S1024 : Shape := ⟨1, ![1024]⟩
abbrev S1024x672 : Shape := ⟨2, ![1024, 672]⟩
abbrev S384 : Shape := ⟨1, ![384]⟩
abbrev S256 : Shape := ⟨1, ![256]⟩
abbrev S384x1536 : Shape := ⟨2, ![384, 1536]⟩
abbrev S96 : Shape := ⟨1, ![96]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S16x4096x672 : Shape := ⟨3, ![16, 4096, 672]⟩
abbrev S16x4096x256 : Shape := ⟨3, ![16, 4096, 256]⟩
abbrev S1x1x256 : Shape := ⟨3, ![1, 1, 256]⟩
abbrev S16x4096x32 : Shape := ⟨3, ![16, 4096, 32]⟩

abbrev nBuf : Space → Nat
  | .hbm => 53
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .f32⟩
  | .hbm, ⟨2, _⟩ => ⟨S16x1024, .f32⟩
  | .hbm, ⟨3, _⟩ => ⟨S1024, .f32⟩
  | .hbm, ⟨4, _⟩ => ⟨S1024x672, .f32⟩
  | .hbm, ⟨5, _⟩ => ⟨S384, .f32⟩
  | .hbm, ⟨6, _⟩ => ⟨S256, .f32⟩
  | .hbm, ⟨7, _⟩ => ⟨S384x1536, .f32⟩
  | .hbm, ⟨8, _⟩ => ⟨S96, .f32⟩
  | .hbm, ⟨9, _⟩ => ⟨S16x4096x1024, .f32⟩
  | .hbm, ⟨10, _⟩ => ⟨S_, .f32⟩
  | .hbm, ⟨11, _⟩ => ⟨S16x4096, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S_, .f32⟩
  | .hbm, ⟨17, _⟩ => ⟨S16x4096x1, .f32⟩
  | .hbm, ⟨18, _⟩ => ⟨S16x4096x1, .f32⟩
  | .hbm, ⟨19, _⟩ => ⟨S16x4096x1, .f32⟩
  | .hbm, ⟨20, _⟩ => ⟨S16x4096x1024, .f32⟩
  | .hbm, ⟨21, _⟩ => ⟨S16x4096x1024, .f32⟩
  | .hbm, ⟨22, _⟩ => ⟨S1x1x1024, .f32⟩
  | .hbm, ⟨23, _⟩ => ⟨S16x4096x1024, .f32⟩
  | .hbm, ⟨24, _⟩ => ⟨S16x4096x1024, .f32⟩
  | .hbm, ⟨25, _⟩ => ⟨S16x1x1024, .f32⟩
  | .hbm, ⟨26, _⟩ => ⟨S_, .f32⟩
  | .hbm, ⟨27, _⟩ => ⟨S16x1x1024, .f32⟩
  | .hbm, ⟨28, _⟩ => ⟨S16x1x1024, .f32⟩
  | .hbm, ⟨29, _⟩ => ⟨S16x4096x1024, .f32⟩
  | .hbm, ⟨30, _⟩ => ⟨S16x4096x1024, .f32⟩
  | .hbm, ⟨31, _⟩ => ⟨S16x1x1024, .f32⟩
  | .hbm, ⟨32, _⟩ => ⟨S16x4096x1024, .f32⟩
  | .hbm, ⟨33, _⟩ => ⟨S16x4096x1024, .f32⟩
  | .hbm, ⟨34, _⟩ => ⟨S16x4096x672, .f32⟩
  | .hbm, ⟨35, _⟩ => ⟨S16x4096x256, .f32⟩
  | .hbm, ⟨36, _⟩ => ⟨S16x4096x256, .f32⟩
  | .hbm, ⟨37, _⟩ => ⟨S_, .f32⟩
  | .hbm, ⟨38, _⟩ => ⟨S16x4096, .f32⟩
  | .hbm, ⟨39, _⟩ => ⟨S16x4096x1, .f32⟩
  | .hbm, ⟨40, _⟩ => ⟨S_, .f32⟩
  | .hbm, ⟨41, _⟩ => ⟨S16x4096x1, .f32⟩
  | .hbm, ⟨42, _⟩ => ⟨S16x4096x1, .f32⟩
  | .hbm, ⟨43, _⟩ => ⟨S_, .f32⟩
  | .hbm, ⟨44, _⟩ => ⟨S16x4096x1, .f32⟩
  | .hbm, ⟨45, _⟩ => ⟨S16x4096x1, .f32⟩
  | .hbm, ⟨46, _⟩ => ⟨S16x4096x1, .f32⟩
  | .hbm, ⟨47, _⟩ => ⟨S16x4096x256, .f32⟩
  | .hbm, ⟨48, _⟩ => ⟨S16x4096x256, .f32⟩
  | .hbm, ⟨49, _⟩ => ⟨S1x1x256, .f32⟩
  | .hbm, ⟨50, _⟩ => ⟨S16x4096x256, .f32⟩
  | .hbm, ⟨51, _⟩ => ⟨S16x4096x256, .f32⟩
  | .hbm, ⟨52, _⟩ => ⟨S16x4096x32, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== KernelBand.lean ====
abbrev S16x4096x1024 : Shape := ⟨3, ![16, 4096, 1024]⟩
abbrev S16x1024 : Shape := ⟨2, ![16, 1024]⟩
abbrev S1024 : Shape := ⟨1, ![1024]⟩
abbrev S1024x1024 : Shape := ⟨2, ![1024, 1024]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16x1x1024 : Shape := ⟨3, ![16, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩

abbrev nBuf : Space → Nat
  | .hbm => 15
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .f32⟩
  | .hbm, ⟨2, _⟩ => ⟨S16x1024, .f32⟩
  | .hbm, ⟨3, _⟩ => ⟨S1024, .f32⟩
  | .hbm, ⟨4, _⟩ => ⟨S1024x1024, .f32⟩
  | .hbm, ⟨5, _⟩ => ⟨S64, .f32⟩
  | .hbm, ⟨6, _⟩ => ⟨S1x64, .f32⟩
  | .hbm, ⟨7, _⟩ => ⟨S2x64, .f32⟩
  | .hbm, ⟨8, _⟩ => ⟨S128, .f32⟩
  | .hbm, ⟨9, _⟩ => ⟨S1x128, .f32⟩
  | .hbm, ⟨10, _⟩ => ⟨S1024x1024, .bf16⟩
  | .hbm, ⟨11, _⟩ => ⟨S16x1x1024, .f32⟩
  | .hbm, ⟨12, _⟩ => ⟨S16x1x1024, .f32⟩
  | .hbm, ⟨13, _⟩ => ⟨S1x1024, .f32⟩
  | .hbm, ⟨14, _⟩ => ⟨S16x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1024, .bf16⟩
  | .local _ .vmem, ⟨8, _⟩ => ⟨S1x128, .f32⟩
  | .local _ .vmem, ⟨9, _⟩ => ⟨S1x512x1024, .bf16⟩
  | .local _ .vmem, ⟨10, _⟩ => ⟨S1x512x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceBandIdeal.lean ====
abbrev S16x4096x1024 : Shape := ⟨3, ![16, 4096, 1024]⟩
abbrev S16x1024 : Shape := ⟨2, ![16, 1024]⟩
abbrev S1024 : Shape := ⟨1, ![1024]⟩
abbrev S1024x1024 : Shape := ⟨2, ![1024, 1024]⟩
abbrev S64 : Shape := ⟨1, ![64]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S16x4096x16x64 : Shape := ⟨4, ![16, 4096, 16, 64]⟩
abbrev S16x4096x16 : Shape := ⟨3, ![16, 4096, 16]⟩
abbrev S16x4096x16x1 : Shape := ⟨4, ![16, 4096, 16, 1]⟩
abbrev S1x1x1x64 : Shape := ⟨4, ![1, 1, 1, 64]⟩

abbrev nBuf : Space → Nat
  | .hbm => 54
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .f32⟩
  | .hbm, ⟨2, _⟩ => ⟨S16x1024, .f32⟩
  | .hbm, ⟨3, _⟩ => ⟨S1024, .f32⟩
  | .hbm, ⟨4, _⟩ => ⟨S1024x1024, .f32⟩
  | .hbm, ⟨5, _⟩ => ⟨S64, .f32⟩
  | .hbm, ⟨6, _⟩ => ⟨S16x4096x1024, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S16x4096x1, .f32⟩
  | .hbm, ⟨17, _⟩ => ⟨S16x4096x1024, .f32⟩
  | .hbm, ⟨18, _⟩ => ⟨S16x4096x1024, .f32⟩
  | .hbm, ⟨19, _⟩ => ⟨S1x1x1024, .f32⟩
  | .hbm, ⟨20, _⟩ => ⟨S16x4096x1024, .f32⟩
  | .hbm, ⟨21, _⟩ => ⟨S16x4096x1024, .f32⟩
  | .hbm, ⟨22, _⟩ => ⟨S16x1x1024, .f32⟩
  | .hbm, ⟨23, _⟩ => ⟨S_, .f32⟩
  | .hbm, ⟨24, _⟩ => ⟨S16x1x1024, .f32⟩
  | .hbm, ⟨25, _⟩ => ⟨S16x1x1024, .f32⟩
  | .hbm, ⟨26, _⟩ => ⟨S16x4096x1024, .f32⟩
  | .hbm, ⟨27, _⟩ => ⟨S16x4096x1024, .f32⟩
  | .hbm, ⟨28, _⟩ => ⟨S16x1x1024, .f32⟩
  | .hbm, ⟨29, _⟩ => ⟨S16x4096x1024, .f32⟩
  | .hbm, ⟨30, _⟩ => ⟨S16x4096x1024, .f32⟩
  | .hbm, ⟨31, _⟩ => ⟨S16x4096x1024, .f32⟩
  | .hbm, ⟨32, _⟩ => ⟨S16x4096x16x64, .f32⟩
  | .hbm, ⟨33, _⟩ => ⟨S16x4096x16x64, .f32⟩
  | .hbm, ⟨34, _⟩ => ⟨S_, .f32⟩
  | .hbm, ⟨35, _⟩ => ⟨S16x4096x16, .f32⟩
  | .hbm, ⟨36, _⟩ => ⟨S16x4096x16x1, .f32⟩
  | .hbm, ⟨37, _⟩ => ⟨S_, .f32⟩
  | .hbm, ⟨38, _⟩ => ⟨S16x4096x16x1, .f32⟩
  | .hbm, ⟨39, _⟩ => ⟨S16x4096x16x1, .f32⟩
  | .hbm, ⟨40, _⟩ => ⟨S_, .f32⟩
  | .hbm, ⟨41, _⟩ => ⟨S16x4096x16x1, .f32⟩
  | .hbm, ⟨42, _⟩ => ⟨S16x4096x16x1, .f32⟩
  | .hbm, ⟨43, _⟩ => ⟨S16x4096x16x1, .f32⟩
  | .hbm, ⟨44, _⟩ => ⟨S16x4096x16x64, .f32⟩
  | .hbm, ⟨45, _⟩ => ⟨S16x4096x16x64, .f32⟩
  | .hbm, ⟨46, _⟩ => ⟨S1x1x1x64, .f32⟩
  | .hbm, ⟨47, _⟩ => ⟨S16x4096x16x64, .f32⟩
  | .hbm, ⟨48, _⟩ => ⟨S16x4096x16x64, .f32⟩
  | .hbm, ⟨49, _⟩ => ⟨S_, .f32⟩
  | .hbm, ⟨50, _⟩ => ⟨S16x4096x16x64, .f32⟩
  | .hbm, ⟨51, _⟩ => ⟨S16x4096x16x64, .f32⟩
  | .hbm, ⟨52, _⟩ => ⟨S16x4096x1024, .f32⟩
  | .hbm, ⟨53, _⟩ => ⟨S16x4096x1024, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelStep.lean ====
abbrev S8x64x1024 : Shape := ⟨3, ![8, 64, 1024]⟩
abbrev S8x1024 : Shape := ⟨2, ![8, 1024]⟩
abbrev S1024 : Shape := ⟨1, ![1024]⟩
abbrev S1024x672 : Shape := ⟨2, ![1024, 672]⟩
abbrev S384 : Shape := ⟨1, ![384]⟩
abbrev S256 : Shape := ⟨1, ![256]⟩
abbrev S384x1536 : Shape := ⟨2, ![384, 1536]⟩
abbrev S96 : Shape := ⟨1, ![96]⟩
abbrev S128 : Shape := ⟨1, ![128]⟩
abbrev S1x384 : Shape := ⟨2, ![1, 384]⟩
abbrev S1x256 : Shape := ⟨2, ![1, 256]⟩
abbrev S384x16x96 : Shape := ⟨3, ![384, 16, 96]⟩
abbrev S_ : Shape := ⟨0, ![]⟩
abbrev S384x16x128 : Shape := ⟨3, ![384, 16, 128]⟩
abbrev S384x2048 : Shape := ⟨2, ![384, 2048]⟩
abbrev S1x128 : Shape := ⟨2, ![1, 128]⟩
abbrev S128x1 : Shape := ⟨2, ![128, 1]⟩
abbrev S1x1x128 : Shape := ⟨3, ![1, 1, 128]⟩
abbrev S64 : Shape := ⟨1, ![64]⟩
abbrev S1x64 : Shape := ⟨2, ![1, 64]⟩
abbrev S8x64 : Shape := ⟨2, ![8, 64]⟩
abbrev S512 : Shape := ⟨1, ![512]⟩
abbrev S16 : Shape := ⟨1, ![16]⟩
abbrev S512x1 : Shape := ⟨2, ![512, 1]⟩
abbrev S1x16 : Shape := ⟨2, ![1, 16]⟩
abbrev S512x16 : Shape := ⟨2, ![512, 16]⟩
abbrev S512x64 : Shape := ⟨2, ![512, 64]⟩
abbrev S512x32 : Shape := ⟨2, ![512, 32]⟩
abbrev S512x128 : Shape := ⟨2, ![512, 128]⟩
abbrev S512x1x128 : Shape := ⟨3, ![512, 1, 128]⟩
abbrev S1x512x1024 : Shape := ⟨3, ![1, 512, 1024]⟩
abbrev S512x1024 : Shape := ⟨2, ![512, 1024]⟩
abbrev S1x1024 : Shape := ⟨2, ![1, 1024]⟩
abbrev S1x512x256 : Shape := ⟨3, ![1, 512, 256]⟩
abbrev S1x512x32 : Shape := ⟨3, ![1, 512, 32]⟩
abbrev S1x512x2048 : Shape := ⟨3, ![1, 512, 2048]⟩
abbrev S1x256x1024 : Shape := ⟨3, ![1, 256, 1024]⟩
abbrev S256x128 : Shape := ⟨2, ![256, 128]⟩
abbrev S1x256x256 : Shape := ⟨3, ![1, 256, 256]⟩
abbrev S1x256x32 : Shape := ⟨3, ![1, 256, 32]⟩
abbrev S1x256x2048 : Shape := ⟨3, ![1, 256, 2048]⟩
abbrev S256x1024 : Shape := ⟨2, ![256, 1024]⟩
abbrev S256x1 : Shape := ⟨2, ![256, 1]⟩
abbrev S256x672 : Shape := ⟨2, ![256, 672]⟩
abbrev S256x384 : Shape := ⟨2, ![256, 384]⟩
abbrev S256x256 : Shape := ⟨2, ![256, 256]⟩
abbrev S256x32 : Shape := ⟨2, ![256, 32]⟩
abbrev S256x2048 : Shape := ⟨2, ![256, 2048]⟩
abbrev S1x256x128 : Shape := ⟨3, ![1, 256, 128]⟩

abbrev nBuf : Space → Nat
  | .hbm => 107
  | .vmem => 22
  | .smem => 0
  | _ => 0

abbrev bufTy : (tb : Table) → Fin (tcTables nBuf tb) → BufTy
  | .hbm, ⟨0, _⟩ => ⟨S8x64x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x672, .f32⟩
  | .hbm, ⟨5, _⟩ => ⟨S384, .f32⟩
  | .hbm, ⟨6, _⟩ => ⟨S256, .f32⟩
  | .hbm, ⟨7, _⟩ => ⟨S384x1536, .f32⟩
  | .hbm, ⟨8, _⟩ => ⟨S96, .f32⟩
  | .hbm, ⟨9, _⟩ => ⟨S128, .i32⟩
  | .hbm, ⟨10, _⟩ => ⟨S128, .i1⟩
  | .hbm, ⟨11, _⟩ => ⟨S128, .i32⟩
  | .hbm, ⟨12, _⟩ => ⟨S128, .i1⟩
  | .hbm, ⟨13, _⟩ => ⟨S128, .i32⟩
  | .hbm, ⟨14, _⟩ => ⟨S128, .i1⟩
  | .hbm, ⟨15, _⟩ => ⟨S128, .i32⟩
  | .hbm, ⟨16, _⟩ => ⟨S128, .i1⟩
  | .hbm, ⟨17, _⟩ => ⟨S1024x672, .bf16⟩
  | .hbm, ⟨18, _⟩ => ⟨S1x384, .f32⟩
  | .hbm, ⟨19, _⟩ => ⟨S1x256, .f32⟩
  | .hbm, ⟨20, _⟩ => ⟨S384x16x96, .f32⟩
  | .hbm, ⟨21, _⟩ => ⟨S_, .i32⟩
  | .hbm, ⟨22, _⟩ => ⟨S_, .f32⟩
  | .hbm, ⟨23, _⟩ => ⟨S384x16x128, .f32⟩
  | .hbm, ⟨24, _⟩ => ⟨S384x2048, .f32⟩
  | .hbm, ⟨25, _⟩ => ⟨S384x2048, .bf16⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S384x16x128, .bf16⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128, .i32⟩
  | .hbm, ⟨35, _⟩ => ⟨S128x1, .i32⟩
  | .hbm, ⟨36, _⟩ => ⟨S384x16x128, .bf16⟩
  | .hbm, ⟨37, _⟩ => ⟨S384x2048, .bf16⟩
  | .hbm, ⟨38, _⟩ => ⟨S1x1x128, .f32⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S128, .i32⟩
  | .hbm, ⟨43, _⟩ => ⟨S128x1, .i32⟩
  | .hbm, ⟨44, _⟩ => ⟨S1x1x128, .f32⟩
  | .hbm, ⟨45, _⟩ => ⟨S1x128, .f32⟩
  | .hbm, ⟨46, _⟩ => ⟨S64, .i32⟩
  | .hbm, ⟨47, _⟩ => ⟨S_, .i32⟩
  | .hbm, ⟨48, _⟩ => ⟨S64, .i32⟩
  | .hbm, ⟨49, _⟩ => ⟨S64, .i32⟩
  | .hbm, ⟨50, _⟩ => ⟨S1x64, .i32⟩
  | .hbm, ⟨51, _⟩ => ⟨S8x64, .i32⟩
  | .hbm, ⟨52, _⟩ => ⟨S512, .i32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S512, .f32⟩
  | .hbm, ⟨62, _⟩ => ⟨S512x1, .f32⟩
  | .hbm, ⟨63, _⟩ => ⟨S1x16, .f32⟩
  | .hbm, ⟨64, _⟩ => ⟨S512x16, .f32⟩
  | .hbm, ⟨65, _⟩ => ⟨S512x16, .f32⟩
  | .hbm, ⟨66, _⟩ => ⟨S512x16, .f32⟩
  | .hbm, ⟨67, _⟩ => ⟨S512x16, .f32⟩
  | .hbm, ⟨68, _⟩ => ⟨S512x16, .f32⟩
  | .hbm, ⟨69, _⟩ => ⟨S_, .f32⟩
  | .hbm, ⟨70, _⟩ => ⟨S512x64, .f32⟩
  | .hbm, ⟨71, _⟩ => ⟨S_, .f32⟩
  | .hbm, ⟨72, _⟩ => ⟨S512x64, .f32⟩
  | .hbm, ⟨73, _⟩ => ⟨S_, .f32⟩
  | .hbm, ⟨74, _⟩ => ⟨S512x32, .f32⟩
  | .hbm, ⟨75, _⟩ => ⟨S_, .f32⟩
  | .hbm, ⟨76, _⟩ => ⟨S512x32, .f32⟩
  | .hbm, ⟨77, _⟩ => ⟨S512x128, .f32⟩
  | .hbm, ⟨78, _⟩ => ⟨S512x1x128, .f32⟩
  | .hbm, ⟨79, _⟩ => ⟨S_, .i32⟩
  | .hbm, ⟨80, _⟩ => ⟨S128, .i32⟩
  | .hbm, ⟨81, _⟩ => ⟨S128, .i32⟩
  | .hbm, ⟨82, _⟩ => ⟨S128, .i32⟩
  | .hbm, ⟨83, _⟩ => ⟨S128x1, .i32⟩
  | .hbm, ⟨84, _⟩ => ⟨S512x1x128, .f32⟩
  | .hbm, ⟨85, _⟩ => ⟨S512x128, .f32⟩
  | .hbm, ⟨86, _⟩ => ⟨S512x16, .f32⟩
  | .hbm, ⟨87, _⟩ => ⟨S512x128, .f32⟩
  | .hbm, ⟨88, _⟩ => ⟨S512x1x128, .f32⟩
  | .hbm, ⟨89, _⟩ => ⟨S_, .i32⟩
  | .hbm, ⟨90, _⟩ => ⟨S128, .i32⟩
  | .hbm, ⟨91, _⟩ => ⟨S128, .i32⟩
  | .hbm, ⟨92, _⟩ => ⟨S128, .i32⟩
  | .hbm, ⟨93, _⟩ => ⟨S128x1, .i32⟩
  | .hbm, ⟨94, _⟩ => ⟨S512x1x128, .f32⟩
  | .hbm, ⟨95, _⟩ => ⟨S512x128, .f32⟩
  | .hbm, ⟨96, _⟩ => ⟨S1x512x1024, .f32⟩
  | .hbm, ⟨97, _⟩ => ⟨S8x64x1024, .f32⟩
  | .hbm, ⟨98, _⟩ => ⟨S512x1024, .f32⟩
  | .hbm, ⟨99, _⟩ => ⟨S1x512x1024, .f32⟩
  | .hbm, ⟨100, _⟩ => ⟨S8x64x1024, .f32⟩
  | .hbm, ⟨101, _⟩ => ⟨S512x1024, .f32⟩
  | .hbm, ⟨102, _⟩ => ⟨S1x512x1024, .f32⟩
  | .hbm, ⟨103, _⟩ => ⟨S1x1024, .f32⟩
  | .hbm, ⟨104, _⟩ => ⟨S1x512x256, .f32⟩
  | .hbm, ⟨105, _⟩ => ⟨S1x512x32, .f32⟩
  | .hbm, ⟨106, _⟩ => ⟨S1x512x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1024, .f32⟩
  | .local _ .vmem, ⟨7, _⟩ => ⟨S1024x672, .bf16⟩
  | .local _ .vmem, ⟨8, _⟩ => ⟨S1x384, .f32⟩
  | .local _ .vmem, ⟨9, _⟩ => ⟨S1x256, .f32⟩
  | .local _ .vmem, ⟨10, _⟩ => ⟨S384x2048, .bf16⟩
  | .local _ .vmem, ⟨11, _⟩ => ⟨S1x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1x256x256, .f32⟩
  | .local _ .vmem, ⟨17, _⟩ => ⟨S1x256x256, .f32⟩
  | .local _ .vmem, ⟨18, _⟩ => ⟨S1x256x32, .f32⟩
  | .local _ .vmem, ⟨19, _⟩ => ⟨S1x256x32, .f32⟩
  | .local _ .vmem, ⟨20, _⟩ => ⟨S1x256x2048, .bf16⟩
  | .local _ .vmem, ⟨21, _⟩ => ⟨S1x256x2048, .bf16⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_c_5 : Ref sig .tc := ⟨.hbm, 15, rfl⟩
abbrev main_c_6 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c_7 : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_8 : Ref sig .tc := ⟨.hbm, 26, rfl⟩
abbrev main_call1_v0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_10 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_11 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst : Ref sig .tc := ⟨.hbm, 55, rfl⟩
abbrev main_v31 : Ref sig .tc := ⟨.hbm, 56, rfl⟩
abbrev main_v32 : Ref sig .tc := ⟨.hbm, 57, rfl⟩
abbrev main_cst_12 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_13 : Ref sig .tc := ⟨.hbm, 69, rfl⟩
abbrev main_v43 : Ref sig .tc := ⟨.hbm, 70, rfl⟩
abbrev main_cst_14 : Ref sig .tc := ⟨.hbm, 71, rfl⟩
abbrev main_v44 : Ref sig .tc := ⟨.hbm, 72, rfl⟩
abbrev main_cst_15 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_17 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_18 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72_0 : Ref sig .tc := ⟨.hbm, 104, rfl⟩
abbrev main_v72_1 : Ref sig .tc := ⟨.hbm, 105, rfl⟩
abbrev main_v72_2 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x672 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceStepIdeal.lean ====
abbrev S8x64x1024 : Shape := ⟨3, ![8, 64, 1024]⟩
abbrev S8x1024 : Shape := ⟨2, ![8, 1024]⟩
abbrev S1024 : Shape := ⟨1, ![1024]⟩
abbrev S1024x672 : Shape := ⟨2, ![1024, 672]⟩
abbrev S384 : Shape := ⟨1, ![384]⟩
abbrev S256 : Shape := ⟨1, ![256]⟩
abbrev S384x1536 : Shape := ⟨2, ![384, 1536]⟩
abbrev S96 : Shape := ⟨1, ![96]⟩
abbrev S_ : Shape := ⟨0, ![]⟩
abbrev S8x64 : Shape := ⟨2, ![8, 64]⟩
abbrev S8x64x1 : Shape := ⟨3, ![8, 64, 1]⟩
abbrev S1x1x1024 : Shape := ⟨3, ![1, 1, 1024]⟩
abbrev S8x1x1024 : Shape := ⟨3, ![8, 1, 1024]⟩
abbrev S8x64x672 : Shape := ⟨3, ![8, 64, 672]⟩
abbrev S8x64x256 : Shape := ⟨3, ![8, 64, 256]⟩
abbrev S1x1x256 : Shape := ⟨3, ![1, 1, 256]⟩
abbrev S8x64x32 : Shape := ⟨3, ![8, 64, 32]⟩
abbrev S1x512x256 : Shape := ⟨3, ![1, 512, 256]⟩
abbrev S1x512x32 : Shape := ⟨3, ![1, 512, 32]⟩

abbrev nBuf : Space → Nat
  | .hbm => 55
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x672, .f32⟩
  | .hbm, ⟨5, _⟩ => ⟨S384, .f32⟩
  | .hbm, ⟨6, _⟩ => ⟨S256, .f32⟩
  | .hbm, ⟨7, _⟩ => ⟨S384x1536, .f32⟩
  | .hbm, ⟨8, _⟩ => ⟨S96, .f32⟩
  | .hbm, ⟨9, _⟩ => ⟨S8x64x1024, .f32⟩
  | .hbm, ⟨10, _⟩ => ⟨S_, .f32⟩
  | .hbm, ⟨11, _⟩ => ⟨S8x64, .f32⟩
  | .hbm, ⟨12, _⟩ => ⟨S8x64x1, .f32⟩
  | .hbm, ⟨13, _⟩ => ⟨S_, .f32⟩
  | .hbm, ⟨14, _⟩ => ⟨S8x64x1, .f32⟩
  | .hbm, ⟨15, _⟩ => ⟨S8x64x1, .f32⟩
  | .hbm, ⟨16, _⟩ => ⟨S_, .f32⟩
  | .hbm, ⟨17, _⟩ => ⟨S8x64x1, .f32⟩
  | .hbm, ⟨18, _⟩ => ⟨S8x64x1, .f32⟩
  | .hbm, ⟨19, _⟩ => ⟨S8x64x1, .f32⟩
  | .hbm, ⟨20, _⟩ => ⟨S8x64x1024, .f32⟩
  | .hbm, ⟨21, _⟩ => ⟨S8x64x1024, .f32⟩
  | .hbm, ⟨22, _⟩ => ⟨S1x1x1024, .f32⟩
  | .hbm, ⟨23, _⟩ => ⟨S8x64x1024, .f32⟩
  | .hbm, ⟨24, _⟩ => ⟨S8x64x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x64x1024, .f32⟩
  | .hbm, ⟨30, _⟩ => ⟨S8x64x1024, .f32⟩
  | .hbm, ⟨31, _⟩ => ⟨S8x1x1024, .f32⟩
  | .hbm, ⟨32, _⟩ => ⟨S8x64x1024, .f32⟩
  | .hbm, ⟨33, _⟩ => ⟨S8x64x1024, .f32⟩
  | .hbm, ⟨34, _⟩ => ⟨S8x64x672, .f32⟩
  | .hbm, ⟨35, _⟩ => ⟨S8x64x256, .f32⟩
  | .hbm, ⟨36, _⟩ => ⟨S8x64x256, .f32⟩
  | .hbm, ⟨37, _⟩ => ⟨S_, .f32⟩
  | .hbm, ⟨38, _⟩ => ⟨S8x64, .f32⟩
  | .hbm, ⟨39, _⟩ => ⟨S8x64x1, .f32⟩
  | .hbm, ⟨40, _⟩ => ⟨S_, .f32⟩
  | .hbm, ⟨41, _⟩ => ⟨S8x64x1, .f32⟩
  | .hbm, ⟨42, _⟩ => ⟨S8x64x1, .f32⟩
  | .hbm, ⟨43, _⟩ => ⟨S_, .f32⟩
  | .hbm, ⟨44, _⟩ => ⟨S8x64x1, .f32⟩
  | .hbm, ⟨45, _⟩ => ⟨S8x64x1, .f32⟩
  | .hbm, ⟨46, _⟩ => ⟨S8x64x1, .f32⟩
  | .hbm, ⟨47, _⟩ => ⟨S8x64x256, .f32⟩
  | .hbm, ⟨48, _⟩ => ⟨S8x64x256, .f32⟩
  | .hbm, ⟨49, _⟩ => ⟨S1x1x256, .f32⟩
  | .hbm, ⟨50, _⟩ => ⟨S8x64x256, .f32⟩
  | .hbm, ⟨51, _⟩ => ⟨S8x64x256, .f32⟩
  | .hbm, ⟨52, _⟩ => ⟨S8x64x32, .f32⟩
  | .hbm, ⟨53, _⟩ => ⟨S1x512x256, .f32⟩
  | .hbm, ⟨54, _⟩ => ⟨S1x512x32, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== KernelCache.lean ====
abbrev S8x64x1024 : Shape := ⟨3, ![8, 64, 1024]⟩
abbrev S8x1024 : Shape := ⟨2, ![8, 1024]⟩
abbrev S1024 : Shape := ⟨1, ![1024]⟩
abbrev S1024x2048 : Shape := ⟨2, ![1024, 2048]⟩
abbrev S64 : Shape := ⟨1, ![64]⟩
abbrev S1024x1024 : Shape := ⟨2, ![1024, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x512x1024 : Shape := ⟨3, ![1, 512, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩

abbrev nBuf : Space → Nat
  | .hbm => 26
  | .vmem => 11
  | .smem => 0
  | _ => 0

abbrev bufTy : (tb : Table) → Fin (tcTables nBuf tb) → BufTy
  | .hbm, ⟨0, _⟩ => ⟨S8x64x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x2048, .f32⟩
  | .hbm, ⟨5, _⟩ => ⟨S64, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1x64, .f32⟩
  | .hbm, ⟨11, _⟩ => ⟨S2x64, .f32⟩
  | .hbm, ⟨12, _⟩ => ⟨S128, .f32⟩
  | .hbm, ⟨13, _⟩ => ⟨S1x128, .f32⟩
  | .hbm, ⟨14, _⟩ => ⟨S1x512x1024, .f32⟩
  | .hbm, ⟨15, _⟩ => ⟨S8x64x1024, .f32⟩
  | .hbm, ⟨16, _⟩ => ⟨S512x1024, .f32⟩
  | .hbm, ⟨17, _⟩ => ⟨S1x512x1024, .f32⟩
  | .hbm, ⟨18, _⟩ => ⟨S8x64x1024, .f32⟩
  | .hbm, ⟨19, _⟩ => ⟨S512x1024, .f32⟩
  | .hbm, ⟨20, _⟩ => ⟨S1x512x1024, .f32⟩
  | .hbm, ⟨21, _⟩ => ⟨S1x1024, .f32⟩
  | .hbm, ⟨22, _⟩ => ⟨S1x512x1024, .f32⟩
  | .hbm, ⟨23, _⟩ => ⟨S1x512x1024, .f32⟩
  | .hbm, ⟨24, _⟩ => ⟨S1x512x1024, .bf16⟩
  | .hbm, ⟨25, _⟩ => ⟨S1x512x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x128, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .bf16⟩
  | .local _ .vmem, ⟨10, _⟩ => ⟨S1x512x1024, .bf16⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg1 : BitVec 32 := BitVec.ofNat 32 (i 1).val
  let c0_i32 : BitVec 32 := 0#32
  let v278 : BitVec 1 := Scalar.cmpi .sge arg1 c0_i32
  let v279 : BitVec 32 := Scalar.extui v278
  let c0_i32_96 : BitVec 32 := 0#32
  let v280 : BitVec 1 := Scalar.cmpi .ne v279 c0_i32_96
  v280

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]
-- ==== ReferenceCacheIdeal.lean ====
abbrev S8x64x1024 : Shape := ⟨3, ![8, 64, 1024]⟩
abbrev S8x1024 : Shape := ⟨2, ![8, 1024]⟩
abbrev S1024 : Shape := ⟨1, ![1024]⟩
abbrev S1024x2048 : Shape := ⟨2, ![1024, 2048]⟩
abbrev S64 : Shape := ⟨1, ![64]⟩
abbrev S_ : Shape := ⟨0, ![]⟩
abbrev S8x64 : Shape := ⟨2, ![8, 64]⟩
abbrev S8x64x1 : Shape := ⟨3, ![8, 64, 1]⟩
abbrev S1x1x1024 : Shape := ⟨3, ![1, 1, 1024]⟩
abbrev S8x1x1024 : Shape := ⟨3, ![8, 1, 1024]⟩
abbrev S8x64x2048 : Shape := ⟨3, ![8, 64, 2048]⟩
abbrev S8x64x2x16x64 : Shape := ⟨5, ![8, 64, 2, 16, 64]⟩
abbrev S8x64x1x16x64 : Shape := ⟨5, ![8, 64, 1, 16, 64]⟩
abbrev S8x64x16x64 : Shape := ⟨4, ![8, 64, 16, 64]⟩
abbrev S8x64x16 : Shape := ⟨3, ![8, 64, 16]⟩
abbrev S8x64x16x1 : Shape := ⟨4, ![8, 64, 16, 1]⟩
abbrev S1x1x1x64 : Shape := ⟨4, ![1, 1, 1, 64]⟩
abbrev S1x512x1024 : Shape := ⟨3, ![1, 512, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x2048, .f32⟩
  | .hbm, ⟨5, _⟩ => ⟨S64, .f32⟩
  | .hbm, ⟨6, _⟩ => ⟨S8x64x1024, .f32⟩
  | .hbm, ⟨7, _⟩ => ⟨S_, .f32⟩
  | .hbm, ⟨8, _⟩ => ⟨S8x64, .f32⟩
  | .hbm, ⟨9, _⟩ => ⟨S8x64x1, .f32⟩
  | .hbm, ⟨10, _⟩ => ⟨S_, .f32⟩
  | .hbm, ⟨11, _⟩ => ⟨S8x64x1, .f32⟩
  | .hbm, ⟨12, _⟩ => ⟨S8x64x1, .f32⟩
  | .hbm, ⟨13, _⟩ => ⟨S_, .f32⟩
  | .hbm, ⟨14, _⟩ => ⟨S8x64x1, .f32⟩
  | .hbm, ⟨15, _⟩ => ⟨S8x64x1, .f32⟩
  | .hbm, ⟨16, _⟩ => ⟨S8x64x1, .f32⟩
  | .hbm, ⟨17, _⟩ => ⟨S8x64x1024, .f32⟩
  | .hbm, ⟨18, _⟩ => ⟨S8x64x1024, .f32⟩
  | .hbm, ⟨19, _⟩ => ⟨S1x1x1024, .f32⟩
  | .hbm, ⟨20, _⟩ => ⟨S8x64x1024, .f32⟩
  | .hbm, ⟨21, _⟩ => ⟨S8x64x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x64x1024, .f32⟩
  | .hbm, ⟨27, _⟩ => ⟨S8x64x1024, .f32⟩
  | .hbm, ⟨28, _⟩ => ⟨S8x1x1024, .f32⟩
  | .hbm, ⟨29, _⟩ => ⟨S8x64x1024, .f32⟩
  | .hbm, ⟨30, _⟩ => ⟨S8x64x1024, .f32⟩
  | .hbm, ⟨31, _⟩ => ⟨S8x64x2048, .f32⟩
  | .hbm, ⟨32, _⟩ => ⟨S8x64x2x16x64, .f32⟩
  | .hbm, ⟨33, _⟩ => ⟨S8x64x1x16x64, .f32⟩
  | .hbm, ⟨34, _⟩ => ⟨S8x64x16x64, .f32⟩
  | .hbm, ⟨35, _⟩ => ⟨S8x64x16x64, .f32⟩
  | .hbm, ⟨36, _⟩ => ⟨S_, .f32⟩
  | .hbm, ⟨37, _⟩ => ⟨S8x64x16, .f32⟩
  | .hbm, ⟨38, _⟩ => ⟨S8x64x16x1, .f32⟩
  | .hbm, ⟨39, _⟩ => ⟨S_, .f32⟩
  | .hbm, ⟨40, _⟩ => ⟨S8x64x16x1, .f32⟩
  | .hbm, ⟨41, _⟩ => ⟨S8x64x16x1, .f32⟩
  | .hbm, ⟨42, _⟩ => ⟨S_, .f32⟩
  | .hbm, ⟨43, _⟩ => ⟨S8x64x16x1, .f32⟩
  | .hbm, ⟨44, _⟩ => ⟨S8x64x16x1, .f32⟩
  | .hbm, ⟨45, _⟩ => ⟨S8x64x16x1, .f32⟩
  | .hbm, ⟨46, _⟩ => ⟨S8x64x16x64, .f32⟩
  | .hbm, ⟨47, _⟩ => ⟨S8x64x16x64, .f32⟩
  | .hbm, ⟨48, _⟩ => ⟨S1x1x1x64, .f32⟩
  | .hbm, ⟨49, _⟩ => ⟨S8x64x16x64, .f32⟩
  | .hbm, ⟨50, _⟩ => ⟨S8x64x16x64, .f32⟩
  | .hbm, ⟨51, _⟩ => ⟨S1x512x1024, .f32⟩
  | .hbm, ⟨52, _⟩ => ⟨S8x64x1x16x64, .f32⟩
  | .hbm, ⟨53, _⟩ => ⟨S8x64x16x64, .f32⟩
  | .hbm, ⟨54, _⟩ => ⟨S1x512x1024, .f32⟩
  | .hbm, ⟨55, _⟩ => ⟨S1x512x1024, .bf16⟩
  | .hbm, ⟨56, _⟩ => ⟨S1x512x1024, .bf16⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Proof.Sub.Pay.lean ====
/- The attention kernel's stored vectors, read at an index.

   One key block meets one head's query block: `scores` are the products of a query row with a key row, `newMax` the row's
   maximum after the block, `newAcc` the row's weighted sum after it. -/
module

public import proofs.«01_k».proof.Proof.Gen.KernelIdeal.Value
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe

/-- Eight copies of one block side by side, read at a column: the block at the column's lane. -/
theorem concat8_apply {α : Type} (v : S1024x128.Idx → α) (h) (r : Fin 1024) (k : Fin 1024) :
    concatenate S1024x1024 1 [⟨S1024x128, v⟩, ⟨S1024x128, v⟩, ⟨S1024x128, v⟩, ⟨S1024x128, v⟩, ⟨S1024x128, v⟩, ⟨S1024x128, v⟩,
      ⟨S1024x128, v⟩, ⟨S1024x128, v⟩] h (ix2 r k) = v (ix2 r ⟨k.val % 128, Nat.mod_lt _ (by decide)⟩) := by
  pointwise
  have hk := k.isLt
  split_ifs <;> (congr 2; apply Fin.ext; simp; omega)

theorem negInf : Ideal.ofBits .f32 0xFF800000#32 = ⊥ := by simp [Ideal.ofBits, Ideal.ieee]

/-- A row's maximum after a block of scores `s`. -/
def newMax (s : Fin 1024 → EReal) (m : EReal) : EReal := max m (Finset.univ.sup s)

/-- A row's weighted sum after a block of scores `s` with values `v`; `m` holds the maximum before it in every lane. -/
def newAcc (s v : Fin 1024 → EReal) (m : Fin 128 → EReal) (l : Fin 128) (a : EReal) : EReal :=
  Ideal.exp (m l - newMax s (m l)) * a
    + ∑ j : Fin 1024, Ideal.exp (s j - newMax s (m ⟨j.val % 128, Nat.mod_lt _ (by decide)⟩)) * v j

theorem pay3_apply (vb : FVec Ideal S1x1024x256 .bf16) (r : Fin 1024) (l : Fin 256) :
    k0_pay3 (F := Ideal) vb (ix2 r l) = vb (ix3 0 r l) := by
  pointwise [k0_pay3]

theorem pay2_apply (vb : FVec Ideal S1x1024x256 .bf16) (r : Fin 1024) (l : Fin 256) :
    k0_pay2 (F := Ideal) vb (ix2 r l) = vb (ix3 0 r l) := by
  pointwise [k0_pay2]

theorem pay4_apply (kb : FVec Ideal S1x1024x256 .bf16) (q : FVec Ideal S1x1024x128 .bf16) (r j : Fin 1024) :
    k0_pay4 (F := Ideal) kb q (ix2 r j) = ∑ e : Fin 128, q (ix3 0 r e) * kb (ix3 0 j ⟨e.val, by omega⟩) := by
  pointwise [k0_pay4, k0_pay2]

theorem pay17_apply (kb : FVec Ideal S1024x256 .bf16) (q : FVec Ideal S1x1024x128 .bf16) (r j : Fin 1024) :
    k0_pay17 (F := Ideal) kb q (ix2 r j) = ∑ e : Fin 128, q (ix3 0 r e) * kb (ix2 j ⟨128 + e.val, by omega⟩) := by
  pointwise [k0_pay17]

theorem pay33_apply (kb : FVec Ideal S1024x256 .bf16) (q : FVec Ideal S1x1024x128 .bf16) (r j : Fin 1024) :
    k0_pay33 (F := Ideal) kb q (ix2 r j) = ∑ e : Fin 128, q (ix3 0 r e) * kb (ix2 j ⟨e.val, by omega⟩) := by
  pointwise [k0_pay33]

theorem pay6_apply (kb : FVec Ideal S1x1024x256 .bf16) (q : FVec Ideal S1x1024x128 .bf16) (m : FVec Ideal S1x1024x128 .f32)
    (r : Fin 1024) (l : Fin 128) :
    k0_pay6 (F := Ideal) kb q m (ix2 r l) = newMax (fun j => k0_pay4 (F := Ideal) kb q (ix2 r j)) (m (ix3 0 r l)) := by
  unfold newMax
  pointwise [k0_pay6, k0_pay5, negInf]
  rfl

theorem pay16_apply (m : FVec Ideal S1024x128 .f32) (r : Fin 1024) (l : Fin 128) :
    k0_pay16 (F := Ideal) m (ix3 0 r l) = m (ix2 r l) := by
  pointwise [k0_pay16]

theorem pay7_apply (kb vb : FVec Ideal S1x1024x256 .bf16) (q : FVec Ideal S1x1024x128 .bf16) (m a : FVec Ideal S1x1024x128 .f32)
    (r : Fin 1024) (l : Fin 128) :
    k0_pay7 (F := Ideal) kb vb q m a (ix3 0 r l)
      = newAcc (fun j => k0_pay4 (F := Ideal) kb q (ix2 r j)) (fun j => vb (ix3 0 j ⟨l.val, by omega⟩))
          (fun l => m (ix3 0 r l)) l (a (ix3 0 r l)) := by
  unfold k0_pay7 newAcc
  pointwise [pay6_apply, concat8_apply, k0_pay5, k0_pay3]

theorem pay19_apply (kb : FVec Ideal S1024x256 .bf16) (q : FVec Ideal S1x1024x128 .bf16) (m : FVec Ideal S1x1024x128 .f32)
    (r : Fin 1024) (l : Fin 128) :
    k0_pay19 (F := Ideal) kb q m (ix2 r l) = newMax (fun j => k0_pay17 (F := Ideal) kb q (ix2 r j)) (m (ix3 0 r l)) := by
  unfold newMax
  pointwise [k0_pay19, k0_pay18, negInf]
  rfl

theorem pay21_apply (kb : FVec Ideal S1024x256 .bf16) (q : FVec Ideal S1x1024x128 .bf16) (m : FVec Ideal S1x1024x128 .f32)
    (r : Fin 1024) (l : Fin 128) :
    k0_pay21 (F := Ideal) kb q m (ix3 0 r l) = newMax (fun j => k0_pay17 (F := Ideal) kb q (ix2 r j)) (m (ix3 0 r l)) := by
  pointwise [k0_pay21, pay19_apply]

theorem pay20_apply (kb vb : FVec Ideal S1024x256 .bf16) (q : FVec Ideal S1x1024x128 .bf16) (m a : FVec Ideal S1x1024x128 .f32)
    (r : Fin 1024) (l : Fin 128) :
    k0_pay20 (F := Ideal) kb vb q m a (ix3 0 r l)
      = newAcc (fun j => k0_pay17 (F := Ideal) kb q (ix2 r j)) (fun j => vb (ix2 j ⟨128 + l.val, by omega⟩))
          (fun l => m (ix3 0 r l)) l (a (ix3 0 r l)) := by
  unfold k0_pay20 newAcc
  pointwise [pay19_apply, concat8_apply, k0_pay18]

/-! The diagonal block -/

theorem pay36_apply (b : IVec S1024x1024 1) (s : FVec Ideal S1024x1024 .f32) (c : EReal) (m : FVec Ideal S1x1024x128 .f32)
    (r : Fin 1024) (l : Fin 128) :
    k0_pay36 (F := Ideal) b s c m (ix2 r l) = newMax (fun j => k0_pay34 (F := Ideal) b s c (ix2 r j)) (m (ix3 0 r l)) := by
  unfold newMax
  pointwise [k0_pay36, k0_pay35, negInf]
  rfl

theorem pay38_apply (b : IVec S1024x1024 1) (s : FVec Ideal S1024x1024 .f32) (c : EReal) (m : FVec Ideal S1x1024x128 .f32)
    (r : Fin 1024) (l : Fin 128) :
    k0_pay38 (F := Ideal) b s c m (ix3 0 r l) = newMax (fun j => k0_pay34 (F := Ideal) b s c (ix2 r j)) (m (ix3 0 r l)) := by
  pointwise [k0_pay38, pay36_apply]

theorem pay37_apply (vb : FVec Ideal S1024x256 .bf16) (b : IVec S1024x1024 1) (s : FVec Ideal S1024x1024 .f32) (c : EReal)
    (m a : FVec Ideal S1x1024x128 .f32) (r : Fin 1024) (l : Fin 128) :
    k0_pay37 (F := Ideal) vb b s c m a (ix3 0 r l)
      = newAcc (fun j => k0_pay34 (F := Ideal) b s c (ix2 r j)) (fun j => vb (ix2 j ⟨l.val, by omega⟩))
          (fun l => m (ix3 0 r l)) l (a (ix3 0 r l)) := by
  unfold k0_pay37 newAcc
  pointwise [pay36_apply, concat8_apply, k0_pay35]

theorem pay42_apply (s : FVec Ideal S1024x1024 .f32) (hr hφ hacc) (m : FVec Ideal S1x1024x128 .f32) (r : Fin 1024) (l : Fin 128) :
    k0_pay42 (F := Ideal) (k0_pay40 (F := Ideal) m) (multiReduction (F := Ideal) .maximumf [1] S1024 s 0xFF800000#32 hr hφ hacc) (ix2 r l)
      = newMax (fun j => s (ix2 r j)) (m (ix3 0 r l)) := by
  unfold newMax
  pointwise [k0_pay42, k0_pay40, negInf]
  rfl

theorem pay43_of (vb : FVec Ideal S1024x256 .bf16) (s : FVec Ideal S1024x1024 .f32) (v : FVec Ideal S1024x128 .f32)
    (w : FVec Ideal S1024 .f32) (m : Fin 128 → EReal) (a : FVec Ideal S1x1024x128 .f32) (r : Fin 1024) (l : Fin 128)
    (hv : ∀ l, v (ix2 r l) = m l)
    (hw : ∀ l, k0_pay42 (F := Ideal) v w (ix2 r l) = newMax (fun j => s (ix2 r j)) (m l)) :
    k0_pay43 (F := Ideal) vb s v w a (ix3 0 r l)
      = newAcc (fun j => s (ix2 r j)) (fun j => vb (ix2 j ⟨128 + l.val, by omega⟩)) m l (a (ix3 0 r l)) := by
  unfold k0_pay43 newAcc
  pointwise [hw, hv, concat8_apply]

theorem pay43_apply (vb : FVec Ideal S1024x256 .bf16) (s : FVec Ideal S1024x1024 .f32) (hr hφ hacc)
    (m a : FVec Ideal S1x1024x128 .f32) (r : Fin 1024) (l : Fin 128) :
    k0_pay43 (F := Ideal) vb s (k0_pay40 (F := Ideal) m)
        (multiReduction (F := Ideal) .maximumf [1] S1024 s 0xFF800000#32 hr hφ hacc) a (ix3 0 r l)
      = newAcc (fun j => s (ix2 r j)) (fun j => vb (ix2 j ⟨128 + l.val, by omega⟩))
          (fun l => m (ix3 0 r l)) l (a (ix3 0 r l)) :=
  pay43_of vb s _ _ _ a r l (fun l => by pointwise [k0_pay40]) (fun l => pay42_apply s hr hφ hacc m r l)

theorem mask_eq : (Named.named (F := Ideal) κ "mask" 0xF149F2CA#32 : Ideal .f32) = (⊥ : EReal) := by
  rfl

theorem select_one {α : Type} (b : BitVec 1) (x y : α) : Scalar.select b x y = if b = 1#1 then x else y := by
  unfold Scalar.select
  split_ifs <;> simp_all

theorem pay34_apply (b : IVec S1024x1024 1) (s : FVec Ideal S1024x1024 .f32) (c : EReal) (r j : Fin 1024) :
    k0_pay34 (F := Ideal) b s c (ix2 r j) = if b (ix2 r j) = 1#1 then s (ix2 r j) else c := by
  pointwise [k0_pay34, select_one]

theorem pay39_apply (kb : FVec Ideal S1024x256 .bf16) (b : IVec S1024x1024 1) (q : FVec Ideal S1x1024x128 .bf16) (r j : Fin 1024) :
    k0_pay39 (F := Ideal) kb b q (ix2 r j)
      = if b (ix2 r j) = 1#1 then k0_pay17 (F := Ideal) kb q (ix2 r j) else ⊥ := by
  pointwise [k0_pay39, mask_eq, k0_pay17, select_one]

/-- Floor division of a word by 64, as it is written with signs and remainders. -/
def floor64 (u : ArithUnit) (x : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi u x 64#32) 0#32))
    (IntOp.subi (IntOp.divsi u x 64#32) 1#32)
    (IntOp.divsi u x 64#32)

theorem floor64_eq : ∀ x : Fin 1024, floor64 .vector (BitVec.ofNat 32 x.val) = BitVec.ofNat 32 (x.val / 64) := by
  decide +kernel

theorem sle16 : ∀ x y : Fin 16, IntOp.cmpi .sle (BitVec.ofNat 32 x.val) (BitVec.ofNat 32 y.val) = 1#1 ↔ x.val ≤ y.val := by
  decide +kernel

theorem pay32_apply (r j : Fin 1024) :
    k0_pay32 (iota .tc S1024x1024 32 [0] iota_S1024x1024_d0_w32) 64#32 k0_pay30 k0_pay31 0#32 (ix2 r j) = 1#1 ↔ j.val / 64 ≤ r.val / 64 := by
  pointwise [k0_pay32, k0_pay30, k0_pay31]
  show IntOp.cmpi .sle (floor64 .vector (BitVec.ofNat 32 j.val)) (floor64 .vector (BitVec.ofNat 32 r.val)) = 1#1 ↔ _
  rw [floor64_eq, floor64_eq]
  exact sle16 ⟨j.val / 64, by omega⟩ ⟨r.val / 64, by omega⟩

theorem slt64 : ∀ l : Fin 128, IntOp.cmpi .slt (BitVec.ofNat 32 l.val) 64#32 = 1#1 ↔ l.val < 64 := by
  decide +kernel

theorem pay45_apply (a b : FVec Ideal S1x1024x128 .f32) (r : Fin 1024) (l : Fin 128) :
    k0_pay1 (F := Ideal) (k0_pay45 (F := Ideal) a b) (ix3 0 r l)
      = if l.val < 64 then Ideal.div (a (ix3 0 r l)) (a (ix3 0 r 64))
        else Ideal.div (b (ix3 0 r ⟨l.val - 64, by omega⟩)) (b (ix3 0 r 64)) := by
  pointwise [k0_pay1, k0_pay45, select_one]
  simp only [slt64]
  split_ifs with h
  · rfl
  · have e : (l.val + 128 - 64) % 128 = l.val - 64 := by omega
    simp only [e]

theorem pay43_41 (vb kb : FVec Ideal S1024x256 .bf16) (b : IVec S1024x1024 1) (q : FVec Ideal S1x1024x128 .bf16) (m a : FVec Ideal S1x1024x128 .f32)
    (r : Fin 1024) (l : Fin 128) :
    k0_pay43 (F := Ideal) vb (k0_pay39 (F := Ideal) kb b q) (k0_pay40 (F := Ideal) m) (k0_pay41 (F := Ideal) kb b q) a (ix3 0 r l)
      = newAcc (fun j => k0_pay39 (F := Ideal) kb b q (ix2 r j)) (fun j => vb (ix2 j ⟨128 + l.val, by omega⟩))
          (fun l => m (ix3 0 r l)) l (a (ix3 0 r l)) :=
  pay43_apply vb _ reduces_S1024x1024_S1024 (.inl rfl) rfl m a r l

theorem pay14_apply (y) : k0_pay14 (F := Ideal) y = (⊥ : EReal) := by
  unfold k0_pay14
  pointwise [negInf]

theorem pay15_apply (y) : k0_pay15 (F := Ideal) y = (0 : EReal) := by
  unfold k0_pay15
  pointwise

end Cert.KernelIdeal.Attn

end
-- ==== Proof.Sub.Softmax.lean ====
/- The mathematics of a softmax taken block by block, over the extended reals.

   `mx s n` is the greatest of the first `n` scores and `ws s v n` the sum of the first `n` values, each weighted by the
   exponential of its score less that maximum. `mx_add` and `ws_add` say what a further block of keys makes of the two;
   `ratio_eq` says that the weighted sum over the sum of the weights is the softmax's combination of all the values, the keys
   past the last block having score `⊥`. -/
module

public import Idealize.ShloMosaic.PureOps.Ideal

@[expose] public section

noncomputable section

namespace Cert.Softmax

open Idealize.ShloMosaic

/-- The greatest of the first `n` scores; `⊥` of none. -/
def mx (s : ℕ → EReal) (n : ℕ) : EReal := (Finset.range n).sup s

/-- The first `n` values, each weighted by the exponential of its score less the greatest. -/
def ws (s v : ℕ → EReal) (n : ℕ) : EReal := ∑ j ∈ Finset.range n, Ideal.exp (s j - mx s n) * v j

theorem mx_zero (s : ℕ → EReal) : mx s 0 = ⊥ := rfl
theorem ws_zero (s v : ℕ → EReal) : ws s v 0 = 0 := rfl

theorem le_mx (s : ℕ → EReal) {n j : ℕ} (h : j < n) : s j ≤ mx s n := Finset.le_sup (Finset.mem_range.mpr h)

theorem mx_add (s : ℕ → EReal) (n k : ℕ) : mx s (n + k) = max (mx s n) ((Finset.range k).sup fun j => s (n + j)) := by
  apply le_antisymm
  · refine Finset.sup_le fun j hj => ?_
    rcases lt_or_ge j n with h | h
    · exact le_max_of_le_left (le_mx s h)
    · obtain ⟨d, rfl⟩ := Nat.exists_eq_add_of_le h
      have hd : d ∈ Finset.range k := by simpa using hj
      exact le_max_of_le_right (Finset.le_sup (f := fun j => s (n + j)) hd)
  · refine max_le (Finset.sup_le fun j hj => le_mx s ?_) (Finset.sup_le fun j hj => le_mx s ?_)
    · have := Finset.mem_range.mp hj; omega
    · have := Finset.mem_range.mp hj; omega

/-- No score is `⊤`, so the greatest is not. -/
theorem mx_ne_top {s : ℕ → EReal} (hs : ∀ j, s j ≠ ⊤) (n : ℕ) : mx s n ≠ ⊤ := by
  refine ne_of_lt ((Finset.sup_lt_iff (by exact bot_lt_top)).mpr fun j _ => lt_top_iff_ne_top.mpr (hs j))

/-- The exponential of anything but `⊤` is a nonnegative real. -/
theorem exp_real {x : EReal} (h : x ≠ ⊤) : ∃ r : ℝ, 0 ≤ r ∧ Ideal.exp x = (r : EReal) := by
  induction x using EReal.rec with
  | bot => exact ⟨0, le_refl _, rfl⟩
  | coe x => exact ⟨Real.exp x, (Real.exp_pos x).le, rfl⟩
  | top => exact absurd rfl h

theorem sub_coe_ne_top {x : EReal} (h : x ≠ ⊤) (m : ℝ) : x - (m : EReal) ≠ ⊤ := by
  induction x using EReal.rec with
  | bot => rw [EReal.bot_sub]; exact bot_ne_top
  | coe x => rw [← EReal.coe_sub]; exact EReal.coe_ne_top _
  | top => exact absurd rfl h

/-- A nonnegative real factor goes into a finite sum of extended reals, whatever the terms. -/
theorem coe_mul_sum {ι : Type} {c : ℝ} (hc : 0 ≤ c) (t : Finset ι) (f : ι → EReal) :
    (c : EReal) * ∑ j ∈ t, f j = ∑ j ∈ t, (c : EReal) * f j := by
  classical
  induction t using Finset.induction_on with
  | empty => simp
  | insert a t ha ih =>
    rw [Finset.sum_insert ha, Finset.sum_insert ha, ← ih, EReal.left_distrib_of_nonneg_of_ne_top]
    · exact_mod_cast hc
    · exact EReal.coe_ne_top _

/-- Moving the reference point from `m` to `m'` scales a weight by the exponential of `m - m'`. -/
theorem exp_shift {x : EReal} (hx : x ≠ ⊤) (m m' : ℝ) :
    Ideal.exp (x - (m' : EReal)) = Ideal.exp ((m : EReal) - m') * Ideal.exp (x - m) := by
  induction x using EReal.rec with
  | bot => rw [EReal.bot_sub, EReal.bot_sub, Ideal.exp_bot, mul_zero]
  | coe x =>
    rw [← EReal.coe_sub, ← EReal.coe_sub, ← EReal.coe_sub, Ideal.exp_coe, Ideal.exp_coe, Ideal.exp_coe, ← EReal.coe_mul,
      ← Real.exp_add]
    congr 2; ring
  | top => exact absurd rfl hx

theorem ws_add {s : ℕ → EReal} (v : ℕ → EReal) (hs : ∀ j, s j ≠ ⊤) (n k : ℕ) (hm : mx s (n + k) ≠ ⊥) :
    ws s v (n + k) = Ideal.exp (mx s n - mx s (n + k)) * ws s v n
      + ∑ j ∈ Finset.range k, Ideal.exp (s (n + j) - mx s (n + k)) * v (n + j) := by
  unfold ws
  rw [Finset.sum_range_add]
  congr 1
  lift mx s (n + k) to ℝ using ⟨mx_ne_top hs _, hm⟩ with m' hm'
  rcases eq_or_ne (mx s n) ⊥ with h | h
  · rw [h, EReal.bot_sub, Ideal.exp_bot, zero_mul]
    refine Finset.sum_eq_zero fun j hj => ?_
    have : s j = ⊥ := le_bot_iff.mp (h ▸ le_mx s (Finset.mem_range.mp hj))
    rw [this, EReal.bot_sub, Ideal.exp_bot, zero_mul]
  · lift mx s n to ℝ using ⟨mx_ne_top hs _, h⟩ with m hm
    obtain ⟨c, hc, hce⟩ := exp_real (sub_coe_ne_top (EReal.coe_ne_top m) m')
    rw [hce, coe_mul_sum hc]
    refine Finset.sum_congr rfl fun j _ => ?_
    rw [exp_shift (hs j) m m', hce, mul_assoc]

/-- Scores of `⊥` past the first `n` change nothing of the maximum … -/
theorem mx_eq_of_bot {s : ℕ → EReal} {n N : ℕ} (hN : n ≤ N) (hb : ∀ j, n ≤ j → s j = ⊥) : mx s N = mx s n := by
  obtain ⟨k, rfl⟩ := Nat.exists_eq_add_of_le hN
  rw [mx_add]
  refine max_eq_left (Finset.sup_le fun j _ => ?_)
  rw [hb _ (Nat.le_add_right n j)]; exact bot_le

/-- The blockwise result: the weighted sum over the sum of the weights is the sum of all `N` values, each weighted by its
    score's share. -/
theorem ratio_eq {s : ℕ → EReal} (v : ℕ → EReal) (hs : ∀ j, s j ≠ ⊤) {n N : ℕ} (hN : n ≤ N)
    (hb : ∀ j, n ≤ j → s j = ⊥) {j₀ : ℕ} (hj₀ : j₀ < n) (hj₀' : s j₀ ≠ ⊥) :
    Ideal.div (ws s v n) (ws s (fun _ => 1) n)
      = ∑ j ∈ Finset.range N, Ideal.div (Ideal.exp (s j - mx s N)) (∑ i ∈ Finset.range N, Ideal.exp (s i - mx s N)) * v j := by
  have hmN := mx_eq_of_bot hN hb
  have hm : mx s n ≠ ⊥ := fun h => hj₀' (le_bot_iff.mp (h ▸ le_mx s hj₀))
  rw [hmN]
  unfold ws
  lift mx s n to ℝ using ⟨mx_ne_top hs _, hm⟩ with m hm'
  have hz : ∀ j, n ≤ j → Ideal.exp (s j - (m : EReal)) = 0 := fun j hj => by rw [hb j hj, EReal.bot_sub, Ideal.exp_bot]
  have hsub : Finset.range n ⊆ Finset.range N := Finset.range_subset_range.mpr hN
  have hS : ∑ i ∈ Finset.range N, Ideal.exp (s i - (m : EReal)) = ∑ i ∈ Finset.range n, Ideal.exp (s i - (m : EReal)) :=
    (Finset.sum_subset hsub fun j _ hj => hz j (by simpa using hj)).symm
  choose e he0 he using fun j => exp_real (sub_coe_ne_top (hs j) m)
  have hd : ∑ i ∈ Finset.range n, Ideal.exp (s i - (m : EReal)) = ((∑ i ∈ Finset.range n, e i : ℝ) : EReal) := by
    rw [Finset.sum_congr rfl fun i _ => he i]
    exact (map_sum (⟨⟨Real.toEReal, EReal.coe_zero⟩, EReal.coe_add⟩ : ℝ →+ EReal) e (Finset.range n)).symm
  have hpos : 0 < ∑ i ∈ Finset.range n, e i := by
    refine Finset.sum_pos' (fun i _ => he0 i) ⟨j₀, Finset.mem_range.mpr hj₀, ?_⟩
    have h0 := he j₀
    lift s j₀ to ℝ using ⟨hs j₀, hj₀'⟩ with x hx
    rw [← EReal.coe_sub, Ideal.exp_coe] at h0
    rw [← EReal.coe_eq_coe_iff.mp h0]
    exact Real.exp_pos _
  have hinv : (0 : ℝ) ≤ 1 / ∑ i ∈ Finset.range n, e i := (one_div_pos.mpr hpos).le
  simp only [mul_one]
  rw [hS, hd]
  simp only [Ideal.div_coe hpos.ne']
  rw [mul_comm, coe_mul_sum hinv]
  rw [Finset.sum_subset hsub fun j _ hj => by rw [hz j (by simpa using hj), zero_mul, mul_zero]]
  exact Finset.sum_congr rfl fun j _ => by rw [mul_comm (Ideal.exp _) (((1 / ∑ i ∈ Finset.range n, e i : ℝ)) : EReal), mul_assoc]

end Cert.Softmax

end
-- ==== Proof.Sub.Loop.lean ====
/- What the two scratch buffers of a grid point hold while the point's key blocks pass.

   `sc` is a row's masked scores over all key positions, `vv` a lane's values. After `n` blocks the first buffer holds,
   in every lane, the maximum of the first `1024 n` scores, the second their weighted sum (`Held`). -/
module

public import proofs.«01_k».proof.Proof.Sub.Pay
public import proofs.«01_k».proof.Proof.Sub.Softmax
public import Idealize.ShloMosaic.Lib.WritesUnit
public import Idealize.ShloMosaic.Lib.WholeRead

@[expose] public section

set_option maxRecDepth 16384

noncomputable section

namespace Cert.KernelIdeal.Attn

open Cert.KernelIdeal Cert.KernelIdeal.Gen Idealize.ShloMosaic Idealize.ShloMosaic.TcCoe Cert.Softmax

/-! ## One block in terms of the sums over all key positions -/

theorem range_sup_fin (f : ℕ → EReal) (n : ℕ) : (Finset.range n).sup f = Finset.univ.sup fun j : Fin n => f j.val := by
  apply le_antisymm
  · exact Finset.sup_le fun j hj => Finset.le_sup (f := fun j : Fin n => f j.val) (Finset.mem_univ ⟨j, Finset.mem_range.mp hj⟩)
  · exact Finset.sup_le fun j _ => Finset.le_sup (f := f) (Finset.mem_range.mpr j.isLt)

theorem newMax_mx (s : ℕ → EReal) (n : ℕ) (b : Fin 1024 → EReal) (hb : ∀ j, b j = s (1024 * n + j.val)) :
    newMax b (mx s (1024 * n)) = mx s (1024 * (n + 1)) := by
  rw [Nat.mul_add, Nat.mul_one, mx_add, range_sup_fin, newMax, funext hb]

theorem newAcc_ws (s v : ℕ → EReal) (hs : ∀ j, s j ≠ ⊤) (h0 : s 0 ≠ ⊥) (n : ℕ) (b w : Fin 1024 → EReal)
    (hb : ∀ j, b j = s (1024 * n + j.val)) (hw : ∀ j, w j = v (1024 * n + j.val)) (m : Fin 128 → EReal)
    (hm : ∀ l, m l = mx s (1024 * n)) (l : Fin 128) :
    newAcc b w m l (ws s v (1024 * n)) = ws s v (1024 * (n + 1)) := by
  unfold newAcc
  simp only [hm, newMax_mx s n b hb]
  rw [Nat.mul_add, Nat.mul_one, ws_add v hs (1024 * n) 1024, Finset.sum_range]
  · simp only [hb, hw]
  · exact fun h => h0 (le_bot_iff.mp (h ▸ le_mx s (j := 0) (by omega)))

/-! ## A row's scores and a lane's values -/

/-- Row `r`'s score at key position `κ`, in head `hh` of the pair, the query block standing at `1024 * i2`. -/
def sc (X0 : S1x1024x256.Idx → EReal) (X1 : S1x4096x256.Idx → EReal) (i2 : ℕ) (hh : Fin 2) (r : Fin 1024) (κ : ℕ) : EReal :=
  if h : κ < 4096 then
    if κ / 64 ≤ (1024 * i2 + r.val) / 64 then
      ∑ e : Fin 128, X0 (ix3 0 r ⟨128 * hh.val + e.val, by omega⟩) * X1 (ix3 0 ⟨κ, h⟩ ⟨128 * hh.val + e.val, by omega⟩)
    else ⊥
  else ⊥

/-- Lane `l`'s value at key position `κ`, in head `hh` of the pair. -/
def vv (X2 : S1x4096x256.Idx → EReal) (hh : Fin 2) (l : Fin 128) (κ : ℕ) : EReal :=
  if h : κ < 4096 then X2 (ix3 0 ⟨κ, h⟩ ⟨128 * hh.val + l.val, by omega⟩) else 0

/-- The two buffers after `n` blocks. -/
def Held (X0 : S1x1024x256.Idx → EReal) (X1 X2 : S1x4096x256.Idx → EReal) (i2 n : ℕ) (M A : S2x1024x128.Idx → EReal) : Prop :=
  ∀ (hh : Fin 2) (r : Fin 1024) (l : Fin 128),
    M (ix3 hh r l) = mx (sc X0 X1 i2 hh r) (1024 * n) ∧ A (ix3 hh r l) = ws (sc X0 X1 i2 hh r) (vv X2 hh l) (1024 * n)

/-- No score is `⊤`, and every row sees the first key at a score other than `⊥`. -/
def Sane (X0 : S1x1024x256.Idx → EReal) (X1 : S1x4096x256.Idx → EReal) (i2 : ℕ) : Prop :=
  ∀ (hh : Fin 2) (r : Fin 1024), (∀ κ, sc X0 X1 i2 hh r κ ≠ ⊤) ∧ sc X0 X1 i2 hh r 0 ≠ ⊥

section Lists

variable {Val : EltTy → Type} {κ : Kind} {sp : Space} {e : EltTy} {s : Shape}

/-- A load through a unit rectangle, at an index, is the read of the place it stands for. -/
theorem readAt_at (v : View sig κ sp s e) (f : v.ty.Contents Val) {off off' size : Fin s.rank → ℕ} (inb : ∀ a, off a + size a ≤ s.size a)
    (x : (Rect.unit off size inb).shape.Idx) (y : s.Idx) (heq : off = off') (h : ∀ a, (y a).val = off' a + (x a).val) :
    v.readAt Val (Rect.unit off size inb).toLoadRect f x = v.read Val f y := by
  subst heq
  rw [View.readAt_eq_ld]
  show v.read Val f _ = _
  congr 1
  funext a
  apply Fin.ext
  rw [h a]
  show off a + 1 * (x a).val = _
  rw [Nat.one_mul]

/-- The two heads' stores, read back. -/
theorem read_two (v : View sig κ sp S2x1024x128 e) (f : v.ty.Contents Val) (L : List (View.Piece Val S2x1024x128 e))
    (h1 : ∀ a, (![1, 0, 0] : Fin 3 → ℕ) a + S1x1024x128.size a ≤ S2x1024x128.size a)
    (h0 : ∀ a, (![0, 0, 0] : Fin 3 → ℕ) a + S1x1024x128.size a ≤ S2x1024x128.size a)
    (w1 w0 : S1x1024x128.Idx → Val e) (hh : Fin 2) (r : Fin 1024) (l : Fin 128) :
    v.read Val (v.writes Val f (⟨Rect.unit ![1, 0, 0] S1x1024x128.size h1, w1⟩ :: ⟨Rect.unit ![0, 0, 0] S1x1024x128.size h0, w0⟩ :: L)) (ix3 hh r l)
      = if hh = 0 then w0 (ix3 0 r l) else w1 (ix3 0 r l) := by
  match hh with
  | 0 =>
    rw [View.read_writes_cons_unit_of_not_mem v f h1 w1 _ _ rfl 0 (Or.inl (by simp)),
      View.read_writes_cons_unit_of_mem v f h0 w0 L _ (ix3 0 r l) rfl (by intro a; fin_cases a <;> simp)]
    rfl
  | 1 =>
    rw [View.read_writes_cons_unit_of_mem v f h1 w1 _ _ (ix3 0 r l) rfl (by intro a; fin_cases a <;> simp)]
    rfl

/-- A store of the whole buffer, read back. -/
theorem read_one (v : View sig κ sp S2x1024x128 e) (f : v.ty.Contents Val) (h0) (w : S2x1024x128.Idx → Val e)
    (hh : Fin 2) (r : Fin 1024) (l : Fin 128) :
    v.read Val (v.writes Val f [⟨Rect.unit ![0, 0, 0] S2x1024x128.size h0, w⟩]) (ix3 hh r l) = w (ix3 hh r l) :=
  View.read_writes_cons_unit_of_mem v f h0 w [] _ (ix3 hh r l) rfl (by intro a; fin_cases a <;> simp)

end Lists

/-! ## The loop over the blocks before the diagonal -/

theorem trips1 (i : grid0.Coords) : (k0_t1_loop i).trips = (i 2).val := by
  have : ∀ k : Fin 4, Scf.trips (0#32) (Scalar.addi 0#32 (Scalar.muli (Scalar.divsi (Scalar.subi (BitVec.ofNat 32 k.val) 0#32) 1#32) 1#32)) 1#32 = k.val := by
    decide +kernel
  exact this (i 2)

theorem trips2 (i : grid0.Coords) : (k0_t2_loop i).trips = 0 := by
  have : ∀ k : Fin 4, Scf.trips (Scalar.addi 0#32 (Scalar.muli (Scalar.divsi (Scalar.subi (BitVec.ofNat 32 k.val) 0#32) 1#32) 1#32))
      (Scalar.addi 0#32 (Scalar.subi (BitVec.ofNat 32 k.val) 0#32)) 1#32 = 0 := by
    decide +kernel
  exact this (i 2)

theorem off1 (i : grid0.Coords) (k : Fin (k0_t1_loop i).trips) : k0_off1 i k = ![0, 1024 * k.val, 0] := by
  have h : ∀ k : Fin 4, (Scalar.indexCast (Scalar.muli (Scf.iv 0#32 1#32 k.val) 1024#32)).toNat = 1024 * k.val := by decide +kernel
  have hk : k.val < 4 := by have := k.isLt; have := trips1 i; have := (i 2).isLt; simp at this; omega
  have := h ⟨k.val, hk⟩
  unfold k0_off1
  dsimp only
  rw [this]

theorem off3 (i : grid0.Coords) : k0_off3 i = ![0, 1024 * (i 2).val, 0] := by
  have h : ∀ k : Fin 4, (Scalar.indexCast (Scalar.muli (BitVec.ofNat 32 k.val) 1024#32)).toNat = 1024 * k.val := by decide +kernel
  have := h (i 2)
  unfold k0_off3
  dsimp only
  rw [this]

variable (c : Dev nD) (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x1024x128 .bf16) (harg6 : arg6.IsWhole) (arg7 : Memref sig .tc .vmem S2x1024x128 .f32) (harg7 : arg7.IsWhole) (arg8 : Memref sig .tc .vmem S2x1024x128 .f32) (harg8 : arg8.IsWhole)
  (X0 : FVec Ideal S1x1024x256 .bf16) (X1 X2 : FVec Ideal S1x4096x256 .bf16)

theorem trip_held (hX : Sane X0 X1 (i 2).val) (k : Fin (k0_t1_loop i).trips)
    (f7 : BufTy.Contents (Elt Ideal) arg7.view.ty) (f8 : BufTy.Contents (Elt Ideal) arg8.view.ty)
    (h : Held X0 X1 X2 (i 2).val k.val (arg7.view.read (Elt Ideal) f7) (arg8.view.read (Elt Ideal) f8)) :
    Held X0 X1 X2 (i 2).val (k.val + 1)
      (arg7.view.read (Elt Ideal) (arg7.view.writes (Elt Ideal) f7 (tripL_k0_t1 (F := Ideal) Variants.none c none i arg3 harg3 arg4 harg4 arg5 harg5 arg6 harg6 arg7 harg7 arg8 harg8 (harg3.unread X0) (harg4.unread X1) (harg5.unread X2) k f7 f8).1))
      (arg8.view.read (Elt Ideal) (arg8.view.writes (Elt Ideal) f8 (tripL_k0_t1 (F := Ideal) Variants.none c none i arg3 harg3 arg4 harg4 arg5 harg5 arg6 harg6 arg7 harg7 arg8 harg8 (harg3.unread X0) (harg4.unread X1) (harg5.unread X2) k f7 f8).2)) := by
  have hk : k.val < (i 2).val := lt_of_lt_of_eq k.isLt (trips1 i)
  have hi : (i 2).val < 4 := (i 2).isLt
  unfold tripL_k0_t1 trip_k0_t1
  dsimp only
  intro hh r l
  rw [read_two, read_two]
  -- the loads, at an index
  have e3 : ∀ (hh : Fin 2) (off : Fin 3 → ℕ) (ho : off = ![0, 0, 128 * hh.val]) (inb) (r : Fin 1024) (y : Fin 128),
      arg3.view.readAt (Elt Ideal) (Rect.unit (s := S1x1024x256) off S1x1024x128.size inb).toLoadRect (harg3.unread X0) (ix3 0 r y)
        = X0 (ix3 0 r ⟨128 * hh.val + y.val, by omega⟩) := fun hh off ho inb r y => by
    rw [readAt_at arg3.view _ _ _ (ix3 0 r ⟨128 * hh.val + y.val, by omega⟩) ho (by intro a; fin_cases a <;> simp), harg3.read_unread]
  have e4 : ∀ (j : Fin 1024) (y : Fin 256), arg4.view.readAt (Elt Ideal) (Rect.unit (s := S1x4096x256) (k0_off1 i k) S1x1024x256.size (k0_off1_inb i k)).toLoadRect (harg4.unread X1) (ix3 0 j y)
      = X1 (ix3 0 ⟨1024 * k.val + j.val, by omega⟩ y) := fun j y => by
    rw [readAt_at arg4.view _ _ _ (ix3 0 ⟨1024 * k.val + j.val, by omega⟩ y) (off1 i k) (by intro a; fin_cases a <;> simp), harg4.read_unread]
  have e5 : ∀ (j : Fin 1024) (y : Fin 256), arg5.view.readAt (Elt Ideal) (Rect.unit (s := S1x4096x256) (k0_off1 i k) S1x1024x256.size (k0_off1_inb i k)).toLoadRect (harg5.unread X2) (ix3 0 j y)
      = X2 (ix3 0 ⟨1024 * k.val + j.val, by omega⟩ y) := fun j y => by
    rw [readAt_at arg5.view _ _ _ (ix3 0 ⟨1024 * k.val + j.val, by omega⟩ y) (off1 i k) (by intro a; fin_cases a <;> simp), harg5.read_unread]
  have e7 : ∀ (hh : Fin 2) (off : Fin 3 → ℕ) (ho : off = ![hh.val, 0, 0]) (inb) (r : Fin 1024) (l : Fin 128),
      arg7.view.readAt (Elt Ideal) (Rect.unit (s := S2x1024x128) off S1x1024x128.size inb).toLoadRect f7 (ix3 0 r l)
        = mx (sc X0 X1 (i 2).val hh r) (1024 * k.val) := fun hh off ho inb r l => by
    rw [readAt_at arg7.view _ _ _ (ix3 hh r l) ho (by intro a; fin_cases a <;> simp)]
    exact (h hh r l).1
  have e8 : ∀ (hh : Fin 2) (off : Fin 3 → ℕ) (ho : off = ![hh.val, 0, 0]) (inb) (r : Fin 1024) (l : Fin 128),
      arg8.view.readAt (Elt Ideal) (Rect.unit (s := S2x1024x128) off S1x1024x128.size inb).toLoadRect f8 (ix3 0 r l)
        = ws (sc X0 X1 (i 2).val hh r) (vv X2 hh l) (1024 * k.val) := fun hh off ho inb r l => by
    rw [readAt_at arg8.view _ _ _ (ix3 hh r l) ho (by intro a; fin_cases a <;> simp)]
    exact (h hh r l).2
  -- every key of the block lies before the row
  have hsc : ∀ (hh : Fin 2) (j : Fin 1024), sc X0 X1 (i 2).val hh r (1024 * k.val + j.val)
      = ∑ e : Fin 128, X0 (ix3 0 r ⟨128 * hh.val + e.val, by omega⟩)
          * X1 (ix3 0 ⟨1024 * k.val + j.val, by omega⟩ ⟨128 * hh.val + e.val, by omega⟩) := fun hh j => by
    unfold sc
    rw [dif_pos (by omega), if_pos (by omega)]
  have hvv : ∀ (hh : Fin 2) (j : Fin 1024), vv X2 hh l (1024 * k.val + j.val)
      = X2 (ix3 0 ⟨1024 * k.val + j.val, by omega⟩ ⟨128 * hh.val + l.val, by omega⟩) := fun hh j => by
    unfold vv
    rw [dif_pos (by omega)]
  have in0 : ∀ a, (![0, 0, 0] : Fin 3 → ℕ) a + S1x1024x128.size a ≤ S1x1024x256.size a := by decide
  have in1 : ∀ a, (![0, 0, 128] : Fin 3 → ℕ) a + S1x1024x128.size a ≤ S1x1024x256.size a := by decide
  have im0 : ∀ a, (![0, 0, 0] : Fin 3 → ℕ) a + S1x1024x128.size a ≤ S2x1024x128.size a := by decide
  have im1 : ∀ a, (![1, 0, 0] : Fin 3 → ℕ) a + S1x1024x128.size a ≤ S2x1024x128.size a := by decide
  match hh with
  | 0 =>
    rw [if_pos rfl, if_pos rfl]
    show k0_pay16 (F := Ideal) (k0_pay6 (F := Ideal)
          (arg4.view.readAt (Elt Ideal) (Rect.unit (s := S1x4096x256) (k0_off1 i k) S1x1024x256.size (k0_off1_inb i k)).toLoadRect (harg4.unread X1))
          (arg3.view.readAt (Elt Ideal) (Rect.unit (s := S1x1024x256) ![0, 0, 0] S1x1024x128.size in0).toLoadRect (harg3.unread X0))
          (arg7.view.readAt (Elt Ideal) (Rect.unit (s := S2x1024x128) ![0, 0, 0] S1x1024x128.size im0).toLoadRect f7)) (ix3 0 r l) = _
      ∧ k0_pay7 (F := Ideal)
          (arg4.view.readAt (Elt Ideal) (Rect.unit (s := S1x4096x256) (k0_off1 i k) S1x1024x256.size (k0_off1_inb i k)).toLoadRect (harg4.unread X1))
          (arg5.view.readAt (Elt Ideal) (Rect.unit (s := S1x4096x256) (k0_off1 i k) S1x1024x256.size (k0_off1_inb i k)).toLoadRect (harg5.unread X2))
          (arg3.view.readAt (Elt Ideal) (Rect.unit (s := S1x1024x256) ![0, 0, 0] S1x1024x128.size in0).toLoadRect (harg3.unread X0))
          (arg7.view.readAt (Elt Ideal) (Rect.unit (s := S2x1024x128) ![0, 0, 0] S1x1024x128.size im0).toLoadRect f7)
          (arg8.view.readAt (Elt Ideal) (Rect.unit (s := S2x1024x128) ![0, 0, 0] S1x1024x128.size im0).toLoadRect f8) (ix3 0 r l) = _
    have hb : ∀ j : Fin 1024, k0_pay4 (F := Ideal)
          (arg4.view.readAt (Elt Ideal) (Rect.unit (s := S1x4096x256) (k0_off1 i k) S1x1024x256.size (k0_off1_inb i k)).toLoadRect (harg4.unread X1))
          (arg3.view.readAt (Elt Ideal) (Rect.unit (s := S1x1024x256) ![0, 0, 0] S1x1024x128.size in0).toLoadRect (harg3.unread X0)) (ix2 r j)
        = sc X0 X1 (i 2).val 0 r (1024 * k.val + j.val) := fun j => by
      rw [pay4_apply, hsc]
      refine Finset.sum_congr rfl fun e _ => ?_
      rw [e3 0 ![0, 0, 0] rfl, e4]
      simp
    rw [pay16_apply, pay6_apply, pay7_apply, e7 0 ![0, 0, 0] rfl, e8 0 ![0, 0, 0] rfl]
    refine ⟨newMax_mx _ _ _ hb, newAcc_ws _ _ (hX 0 r).1 (hX 0 r).2 _ _ _ hb (fun j => ?_) _ (fun l => e7 0 ![0, 0, 0] rfl _ r l) l⟩
    rw [hvv, e5]
    simp
  | 1 =>
    rw [if_neg (by decide), if_neg (by decide)]
    show k0_pay21 (F := Ideal) (k0_pay2 (F := Ideal)
          (arg4.view.readAt (Elt Ideal) (Rect.unit (s := S1x4096x256) (k0_off1 i k) S1x1024x256.size (k0_off1_inb i k)).toLoadRect (harg4.unread X1)))
          (arg3.view.readAt (Elt Ideal) (Rect.unit (s := S1x1024x256) ![0, 0, 128] S1x1024x128.size in1).toLoadRect (harg3.unread X0))
          (arg7.view.readAt (Elt Ideal) (Rect.unit (s := S2x1024x128) ![1, 0, 0] S1x1024x128.size im1).toLoadRect f7) (ix3 0 r l) = _
      ∧ k0_pay20 (F := Ideal) (k0_pay2 (F := Ideal)
          (arg4.view.readAt (Elt Ideal) (Rect.unit (s := S1x4096x256) (k0_off1 i k) S1x1024x256.size (k0_off1_inb i k)).toLoadRect (harg4.unread X1)))
          (k0_pay3 (F := Ideal)
          (arg5.view.readAt (Elt Ideal) (Rect.unit (s := S1x4096x256) (k0_off1 i k) S1x1024x256.size (k0_off1_inb i k)).toLoadRect (harg5.unread X2)))
          (arg3.view.readAt (Elt Ideal) (Rect.unit (s := S1x1024x256) ![0, 0, 128] S1x1024x128.size in1).toLoadRect (harg3.unread X0))
          (arg7.view.readAt (Elt Ideal) (Rect.unit (s := S2x1024x128) ![1, 0, 0] S1x1024x128.size im1).toLoadRect f7)
          (arg8.view.readAt (Elt Ideal) (Rect.unit (s := S2x1024x128) ![1, 0, 0] S1x1024x128.size im1).toLoadRect f8) (ix3 0 r l) = _
    have hb : ∀ j : Fin 1024, k0_pay17 (F := Ideal) (k0_pay2 (F := Ideal)
          (arg4.view.readAt (Elt Ideal) (Rect.unit (s := S1x4096x256) (k0_off1 i k) S1x1024x256.size (k0_off1_inb i k)).toLoadRect (harg4.unread X1)))
          (arg3.view.readAt (Elt Ideal) (Rect.unit (s := S1x1024x256) ![0, 0, 128] S1x1024x128.size in1).toLoadRect (harg3.unread X0)) (ix2 r j)
        = sc X0 X1 (i 2).val 1 r (1024 * k.val + j.val) := fun j => by
      rw [pay17_apply, hsc]
      refine Finset.sum_congr rfl fun e _ => ?_
      rw [e3 1 ![0, 0, 128] rfl, pay2_apply, e4]
      simp
    rw [pay21_apply, pay20_apply, e7 1 ![1, 0, 0] rfl, e8 1 ![1, 0, 0] rfl]
    refine ⟨newMax_mx _ _ _ hb, newAcc_ws _ _ (hX 1 r).1 (hX 1 r).2 _ _ _ hb (fun j => ?_) _ (fun l => e7 1 ![1, 0, 0] rfl _ r l) l⟩
    rw [hvv, pay3_apply, e5]
    simp

end Cert.KernelIdeal.Attn

end
-- ==== Proof.Sub.Block.lean ====
/- What one grid point writes: its query rows' weighted sums over the keys they see, divided by their weights. -/
module

public import proofs.«01_k».proof.Proof.Sub.Loop

@[expose] public section

set_option maxRecDepth 16384

noncomputable section

namespace Cert.KernelIdeal.Attn

open Cert.KernelIdeal Cert.KernelIdeal.Gen Idealize.ShloMosaic Idealize.ShloMosaic.TcCoe Cert.Softmax

theorem pay28_apply (x : FVec Ideal S1x1024x256 .bf16) (r : Fin 1024) (l : Fin 256) :
    k0_pay28 (F := Ideal) x (ix2 r l) = x (ix3 0 r l) := by
  pointwise [k0_pay28]

theorem pay29_apply (x : FVec Ideal S1x1024x256 .bf16) (r : Fin 1024) (l : Fin 256) :
    k0_pay29 (F := Ideal) x (ix2 r l) = x (ix3 0 r l) := by
  pointwise [k0_pay29]

/-- One head's quotient at a row and lane, after `n` blocks; lane 64 of the values is 1. -/
def quot (X0 : S1x1024x256.Idx → EReal) (X1 X2 : S1x4096x256.Idx → EReal) (i2 n : ℕ) (hh : Fin 2) (r : Fin 1024) (l : Fin 128) : EReal :=
  Ideal.div (ws (sc X0 X1 i2 hh r) (vv X2 hh l) (1024 * n)) (ws (sc X0 X1 i2 hh r) (vv X2 hh 64) (1024 * n))

/-- The block a grid point writes: lanes below 64 are the first head's, the others the second's. -/
def outBlk (X0 : S1x1024x256.Idx → EReal) (X1 X2 : S1x4096x256.Idx → EReal) (i2 : ℕ) (r : Fin 1024) (l : Fin 128) : EReal :=
  if l.val < 64 then quot X0 X1 X2 i2 (i2 + 1) 0 r l
  else quot X0 X1 X2 i2 (i2 + 1) 1 r ⟨l.val - 64, by omega⟩

/-! ## The loop -/

section

variable (c : Dev nD) (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x1024x128 .bf16) (harg6 : arg6.IsWhole) (arg7 : Memref sig .tc .vmem S2x1024x128 .f32) (harg7 : arg7.IsWhole) (arg8 : Memref sig .tc .vmem S2x1024x128 .f32) (harg8 : arg8.IsWhole)
  (X0 : FVec Ideal S1x1024x256 .bf16) (X1 X2 : FVec Ideal S1x4096x256 .bf16)

theorem loop_held (hX : Sane X0 X1 (i 2).val) (G7 : BufTy.Contents (Elt Ideal) arg7.view.ty) (G8 : BufTy.Contents (Elt Ideal) arg8.view.ty)
    (h : Held X0 X1 X2 (i 2).val 0 (arg7.view.read (Elt Ideal) G7) (arg8.view.read (Elt Ideal) G8)) :
    ∀ n : ℕ, n ≤ (i 2).val → Held X0 X1 X2 (i 2).val n
      (arg7.view.read (Elt Ideal) (arg7.view.writes (Elt Ideal) G7 (pb_k0_t1 (F := Ideal) Variants.none c none i arg3 harg3 arg4 harg4 arg5 harg5 arg6 harg6 arg7 harg7 arg8 harg8 (harg3.unread X0) (harg4.unread X1) (harg5.unread X2) G7 G8 n).1))
      (arg8.view.read (Elt Ideal) (arg8.view.writes (Elt Ideal) G8 (pb_k0_t1 (F := Ideal) Variants.none c none i arg3 harg3 arg4 harg4 arg5 harg5 arg6 harg6 arg7 harg7 arg8 harg8 (harg3.unread X0) (harg4.unread X1) (harg5.unread X2) G7 G8 n).2))
  | 0, _ => h
  | n + 1, hn => by
    have ih := loop_held hX G7 G8 h n (by omega)
    have hk : n < (k0_t1_loop i).trips := lt_of_lt_of_eq (by omega) (trips1 i).symm
    have e := pb_k0_t1_succ (F := Ideal) Variants.none c none i arg3 harg3 arg4 harg4 arg5 harg5 arg6 harg6 arg7 harg7 arg8 harg8 (harg3.unread X0) (harg4.unread X1) (harg5.unread X2) G7 G8 ⟨n, hk⟩
    rw [show n + 1 = (⟨n, hk⟩ : Fin (k0_t1_loop i).trips).val + 1 from rfl, e]
    dsimp only
    rw [View.writes_append, View.writes_append]
    exact trip_held c i arg3 harg3 arg4 harg4 arg5 harg5 arg6 harg6 arg7 harg7 arg8 harg8 X0 X1 X2 hX ⟨n, hk⟩ _ _ ih

/-! ## The diagonal block -/

theorem diag_value (hX : Sane X0 X1 (i 2).val) (L7 : List (View.Piece (Elt Ideal) S2x1024x128 .f32))
    (L8 : List (View.Piece (Elt Ideal) S2x1024x128 .f32))
    (h : Held X0 X1 X2 (i 2).val (i 2).val (arg7.view.read (Elt Ideal) (arg7.view.writes (Elt Ideal) arg7.view.junk L7))
      (arg8.view.read (Elt Ideal) (arg8.view.writes (Elt Ideal) arg8.view.junk L8)))
    (K V : FVec Ideal S1024x256 .bf16) (q0 q1 : FVec Ideal S1x1024x128 .bf16) (b : IVec S1024x1024 1)
    (h0 : ∀ a, (![0, 0, 0] : Fin 3 → ℕ) a + S1x1024x128.size a ≤ S2x1024x128.size a)
    (h1 : ∀ a, (![1, 0, 0] : Fin 3 → ℕ) a + S1x1024x128.size a ≤ S2x1024x128.size a)
    (hK : ∀ (j : Fin 1024) (y : Fin 256) (hj : 1024 * (i 2).val + j.val < 4096), K (ix2 j y) = X1 (ix3 0 ⟨1024 * (i 2).val + j.val, hj⟩ y))
    (hV : ∀ (j : Fin 1024) (y : Fin 256) (hj : 1024 * (i 2).val + j.val < 4096), V (ix2 j y) = X2 (ix3 0 ⟨1024 * (i 2).val + j.val, hj⟩ y))
    (hq0 : ∀ (r : Fin 1024) (e : Fin 128), q0 (ix3 0 r e) = X0 (ix3 0 r ⟨128 * (0 : Fin 2).val + e.val, by simp; omega⟩))
    (hq1 : ∀ (r : Fin 1024) (e : Fin 128), q1 (ix3 0 r e) = X0 (ix3 0 r ⟨128 * (1 : Fin 2).val + e.val, by simp; omega⟩))
    (hbm : ∀ r j : Fin 1024, b (ix2 r j) = 1#1 ↔ j.val / 64 ≤ r.val / 64)
    (m0 a0 m1 a1 : FVec Ideal S1x1024x128 .f32)
    (N7 N8 F8 : List (View.Piece (Elt Ideal) S2x1024x128 .f32))
    (em0 : m0 = arg7.view.readCov L7 (Rect.unit (s := S2x1024x128) ![0, 0, 0] S1x1024x128.size h0).toLoadRect)
    (ea0 : a0 = arg8.view.readCov L8 (Rect.unit (s := S2x1024x128) ![0, 0, 0] S1x1024x128.size h0).toLoadRect)
    (eN7 : N7 = (⟨Rect.unit (s := S2x1024x128) ![0, 0, 0] S1x1024x128.size h0, k0_pay38 (F := Ideal) b (k0_pay33 (F := Ideal) K q0) (⊥ : EReal) m0⟩ : View.Piece (Elt Ideal) S2x1024x128 .f32) :: L7)
    (eN8 : N8 = (⟨Rect.unit (s := S2x1024x128) ![0, 0, 0] S1x1024x128.size h0, k0_pay37 (F := Ideal) V b (k0_pay33 (F := Ideal) K q0) (⊥ : EReal) m0 a0⟩ : View.Piece (Elt Ideal) S2x1024x128 .f32) :: L8)
    (em1 : m1 = arg7.view.readCov N7 (Rect.unit (s := S2x1024x128) ![1, 0, 0] S1x1024x128.size h1).toLoadRect)
    (ea1 : a1 = arg8.view.readCov N8 (Rect.unit (s := S2x1024x128) ![1, 0, 0] S1x1024x128.size h1).toLoadRect)
    (eF8 : F8 = (⟨Rect.unit (s := S2x1024x128) ![1, 0, 0] S1x1024x128.size h1,
      k0_pay43 (F := Ideal) V (k0_pay39 (F := Ideal) K b q1) (k0_pay40 (F := Ideal) m1) (k0_pay41 (F := Ideal) K b q1) a1⟩ : View.Piece (Elt Ideal) S2x1024x128 .f32) :: N8)
    (r : Fin 1024) (l : Fin 128) :
    k0_pay1 (F := Ideal) (k0_pay45 (F := Ideal)
      (arg8.view.readCov F8 (Rect.unit (s := S2x1024x128) ![0, 0, 0] S1x1024x128.size h0).toLoadRect)
      (arg8.view.readCov F8 (Rect.unit (s := S2x1024x128) ![1, 0, 0] S1x1024x128.size h1).toLoadRect)) (ix3 0 r l)
      = outBlk X0 X1 X2 (i 2).val r l := by
  have hi : (i 2).val < 4 := (i 2).isLt
  -- what the buffers hold before the block
  have vm0 : ∀ r l, m0 (ix3 0 r l) = mx (sc X0 X1 (i 2).val 0 r) (1024 * (i 2).val) := fun r l => by
    rw [em0, View.readCov, readAt_at arg7.view _ _ _ (ix3 0 r l) rfl (by intro a; fin_cases a <;> simp)]
    exact (h 0 r l).1
  have va0 : ∀ r l, a0 (ix3 0 r l) = ws (sc X0 X1 (i 2).val 0 r) (vv X2 0 l) (1024 * (i 2).val) := fun r l => by
    rw [ea0, View.readCov, readAt_at arg8.view _ _ _ (ix3 0 r l) rfl (by intro a; fin_cases a <;> simp)]
    exact (h 0 r l).2
  have vm1 : ∀ r l, m1 (ix3 0 r l) = mx (sc X0 X1 (i 2).val 1 r) (1024 * (i 2).val) := fun r l => by
    rw [em1, View.readCov, readAt_at arg7.view _ _ _ (ix3 1 r l) rfl (by intro a; fin_cases a <;> simp), eN7,
      View.read_writes_cons_unit_of_not_mem arg7.view _ h0 _ _ _ rfl 0 (Or.inr (by simp))]
    exact (h 1 r l).1
  have va1 : ∀ r l, a1 (ix3 0 r l) = ws (sc X0 X1 (i 2).val 1 r) (vv X2 1 l) (1024 * (i 2).val) := fun r l => by
    rw [ea1, View.readCov, readAt_at arg8.view _ _ _ (ix3 1 r l) rfl (by intro a; fin_cases a <;> simp), eN8,
      View.read_writes_cons_unit_of_not_mem arg8.view _ h0 _ _ _ rfl 0 (Or.inr (by simp))]
    exact (h 1 r l).2
  -- the block's scores and values
  have hsc : ∀ (hh : Fin 2) (r j : Fin 1024), sc X0 X1 (i 2).val hh r (1024 * (i 2).val + j.val)
      = if j.val / 64 ≤ r.val / 64 then ∑ e : Fin 128, X0 (ix3 0 r ⟨128 * hh.val + e.val, by omega⟩)
          * X1 (ix3 0 ⟨1024 * (i 2).val + j.val, by omega⟩ ⟨128 * hh.val + e.val, by omega⟩) else ⊥ := fun hh r j => by
    unfold sc
    rw [dif_pos (by omega)]
    by_cases hj : j.val / 64 ≤ r.val / 64
    · rw [if_pos (by omega), if_pos hj]
    · rw [if_neg (by omega), if_neg hj]
  have hvv : ∀ (hh : Fin 2) (l : Fin 128) (j : Fin 1024), vv X2 hh l (1024 * (i 2).val + j.val)
      = X2 (ix3 0 ⟨1024 * (i 2).val + j.val, by omega⟩ ⟨128 * hh.val + l.val, by omega⟩) := fun hh l j => by
    unfold vv
    rw [dif_pos (by omega)]
  have s0 : ∀ r j : Fin 1024, k0_pay34 (F := Ideal) b (k0_pay33 (F := Ideal) K q0) (⊥ : EReal) (ix2 r j)
      = sc X0 X1 (i 2).val 0 r (1024 * (i 2).val + j.val) := fun r j => by
    rw [pay34_apply, hsc, pay33_apply]
    simp only [hbm, hq0, fun j y => hK j y (by omega)]
    simp
  have s1 : ∀ r j : Fin 1024, k0_pay39 (F := Ideal) K b q1 (ix2 r j)
      = sc X0 X1 (i 2).val 1 r (1024 * (i 2).val + j.val) := fun r j => by
    rw [pay39_apply, hsc, pay17_apply]
    simp only [hbm, hq1, fun j y => hK j y (by omega)]
    simp
  -- the two heads' sums after the block
  have f0 : ∀ r l, arg8.view.readCov F8 (Rect.unit (s := S2x1024x128) ![0, 0, 0] S1x1024x128.size h0).toLoadRect (ix3 0 r l)
      = ws (sc X0 X1 (i 2).val 0 r) (vv X2 0 l) (1024 * ((i 2).val + 1)) := fun r l => by
    rw [View.readCov, readAt_at arg8.view _ _ _ (ix3 0 r l) rfl (by intro a; fin_cases a <;> simp), eF8, eN8, read_two, if_pos rfl,
      pay37_apply, va0]
    refine newAcc_ws _ _ (hX 0 r).1 (hX 0 r).2 _ _ _ (s0 r) (fun j => ?_) _ (fun l => vm0 r l) l
    rw [hvv, hV j _ (by omega)]
    simp
  have f1 : ∀ r l, arg8.view.readCov F8 (Rect.unit (s := S2x1024x128) ![1, 0, 0] S1x1024x128.size h1).toLoadRect (ix3 0 r l)
      = ws (sc X0 X1 (i 2).val 1 r) (vv X2 1 l) (1024 * ((i 2).val + 1)) := fun r l => by
    rw [View.readCov, readAt_at arg8.view _ _ _ (ix3 1 r l) rfl (by intro a; fin_cases a <;> simp), eF8, eN8, read_two,
      if_neg (by decide)]
    rw [pay43_41, va1]
    refine newAcc_ws _ _ (hX 1 r).1 (hX 1 r).2 _ _ _ (s1 r) (fun j => ?_) _ (fun l => vm1 r l) l
    rw [hvv, hV j _ (by omega)]
    simp
  rw [pay45_apply, f0, f0, f1, f1]
  rfl

end

/-! ## The block of a grid point -/

theorem hz3 : (![0, 0, 0] : Fin 3 → ℕ) = fun _ => 0 := funext fun a => by fin_cases a <;> rfl

theorem out_value (c : Dev nD) (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x1024x128 .bf16) (harg6 : arg6.IsWhole) (arg7 : Memref sig .tc .vmem S2x1024x128 .f32) (harg7 : arg7.IsWhole) (arg8 : Memref sig .tc .vmem S2x1024x128 .f32) (harg8 : arg8.IsWhole)
    (X0 : FVec Ideal S1x1024x256 .bf16) (X1 X2 : FVec Ideal S1x4096x256 .bf16) (hX : Sane X0 X1 (i 2).val) (r : Fin 1024) (l : Fin 128) :
    out0_A_3 (F := Ideal) c i arg3 harg3 arg4 harg4 arg5 harg5 arg6 harg6 arg7 harg7 arg8 harg8 X0 X1 X2 (ix3 0 r l)
      = outBlk X0 X1 X2 (i 2).val r l := by
  have hi : (i 2).val < 4 := (i 2).isLt
  unfold out0_A_3
  rw [View.read_writes_eq_canon _ _ _ (cover0_A_3 (F := Ideal) c i arg3 harg3 arg4 harg4 arg5 harg5 arg6 harg6 arg7 harg7 arg8 harg8 X0 X1 X2)]
  unfold kernelRun0_A
  dsimp only
  rw [View.canon_unit_zero hz3]
  unfold kernelRun0_A.sl.r_7 kernelRun0_A.sl.v133 kernelRun0_A.sl.v138
  -- the buffers before the diagonal
  have start : Held X0 X1 X2 (i 2).val 0
      (arg7.view.read (Elt Ideal) (arg7.view.writes (Elt Ideal) arg7.view.junk (kernelRun0_A.sl.HS0_1 (F := Ideal))))
      (arg8.view.read (Elt Ideal) (arg8.view.writes (Elt Ideal) arg8.view.junk (kernelRun0_A.sl.HS1_1 (F := Ideal)))) := fun hh r l => by
    constructor
    · unfold kernelRun0_A.sl.HS0_1
      rw [read_one]
      exact pay14_apply _
    · unfold kernelRun0_A.sl.HS1_1
      rw [read_one]
      exact pay15_apply _
  have lp := loop_held c i arg3 harg3 arg4 harg4 arg5 harg5 arg6 harg6 arg7 harg7 arg8 harg8 X0 X1 X2 hX _ _ start (i 2).val le_rfl
  have t1 : Scf.trips (k0_t1_loop i).lb (k0_t1_loop i).ub (k0_t1_loop i).st = (i 2).val := trips1 i
  have t2 : Scf.trips (k0_t2_loop i).lb (k0_t2_loop i).ub (k0_t2_loop i).st = 0 := trips2 i
  refine diag_value i arg7 arg8 X0 X1 X2 hX _ _ ?_ (kernelRun0_A.sl.r (F := Ideal) i arg4 harg4 X1)
    (kernelRun0_A.sl.r_1 (F := Ideal) i arg5 harg5 X2)
    (arg3.view.readAt (Elt Ideal) (Rect.unit (s := S1x1024x256) ![0, 0, 0] S1x1024x128.size inb_S1x1024x256_S1x1024x128_0_0_0).toLoadRect (harg3.unread X0))
    (arg3.view.readAt (Elt Ideal) (Rect.unit (s := S1x1024x256) ![0, 0, 128] S1x1024x128.size inb_S1x1024x256_S1x1024x128_0_0_128).toLoadRect (harg3.unread X0))
    kernelRun0_A.sl.r_2 _ _ ?_ ?_ ?_ ?_ ?_
    (kernelRun0_A.sl.v78 (F := Ideal) c i arg3 harg3 arg4 harg4 arg5 harg5 arg6 harg6 arg7 harg7 arg8 harg8 X0 X1 X2)
    (kernelRun0_A.sl.v90 (F := Ideal) c i arg3 harg3 arg4 harg4 arg5 harg5 arg6 harg6 arg7 harg7 arg8 harg8 X0 X1 X2)
    (kernelRun0_A.sl.v108 (F := Ideal) c i arg3 harg3 arg4 harg4 arg5 harg5 arg6 harg6 arg7 harg7 arg8 harg8 X0 X1 X2)
    (kernelRun0_A.sl.v120 (F := Ideal) c i arg3 harg3 arg4 harg4 arg5 harg5 arg6 harg6 arg7 harg7 arg8 harg8 X0 X1 X2)
    (kernelRun0_A.sl.HS0_1_1 (F := Ideal) c i arg3 harg3 arg4 harg4 arg5 harg5 arg6 harg6 arg7 harg7 arg8 harg8 X0 X1 X2)
    (kernelRun0_A.sl.HS1_1_1 (F := Ideal) c i arg3 harg3 arg4 harg4 arg5 harg5 arg6 harg6 arg7 harg7 arg8 harg8 X0 X1 X2)
    _ rfl rfl rfl rfl rfl rfl rfl r l
  · rw [t2]
    simp only [pb_k0_t2, List.nil_append]
    rw [View.writes_append, View.writes_append, t1]
    exact lp
  · intro j y hj
    unfold kernelRun0_A.sl.r
    rw [pay28_apply, readAt_at arg4.view _ _ _ (ix3 0 ⟨1024 * (i 2).val + j.val, hj⟩ y) (off3 i) (by intro a; fin_cases a <;> simp), harg4.read_unread]
  · intro j y hj
    unfold kernelRun0_A.sl.r_1
    rw [pay29_apply, readAt_at arg5.view _ _ _ (ix3 0 ⟨1024 * (i 2).val + j.val, hj⟩ y) (off3 i) (by intro a; fin_cases a <;> simp), harg5.read_unread]
  · intro r e
    rw [readAt_at arg3.view _ _ _ (ix3 0 r ⟨128 * (0 : Fin 2).val + e.val, by simp; omega⟩) rfl (by intro a; fin_cases a <;> simp), harg3.read_unread]
  · intro r e
    rw [readAt_at arg3.view _ _ _ (ix3 0 r ⟨128 * (1 : Fin 2).val + e.val, by simp; omega⟩) rfl (by intro a; fin_cases a <;> simp), harg3.read_unread]
  · intro r j
    exact pay32_apply r j

end Cert.KernelIdeal.Attn

end
-- ==== Proof.Sub.Host.lean ====
/- What the host's operations hand to the call: the queries scaled, padded and their lanes permuted, the keys padded and
   permuted, the values padded with a lane of ones. -/
module

public import proofs.«01_k».proof.Proof.Gen.KernelIdeal.Frame
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.ShloMosaic.StableHlo

/-- The lane permutation as the host's table of start indices. -/
def lanes : IVec S128x1 32 :=
  broadcastInDim S128x1 ![0] bcast_S128_S128x1_0 (select (constantI S128 1 0#1)
    (addi (fun i => lit0 (S128.rowMajor i)) (broadcastInDim S128 ![] bcast_S_S128 (constantI S_ 32 128#32))) (fun i => lit0 (S128.rowMajor i)))

/-- The queries as the call takes them. -/
def qArr (A : FVec Ideal S16x4096x16x96 .f32) : FVec Ideal S16x4096x2048 .bf16 :=
  shapeCast _ (Host.gather gather_S16x4096x16x128_S128x1_S16x4096x16x128_012_3_n_n_3_1_164096161
    (shapeCast _ (truncf .bf16 (shapeCast _ (pad S16x4096x16x128 ![0, 0, 0, 0] ![0, 0, 0, 32] ![0, 0, 0, 0]
      (shapeCast _ (shapeCast S16x4096x1536 (mulf A (broadcastInDim S16x4096x16x96 ![] bcast_S_S16x4096x16x96 (constant S_ .f32 0x3DD105EC#32)))
        shapeCasts_S16x4096x16x96_S16x4096x1536) shapeCasts_S16x4096x1536_S16x4096x16x96)
      (sitofp .f32 (constantI S_ 32 0#32)) pads_S16x4096x16x96_S16x4096x16x128_000_000_000_0320 h_S_)
      shapeCasts_S16x4096x16x128_S16x4096x2048) bitsLt_bf16_f32) shapeCasts_S16x4096x2048_S16x4096x16x128) lanes)
    shapeCasts_S16x4096x16x128_S16x4096x2048

/-- The keys as the call takes them. -/
def kArr (A : FVec Ideal S16x4096x16x96 .f32) : FVec Ideal S16x4096x2048 .bf16 :=
  shapeCast _ (Host.gather gather_S16x4096x16x128_S128x1_S16x4096x16x128_012_3_n_n_3_1_164096161
    (shapeCast _ (truncf .bf16 (shapeCast _ (pad S16x4096x16x128 ![0, 0, 0, 0] ![0, 0, 0, 32] ![0, 0, 0, 0]
      (shapeCast _ (shapeCast S16x4096x1536 A
        shapeCasts_S16x4096x16x96_S16x4096x1536) shapeCasts_S16x4096x1536_S16x4096x16x96)
      (sitofp .f32 (constantI S_ 32 0#32)) pads_S16x4096x16x96_S16x4096x16x128_000_000_000_0320 h_S_)
      shapeCasts_S16x4096x16x128_S16x4096x2048) bitsLt_bf16_f32) shapeCasts_S16x4096x2048_S16x4096x16x128) lanes)
    shapeCasts_S16x4096x16x128_S16x4096x2048

/-- The row with a one in each head's lane 64. -/
def ones : FVec Ideal S1x2048 .f32 := fun i => FloatOps.ofBits .f32 (lit2 (S1x2048.rowMajor i))

/-- The values as the call takes them. -/
def vArr (A : FVec Ideal S16x4096x16x64 .f32) : FVec Ideal S16x4096x2048 .bf16 :=
  truncf .bf16 (addf (shapeCast _ (pad S16x4096x16x128 ![0, 0, 0, 0] ![0, 0, 0, 64] ![0, 0, 0, 0]
      (shapeCast _ (shapeCast S16x4096x1024 A
        shapeCasts_S16x4096x16x64_S16x4096x1024) shapeCasts_S16x4096x1024_S16x4096x16x64)
      (sitofp .f32 (constantI S_ 32 0#32)) pads_S16x4096x16x64_S16x4096x16x128_000_000_000_0640 h_S_)
      shapeCasts_S16x4096x16x128_S16x4096x2048)
    (broadcastInDim S16x4096x2048 ![0, 1, 2] bcast_S1x1x2048_S16x4096x2048_0_1_2
      (broadcastInDim S1x1x2048 ![1, 2] bcast_S1x2048_S1x1x2048_1_2 ones))) bitsLt_bf16_f32

variable (m : (ℓ : Loc nD τ sig) → Buf (Elt Ideal) ℓ) (c : Dev nD)

theorem V_q : (V m c main_v18 : FVec Ideal S16x4096x2048 .bf16) = qArr (m ((c : Thread nD τ).loc main_arg0)) := by
  show after _ _ _ = _
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp <;> rfl

theorem V_k : (V m c main_v25 : FVec Ideal S16x4096x2048 .bf16) = kArr (m ((c : Thread nD τ).loc main_arg1)) := by
  show after _ _ _ = _
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp <;> rfl

theorem V_v : (V m c main_v33 : FVec Ideal S16x4096x2048 .bf16) = vArr (m ((c : Thread nD τ).loc main_arg2)) := by
  show after _ _ _ = _
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp <;> rfl

end Cert.KernelIdeal.Attn

end
-- ==== Proof.Sub.HostRead.lean ====
/- The call's arguments read at an index: head `h`'s lanes are the lanes `128 h … 128 h + 127`. -/
module

public import proofs.«01_k».proof.Proof.Sub.Host
public import Idealize.ShloMosaic.Lib.Pipeline.Value

@[expose] public section

set_option maxRecDepth 16384

noncomputable section

namespace Cert.KernelIdeal.Attn

open Cert.KernelIdeal Cert.KernelIdeal.Gen Idealize.ShloMosaic Idealize.ShloMosaic.TcCoe

/-- The lane that lane `x` reads. -/
def lane (x : Fin 128) : Fin 128 := ⟨min (lit0 x).toInt.toNat 127, by omega⟩

theorem lane_bij : Function.Bijective lane := by
  rw [Fintype.bijective_iff_injective_and_card]
  refine ⟨?_, rfl⟩
  unfold Function.Injective
  decide +kernel

theorem rowMajor_one (x : Fin 128) : S128.rowMajor (ix1 x) = x := by
  apply Fin.ext
  rw [Shape.rowMajor_val_one]
  rfl

theorem lanes_apply (x : Fin 128) : lanes (ix2 x 0) = lit0 x := by
  unfold lanes
  pointwise
  rw [rowMajor_one]

theorem gather_apply (X : FVec Ideal S16x4096x16x128 .bf16) (b : Fin 16) (t : Fin 4096) (h : Fin 16) (x : Fin 128) :
    Host.gather gather_S16x4096x16x128_S128x1_S16x4096x16x128_012_3_n_n_3_1_164096161 X lanes (ix4 b t h x) = X (ix4 b t h (lane x)) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  have hs : a ≠ 3 → GatherDims.start gather_S16x4096x16x128_S128x1_S16x4096x16x128_012_3_n_n_3_1_164096161 (ix4 b t h x) lanes a = 0 := fun ha => by
    unfold GatherDims.start
    rw [dif_neg]
    exact fun hm => ha (List.mem_singleton.mp hm)
  have h4 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h4 with rfl | rfl | rfl | rfl
  · rw [hs (by decide)]
    simp only [Nat.zero_add]
    rfl
  · rw [hs (by decide)]
    simp only [Nat.zero_add]
    rfl
  · rw [hs (by decide)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (3 : Fin 4) ∈ gather_S16x4096x16x128_S128x1_S16x4096x16x128_012_3_n_n_3_1_164096161.startIndexMap from List.mem_singleton.mpr rfl)]
    have hsi : gather_S16x4096x16x128_S128x1_S16x4096x16x128_012_3_n_n_3_1_164096161.siIdx (ix4 b t h x)
        ⟨List.idxOf (3 : Fin 4) gather_S16x4096x16x128_S128x1_S16x4096x16x128_012_3_n_n_3_1_164096161.startIndexMap,
        List.idxOf_lt_length_iff.2 (List.mem_singleton.mpr rfl)⟩ = ix2 x 0 := by
      funext b; refine Fin.ext ?_
      match b with
      | ⟨0, _⟩ => rfl
      | ⟨1, _⟩ => rfl
    rw [hsi, lanes_apply]
    rfl

theorem cast_flat {α : Type} (X : S16x4096x16x128.Idx → α) (b : Fin 16) (t : Fin 4096) (h : Fin 16) (x : Fin 128) (n : Fin 2048)
    (hn : n.val = 128 * h.val + x.val) :
    shapeCast S16x4096x2048 X shapeCasts_S16x4096x16x128_S16x4096x2048 (ix3 b t n) = X (ix4 b t h x) := by
  refine shapeCast_apply _ _ _ _ ?_
  rw [Shape.rowMajor_val_four, Shape.rowMajor_val_three]
  show ((b.val * 4096 + t.val) * 16 + h.val) * 128 + x.val = (b.val * 4096 + t.val) * 2048 + n.val
  omega

theorem zero_word : sitofp (F := Ideal) .f32 (constantI S_ 32 0#32) (Shape.Idx.first h_S_) = 0 := by
  show (((0#32 : BitVec 32).toInt : ℝ) : EReal) = 0
  simp

theorem pad_q (X : FVec Ideal S16x4096x16x96 .f32) (b : Fin 16) (t : Fin 4096) (h : Fin 16) (x : Fin 128) :
    pad S16x4096x16x128 ![0, 0, 0, 0] ![0, 0, 0, 32] ![0, 0, 0, 0] X (sitofp (F := Ideal) .f32 (constantI S_ 32 0#32))
      pads_S16x4096x16x96_S16x4096x16x128_000_000_000_0320 h_S_ (ix4 b t h x)
      = if hx : x.val < 96 then X (ix4 b t h ⟨x.val, hx⟩) else (0 : EReal) := by
  by_cases hx : x.val < 96
  · rw [dif_pos hx]
    refine (dif_pos ?_).trans ?_
    · intro a
      match a with
      | ⟨0, _⟩ => exact ⟨Nat.zero_le _, Nat.mod_one _, by show (b.val - 0) / 1 < 16; omega⟩
      | ⟨1, _⟩ => exact ⟨Nat.zero_le _, Nat.mod_one _, by show (t.val - 0) / 1 < 4096; omega⟩
      | ⟨2, _⟩ => exact ⟨Nat.zero_le _, Nat.mod_one _, by show (h.val - 0) / 1 < 16; omega⟩
      | ⟨3, _⟩ => exact ⟨Nat.zero_le _, Nat.mod_one _, by show (x.val - 0) / 1 < 96; omega⟩
    · congr 1
      funext a
      apply Fin.ext
      match a with
      | ⟨0, _⟩ => exact Nat.div_one _
      | ⟨1, _⟩ => exact Nat.div_one _
      | ⟨2, _⟩ => exact Nat.div_one _
      | ⟨3, _⟩ => exact Nat.div_one _
  · rw [dif_neg hx]
    refine (dif_neg ?_).trans zero_word
    intro hh
    have := (hh 3).2.2
    have h2 : (x.val - 0) / 1 < 96 := this
    omega

theorem pad_v (X : FVec Ideal S16x4096x16x64 .f32) (b : Fin 16) (t : Fin 4096) (h : Fin 16) (x : Fin 128) :
    pad S16x4096x16x128 ![0, 0, 0, 0] ![0, 0, 0, 64] ![0, 0, 0, 0] X (sitofp (F := Ideal) .f32 (constantI S_ 32 0#32))
      pads_S16x4096x16x64_S16x4096x16x128_000_000_000_0640 h_S_ (ix4 b t h x)
      = if hx : x.val < 64 then X (ix4 b t h ⟨x.val, hx⟩) else (0 : EReal) := by
  by_cases hx : x.val < 64
  · rw [dif_pos hx]
    refine (dif_pos ?_).trans ?_
    · intro a
      match a with
      | ⟨0, _⟩ => exact ⟨Nat.zero_le _, Nat.mod_one _, by show (b.val - 0) / 1 < 16; omega⟩
      | ⟨1, _⟩ => exact ⟨Nat.zero_le _, Nat.mod_one _, by show (t.val - 0) / 1 < 4096; omega⟩
      | ⟨2, _⟩ => exact ⟨Nat.zero_le _, Nat.mod_one _, by show (h.val - 0) / 1 < 16; omega⟩
      | ⟨3, _⟩ => exact ⟨Nat.zero_le _, Nat.mod_one _, by show (x.val - 0) / 1 < 64; omega⟩
    · congr 1
      funext a
      apply Fin.ext
      match a with
      | ⟨0, _⟩ => exact Nat.div_one _
      | ⟨1, _⟩ => exact Nat.div_one _
      | ⟨2, _⟩ => exact Nat.div_one _
      | ⟨3, _⟩ => exact Nat.div_one _
  · rw [dif_neg hx]
    refine (dif_neg ?_).trans zero_word
    intro hh
    have := (hh 3).2.2
    have h2 : (x.val - 0) / 1 < 64 := this
    omega

/-- The word of the query's scale, 96 to the power −1/2 rounded. -/
def scale : EReal := Ideal.ofBits .f32 0x3DD105EC#32

/-- A change of format between a reshape and its inverse: the array again. -/
theorem cast_back {s t : Shape} (X : FVec Ideal s .f32) (h : s.ShapeCasts t) (h' : t.ShapeCasts s) :
    shapeCast s (truncf (F := Ideal) .bf16 (shapeCast t X h) bitsLt_bf16_f32) h' = X :=
  (show shapeCast s (truncf (F := Ideal) .bf16 (shapeCast t X h) bitsLt_bf16_f32) h' = shapeCast s (shapeCast t X h) h' from rfl).trans
    (shapeCast_shapeCast X h h')

theorem kArr_apply (A : FVec Ideal S16x4096x16x96 .f32) (b : Fin 16) (t : Fin 4096) (h : Fin 16) (x : Fin 128) (n : Fin 2048)
    (hn : n.val = 128 * h.val + x.val) :
    kArr A (ix3 b t n) = if hx : (lane x).val < 96 then A (ix4 b t h ⟨(lane x).val, hx⟩) else (0 : EReal) := by
  unfold kArr
  rw [cast_flat _ b t h x n hn, gather_apply]
  simp only [shapeCast_comp, shapeCast_id]
  refine Eq.trans ?_ (pad_q A b t h (lane x))
  refine congrFun (?_ : _ = (_ : S16x4096x16x128.Idx → EReal)) (ix4 b t h (lane x))
  exact cast_back _ shapeCasts_S16x4096x16x128_S16x4096x2048 shapeCasts_S16x4096x2048_S16x4096x16x128

theorem qArr_eq (A : FVec Ideal S16x4096x16x96 .f32) :
    qArr A = kArr (mulf A (broadcastInDim S16x4096x16x96 ![] bcast_S_S16x4096x16x96 (constant S_ .f32 0x3DD105EC#32))) := rfl

theorem qArr_apply (A : FVec Ideal S16x4096x16x96 .f32) (b : Fin 16) (t : Fin 4096) (h : Fin 16) (x : Fin 128) (n : Fin 2048)
    (hn : n.val = 128 * h.val + x.val) :
    qArr A (ix3 b t n) = if hx : (lane x).val < 96 then A (ix4 b t h ⟨(lane x).val, hx⟩) * scale else (0 : EReal) := by
  rw [qArr_eq, kArr_apply _ b t h x n hn]
  rfl

theorem row_one (n : Fin 2048) : S1x2048.rowMajor (ix2 0 n) = n := by
  apply Fin.ext
  rw [Shape.rowMajor_val_two]
  show 0 * 2048 + n.val = n.val
  omega

theorem lit2_lane : ∀ n : Fin 2048, lit2 n = if n.val % 128 = 64 then 0x3F800000#32 else 0x00000000#32 := by
  decide +kernel

theorem one_word : Ideal.ofBits .f32 0x3F800000#32 = 1 := by
  simp [Ideal.ofBits, Ideal.ieee, -EReal.coe_mul]
  norm_num
theorem zero_bits : Ideal.ofBits .f32 0x00000000#32 = 0 := by
  simp [Ideal.ofBits, Ideal.ieee, -EReal.coe_mul]

theorem ones_apply (n : Fin 2048) : ones (ix2 0 n) = if n.val % 128 = 64 then (1 : EReal) else 0 := by
  unfold ones
  rw [row_one, lit2_lane]
  split
  · exact one_word
  · exact zero_bits

end Cert.KernelIdeal.Attn

end
-- ==== Proof.Sub.HostVal.lean ====
/- The values' array read at an index. -/
module

public import proofs.«01_k».proof.Proof.Sub.HostRead

@[expose] public section

set_option maxRecDepth 16384

noncomputable section

namespace Cert.KernelIdeal.Attn

open Cert.KernelIdeal Cert.KernelIdeal.Gen Idealize.ShloMosaic Idealize.ShloMosaic.TcCoe

theorem row_apply (o : FVec Ideal S1x2048 .f32) (b : Fin 16) (t : Fin 4096) (n : Fin 2048) :
    broadcastInDim S16x4096x2048 ![0, 1, 2] bcast_S1x1x2048_S16x4096x2048_0_1_2
      (broadcastInDim S1x1x2048 ![1, 2] bcast_S1x2048_S1x1x2048_1_2 o) (ix3 b t n) = o (ix2 0 n) := by
  pointwise

theorem sum_apply (X Y : FVec Ideal S16x4096x2048 .f32) (j : S16x4096x2048.Idx) :
    truncf (F := Ideal) .bf16 (addf X Y) bitsLt_bf16_f32 j = (X j + Y j : EReal) := rfl

theorem flat_v (A : FVec Ideal S16x4096x16x64 .f32) :
    shapeCast S16x4096x16x64 (shapeCast S16x4096x1024 A shapeCasts_S16x4096x16x64_S16x4096x1024) shapeCasts_S16x4096x1024_S16x4096x16x64 = A :=
  shapeCast_shapeCast A _ _

theorem vArr_apply (A : FVec Ideal S16x4096x16x64 .f32) (b : Fin 16) (t : Fin 4096) (h : Fin 16) (x : Fin 128) (n : Fin 2048)
    (hn : n.val = 128 * h.val + x.val) :
    vArr A (ix3 b t n) = if hx : x.val < 64 then A (ix4 b t h ⟨x.val, hx⟩) else if x.val = 64 then (1 : EReal) else 0 := by
  have e2 : (n.val % 128 = 64) = (x.val = 64) := by
    apply propext; omega
  unfold vArr
  rw [sum_apply, row_apply, cast_flat _ b t h x n hn, pad_v, ones_apply, flat_v]
  simp only [e2]
  by_cases hx : x.val < 64
  · rw [dif_pos hx, dif_pos hx, if_neg (by omega), add_zero]
  · rw [dif_neg hx, dif_neg hx, zero_add]

end Cert.KernelIdeal.Attn

end
-- ==== Proof.Sub.Ref.lean ====
/- The reference read at an index: the softmax over all key positions, the masked ones at −∞, then the values' sum. -/
module

public import proofs.«01_k».proof.Proof.Gen.ReferenceIdeal.Run
public import Idealize.ShloMosaic.Lib.Pointwise
public import Idealize.ShloMosaic.Lib.Pipeline.Value

@[expose] public section

set_option maxRecDepth 16384

noncomputable section

namespace Cert.ReferenceIdeal.Attn

open Cert.ReferenceIdeal Cert.ReferenceIdeal.Gen Idealize.ShloMosaic Idealize.ShloMosaic.TcCoe

/-- Each position's chunk. -/
def chunk : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- Which keys a query sees. -/
def seen : IVec S16x16x4096x4096 1 :=
  broadcastInDim S16x16x4096x4096 ![0, 1, 2, 3] bcast_S1x1x4096x4096_S16x16x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 chunk)) (broadcastInDim S4096x4096 ![0, 1] bcast_S4096x1_S4096x4096_0_1 (broadcastInDim S4096x1 ![0] bcast_S4096_S4096x1_0 chunk))))

/-- The masked scores. -/
def score (Q K : FVec Ideal S16x4096x16x96 .f32) : FVec Ideal S16x16x4096x4096 .f32 :=
  select seen (mulf (Host.dotGeneral dot_S16x4096x16x96_S16x4096x16x96_S16x16x4096x4096_3_3_1_1_02_02 none Q K) (broadcastInDim S16x16x4096x4096 ![] bcast_S_S16x16x4096x4096 (constant S_ .f32 0x3DD105EC#32))) (broadcastInDim S16x16x4096x4096 ![] bcast_S_S16x16x4096x4096 (id (constant S_ .f32 0xFF800000#32)))

/-- A row's largest score. -/
def top (S : FVec Ideal S16x16x4096x4096 .f32) : FVec Ideal S16x16x4096 .f32 :=
  maximumf (broadcastInDim S16x16x4096 ![] bcast_S_S16x16x4096 (constant S_ .f32 0xFF800000#32)) (Host.reduce FloatOps.maximumf S (constant S_ .f32 0xFF800000#32) reducesTo_S16x16x4096x4096_S16x16x4096_d3 h_S_)

/-- The exponentials. -/
def expo (S : FVec Ideal S16x16x4096x4096 .f32) : FVec Ideal S16x16x4096x4096 .f32 :=
  Host.exp (subf S (broadcastInDim S16x16x4096x4096 ![0, 1, 2, 3] bcast_S16x16x4096x1_S16x16x4096x4096_0_1_2_3 (broadcastInDim S16x16x4096x1 ![0, 1, 2] bcast_S16x16x4096_S16x16x4096x1_0_1_2 (top S))))

/-- The softmax. -/
def prob (E : FVec Ideal S16x16x4096x4096 .f32) : FVec Ideal S16x16x4096x4096 .f32 :=
  Host.divf E (broadcastInDim S16x16x4096x4096 ![0, 1, 2, 3] bcast_S16x16x4096x1_S16x16x4096x4096_0_1_2_3 (broadcastInDim S16x16x4096x1 ![0, 1, 2] bcast_S16x16x4096_S16x16x4096x1_0_1_2 (Host.reduceAdd E (constant S_ .f32 0x00000000#32) reducesTo_S16x16x4096x4096_S16x16x4096_d3 h_S_)))

/-- The result. -/
def result (Q K : FVec Ideal S16x4096x16x96 .f32) (W : FVec Ideal S16x4096x16x64 .f32) : FVec Ideal S16x4096x1024 .bf16 :=
  truncf .bf16 (shapeCast _ (transpose S16x4096x16x64 [0, 3, 1, 2] (Host.dotGeneral dot_S16x4096x16x64_S16x16x4096x4096_S16x16x64x4096_1_3_3_2_02_01 none W (prob (expo (score Q K)))) transposes_S16x16x64x4096_S16x4096x16x64_0_3_1_2) shapeCasts_S16x4096x16x64_S16x4096x1024) bitsLt_bf16_f32

theorem res_eq (m : (ℓ : Loc nD τ sig) → Buf (Elt Ideal) ℓ) (c : Dev nD) :
    Value.res_main_v26 (F := Ideal) m c = result (m ((c.tc : Thread nD τ).loc main_arg0)) (m ((c.tc : Thread nD τ).loc main_arg1)) (m ((c.tc : Thread nD τ).loc main_arg2)) := rfl

/-- A word's sign as the reference spells it. -/
def signWord (u : BitVec 32) : BitVec 32 := if u = 0 then 0 else if u.msb = true then -1 else 1

/-- One word's floor quotient by 64 as the reference spells it. -/
def floorWord (u : BitVec 32) : BitVec 32 :=
  Scalar.select
    (IntOp.andi (IntOp.cmpi CmpIPredicate.ne (signWord u) (signWord 64#32))
      (IntOp.cmpi CmpIPredicate.ne (IntOp.remsi ArithUnit.host u 64#32) 0#32))
    (IntOp.subi (IntOp.divsi ArithUnit.host u 64#32) 1#32) (IntOp.divsi ArithUnit.host u 64#32)

theorem floorWord_eq : ∀ x : Fin 4096, floorWord (BitVec.ofNat 32 x.val) = BitVec.ofNat 32 (x.val / 64) := by
  decide +kernel

theorem chunk_apply (x : Fin 4096) : chunk (ix1 x) = BitVec.ofNat 32 (x.val / 64) := by
  rw [← floorWord_eq]
  unfold chunk
  pointwise
  rfl

theorem sle64 : ∀ x y : Fin 64, IntOp.cmpi CmpIPredicate.sle (BitVec.ofNat 32 x.val) (BitVec.ofNat 32 y.val) = if x.val ≤ y.val then 1#1 else 0#1 := by
  decide +kernel

theorem seen_apply (b h : Fin 16) (t κ : Fin 4096) : seen (ix4 b h t κ) = if κ.val / 64 ≤ t.val / 64 then 1#1 else 0#1 := by
  unfold seen
  pointwise [chunk_apply]
  exact sle64 ⟨κ.val / 64, by omega⟩ ⟨t.val / 64, by omega⟩

theorem bot_word : Ideal.ofBits .f32 0xFF800000#32 = ⊥ := by simp [Ideal.ofBits, Ideal.ieee]

theorem score_apply (Q K : FVec Ideal S16x4096x16x96 .f32) (b h : Fin 16) (t κ : Fin 4096) :
    score Q K (ix4 b h t κ) = if κ.val / 64 ≤ t.val / 64 then
      (∑ e : Fin 96, Q (ix4 b t h e) * K (ix4 b κ h e)) * Ideal.ofBits .f32 0x3DD105EC#32 else (⊥ : EReal) := by
  unfold score
  pointwise [seen_apply]
  by_cases hh : κ.val / 64 ≤ t.val / 64
  · rw [if_pos hh, if_pos hh]
    rfl
  · rw [if_neg hh, if_neg hh]
    exact bot_word

theorem fold_row {a b c d : ℕ} {u : Shape} (S : FVec Ideal ⟨4, ![a, b, c, d]⟩ .f32) (h : (⟨4, ![a, b, c, d]⟩ : Shape).ReducesTo [3] ⟨3, ![a, b, c]⟩)
    (v : u.Idx → EReal) (hu : 0 < u.numel) (i : Fin a) (j : Fin b) (k : Fin c) :
    Host.reduce (FloatOps.maximumf (F := Ideal) (φ := .f32)) S v h hu (ix3 i j k)
      = Finset.univ.fold max (v (Shape.Idx.first hu)) fun κ : Fin d => S (ix4 i j k κ) :=
  (Host.reduce_eq_fold (FloatOps.maximumf (F := Ideal) (φ := .f32)) S v h hu (ix3 i j k)).trans (h.fold_fiber_r4_a3 (ix3 i j k) _ _ S)

theorem fold_sup {d : ℕ} (f : Fin d → EReal) : Finset.univ.fold max ⊥ f = Finset.univ.sup f := rfl

theorem max_apply {s : Shape} (X Y : FVec Ideal s .f32) (j : s.Idx) : maximumf X Y j = (max (X j) (Y j) : EReal) := rfl

theorem const_apply {s : Shape} (w : BitVec 32) (j : s.Idx) : constant (F := Ideal) s .f32 w j = (Ideal.ofBits .f32 w : EReal) := rfl

theorem spread_apply {s t : Shape} (dims : Fin s.rank → Fin t.rank) (h : s.BroadcastsInDim t dims) (w : BitVec 32) (j : t.Idx) :
    broadcastInDim t dims h (constant (F := Ideal) s .f32 w) j = (Ideal.ofBits .f32 w : EReal) := rfl

theorem top_apply (S : FVec Ideal S16x16x4096x4096 .f32) (b h : Fin 16) (t : Fin 4096) :
    top S (ix3 b h t) = Finset.univ.sup fun κ : Fin 4096 => S (ix4 b h t κ) := by
  unfold top
  rw [max_apply, spread_apply, fold_row, const_apply, bot_word, max_eq_right bot_le, fold_sup]

theorem expo_apply (S : FVec Ideal S16x16x4096x4096 .f32) (b h : Fin 16) (t κ : Fin 4096) :
    expo S (ix4 b h t κ) = Ideal.exp (S (ix4 b h t κ) - top S (ix3 b h t)) := by
  unfold expo
  pointwise

theorem prob_apply (E : FVec Ideal S16x16x4096x4096 .f32) (b h : Fin 16) (t κ : Fin 4096) :
    prob E (ix4 b h t κ) = Ideal.div (E (ix4 b h t κ)) (∑ i : Fin 4096, E (ix4 b h t i)) := by
  unfold prob
  pointwise

theorem result_apply (Q K : FVec Ideal S16x4096x16x96 .f32) (W : FVec Ideal S16x4096x16x64 .f32) (b h : Fin 16) (t : Fin 4096) (l : Fin 64)
    (n : Fin 1024) (hn : n.val = 64 * h.val + l.val) :
    result Q K W (ix3 b t n) = ∑ κ : Fin 4096, W (ix4 b κ h l) * prob (expo (score Q K)) (ix4 b h t κ) := by
  unfold result
  pointwise
  have e1 : (⟨n.val / 64, by omega⟩ : Fin 16) = h := Fin.ext (by show n.val / 64 = h.val; omega)
  have e2 : (⟨n.val % 64, by omega⟩ : Fin 64) = l := Fin.ext (by show n.val % 64 = l.val; omega)
  rw [e1, e2]

end Cert.ReferenceIdeal.Attn

end
-- ==== Proof.Sub.Bridge.lean ====
/- The block a grid point writes is the reference's result there: for queries and keys that are real numbers. -/
module

public import proofs.«01_k».proof.Proof.Sub.Block
public import proofs.«01_k».proof.Proof.Sub.HostVal
public import proofs.«01_k».proof.Proof.Sub.Ref

@[expose] public section

set_option maxRecDepth 16384

noncomputable section

namespace Cert.KernelIdeal.Attn

open Cert.KernelIdeal Cert.KernelIdeal.Gen Idealize.ShloMosaic Idealize.ShloMosaic.TcCoe Cert.Softmax
open Cert.ReferenceIdeal.Attn (score result top expo prob score_apply top_apply expo_apply prob_apply result_apply)

/-- Summing over the arranged lanes, the filled ones only, is summing over the 96 coordinates. -/
theorem sum_lanes (g : Fin 96 → EReal) :
    (∑ e : Fin 128, if hx : (lane e).val < 96 then g ⟨(lane e).val, hx⟩ else 0) = ∑ e : Fin 96, g e := by
  rw [Function.Bijective.sum_comp lane_bij (fun x : Fin 128 => if hx : x.val < 96 then g ⟨x.val, hx⟩ else 0),
    Fin.sum_univ_add (a := 96) (b := 32)]
  have h1 : ∀ i : Fin 96, (if hx : (Fin.castAdd 32 i).val < 96 then g ⟨(Fin.castAdd 32 i).val, hx⟩ else 0) = g i := fun i => by
    rw [dif_pos (show (Fin.castAdd 32 i).val < 96 from i.isLt)]
    rfl
  have h2 : ∀ i : Fin 32, (if hx : (Fin.natAdd 96 i).val < 96 then g ⟨(Fin.natAdd 96 i).val, hx⟩ else 0) = 0 := fun i => by
    rw [dif_neg]
    show ¬ 96 + i.val < 96
    omega
  simp only [h1, h2, Finset.sum_const_zero, add_zero]

theorem scale_real : ∃ s : ℝ, scale = (s : EReal) := by
  unfold scale
  simp [Ideal.ofBits, Ideal.ieee, -EReal.coe_mul]

/-- A sum of real numbers is a real number. -/
theorem sum_coe {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- Scaling the queries scales the scores. -/
theorem sum_scale (q k : Fin 96 → EReal) (hq : ∀ e, ∃ x : ℝ, q e = x) (hk : ∀ e, ∃ x : ℝ, k e = x) :
    ∑ e, (q e * scale) * k e = (∑ e, q e * k e) * scale := by
  obtain ⟨s, hs⟩ := scale_real
  choose a ha using hq
  choose b hb using hk
  simp only [ha, hb, hs, ← EReal.coe_mul, sum_coe]
  congr 1
  rw [Finset.sum_mul]
  exact Finset.sum_congr rfl fun e _ => by ring

theorem sum_real (q k : Fin 96 → EReal) (hq : ∀ e, ∃ x : ℝ, q e = x) (hk : ∀ e, ∃ x : ℝ, k e = x) :
    ∃ x : ℝ, (∑ e, q e * k e) * scale = x := by
  obtain ⟨s, hs⟩ := scale_real
  choose a ha using hq
  choose b hb using hk
  simp only [ha, hb, hs, ← EReal.coe_mul, sum_coe]
  exact ⟨_, rfl⟩

/-- The shares' sum over the first `N` positions, read over the positions themselves. -/
theorem shares_fin (N : ℕ) (s v : ℕ → EReal) (S P : Fin N → EReal) (hs : ∀ κ : Fin N, s κ.val = S κ) (hv : ∀ κ : Fin N, v κ.val = P κ) :
    ∑ j ∈ Finset.range N, Ideal.div (Ideal.exp (s j - mx s N)) (∑ i ∈ Finset.range N, Ideal.exp (s i - mx s N)) * v j
      = ∑ κ : Fin N, P κ * Ideal.div (Ideal.exp (S κ - Finset.univ.sup S)) (∑ i : Fin N, Ideal.exp (S i - Finset.univ.sup S)) := by
  have hm : mx s N = Finset.univ.sup S := by
    unfold mx
    rw [range_sup_fin, funext hs]
  rw [Finset.sum_range, Finset.sum_range, hm]
  simp only [hs, hv]
  exact Finset.sum_congr rfl fun κ _ => mul_comm _ _

/-- The weighted sum takes the values' first `n` only. -/
theorem ws_congr (s v w : ℕ → EReal) (n : ℕ) (h : ∀ j, j < n → v j = w j) : ws s v n = ws s w n := by
  unfold ws
  exact Finset.sum_congr rfl fun j hj => by rw [h j (Finset.mem_range.mp hj)]

section

variable (Q K : FVec Ideal S16x4096x16x96 .f32) (W : FVec Ideal S16x4096x16x64 .f32)
  (X0 : FVec Ideal S1x1024x256 .bf16) (X1 X2 : FVec Ideal S1x4096x256 .bf16) (b : Fin 16) (hp : Fin 8) (i2 : Fin 4)

/-- The block's score at a key position is the reference's; past the last position it is `⊥`. -/
theorem sc_score (hQ : ∀ j, ∃ x : ℝ, Q j = x) (hK : ∀ j, ∃ x : ℝ, K j = x)
    (h0 : ∀ (r : Fin 1024) (y : Fin 256), X0 (ix3 0 r y) = qArr Q (ix3 b ⟨1024 * i2.val + r.val, by omega⟩ ⟨256 * hp.val + y.val, by omega⟩))
    (h1 : ∀ (κ : Fin 4096) (y : Fin 256), X1 (ix3 0 κ y) = kArr K (ix3 b κ ⟨256 * hp.val + y.val, by omega⟩))
    (hh : Fin 2) (r : Fin 1024) (κ : Fin 4096) :
    sc X0 X1 i2.val hh r κ.val = score Q K (ix4 b ⟨2 * hp.val + hh.val, by omega⟩ ⟨1024 * i2.val + r.val, by omega⟩ κ) := by
  rw [score_apply]
  unfold sc
  rw [dif_pos κ.isLt]
  by_cases hc : κ.val / 64 ≤ (1024 * i2.val + r.val) / 64
  · rw [if_pos hc, if_pos hc]
    refine Eq.trans ?_ (sum_scale (fun e => Q (ix4 b ⟨1024 * i2.val + r.val, by omega⟩ ⟨2 * hp.val + hh.val, by omega⟩ e))
      (fun e => K (ix4 b κ ⟨2 * hp.val + hh.val, by omega⟩ e)) (fun _ => hQ _) (fun _ => hK _))
    refine Eq.trans (Finset.sum_congr rfl fun e _ => ?_) (sum_lanes fun e =>
      Q (ix4 b ⟨1024 * i2.val + r.val, by omega⟩ ⟨2 * hp.val + hh.val, by omega⟩ e) * scale * K (ix4 b κ ⟨2 * hp.val + hh.val, by omega⟩ e))
    rw [h0, h1, qArr_apply Q b _ ⟨2 * hp.val + hh.val, by omega⟩ e _ (by show 256 * hp.val + (128 * hh.val + e.val) = 128 * (2 * hp.val + hh.val) + e.val; omega),
      kArr_apply K b _ ⟨2 * hp.val + hh.val, by omega⟩ e _ (by show 256 * hp.val + (128 * hh.val + e.val) = 128 * (2 * hp.val + hh.val) + e.val; omega)]
    by_cases hx : (lane e).val < 96
    · rw [dif_pos hx, dif_pos hx, dif_pos hx]
    · rw [dif_neg hx, dif_neg hx, dif_neg hx, zero_mul]
  · rw [if_neg hc, if_neg hc]

theorem sc_past (i2 : ℕ) (hh : Fin 2) (r : Fin 1024) (κ : ℕ) (h : (1024 * i2 + r.val) / 64 < κ / 64) : sc X0 X1 i2 hh r κ = ⊥ := by
  unfold sc
  by_cases hκ : κ < 4096
  · rw [dif_pos hκ, if_neg (by omega)]
  · rw [dif_neg hκ]

/-- Where the queries and keys are real numbers, no score is `⊤` and every row sees the first key at a real score. -/
theorem sane (hQ : ∀ j, ∃ x : ℝ, Q j = x) (hK : ∀ j, ∃ x : ℝ, K j = x)
    (h0 : ∀ (r : Fin 1024) (y : Fin 256), X0 (ix3 0 r y) = qArr Q (ix3 b ⟨1024 * i2.val + r.val, by omega⟩ ⟨256 * hp.val + y.val, by omega⟩))
    (h1 : ∀ (κ : Fin 4096) (y : Fin 256), X1 (ix3 0 κ y) = kArr K (ix3 b κ ⟨256 * hp.val + y.val, by omega⟩)) :
    Sane X0 X1 i2.val := by
  intro hh r
  constructor
  · intro κ
    by_cases hκ : κ < 4096
    · rw [sc_score Q K X0 X1 b hp i2 hQ hK h0 h1 hh r ⟨κ, hκ⟩, score_apply]
      split
      · obtain ⟨x, hx⟩ := sum_real (fun e => Q (ix4 b ⟨1024 * i2.val + r.val, by omega⟩ ⟨2 * hp.val + hh.val, by omega⟩ e))
          (fun e => K (ix4 b ⟨κ, hκ⟩ ⟨2 * hp.val + hh.val, by omega⟩ e)) (fun _ => hQ _) (fun _ => hK _)
        exact ne_of_eq_of_ne hx (EReal.coe_ne_top x)
      · exact bot_ne_top
    · unfold sc
      rw [dif_neg hκ]
      exact bot_ne_top
  · rw [sc_score Q K X0 X1 b hp i2 hQ hK h0 h1 hh r ⟨0, by omega⟩, score_apply, if_pos (by show 0 / 64 ≤ _; omega)]
    obtain ⟨x, hx⟩ := sum_real (fun e => Q (ix4 b ⟨1024 * i2.val + r.val, by omega⟩ ⟨2 * hp.val + hh.val, by omega⟩ e))
      (fun e => K (ix4 b ⟨0, by omega⟩ ⟨2 * hp.val + hh.val, by omega⟩ e)) (fun _ => hQ _) (fun _ => hK _)
    exact ne_of_eq_of_ne hx (EReal.coe_ne_bot x)

/-- One head's quotient is the reference's softmax-weighted sum. -/
theorem quot_result (hQ : ∀ j, ∃ x : ℝ, Q j = x) (hK : ∀ j, ∃ x : ℝ, K j = x)
    (h0 : ∀ (r : Fin 1024) (y : Fin 256), X0 (ix3 0 r y) = qArr Q (ix3 b ⟨1024 * i2.val + r.val, by omega⟩ ⟨256 * hp.val + y.val, by omega⟩))
    (h1 : ∀ (κ : Fin 4096) (y : Fin 256), X1 (ix3 0 κ y) = kArr K (ix3 b κ ⟨256 * hp.val + y.val, by omega⟩))
    (h2 : ∀ (κ : Fin 4096) (y : Fin 256), X2 (ix3 0 κ y) = vArr W (ix3 b κ ⟨256 * hp.val + y.val, by omega⟩))
    (hh : Fin 2) (r : Fin 1024) (l : Fin 128) (hl : l.val < 64) (n : Fin 1024) (hn : n.val = 64 * (2 * hp.val + hh.val) + l.val) :
    quot X0 X1 X2 i2.val (i2.val + 1) hh r l = result Q K W (ix3 b ⟨1024 * i2.val + r.val, by omega⟩ n) := by
  have hX := sane Q K X0 X1 b hp i2 hQ hK h0 h1 hh r
  have e1 : ws (sc X0 X1 i2.val hh r) (vv X2 hh 64) (1024 * (i2.val + 1)) = ws (sc X0 X1 i2.val hh r) (fun _ => 1) (1024 * (i2.val + 1)) := by
    apply ws_congr
    intro j hj
    have hj' : j < 4096 := by omega
    unfold vv
    rw [dif_pos hj', h2, vArr_apply W b _ ⟨2 * hp.val + hh.val, by omega⟩ 64 _ (by show 256 * hp.val + (128 * hh.val + 64) = 128 * (2 * hp.val + hh.val) + 64; omega),
      dif_neg (by decide), if_pos (by decide)]
  have e2 : ∀ κ : Fin 4096, vv X2 hh l κ.val = W (ix4 b κ ⟨2 * hp.val + hh.val, by omega⟩ ⟨l.val, hl⟩) := fun κ => by
    unfold vv
    rw [dif_pos κ.isLt, h2, vArr_apply W b _ ⟨2 * hp.val + hh.val, by omega⟩ l _ (by show 256 * hp.val + (128 * hh.val + l.val) = 128 * (2 * hp.val + hh.val) + l.val; omega),
      dif_pos hl]
  unfold quot
  rw [e1, ratio_eq (s := sc X0 X1 i2.val hh r) (vv X2 hh l) hX.1 (N := 4096) (by omega)
      (fun j hj => sc_past X0 X1 i2.val hh r j (by omega)) (j₀ := 0) (by omega) hX.2,
    shares_fin 4096 _ _ _ _ (sc_score Q K X0 X1 b hp i2 hQ hK h0 h1 hh r) e2,
    result_apply Q K W b ⟨2 * hp.val + hh.val, by omega⟩ _ ⟨l.val, hl⟩ n hn]
  simp only [prob_apply, expo_apply, top_apply]

/-- The block a grid point writes, at a row and lane, is the reference's result there. -/
theorem block_result (hQ : ∀ j, ∃ x : ℝ, Q j = x) (hK : ∀ j, ∃ x : ℝ, K j = x)
    (h0 : ∀ (r : Fin 1024) (y : Fin 256), X0 (ix3 0 r y) = qArr Q (ix3 b ⟨1024 * i2.val + r.val, by omega⟩ ⟨256 * hp.val + y.val, by omega⟩))
    (h1 : ∀ (κ : Fin 4096) (y : Fin 256), X1 (ix3 0 κ y) = kArr K (ix3 b κ ⟨256 * hp.val + y.val, by omega⟩))
    (h2 : ∀ (κ : Fin 4096) (y : Fin 256), X2 (ix3 0 κ y) = vArr W (ix3 b κ ⟨256 * hp.val + y.val, by omega⟩))
    (r : Fin 1024) (l : Fin 128) :
    outBlk X0 X1 X2 i2.val r l = result Q K W (ix3 b ⟨1024 * i2.val + r.val, by omega⟩ ⟨128 * hp.val + l.val, by omega⟩) := by
  unfold outBlk
  by_cases hl : l.val < 64
  · rw [if_pos hl]
    exact quot_result Q K W X0 X1 X2 b hp i2 hQ hK h0 h1 h2 0 r l hl _ (by show 128 * hp.val + l.val = 64 * (2 * hp.val + 0) + l.val; omega)
  · rw [if_neg hl]
    exact quot_result Q K W X0 X1 X2 b hp i2 hQ hK h0 h1 h2 1 r ⟨l.val - 64, by omega⟩ (by show l.val - 64 < 64; omega) _
      (by show 128 * hp.val + l.val = 64 * (2 * hp.val + 1) + (l.val - 64); omega)

end

end Cert.KernelIdeal.Attn

end
-- ==== Proof.Sub.Cover.lean ====
/- Which part of each array a grid point reads and writes, and that the blocks written cover the result. -/
module

public import proofs.«01_k».proof.Proof.Gen.KernelIdeal.Value
public import proofs.«01_k».proof.Proof.Sub.Host
public import Idealize.ShloMosaic.Lib.Pointwise
public import Idealize.ShloMosaic.Lib.Pipeline.Value

@[expose] public section

set_option maxRecDepth 16384

noncomputable section

namespace Cert.KernelIdeal.Attn

open Cert.KernelIdeal Cert.KernelIdeal.Gen Idealize.ShloMosaic Idealize.ShloMosaic.TcCoe

/-- Each window's block at point `t`: batch `t / 32`, head pair `t / 4 % 8`, query block `t % 4`. -/
theorem index0 : ∀ t : Fin grid0.N, win0_0.index t 0 = t.val / 32 ∧ win0_0.index t 1 = t.val % 4 ∧ win0_0.index t 2 = t.val / 4 % 8 := by decide +kernel
theorem index1 : ∀ t : Fin grid0.N, win0_1.index t 0 = t.val / 32 ∧ win0_1.index t 1 = 0 ∧ win0_1.index t 2 = t.val / 4 % 8 := by decide +kernel
theorem index2 : ∀ t : Fin grid0.N, win0_2.index t 0 = t.val / 32 ∧ win0_2.index t 1 = 0 ∧ win0_2.index t 2 = t.val / 4 % 8 := by decide +kernel
theorem index3 : ∀ t : Fin grid0.N, win0_3.index t 0 = t.val / 32 ∧ win0_3.index t 1 = t.val % 4 ∧ win0_3.index t 2 = t.val / 4 % 8 := by decide +kernel
theorem xsize3 : ∀ t : Fin grid0.N, win0_3.xsize (grid0.coords t) 0 = 1 ∧ win0_3.xsize (grid0.coords t) 1 = 1024 ∧ win0_3.xsize (grid0.coords t) 2 = 128 := by decide +kernel
theorem coord2 : ∀ t : Fin grid0.N, (grid0.coords t 2).val = t.val % 4 := by decide +kernel

theorem points (t : Fin cfg0.N) : t.val < 512 := lt_of_lt_of_eq t.isLt N_0

/-- What point `t` reads of the queries, the keys and the values. -/
theorem read0 (U : FVec Ideal S16x4096x2048 .bf16) (t : Fin cfg0.N) (r : Fin 1024) (y : Fin 256) :
    ((cfg0.win 0).blk t).view.read (Elt Ideal) U (ix3 0 r y)
      = U (ix3 ⟨t.val / 32, by have := points t; omega⟩ ⟨1024 * (t.val % 4) + r.val, by omega⟩ ⟨256 * (t.val / 4 % 8) + y.val, by omega⟩) := by
  obtain ⟨e0, e1, e2⟩ := index0 t
  rw [View.read_apply]
  show U _ = U _
  congr 1
  funext a
  apply Fin.ext
  match a with
  | ⟨0, _⟩ => show win0_0.index t 0 * 1 + 1 * 0 = t.val / 32; rw [e0]; omega
  | ⟨1, _⟩ => show win0_0.index t 1 * 1024 + 1 * r.val = 1024 * (t.val % 4) + r.val; rw [e1]; omega
  | ⟨2, _⟩ => show win0_0.index t 2 * 256 + 1 * y.val = 256 * (t.val / 4 % 8) + y.val; rw [e2]; omega

theorem read1 (U : FVec Ideal S16x4096x2048 .bf16) (t : Fin cfg0.N) (κ : Fin 4096) (y : Fin 256) :
    ((cfg0.win 1).blk t).view.read (Elt Ideal) U (ix3 0 κ y)
      = U (ix3 ⟨t.val / 32, by have := points t; omega⟩ κ ⟨256 * (t.val / 4 % 8) + y.val, by omega⟩) := by
  obtain ⟨e0, e1, e2⟩ := index1 t
  rw [View.read_apply]
  show U _ = U _
  congr 1
  funext a
  apply Fin.ext
  match a with
  | ⟨0, _⟩ => show win0_1.index t 0 * 1 + 1 * 0 = t.val / 32; rw [e0]; omega
  | ⟨1, _⟩ => show win0_1.index t 1 * 4096 + 1 * κ.val = κ.val; rw [e1]; omega
  | ⟨2, _⟩ => show win0_1.index t 2 * 256 + 1 * y.val = 256 * (t.val / 4 % 8) + y.val; rw [e2]; omega

theorem read2 (U : FVec Ideal S16x4096x2048 .bf16) (t : Fin cfg0.N) (κ : Fin 4096) (y : Fin 256) :
    ((cfg0.win 2).blk t).view.read (Elt Ideal) U (ix3 0 κ y)
      = U (ix3 ⟨t.val / 32, by have := points t; omega⟩ κ ⟨256 * (t.val / 4 % 8) + y.val, by omega⟩) := by
  obtain ⟨e0, e1, e2⟩ := index2 t
  rw [View.read_apply]
  show U _ = U _
  congr 1
  funext a
  apply Fin.ext
  match a with
  | ⟨0, _⟩ => show win0_2.index t 0 * 1 + 1 * 0 = t.val / 32; rw [e0]; omega
  | ⟨1, _⟩ => show win0_2.index t 1 * 4096 + 1 * κ.val = κ.val; rw [e1]; omega
  | ⟨2, _⟩ => show win0_2.index t 2 * 256 + 1 * y.val = 256 * (t.val / 4 % 8) + y.val; rw [e2]; omega

theorem iblk0 (m : (ℓ : Loc nD τ sig) → Buf (Elt Ideal) ℓ) (c : Dev nD) (t : Fin cfg0.N) (r : Fin 1024) (y : Fin 256) :
    iblk m c 0 t (ix3 0 r y) = V m c main_v18 (ix3 ⟨t.val / 32, by have := points t; omega⟩ ⟨1024 * (t.val % 4) + r.val, by omega⟩ ⟨256 * (t.val / 4 % 8) + y.val, by omega⟩) := by
  unfold iblk
  exact read0 (V m c main_v18) t r y

theorem iblk1 (m : (ℓ : Loc nD τ sig) → Buf (Elt Ideal) ℓ) (c : Dev nD) (t : Fin cfg0.N) (κ : Fin 4096) (y : Fin 256) :
    iblk m c 1 t (ix3 0 κ y) = V m c main_v25 (ix3 ⟨t.val / 32, by have := points t; omega⟩ κ ⟨256 * (t.val / 4 % 8) + y.val, by omega⟩) := by
  unfold iblk
  exact read1 (V m c main_v25) t κ y

theorem iblk2 (m : (ℓ : Loc nD τ sig) → Buf (Elt Ideal) ℓ) (c : Dev nD) (t : Fin cfg0.N) (κ : Fin 4096) (y : Fin 256) :
    iblk m c 2 t (ix3 0 κ y) = V m c main_v33 (ix3 ⟨t.val / 32, by have := points t; omega⟩ κ ⟨256 * (t.val / 4 % 8) + y.val, by omega⟩) := by
  unfold iblk
  exact read2 (V m c main_v33) t κ y

/-- The result's part point `t` writes, at a row and lane. -/
theorem oblk (G : FVec Ideal S16x4096x1024 .bf16) (t : Fin cfg0.N) (r : Fin 1024) (l : Fin 128) :
    ((cfg0.win 3).blk t).view.read (Elt Ideal) G (ix3 0 r l)
      = G (ix3 ⟨t.val / 32, by have := points t; omega⟩ ⟨1024 * (t.val % 4) + r.val, by omega⟩ ⟨128 * (t.val / 4 % 8) + l.val, by omega⟩) := by
  obtain ⟨e0, e1, e2⟩ := index3 t
  rw [View.read_apply]
  show G _ = G _
  congr 1
  funext a
  apply Fin.ext
  match a with
  | ⟨0, _⟩ => show win0_3.index t 0 * 1 + 1 * 0 = t.val / 32; rw [e0]; omega
  | ⟨1, _⟩ => show win0_3.index t 1 * 1024 + 1 * r.val = 1024 * (t.val % 4) + r.val; rw [e1]; omega
  | ⟨2, _⟩ => show win0_3.index t 2 * 128 + 1 * l.val = 128 * (t.val / 4 % 8) + l.val; rw [e2]; omega

/-- Every place of the result is in the block of some point. -/
theorem covered (i : S16x4096x1024.Idx) : ∃ t : Fin cfg0.N, (cfg0.win 3).flush t = true ∧ i ∈ ((cfg0.win 3).blk t).view.set := by
  have h0 : (i 0 : Nat) < 16 := (i 0).isLt
  have h1 : (i 1 : Nat) < 4096 := (i 1).isLt
  have h2 : (i 2 : Nat) < 1024 := (i 2).isLt
  refine ⟨⟨32 * (i 0).val + 4 * ((i 2).val / 128) + (i 1).val / 1024, lt_of_lt_of_eq (by omega : _ < 512) N_0.symm⟩, flush0_3 _, ?_⟩
  generalize ht : (⟨32 * (i 0).val + 4 * ((i 2).val / 128) + (i 1).val / 1024, lt_of_lt_of_eq (by omega : _ < 512) N_0.symm⟩ : Fin cfg0.N) = t
  have hv : t.val = 32 * (i 0).val + 4 * ((i 2).val / 128) + (i 1).val / 1024 := by rw [← ht]
  obtain ⟨e0, e1, e2⟩ := index3 t
  obtain ⟨x0, x1, x2⟩ := xsize3 t
  show i ∈ ((View.whole main_v34).slice (win0_3.rect t)).set
  rw [View.set_slice_whole, Rect.mem_set_unit]
  intro a
  match a with
  | ⟨0, _⟩ => show win0_3.index t 0 * 1 ≤ (i 0 : Nat) ∧ (i 0 : Nat) < win0_3.index t 0 * 1 + win0_3.xsize (grid0.coords t) 0
              rw [e0, x0]; omega
  | ⟨1, _⟩ => show win0_3.index t 1 * 1024 ≤ (i 1 : Nat) ∧ (i 1 : Nat) < win0_3.index t 1 * 1024 + win0_3.xsize (grid0.coords t) 1
              rw [e1, x1]; omega
  | ⟨2, _⟩ => show win0_3.index t 2 * 128 ≤ (i 2 : Nat) ∧ (i 2 : Nat) < win0_3.index t 2 * 128 + win0_3.xsize (grid0.coords t) 2
              rw [e2, x2]; omega

end Cert.KernelIdeal.Attn

end
-- ==== Proof.Sub.Value.lean ====
/- The kernel's result array: at real queries and keys it is the reference's result. -/
module

public import proofs.«01_k».proof.Proof.Sub.Bridge
public import proofs.«01_k».proof.Proof.Sub.Cover

@[expose] public section

set_option maxRecDepth 16384

noncomputable section

namespace Cert.KernelIdeal.Attn

open Cert.KernelIdeal Cert.KernelIdeal.Gen Idealize.ShloMosaic Idealize.ShloMosaic.TcCoe

/-- A block agreeing with an array at every row and lane is the block read from it. -/
theorem cut_eq (O : FVec Ideal S1x1024x128 .bf16) (G : FVec Ideal S16x4096x1024 .bf16) (t : Fin cfg0.N)
    (h : ∀ (r : Fin 1024) (l : Fin 128), O (ix3 0 r l)
      = G (ix3 ⟨t.val / 32, by have := points t; omega⟩ ⟨1024 * (t.val % 4) + r.val, by omega⟩ ⟨128 * (t.val / 4 % 8) + l.val, by omega⟩)) :
    (cfg0.win 3).cut (grid0.coords t) O = ((cfg0.win 3).blk t).view.read (Elt Ideal) G := by
  refine funext fun (j : S1x1024x128.Idx) => ?_
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  show O j = _
  rw [hj]
  exact (h (j 1) (j 2)).trans (oblk G t (j 1) (j 2)).symm

/-- Every entry is a real number. -/
def Reals (X : FVec Ideal S16x4096x16x96 .f32) : Prop := ∀ j, ∃ x : ℝ, X j = (x : EReal)

variable (m : (ℓ : Loc nD τ sig) → Buf (Elt Ideal) ℓ)

/-- What the reference computes of the kernel's three arguments. -/
def res (c : Dev nD) : FVec Ideal S16x4096x1024 .bf16 :=
  Cert.ReferenceIdeal.Attn.result (m (c.tc.loc main_arg0)) (m (c.tc.loc main_arg1)) (m (c.tc.loc main_arg2))

/-- Each point writes its part of the reference's result. -/
theorem flushed_eq (c : Dev nD) (hQ : Reals (m (c.tc.loc main_arg0)))
    (hK : Reals (m (c.tc.loc main_arg1))) (t : Fin cfg0.N) :
    (dats m 0 c).flushed 3 t = ((cfg0.win 3).blk t).view.read (Elt Ideal) (res m c) := by
  rw [Cert.KernelIdeal.Value.flushed3_A]
  refine cut_eq _ _ t fun r l => ?_
  have ht := points t
  have h0 : ∀ (r : Fin 1024) (y : Fin 256), (iblk m c 0 t : FVec Ideal S1x1024x256 .bf16) (ix3 0 r y)
      = qArr (m (c.tc.loc main_arg0)) (ix3 (⟨t.val / 32, by omega⟩ : Fin 16) ⟨1024 * (⟨t.val % 4, by omega⟩ : Fin 4).val + r.val, by omega⟩
          ⟨256 * (⟨t.val / 4 % 8, by omega⟩ : Fin 8).val + y.val, by omega⟩) := fun r y => by
    rw [← V_q m c]
    exact iblk0 m c t r y
  have h1 : ∀ (κ : Fin 4096) (y : Fin 256), (iblk m c 1 t : FVec Ideal S1x4096x256 .bf16) (ix3 0 κ y)
      = kArr (m (c.tc.loc main_arg1)) (ix3 (⟨t.val / 32, by omega⟩ : Fin 16) κ ⟨256 * (⟨t.val / 4 % 8, by omega⟩ : Fin 8).val + y.val, by omega⟩) := fun κ y => by
    rw [← V_k m c]
    exact iblk1 m c t κ y
  have h2 : ∀ (κ : Fin 4096) (y : Fin 256), (iblk m c 2 t : FVec Ideal S1x4096x256 .bf16) (ix3 0 κ y)
      = vArr (m (c.tc.loc main_arg2)) (ix3 (⟨t.val / 32, by omega⟩ : Fin 16) κ ⟨256 * (⟨t.val / 4 % 8, by omega⟩ : Fin 8).val + y.val, by omega⟩) := fun κ y => by
    rw [← V_v m c]
    exact iblk2 m c t κ y
  have hc : (grid0.coords t 2).val = (⟨t.val % 4, by omega⟩ : Fin 4).val := coord2 t
  have hX : Sane (iblk m c 0 t) (iblk m c 1 t) (grid0.coords t 2).val := by
    rw [hc]
    exact sane _ _ _ _ _ _ ⟨t.val % 4, by omega⟩ hQ hK h0 h1
  rw [out_value c (grid0.coords t) _ _ _ _ _ _ _ _ _ _ _ _ (iblk m c 0 t) (iblk m c 1 t) (iblk m c 2 t) hX r l, hc]
  exact block_result (m (c.tc.loc main_arg0)) (m (c.tc.loc main_arg1)) (m (c.tc.loc main_arg2)) (iblk m c 0 t) (iblk m c 1 t) (iblk m c 2 t)
    ⟨t.val / 32, by omega⟩ ⟨t.val / 4 % 8, by omega⟩ ⟨t.val % 4, by omega⟩ hQ hK h0 h1 h2 r l

/-- So the whole array ends at the reference's result. -/
theorem final (c : Dev nD) (hQ : Reals (m (c.tc.loc main_arg0)))
    (hK : Reals (m (c.tc.loc main_arg1))) :
    (dats m 0 c).arrAt 3 cfg0.N = res m c :=
  (dats m 0 c).arrAt_eq_of_cover 3 (res m c) (fun t _ => flushed_eq m c hQ hK t) covered

end Cert.KernelIdeal.Attn

end
-- ==== Proof.Sub.Claims.lean ====
/- The certificate's claims, one theorem each. -/
module

public import proofs.«01_k».proof.Defs
public import proofs.«01_k».proof.Proof.Gen.Kernel.Frame
public import proofs.«01_k».proof.Proof.Gen.KernelIdeal.Frame
public import proofs.«01_k».proof.Proof.Sub.Value
public import Idealize.ShloMosaic.Adequacy
public import Idealize.ShloMosaic.Init

@[expose] public section

set_option maxRecDepth 16384

noncomputable section

namespace Cert.Proof.Attn

open Idealize.ShloMosaic Idealize.ShloMosaic.TcCoe Idealize.SL.Sem

/-- The precondition's one side condition. -/
theorem preFacts : Cert.Pre_queries_and_keys_finite.Facts := ⟨by decide⟩

attribute [local instance] preFacts Cert.Kernel.Gen.facts Cert.KernelIdeal.Gen.facts Cert.ReferenceIdeal.Gen.facts

/-- The kernel as printed runs, leaves its arguments as they were and every semaphore at zero. -/
theorem frame_p : Cert.quiescent_Kernel := fun m ρ _ => Cert.Kernel.Gen.frame m ρ

/-- So does its idealization, … -/
theorem frame_pi : Cert.quiescent_KernelIdeal := fun m ρ _ => Cert.KernelIdeal.Gen.frame m ρ

theorem frame_pi_pre : Cert.quiescent_KernelIdeal_pre_queries_and_keys_finite := fun m ρ _ => Cert.KernelIdeal.Gen.frame m ρ

/-- … and the reference's. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_ri_pre : Cert.quiescent_ReferenceIdeal_pre_queries_and_keys_finite := fun m ρ _ => frame_ri m ρ trivial

/-- The idealized kernel differs from the kernel in the mask's constant only: the named one stands for −∞. -/
theorem preserves : Cert.preserves_Kernel_KernelIdeal :=
  IdealRules.named_const.statement Cert.KernelIdeal.κ "mask" .f32 0xF149F2CA#32 ⊥ rfl

theorem top_word : Ideal.ofBits .f32 0x7F800000#32 = ⊤ := by simp [Ideal.ofBits, Ideal.ieee]

/-- An extended real whose absolute value is below `⊤` is a real number. -/
theorem real_of_abs (x : EReal) (h : Ideal.cmp .olt (max x (-x)) (Ideal.ofBits .f32 0x7F800000#32) = 1#1) : ∃ y : ℝ, x = y := by
  rw [top_word] at h
  induction x using EReal.rec with
  | bot => simp [Ideal.cmp] at h
  | coe y => exact ⟨y, rfl⟩
  | top => simp [Ideal.cmp] at h

/-- The precondition says the queries and the keys are real numbers. -/
theorem real_of_pre (m : (ℓ : Loc Cert.KernelIdeal.nD Cert.KernelIdeal.τ Cert.KernelIdeal.sig) → Buf (Elt Ideal) ℓ)
    (h : Cert.Pre_KernelIdeal_queries_and_keys_finite m) (c : Dev Cert.KernelIdeal.nD) :
    Cert.KernelIdeal.Attn.Reals (m (c.tc.loc Cert.KernelIdeal.main_arg0))
    ∧ Cert.KernelIdeal.Attn.Reals (m (c.tc.loc Cert.KernelIdeal.main_arg1)) :=
  ⟨fun j => real_of_abs _ (congrFun (h c).1 j), fun j => real_of_abs _ (congrFun (h c).2 j)⟩

/-- From arguments that agree, the queries and the keys real numbers, the idealized kernel and the reference end with
    the same result, each leaving its arguments as they were. -/
theorem algebraic : Cert.algebraic_KernelIdeal_ReferenceIdeal_pre_queries_and_keys_finite := by
  intro m ρ m' ρ' hpre hagree
  refine ⟨fun c => Cert.KernelIdeal.Attn.res m c, ?_, ?_⟩
  · refine (θ_run Cert.KernelIdeal.defs _ _).mono (fun _ h c => ?_) (Cert.KernelIdeal.Value.run_blocks (F := Ideal) m ρ)
    obtain ⟨hQ, hK⟩ := real_of_pre m hpre c
    exact ⟨(h c).1.trans (Cert.KernelIdeal.Attn.final m c hQ hK), (h c).2⟩
  · refine (θ_run Cert.ReferenceIdeal.defs _ _).mono (fun _ h c => ?_) (Cert.ReferenceIdeal.Value.run (F := Ideal) m' ρ')
    obtain ⟨a0, a1, a2⟩ := hagree c
    refine ⟨(h c).1.trans ?_, (h c).2⟩
    rw [Cert.ReferenceIdeal.Attn.res_eq, a0, a1, a2]
    rfl

end Cert.Proof.Attn

end
-- ==== Proof.Sub.KvHost.lean ====
/- What the host's operations hand to the keys' and values' call: the two halves of the weights, the norm's weight twice
   over, and the modulation with an axis added. -/
module

public import proofs.«01_k».proof.Proof.Gen.KernelKvIdeal.Frame
public import Idealize.ShloMosaic.Lib.Pointwise

@[expose] public section

set_option maxRecDepth 16384

noncomputable section

namespace Cert.KernelKvIdeal.Kv

open Cert.KernelKvIdeal Cert.KernelKvIdeal.Gen Idealize.ShloMosaic Idealize.ShloMosaic.TcCoe Idealize.ShloMosaic.StableHlo

/-- The keys' weights. -/
def wkArr (W : FVec Ideal S1024x2048 .f32) : FVec Ideal S1024x1024 .bf16 :=
  truncf .bf16 (extractStridedSlice S1024x1024 ![0, 0] W slices_S1024x2048_S1024x1024_0_0) bitsLt_bf16_f32

/-- The values' weights. -/
def wvArr (W : FVec Ideal S1024x2048 .f32) : FVec Ideal S1024x1024 .bf16 :=
  truncf .bf16 (extractStridedSlice S1024x1024 ![0, 1024] W slices_S1024x2048_S1024x1024_0_1024) bitsLt_bf16_f32

/-- The head's norm weight, once for each head of a pair. -/
def gArr (g : FVec Ideal S64 .f32) : FVec Ideal S1x128 .f32 :=
  broadcastInDim S1x128 ![1] bcast_S128_S1x128_1 (shapeCast S128 (broadcastInDim S2x64 ![0, 1] bcast_S1x64_S2x64_0_1 (shapeCast S1x64 g shapeCasts_S64_S1x64)) shapeCasts_S2x64_S128)

/-- A modulation with an axis added. -/
def modArr (s : FVec Ideal S16x1024 .f32) : FVec Ideal S16x1x1024 .f32 := broadcastInDim S16x1x1024 ![0, 2] bcast_S16x1024_S16x1x1024_0_2 s

/-- The row norm's weight with an axis added. -/
def nwArr (w : FVec Ideal S1024 .f32) : FVec Ideal S1x1024 .f32 := broadcastInDim S1x1024 ![1] bcast_S1024_S1x1024_1 w

theorem wkArr_apply (W : FVec Ideal S1024x2048 .f32) (e n : Fin 1024) : wkArr W (ix2 e n) = W (ix2 e ⟨n.val, by omega⟩) := by
  unfold wkArr
  pointwise

theorem wvArr_apply (W : FVec Ideal S1024x2048 .f32) (e n : Fin 1024) : wvArr W (ix2 e n) = W (ix2 e ⟨1024 + n.val, by omega⟩) := by
  unfold wvArr
  pointwise

theorem gArr_apply (g : FVec Ideal S64 .f32) (l : Fin 128) : gArr g (ix2 0 l) = g (ix1 ⟨l.val % 64, by omega⟩) := by
  unfold gArr
  pointwise

theorem modArr_apply (s : FVec Ideal S16x1024 .f32) (b : Fin 16) (n : Fin 1024) : modArr s (ix3 b 0 n) = s (ix2 b n) := by
  unfold modArr
  pointwise

theorem nwArr_apply (w : FVec Ideal S1024 .f32) (n : Fin 1024) : nwArr w (ix2 0 n) = w (ix1 n) := by
  unfold nwArr
  pointwise

variable (m : (ℓ : Loc nD τ sig) → Buf (Elt Ideal) ℓ) (c : Dev nD)

/-- The call takes the stream itself, … -/
theorem V_x : (V m c main_arg0 : FVec Ideal S16x4096x1024 .f32) = m ((c : Thread nD τ).loc main_arg0) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

/-- … the two halves of the weights, … -/
theorem V_wk : (V m c main_v1 : FVec Ideal S1024x1024 .bf16) = wkArr (m ((c : Thread nD τ).loc main_arg4)) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem V_wv : (V m c main_v3 : FVec Ideal S1024x1024 .bf16) = wvArr (m ((c : Thread nD τ).loc main_arg4)) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

/-- … the head norm's weight, … -/
theorem V_g : (V m c main_v7 : FVec Ideal S1x128 .f32) = gArr (m ((c : Thread nD τ).loc main_arg5)) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

/-- … the shift and the scale, … -/
theorem V_sh : (V m c main_v8 : FVec Ideal S16x1x1024 .f32) = modArr (m ((c : Thread nD τ).loc main_arg1)) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem V_sc : (V m c main_v9 : FVec Ideal S16x1x1024 .f32) = modArr (m ((c : Thread nD τ).loc main_arg2)) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

/-- … and the row norm's weight. -/
theorem V_nw : (V m c main_v10 : FVec Ideal S1x1024 .f32) = nwArr (m ((c : Thread nD τ).loc main_arg3)) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

end Cert.KernelKvIdeal.Kv

end
-- ==== Proof.Sub.KvCover.lean ====
/- Which part of each array a grid point of the keys' and values' call reads and writes, and that the blocks written
   cover the results. -/
module

public import proofs.«01_k».proof.Proof.Gen.KernelKvIdeal.Value
public import proofs.«01_k».proof.Proof.Sub.KvHost
public import Idealize.ShloMosaic.Lib.Pointwise
public import Idealize.ShloMosaic.Lib.Pipeline.Value

@[expose] public section

set_option maxRecDepth 16384

noncomputable section

namespace Cert.KernelKvIdeal.Kv

open Cert.KernelKvIdeal Cert.KernelKvIdeal.Gen Idealize.ShloMosaic Idealize.ShloMosaic.TcCoe

/-- Each window's block at point `t`: batch `t / 8`, row block `t % 8`. -/
theorem index0 : ∀ t : Fin grid0.N, win0_0.index t 0 = t.val / 8 ∧ win0_0.index t 1 = t.val % 8 ∧ win0_0.index t 2 = 0 := by decide +kernel
theorem index1 : ∀ t : Fin grid0.N, win0_1.index t 0 = t.val / 8 ∧ win0_1.index t 1 = 0 ∧ win0_1.index t 2 = 0 := by decide +kernel
theorem index2 : ∀ t : Fin grid0.N, win0_2.index t 0 = t.val / 8 ∧ win0_2.index t 1 = 0 ∧ win0_2.index t 2 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = t.val / 8 ∧ win0_7.index t 1 = t.val % 8 - 7 ∧ win0_7.index t 2 = 0 := by decide +kernel
theorem index8 : ∀ t : Fin grid0.N, win0_8.index t 0 = t.val / 8 ∧ win0_8.index t 1 = t.val % 8 - 7 ∧ win0_8.index t 2 = 0 := by decide +kernel
theorem index9 : ∀ t : Fin grid0.N, win0_9.index t 0 = t.val / 8 ∧ win0_9.index t 1 = t.val % 8 ∧ win0_9.index t 2 = 0 := by decide +kernel
theorem index10 : ∀ t : Fin grid0.N, win0_10.index t 0 = t.val / 8 ∧ win0_10.index t 1 = t.val % 8 ∧ win0_10.index t 2 = 0 := by decide +kernel
theorem xsize7 : ∀ t : Fin grid0.N, win0_7.xsize (grid0.coords t) 0 = 1 ∧ win0_7.xsize (grid0.coords t) 1 = 512 ∧ win0_7.xsize (grid0.coords t) 2 = 1024 := by decide +kernel
theorem xsize8 : ∀ t : Fin grid0.N, win0_8.xsize (grid0.coords t) 0 = 1 ∧ win0_8.xsize (grid0.coords t) 1 = 512 ∧ win0_8.xsize (grid0.coords t) 2 = 1024 := by decide +kernel
theorem xsize9 : ∀ t : Fin grid0.N, win0_9.xsize (grid0.coords t) 0 = 1 ∧ win0_9.xsize (grid0.coords t) 1 = 512 ∧ win0_9.xsize (grid0.coords t) 2 = 1024 := by decide +kernel
theorem xsize10 : ∀ t : Fin grid0.N, win0_10.xsize (grid0.coords t) 0 = 1 ∧ win0_10.xsize (grid0.coords t) 1 = 512 ∧ win0_10.xsize (grid0.coords t) 2 = 1024 := by decide +kernel

theorem points (t : Fin cfg0.N) : t.val < 128 := lt_of_lt_of_eq t.isLt N_0

/-- What point `t` reads of each argument. -/
theorem read0 (U : FVec Ideal S16x4096x1024 .f32) (t : Fin cfg0.N) (r : Fin 512) (n : Fin 1024) :
    ((cfg0.win 0).blk t).view.read (Elt Ideal) U (ix3 0 r n) = U (ix3 ⟨t.val / 8, by have := points t; omega⟩ ⟨512 * (t.val % 8) + r.val, by omega⟩ n) := by
  obtain ⟨e0, e1, e2⟩ := index0 t
  rw [View.read_apply]
  show U _ = U _
  congr 1
  funext a
  apply Fin.ext
  match a with
  | ⟨0, _⟩ => show win0_0.index t 0 * 1 + 1 * 0 = t.val / 8; rw [e0]; omega
  | ⟨1, _⟩ => show win0_0.index t 1 * 512 + 1 * r.val = 512 * (t.val % 8) + r.val; rw [e1]; omega
  | ⟨2, _⟩ => show win0_0.index t 2 * 1024 + 1 * n.val = n.val; rw [e2]; omega

theorem read1 (U : FVec Ideal S16x1x1024 .f32) (t : Fin cfg0.N) (n : Fin 1024) :
    ((cfg0.win 1).blk t).view.read (Elt Ideal) U (ix3 0 0 n) = U (ix3 ⟨t.val / 8, by have := points t; omega⟩ 0 n) := by
  obtain ⟨e0, e1, e2⟩ := index1 t
  rw [View.read_apply]
  show U _ = U _
  congr 1
  funext a
  apply Fin.ext
  match a with
  | ⟨0, _⟩ => show win0_1.index t 0 * 1 + 1 * 0 = t.val / 8; rw [e0]; omega
  | ⟨1, _⟩ => show win0_1.index t 1 * 1 + 1 * 0 = 0; rw [e1]
  | ⟨2, _⟩ => show win0_1.index t 2 * 1024 + 1 * n.val = n.val; rw [e2]; omega

theorem read2 (U : FVec Ideal S16x1x1024 .f32) (t : Fin cfg0.N) (n : Fin 1024) :
    ((cfg0.win 2).blk t).view.read (Elt Ideal) U (ix3 0 0 n) = U (ix3 ⟨t.val / 8, by have := points t; omega⟩ 0 n) := by
  obtain ⟨e0, e1, e2⟩ := index2 t
  rw [View.read_apply]
  show U _ = U _
  congr 1
  funext a
  apply Fin.ext
  match a with
  | ⟨0, _⟩ => show win0_2.index t 0 * 1 + 1 * 0 = t.val / 8; rw [e0]; omega
  | ⟨1, _⟩ => show win0_2.index t 1 * 1 + 1 * 0 = 0; rw [e1]
  | ⟨2, _⟩ => show win0_2.index t 2 * 1024 + 1 * n.val = n.val; rw [e2]; omega

theorem read3 (U : FVec Ideal S1x1024 .f32) (t : Fin cfg0.N) (n : Fin 1024) :
    ((cfg0.win 3).blk t).view.read (Elt Ideal) U (ix2 0 n) = U (ix2 0 n) := by
  obtain ⟨e0, e1⟩ := index3 t
  rw [View.read_apply]
  show U _ = U _
  congr 1
  funext a
  apply Fin.ext
  match a with
  | ⟨0, _⟩ => show win0_3.index t 0 * 1 + 1 * 0 = 0; rw [e0]
  | ⟨1, _⟩ => show win0_3.index t 1 * 1024 + 1 * n.val = n.val; rw [e1]; omega

theorem read4 (U : FVec Ideal S1024x1024 .bf16) (t : Fin cfg0.N) (e n : Fin 1024) :
    ((cfg0.win 4).blk t).view.read (Elt Ideal) U (ix2 e n) = U (ix2 e n) := by
  obtain ⟨e0, e1⟩ := index4 t
  rw [View.read_apply]
  show U _ = U _
  congr 1
  funext a
  apply Fin.ext
  match a with
  | ⟨0, _⟩ => show win0_4.index t 0 * 1024 + 1 * e.val = e.val; rw [e0]; omega
  | ⟨1, _⟩ => show win0_4.index t 1 * 1024 + 1 * n.val = n.val; rw [e1]; omega

theorem read5 (U : FVec Ideal S1024x1024 .bf16) (t : Fin cfg0.N) (e n : Fin 1024) :
    ((cfg0.win 5).blk t).view.read (Elt Ideal) U (ix2 e n) = U (ix2 e n) := by
  obtain ⟨e0, e1⟩ := index5 t
  rw [View.read_apply]
  show U _ = U _
  congr 1
  funext a
  apply Fin.ext
  match a with
  | ⟨0, _⟩ => show win0_5.index t 0 * 1024 + 1 * e.val = e.val; rw [e0]; omega
  | ⟨1, _⟩ => show win0_5.index t 1 * 1024 + 1 * n.val = n.val; rw [e1]; omega

theorem read6 (U : FVec Ideal S1x128 .f32) (t : Fin cfg0.N) (l : Fin 128) :
    ((cfg0.win 6).blk t).view.read (Elt Ideal) U (ix2 0 l) = U (ix2 0 l) := by
  obtain ⟨e0, e1⟩ := index6 t
  rw [View.read_apply]
  show U _ = U _
  congr 1
  funext a
  apply Fin.ext
  match a with
  | ⟨0, _⟩ => show win0_6.index t 0 * 1 + 1 * 0 = 0; rw [e0]
  | ⟨1, _⟩ => show win0_6.index t 1 * 128 + 1 * l.val = l.val; rw [e1]; omega

variable (m : (ℓ : Loc nD τ sig) → Buf (Elt Ideal) ℓ) (c : Dev nD)

/-- The same, in the call's own arguments. -/
theorem blk0 (t : Fin cfg0.N) (r : Fin 512) (n : Fin 1024) : (iblk m c 0 t : FVec Ideal S1x512x1024 .f32) (ix3 0 r n) = m ((c : Thread nD τ).loc main_arg0) (ix3 ⟨t.val / 8, by have := points t; omega⟩ ⟨512 * (t.val % 8) + r.val, by omega⟩ n) := by
  unfold iblk
  exact (read0 (V m c main_arg0) t r n).trans (congrFun (V_x m c) _)

theorem blk1 (t : Fin cfg0.N) (n : Fin 1024) : (iblk m c 1 t : FVec Ideal S1x1x1024 .f32) (ix3 0 0 n) = m ((c : Thread nD τ).loc main_arg1) (ix2 ⟨t.val / 8, by have := points t; omega⟩ n) := by
  unfold iblk
  exact (read1 (V m c main_v8) t n).trans ((congrFun (V_sh m c) _).trans (modArr_apply _ _ _))

theorem blk2 (t : Fin cfg0.N) (n : Fin 1024) : (iblk m c 2 t : FVec Ideal S1x1x1024 .f32) (ix3 0 0 n) = m ((c : Thread nD τ).loc main_arg2) (ix2 ⟨t.val / 8, by have := points t; omega⟩ n) := by
  unfold iblk
  exact (read2 (V m c main_v9) t n).trans ((congrFun (V_sc m c) _).trans (modArr_apply _ _ _))

theorem blk3 (t : Fin cfg0.N) (n : Fin 1024) : (iblk m c 3 t : FVec Ideal S1x1024 .f32) (ix2 0 n) = m ((c : Thread nD τ).loc main_arg3) (ix1 n) := by
  unfold iblk
  exact (read3 (V m c main_v10) t n).trans ((congrFun (V_nw m c) _).trans (nwArr_apply _ _))

theorem blk4 (t : Fin cfg0.N) (e n : Fin 1024) : (iblk m c 4 t : FVec Ideal S1024x1024 .bf16) (ix2 e n) = m ((c : Thread nD τ).loc main_arg4) (ix2 e ⟨n.val, by omega⟩) := by
  unfold iblk
  exact (read4 (V m c main_v1) t e n).trans ((congrFun (V_wk m c) _).trans (wkArr_apply _ _ _))

theorem blk5 (t : Fin cfg0.N) (e n : Fin 1024) : (iblk m c 5 t : FVec Ideal S1024x1024 .bf16) (ix2 e n) = m ((c : Thread nD τ).loc main_arg4) (ix2 e ⟨1024 + n.val, by omega⟩) := by
  unfold iblk
  exact (read5 (V m c main_v3) t e n).trans ((congrFun (V_wv m c) _).trans (wvArr_apply _ _ _))

theorem blk6 (t : Fin cfg0.N) (l : Fin 128) : (iblk m c 6 t : FVec Ideal S1x128 .f32) (ix2 0 l) = m ((c : Thread nD τ).loc main_arg5) (ix1 ⟨l.val % 64, by omega⟩) := by
  unfold iblk
  exact (read6 (V m c main_v7) t l).trans ((congrFun (V_g m c) _).trans (gArr_apply _ _))

/-- What point `t` writes of each result. -/
theorem oblk7 (G : FVec Ideal S16x512x1024 .f32) (t : Fin cfg0.N) (ht : t.val % 8 = 7) (r : Fin 512) (n : Fin 1024) :
    ((cfg0.win 7).blk t).view.read (Elt Ideal) G (ix3 0 r n) = G (ix3 ⟨t.val / 8, by have := points t; omega⟩ r n) := by
  obtain ⟨e0, e1, e2⟩ := index7 t
  have e1 : win0_7.index t 1 = 0 := by rw [e1, ht]
  rw [View.read_apply]
  show G _ = G _
  congr 1
  funext a
  apply Fin.ext
  match a with
  | ⟨0, _⟩ => show win0_7.index t 0 * 1 + 1 * 0 = t.val / 8; rw [e0]; omega
  | ⟨1, _⟩ => show win0_7.index t 1 * 512 + 1 * r.val = r.val; rw [e1]; omega
  | ⟨2, _⟩ => show win0_7.index t 2 * 1024 + 1 * n.val = n.val; rw [e2]; omega

theorem oblk8 (G : FVec Ideal S16x512x1024 .f32) (t : Fin cfg0.N) (ht : t.val % 8 = 7) (r : Fin 512) (n : Fin 1024) :
    ((cfg0.win 8).blk t).view.read (Elt Ideal) G (ix3 0 r n) = G (ix3 ⟨t.val / 8, by have := points t; omega⟩ r n) := by
  obtain ⟨e0, e1, e2⟩ := index8 t
  have e1 : win0_8.index t 1 = 0 := by rw [e1, ht]
  rw [View.read_apply]
  show G _ = G _
  congr 1
  funext a
  apply Fin.ext
  match a with
  | ⟨0, _⟩ => show win0_8.index t 0 * 1 + 1 * 0 = t.val / 8; rw [e0]; omega
  | ⟨1, _⟩ => show win0_8.index t 1 * 512 + 1 * r.val = r.val; rw [e1]; omega
  | ⟨2, _⟩ => show win0_8.index t 2 * 1024 + 1 * n.val = n.val; rw [e2]; omega

theorem oblk9 (G : FVec Ideal S16x4096x1024 .bf16) (t : Fin cfg0.N) (r : Fin 512) (n : Fin 1024) :
    ((cfg0.win 9).blk t).view.read (Elt Ideal) G (ix3 0 r n) = G (ix3 ⟨t.val / 8, by have := points t; omega⟩ ⟨512 * (t.val % 8) + r.val, by omega⟩ n) := by
  obtain ⟨e0, e1, e2⟩ := index9 t
  rw [View.read_apply]
  show G _ = G _
  congr 1
  funext a
  apply Fin.ext
  match a with
  | ⟨0, _⟩ => show win0_9.index t 0 * 1 + 1 * 0 = t.val / 8; rw [e0]; omega
  | ⟨1, _⟩ => show win0_9.index t 1 * 512 + 1 * r.val = 512 * (t.val % 8) + r.val; rw [e1]; omega
  | ⟨2, _⟩ => show win0_9.index t 2 * 1024 + 1 * n.val = n.val; rw [e2]; omega

theorem oblk10 (G : FVec Ideal S16x4096x1024 .bf16) (t : Fin cfg0.N) (r : Fin 512) (n : Fin 1024) :
    ((cfg0.win 10).blk t).view.read (Elt Ideal) G (ix3 0 r n) = G (ix3 ⟨t.val / 8, by have := points t; omega⟩ ⟨512 * (t.val % 8) + r.val, by omega⟩ n) := by
  obtain ⟨e0, e1, e2⟩ := index10 t
  rw [View.read_apply]
  show G _ = G _
  congr 1
  funext a
  apply Fin.ext
  match a with
  | ⟨0, _⟩ => show win0_10.index t 0 * 1 + 1 * 0 = t.val / 8; rw [e0]; omega
  | ⟨1, _⟩ => show win0_10.index t 1 * 512 + 1 * r.val = 512 * (t.val % 8) + r.val; rw [e1]; omega
  | ⟨2, _⟩ => show win0_10.index t 2 * 1024 + 1 * n.val = n.val; rw [e2]; omega

/-- Every place of the result is in the block of some point that writes it. -/
theorem covered7 (i : S16x512x1024.Idx) : ∃ t : Fin cfg0.N, (cfg0.win 7).flush t = true ∧ i ∈ ((cfg0.win 7).blk t).view.set := by
  have h0 : (i 0 : Nat) < 16 := (i 0).isLt
  have h1 : (i 1 : Nat) < 512 := (i 1).isLt
  have h2 : (i 2 : Nat) < 1024 := (i 2).isLt
  refine ⟨⟨8 * (i 0).val + 7, lt_of_lt_of_eq (by omega : _ < 128) N_0.symm⟩, (flush0_7 _).mpr (by show (8 * (i 0).val + 7) % 8 = 7; omega), ?_⟩
  generalize ht : (⟨8 * (i 0).val + 7, lt_of_lt_of_eq (by omega : _ < 128) N_0.symm⟩ : Fin cfg0.N) = t
  have hv : t.val = 8 * (i 0).val + 7 := by rw [← ht]
  obtain ⟨e0, e1, e2⟩ := index7 t
  obtain ⟨x0, x1, x2⟩ := xsize7 t
  show i ∈ ((View.whole main_v11_0).slice (win0_7.rect t)).set
  rw [View.set_slice_whole, Rect.mem_set_unit]
  intro a
  match a with
  | ⟨0, _⟩ => show win0_7.index t 0 * 1 ≤ (i 0 : Nat) ∧ (i 0 : Nat) < win0_7.index t 0 * 1 + win0_7.xsize (grid0.coords t) 0
              rw [e0, x0]; omega
  | ⟨1, _⟩ => show win0_7.index t 1 * 512 ≤ (i 1 : Nat) ∧ (i 1 : Nat) < win0_7.index t 1 * 512 + win0_7.xsize (grid0.coords t) 1
              rw [e1, x1]; omega
  | ⟨2, _⟩ => show win0_7.index t 2 * 1024 ≤ (i 2 : Nat) ∧ (i 2 : Nat) < win0_7.index t 2 * 1024 + win0_7.xsize (grid0.coords t) 2
              rw [e2, x2]; omega

/-- Every place of the result is in the block of some point that writes it. -/
theorem covered8 (i : S16x512x1024.Idx) : ∃ t : Fin cfg0.N, (cfg0.win 8).flush t = true ∧ i ∈ ((cfg0.win 8).blk t).view.set := by
  have h0 : (i 0 : Nat) < 16 := (i 0).isLt
  have h1 : (i 1 : Nat) < 512 := (i 1).isLt
  have h2 : (i 2 : Nat) < 1024 := (i 2).isLt
  refine ⟨⟨8 * (i 0).val + 7, lt_of_lt_of_eq (by omega : _ < 128) N_0.symm⟩, (flush0_8 _).mpr (by show (8 * (i 0).val + 7) % 8 = 7; omega), ?_⟩
  generalize ht : (⟨8 * (i 0).val + 7, lt_of_lt_of_eq (by omega : _ < 128) N_0.symm⟩ : Fin cfg0.N) = t
  have hv : t.val = 8 * (i 0).val + 7 := by rw [← ht]
  obtain ⟨e0, e1, e2⟩ := index8 t
  obtain ⟨x0, x1, x2⟩ := xsize8 t
  show i ∈ ((View.whole main_v11_1).slice (win0_8.rect t)).set
  rw [View.set_slice_whole, Rect.mem_set_unit]
  intro a
  match a with
  | ⟨0, _⟩ => show win0_8.index t 0 * 1 ≤ (i 0 : Nat) ∧ (i 0 : Nat) < win0_8.index t 0 * 1 + win0_8.xsize (grid0.coords t) 0
              rw [e0, x0]; omega
  | ⟨1, _⟩ => show win0_8.index t 1 * 512 ≤ (i 1 : Nat) ∧ (i 1 : Nat) < win0_8.index t 1 * 512 + win0_8.xsize (grid0.coords t) 1
              rw [e1, x1]; omega
  | ⟨2, _⟩ => show win0_8.index t 2 * 1024 ≤ (i 2 : Nat) ∧ (i 2 : Nat) < win0_8.index t 2 * 1024 + win0_8.xsize (grid0.coords t) 2
              rw [e2, x2]; omega

/-- Every place of the result is in the block of some point that writes it. -/
theorem covered9 (i : S16x4096x1024.Idx) : ∃ t : Fin cfg0.N, (cfg0.win 9).flush t = true ∧ i ∈ ((cfg0.win 9).blk t).view.set := by
  have h0 : (i 0 : Nat) < 16 := (i 0).isLt
  have h1 : (i 1 : Nat) < 4096 := (i 1).isLt
  have h2 : (i 2 : Nat) < 1024 := (i 2).isLt
  refine ⟨⟨8 * (i 0).val + (i 1).val / 512, lt_of_lt_of_eq (by omega : _ < 128) N_0.symm⟩, flush0_9 _, ?_⟩
  generalize ht : (⟨8 * (i 0).val + (i 1).val / 512, lt_of_lt_of_eq (by omega : _ < 128) N_0.symm⟩ : Fin cfg0.N) = t
  have hv : t.val = 8 * (i 0).val + (i 1).val / 512 := by rw [← ht]
  obtain ⟨e0, e1, e2⟩ := index9 t
  obtain ⟨x0, x1, x2⟩ := xsize9 t
  show i ∈ ((View.whole main_v11_2).slice (win0_9.rect t)).set
  rw [View.set_slice_whole, Rect.mem_set_unit]
  intro a
  match a with
  | ⟨0, _⟩ => show win0_9.index t 0 * 1 ≤ (i 0 : Nat) ∧ (i 0 : Nat) < win0_9.index t 0 * 1 + win0_9.xsize (grid0.coords t) 0
              rw [e0, x0]; omega
  | ⟨1, _⟩ => show win0_9.index t 1 * 512 ≤ (i 1 : Nat) ∧ (i 1 : Nat) < win0_9.index t 1 * 512 + win0_9.xsize (grid0.coords t) 1
              rw [e1, x1]; omega
  | ⟨2, _⟩ => show win0_9.index t 2 * 1024 ≤ (i 2 : Nat) ∧ (i 2 : Nat) < win0_9.index t 2 * 1024 + win0_9.xsize (grid0.coords t) 2
              rw [e2, x2]; omega

/-- Every place of the result is in the block of some point that writes it. -/
theorem covered10 (i : S16x4096x1024.Idx) : ∃ t : Fin cfg0.N, (cfg0.win 10).flush t = true ∧ i ∈ ((cfg0.win 10).blk t).view.set := by
  have h0 : (i 0 : Nat) < 16 := (i 0).isLt
  have h1 : (i 1 : Nat) < 4096 := (i 1).isLt
  have h2 : (i 2 : Nat) < 1024 := (i 2).isLt
  refine ⟨⟨8 * (i 0).val + (i 1).val / 512, lt_of_lt_of_eq (by omega : _ < 128) N_0.symm⟩, flush0_10 _, ?_⟩
  generalize ht : (⟨8 * (i 0).val + (i 1).val / 512, lt_of_lt_of_eq (by omega : _ < 128) N_0.symm⟩ : Fin cfg0.N) = t
  have hv : t.val = 8 * (i 0).val + (i 1).val / 512 := by rw [← ht]
  obtain ⟨e0, e1, e2⟩ := index10 t
  obtain ⟨x0, x1, x2⟩ := xsize10 t
  show i ∈ ((View.whole main_v11_3).slice (win0_10.rect t)).set
  rw [View.set_slice_whole, Rect.mem_set_unit]
  intro a
  match a with
  | ⟨0, _⟩ => show win0_10.index t 0 * 1 ≤ (i 0 : Nat) ∧ (i 0 : Nat) < win0_10.index t 0 * 1 + win0_10.xsize (grid0.coords t) 0
              rw [e0, x0]; omega
  | ⟨1, _⟩ => show win0_10.index t 1 * 512 ≤ (i 1 : Nat) ∧ (i 1 : Nat) < win0_10.index t 1 * 512 + win0_10.xsize (grid0.coords t) 1
              rw [e1, x1]; omega
  | ⟨2, _⟩ => show win0_10.index t 2 * 1024 ≤ (i 2 : Nat) ∧ (i 2 : Nat) < win0_10.index t 2 * 1024 + win0_10.xsize (grid0.coords t) 2
              rw [e2, x2]; omega

end Cert.KernelKvIdeal.Kv

end
-- ==== Proof.Sub.KvMath.lean ====
/- The shared keys' and values' arithmetic: one row of the modulated residual stream, and one head's normalization, taken a head at
   a time or a pair of heads at a time. -/
module

public import Idealize.ShloMosaic.Instance
public import Idealize.ShloMosaic.Lib.Pointwise

@[expose] public section

set_option maxRecDepth 16384

noncomputable section

namespace Cert.Kv

open Idealize.ShloMosaic

/-- The ε under both roots. -/
def eps : EReal := Ideal.ofBits .f32 0x358637BD#32

/-- One row of the modulated stream: `x` over its root mean square, weighted by `w`, scaled by `1 + sc`, shifted by `sh`. -/
def hid (x w sh sc : Fin 1024 → EReal) (e : Fin 1024) : EReal :=
  x e * Ideal.rsqrt (Ideal.div (∑ i, x i * x i) (Ideal.ofBits .f32 0x44800000#32) + eps) * w e
    * (Ideal.ofBits .f32 0x3F800000#32 + sc e) + sh e

/-- Column `n` of a row over its own head's root mean square, weighted by `g`. -/
def headRms (y : Fin 1024 → EReal) (g : Fin 64 → EReal) (n : Fin 1024) : EReal :=
  y n * Ideal.rsqrt (Ideal.div (∑ d : Fin 64, y ⟨64 * (n.val / 64) + d.val, by omega⟩ * y ⟨64 * (n.val / 64) + d.val, by omega⟩)
    (Ideal.ofBits .f32 0x42800000#32) + eps) * g ⟨n.val % 64, by omega⟩

/-- Lane `l` of two heads side by side: the first head's sum of squares is taken, the second's is the pair's less the first's. -/
def pairRms (y : Fin 128 → EReal) (g : EReal) (l : Fin 128) : EReal :=
  y l * Ideal.rsqrt ((if l.val < 64 then ∑ i : Fin 128, (if i.val < 64 then y i * y i else 0)
    else (∑ i : Fin 128, y i * y i) - ∑ i : Fin 128, (if i.val < 64 then y i * y i else 0)) * Ideal.ofBits .f32 0x3C800000#32 + eps) * g

theorem sum_coe {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- The masked sum is the first half's. -/
theorem sum_lo (a : Fin 128 → EReal) : ∑ i : Fin 128, (if i.val < 64 then a i else 0) = ∑ d : Fin 64, a ⟨d.val, by omega⟩ := by
  rw [show (∑ i : Fin 128, (if i.val < 64 then a i else 0)) = ∑ i : Fin (64 + 64), (if i.val < 64 then a i else 0) from rfl, Fin.sum_univ_add]
  rw [show (∑ i : Fin 64, (if (Fin.natAdd 64 i : Fin (64 + 64)).val < 64 then a (Fin.natAdd 64 i) else 0)) = 0 from
    Finset.sum_eq_zero fun i _ => if_neg (by simp), add_zero]
  exact Finset.sum_congr rfl fun i _ => if_pos (by simp)

/-- The whole sum less the masked one is the second half's, where the entries are real numbers. -/
theorem sum_hi (a : Fin 128 → EReal) (ha : ∀ i, ∃ x : ℝ, a i = x) :
    (∑ i : Fin 128, a i) - ∑ i : Fin 128, (if i.val < 64 then a i else 0) = ∑ d : Fin 64, a ⟨64 + d.val, by omega⟩ := by
  rw [sum_lo, show (∑ i : Fin 128, a i) = ∑ i : Fin (64 + 64), a i from rfl, Fin.sum_univ_add]
  choose b hb using ha
  rw [show (∑ i : Fin 64, a (Fin.castAdd 64 i)) = ∑ d : Fin 64, a ⟨d.val, by omega⟩ from rfl,
    show (∑ i : Fin 64, a (Fin.natAdd 64 i)) = ∑ d : Fin 64, a ⟨64 + d.val, by omega⟩ from rfl]
  simp only [hb, sum_coe]
  rw [← EReal.coe_add, ← EReal.coe_sub]
  congr 1
  ring

theorem word64 : Ideal.ofBits .f32 0x42800000#32 = ((64 : ℝ) : EReal) := by
  simp [Ideal.ofBits, Ideal.ieee, -EReal.coe_mul]; norm_num
theorem wordInv64 : Ideal.ofBits .f32 0x3C800000#32 = ((1 / 64 : ℝ) : EReal) := by
  simp [Ideal.ofBits, Ideal.ieee, -EReal.coe_mul]; norm_num
theorem word1024 : Ideal.ofBits .f32 0x44800000#32 = ((1024 : ℝ) : EReal) := by
  simp [Ideal.ofBits, Ideal.ieee, -EReal.coe_mul]; norm_num
theorem word1 : Ideal.ofBits .f32 0x3F800000#32 = ((1 : ℝ) : EReal) := by
  simp [Ideal.ofBits, Ideal.ieee, -EReal.coe_mul]; norm_num
theorem eps_pos : ∃ e : ℝ, 0 < e ∧ eps = (e : EReal) := by
  unfold eps
  refine ⟨((2 : ℝ) ^ 23 + 407485) * 2 ^ (-43 : ℤ), by positivity, ?_⟩
  simp [Ideal.ofBits, Ideal.ieee, -EReal.coe_mul]; norm_num

/-- Taken a pair at a time or a head at a time, the normalization is the same where the row is real. -/
theorem pair_head (y : Fin 1024 → EReal) (hy : ∀ n, ∃ x : ℝ, y n = x) (g : Fin 64 → EReal) (p : Fin 8) (l : Fin 128) :
    pairRms (fun i => y ⟨128 * p.val + i.val, by omega⟩) (g ⟨l.val % 64, by omega⟩) l = headRms y g ⟨128 * p.val + l.val, by omega⟩ := by
  have sq : ∀ i : Fin 128, ∃ x : ℝ, (fun i : Fin 128 => y ⟨128 * p.val + i.val, by omega⟩ * y ⟨128 * p.val + i.val, by omega⟩) i = x := fun i => by
    obtain ⟨x, hx⟩ := hy ⟨128 * p.val + i.val, by omega⟩
    exact ⟨x * x, by show y _ * y _ = _; rw [hx, EReal.coe_mul]⟩
  unfold pairRms headRms
  have hi := sum_hi _ sq
  have lo := sum_lo (fun i : Fin 128 => y ⟨128 * p.val + i.val, by omega⟩ * y ⟨128 * p.val + i.val, by omega⟩)
  dsimp only at hi lo ⊢
  rw [word64, Ideal.div_coe (by norm_num), wordInv64]
  have eg : (⟨l.val % 64, by omega⟩ : Fin 64) = ⟨(128 * p.val + l.val) % 64, by omega⟩ := Fin.ext (by show l.val % 64 = (128 * p.val + l.val) % 64; omega)
  rw [eg]
  by_cases hl : l.val < 64
  · have key : ∀ d : Fin 64, (⟨128 * p.val + d.val, by omega⟩ : Fin 1024) = ⟨64 * ((128 * p.val + l.val) / 64) + d.val, by omega⟩ := fun d =>
      Fin.ext (by show 128 * p.val + d.val = 64 * ((128 * p.val + l.val) / 64) + d.val; omega)
    rw [if_pos hl, lo]
    simp only [key]
  · have key : ∀ d : Fin 64, (⟨128 * p.val + (64 + d.val), by omega⟩ : Fin 1024) = ⟨64 * ((128 * p.val + l.val) / 64) + d.val, by omega⟩ := fun d =>
      Fin.ext (by show 128 * p.val + (64 + d.val) = 64 * ((128 * p.val + l.val) / 64) + d.val; omega)
    rw [if_neg hl, hi]
    simp only [key]

/-- A row of real numbers is real after the modulation. -/
theorem hid_real_of_real (x w sh sc : Fin 1024 → EReal) (hx : ∀ e, ∃ r : ℝ, x e = r) (hw : ∀ e, ∃ r : ℝ, w e = r)
    (hsh : ∀ e, ∃ r : ℝ, sh e = r) (hsc : ∀ e, ∃ r : ℝ, sc e = r) (e : Fin 1024) : ∃ r : ℝ, hid x w sh sc e = r := by
  choose a ha using hx
  choose b hb using hw
  choose c hc using hsh
  choose d hd using hsc
  obtain ⟨ε, hε, he⟩ := eps_pos
  unfold hid
  rw [word1024, Ideal.div_coe (by norm_num), word1, he]
  simp only [ha, hb, hc, hd, ← EReal.coe_mul, sum_coe, ← EReal.coe_add]
  have hp : 0 < (∑ i, a i * a i) * (1 / 1024) + ε :=
    add_pos_of_nonneg_of_pos (mul_nonneg (Finset.sum_nonneg fun i _ => mul_self_nonneg _) (by norm_num)) hε
  rw [Ideal.rsqrt_coe, if_neg (not_lt.mpr hp.le), if_neg hp.ne']
  simp only [← EReal.coe_mul, ← EReal.coe_add]
  exact ⟨_, rfl⟩

/-- A row with an infinite entry is a row of zeros after the norm, its mean square being infinite. -/
theorem hid_of_infinite (x w sh sc : Fin 1024 → EReal) (i : Fin 1024) (hi : x i * x i = ⊤) (e : Fin 1024) : hid x w sh sc e = sh e := by
  have nn : ∀ y : EReal, 0 ≤ y * y := fun y => by
    induction y using EReal.rec with
    | bot => simp
    | coe r => rw [← EReal.coe_mul]; exact EReal.coe_nonneg.mpr (mul_self_nonneg r)
    | top => simp
  have hs : ∑ j, x j * x j = ⊤ := top_unique (hi ▸ Finset.single_le_sum (f := fun j => x j * x j) (fun j _ => nn (x j)) (Finset.mem_univ i))
  obtain ⟨ε, _, he⟩ := eps_pos
  unfold hid
  rw [hs, word1024, Ideal.div_coe (by norm_num), he, EReal.top_mul_coe_of_pos (by norm_num), EReal.top_add_coe, show Ideal.rsqrt ⊤ = 0 from rfl,
    mul_zero, zero_mul, zero_mul, zero_add]

/-- Whatever the row, it is real after a modulation by real numbers. -/
theorem hid_real (x w sh sc : Fin 1024 → EReal) (hw : ∀ e, ∃ r : ℝ, w e = r)
    (hsh : ∀ e, ∃ r : ℝ, sh e = r) (hsc : ∀ e, ∃ r : ℝ, sc e = r) (e : Fin 1024) : ∃ r : ℝ, hid x w sh sc e = r := by
  by_cases hx : ∀ e, ∃ r : ℝ, x e = r
  · exact hid_real_of_real x w sh sc hx hw hsh hsc e
  · obtain ⟨i, hi⟩ := not_forall.mp hx
    rw [hid_of_infinite x w sh sc i ?_ e]
    · exact hsh e
    · generalize x i = y at hi ⊢
      induction y using EReal.rec with
      | bot => simp
      | coe r => exact absurd ⟨r, rfl⟩ hi
      | top => simp

/-- So is its product with a real matrix's column. -/
theorem dot_real (h v : Fin 1024 → EReal) (hh : ∀ e, ∃ r : ℝ, h e = r) (hv : ∀ e, ∃ r : ℝ, v e = r) : ∃ r : ℝ, ∑ e, h e * v e = r := by
  choose a ha using hh
  choose b hb using hv
  simp only [ha, hb, ← EReal.coe_mul, sum_coe]
  exact ⟨_, rfl⟩

end Cert.Kv

end
-- ==== Proof.Sub.KvPay.lean ====
/- The shared key and value kernel's stored vectors, read at a row and column. -/
module

public import proofs.«01_k».proof.Proof.Gen.KernelKvIdeal.Skeleton
public import proofs.«01_k».proof.Proof.Sub.KvMath

@[expose] public section

set_option maxRecDepth 16384

noncomputable section

namespace Cert.KernelKvIdeal.Kv

open Cert.KernelKvIdeal Cert.KernelKvIdeal.Gen Idealize.ShloMosaic Idealize.ShloMosaic.TcCoe Cert.Kv

variable (v0 : FVec Ideal S1x512x1024 .f32) (v2 : FVec Ideal S1x1024 .f32) (v4 v6 : FVec Ideal S1x1x1024 .f32)

theorem pay15_apply (r : Fin 512) (e : Fin 1024) :
    k0_pay15 (F := Ideal) v0 v2 v4 v6 (ix2 r e)
      = hid (fun i => v0 (ix3 0 r i)) (fun i => v2 (ix2 0 i)) (fun i => v4 (ix3 0 0 i)) (fun i => v6 (ix3 0 0 i)) e := by
  unfold hid eps
  pointwise [k0_pay15]

theorem pay16_apply (W : FVec Ideal S1024x1024 .bf16) (r : Fin 512) (n : Fin 1024) :
    k0_pay16 (F := Ideal) v0 v2 v4 v6 W (ix2 r n)
      = ∑ e : Fin 1024, hid (fun i => v0 (ix3 0 r i)) (fun i => v2 (ix2 0 i)) (fun i => v4 (ix3 0 0 i)) (fun i => v6 (ix3 0 0 i)) e * W (ix2 e n) := by
  simp only [← pay15_apply]
  pointwise [k0_pay16]

theorem pay17_apply (W : FVec Ideal S1024x1024 .bf16) (r : Fin 512) (n : Fin 1024) :
    k0_pay17 (F := Ideal) v0 v2 v4 v6 W (ix2 r n)
      = ∑ e : Fin 1024, hid (fun i => v0 (ix3 0 r i)) (fun i => v2 (ix2 0 i)) (fun i => v4 (ix3 0 0 i)) (fun i => v6 (ix3 0 0 i)) e * W (ix2 e n) := by
  simp only [← pay15_apply]
  pointwise [k0_pay17]

theorem pay18_apply (W : FVec Ideal S1024x1024 .bf16) (j : S512x1024.Idx) :
    k0_pay18 (F := Ideal) v0 v2 v4 v6 W j = k0_pay17 (F := Ideal) v0 v2 v4 v6 W j := rfl

/-- The lanes' numbers. -/
def lanes : IVec S512x128 32 := iota .tc S512x128 32 [1] iota_S512x128_d1_w32

/-- Whether a lane is the first head's. -/
def first : IVec S512x128 1 := cmpi .slt lanes (broadcast S512x128 64#32)

/-- The first head's sums of squares. -/
def loSum (x : FVec Ideal S512x128 .f32) : FVec Ideal S512x1 .f32 :=
  shapeCast S512x1 (multiReduction .add [1] S512 (select first (mulf x x) (broadcast S512x128 (Scalar.ofBits (F := Ideal) .f32 0x00000000#32)))
    0x00000000#32 reduces_S512x128_S512 (.inl rfl) rfl) shapeCasts_S512_S512x1

/-- Both heads' sums of squares. -/
def allSum (x : FVec Ideal S512x128 .f32) : FVec Ideal S512x1 .f32 :=
  shapeCast S512x1 (multiReduction .add [1] S512 (mulf x x) 0x00000000#32 reduces_S512x128_S512 (.inl rfl) rfl) shapeCasts_S512_S512x1

/-- A pair of heads, normalized. -/
def pairOf (x : FVec Ideal S512x128 .f32) (g : FVec Ideal S1x128 .f32) : FVec Ideal S512x128 .f32 :=
  mulf (mulf x (rsqrt (addf (mulf (select first (broadcastTo S512x128 (shapeCast S512x1 (loSum x) shapeCasts_S512x1_S512x1) broadcasts_S512x1_S512x128)
      (broadcastTo S512x128 (shapeCast S512x1 (subf (allSum x) (loSum x)) shapeCasts_S512x1_S512x1) broadcasts_S512x1_S512x128))
      (broadcast S512x128 (Scalar.ofBits (F := Ideal) .f32 0x3C800000#32))) (broadcast S512x128 (Scalar.ofBits (F := Ideal) .f32 0x358637BD#32)))))
    (broadcastTo S512x128 g broadcasts_S1x128_S512x128)

theorem slt64 : ∀ l : Fin 128, IntOp.cmpi CmpIPredicate.slt (BitVec.ofNat 32 l.val) 64#32 = if l.val < 64 then 1#1 else 0#1 := by
  decide +kernel

theorem first_apply (r : Fin 512) (l : Fin 128) : first (ix2 r l) = if l.val < 64 then 1#1 else 0#1 := by
  rw [← slt64]
  pointwise [first, lanes]

theorem zero_word : Ideal.ofBits .f32 0x00000000#32 = 0 := by simp [Ideal.ofBits, Ideal.ieee]

theorem loSum_apply (x : FVec Ideal S512x128 .f32) (r : Fin 512) :
    loSum x (ix2 r 0) = ∑ i : Fin 128, (if i.val < 64 then x (ix2 r i) * x (ix2 r i) else 0 : EReal) := by
  unfold loSum
  pointwise [first_apply]

theorem allSum_apply (x : FVec Ideal S512x128 .f32) (r : Fin 512) :
    allSum x (ix2 r 0) = ∑ i : Fin 128, (x (ix2 r i) * x (ix2 r i) : EReal) := by
  unfold allSum
  pointwise

theorem pairOf_apply (x : FVec Ideal S512x128 .f32) (g : FVec Ideal S1x128 .f32) (r : Fin 512) (l : Fin 128) :
    pairOf x g (ix2 r l) = pairRms (fun i => x (ix2 r i)) (g (ix2 0 l)) l := by
  unfold pairOf pairRms eps
  pointwise [first_apply, loSum_apply, allSum_apply]
  by_cases h : l.val < 64
  · simp only [if_pos h]
    rfl
  · simp only [if_neg h]
    rfl

theorem slice_apply (o : ℕ) (Y : FVec Ideal S512x1024 .f32) (hs : S512x1024.Slices ![0, o] S512x128) (r : Fin 512) (l : Fin 128) (ho : o + l.val < 1024) :
    extractStridedSlice S512x128 ![0, o] Y hs (ix2 r l) = Y (ix2 r ⟨o + l.val, ho⟩) := by
  pointwise

end Cert.KernelKvIdeal.Kv

end
-- ==== Proof.Sub.KvBlock.lean ====
/- What one grid point of the shared key and value kernel writes. -/
module

public import Idealize.ShloMosaic.Lib.WritesUnit
public import proofs.«01_k».proof.Proof.Gen.KernelKvIdeal.Value
public import proofs.«01_k».proof.Proof.Sub.KvPay

@[expose] public section

set_option maxRecDepth 16384

noncomputable section

namespace Cert.KernelKvIdeal.Kv

open Cert.KernelKvIdeal Cert.KernelKvIdeal.Gen Idealize.ShloMosaic Idealize.ShloMosaic.TcCoe Cert.Kv

theorem hz3 : (![0, 0, 0] : Fin 3 → ℕ) = fun _ => 0 := funext fun a => by fin_cases a <;> rfl
theorem hz2 : (![0, 0] : Fin 2 → ℕ) = fun _ => 0 := funext fun a => by fin_cases a <;> rfl

/-- A load of a whole buffer is what it holds. -/
theorem rd {s : Shape} {e : EltTy} (M : Memref sig .tc .vmem s e) (hM : M.IsWhole) (x : s.Idx → Elt Ideal e) {off : Fin s.rank → ℕ}
    (inb : ∀ a, off a + s.size a ≤ s.size a) (h0 : off = fun _ => 0) :
    M.view.readAt (Elt Ideal) (Rect.unit off s.size inb).toLoadRect (hM.unread x) = x := by
  subst h0
  rw [View.readAt_eq_ld, hM.read_unread]
  funext j
  show x _ = x j
  congr 1
  funext a
  apply Fin.ext
  show 0 + 1 * (j a).val = (j a).val
  omega

/-- A whole-block store, read back. -/
theorem whole_block {e : EltTy} (v : View sig .tc .vmem S1x512x1024 e) (f : v.ty.Contents (Elt Ideal)) (inb) (w : S1x512x1024.Idx → Elt Ideal e) (r : Fin 512) (n : Fin 1024) :
    v.read (Elt Ideal) (v.writes (Elt Ideal) f [⟨Rect.unit (s := S1x512x1024) ![0, 0, 0] S1x512x1024.size inb, w⟩]) (ix3 0 r n) = w (ix3 0 r n) := by
  rw [View.read_writes_cons_unit_of_mem v f inb w [] (ix3 0 r n) (ix3 0 r n) rfl (by intro a; fin_cases a <;> simp)]

/-- The keys a point writes: column `n` of a row, normalized with its pair of heads. -/
def keyBlk (K : FVec Ideal S512x1024 .f32) (g : FVec Ideal S1x128 .f32) (r : Fin 512) (n : Fin 1024) : EReal :=
  pairRms (fun i => K (ix2 r ⟨128 * (n.val / 128) + i.val, by omega⟩)) (g (ix2 0 ⟨n.val % 128, by omega⟩)) ⟨n.val % 128, by omega⟩

/-- The same as an array. -/
def keyArr (K : FVec Ideal S512x1024 .f32) (g : FVec Ideal S1x128 .f32) (j : S1x512x1024.Idx) : EReal := keyBlk K g (j 1) (j 2)

theorem piece_eq (o : ℕ) (p : Fin 8) (ho : o = 128 * p.val) (K : FVec Ideal S512x1024 .f32) (g : FVec Ideal S1x128 .f32) (w : S1x512x128.Idx → EReal)
    (hs : S512x1024.Slices ![0, o] S512x128)
    (hw : ∀ (r : Fin 512) (l : Fin 128), w (ix3 0 r l) = pairOf (extractStridedSlice S512x128 ![0, o] K hs) g (ix2 r l))
    (inb : ∀ a, (![0, 0, o] : Fin 3 → ℕ) a + S1x512x128.size a ≤ S1x512x1024.size a)
    (x : (Rect.unit (s := S1x512x1024) ![0, 0, o] S1x512x128.size inb).shape.Idx) :
    w x = keyArr K g ((Rect.unit (s := S1x512x1024) ![0, 0, o] S1x512x128.size inb).emb x) := by
  have hx : x = (ix3 0 (x 1) (x 2) : S1x512x128.Idx) := by
    funext a
    match a with
    | ⟨0, _⟩ => exact Fin.ext (by have : (x 0).val < 1 := (x 0).isLt; show (x 0).val = 0; omega)
    | ⟨1, _⟩ => rfl
    | ⟨2, _⟩ => rfl
  have h2 : (x 2).val < 128 := (x 2).isLt
  have hp := p.isLt
  have e1 : ((Rect.unit (s := S1x512x1024) ![0, 0, o] S1x512x128.size inb).emb x) 1 = (⟨(x 1).val, (x 1).isLt⟩ : Fin 512) :=
    Fin.ext (by show 0 + 1 * (x 1).val = (x 1).val; omega)
  have e2 : ((Rect.unit (s := S1x512x1024) ![0, 0, o] S1x512x128.size inb).emb x) 2 = (⟨o + (x 2).val, by omega⟩ : Fin 1024) :=
    Fin.ext (by show o + 1 * (x 2).val = o + (x 2).val; omega)
  unfold keyArr
  rw [e1, e2]
  refine (congrArg w hx).trans ((hw (x 1) (x 2)).trans ?_)
  refine (pairOf_apply _ g (x 1 : Fin 512) (x 2 : Fin 128)).trans ?_
  unfold keyBlk
  have eL : (⟨(o + (x 2).val) % 128, by omega⟩ : Fin 128) = (x 2 : Fin 128) := Fin.ext (by show (o + (x 2).val) % 128 = (x 2).val; omega)
  have eK : ∀ i : Fin 128, extractStridedSlice S512x128 ![0, o] K hs (ix2 (x 1) i) = K (ix2 (x 1) ⟨128 * ((o + (x 2).val) / 128) + i.val, by omega⟩) := fun i => by
    refine (slice_apply o K hs (x 1 : Fin 512) i (by omega)).trans (congrArg (fun q => K (ix2 (x 1 : Fin 512) q)) (Fin.ext ?_))
    show o + i.val = 128 * ((o + (x 2).val) / 128) + i.val
    omega
  exact (congrArg (fun f => pairRms f (g (ix2 0 (x 2 : Fin 128))) (x 2 : Fin 128)) (funext eK)).trans (congrArg (fun l => pairRms _ (g (ix2 0 l)) l) eL.symm)

theorem pay1_apply (v : FVec Ideal S512x128 .bf16) (r : Fin 512) (l : Fin 128) : k0_pay1 (F := Ideal) v (ix3 0 r l) = v (ix2 r l) := by
  pointwise [k0_pay1]
theorem pay2_apply (v : FVec Ideal S512x128 .f32) (r : Fin 512) (l : Fin 128) : k0_pay2 (F := Ideal) v (ix3 0 r l) = v (ix2 r l) := by
  pointwise [k0_pay2]
theorem pay3_apply (v : FVec Ideal S512x128 .f32) (r : Fin 512) (l : Fin 128) : k0_pay3 (F := Ideal) v (ix3 0 r l) = v (ix2 r l) := by
  pointwise [k0_pay3]
theorem pay4_apply (v : FVec Ideal S512x128 .f32) (r : Fin 512) (l : Fin 128) : k0_pay4 (F := Ideal) v (ix3 0 r l) = v (ix2 r l) := by
  pointwise [k0_pay4]
theorem pay5_apply (v : FVec Ideal S512x128 .f32) (r : Fin 512) (l : Fin 128) : k0_pay5 (F := Ideal) v (ix3 0 r l) = v (ix2 r l) := by
  pointwise [k0_pay5]
theorem pay40_apply (v : FVec Ideal S512x128 .f32) (r : Fin 512) (l : Fin 128) : k0_pay40 (F := Ideal) v (ix3 0 r l) = v (ix2 r l) := by
  pointwise [k0_pay40]
theorem pay41_apply (v : FVec Ideal S512x128 .f32) (r : Fin 512) (l : Fin 128) : k0_pay41 (F := Ideal) v (ix3 0 r l) = v (ix2 r l) := by
  pointwise [k0_pay41]
theorem pay42_apply (v : FVec Ideal S512x128 .f32) (r : Fin 512) (l : Fin 128) : k0_pay42 (F := Ideal) v (ix3 0 r l) = v (ix2 r l) := by
  pointwise [k0_pay42]
theorem pay8_apply (v : FVec Ideal S512x128 .f32) (r : Fin 512) (l : Fin 128) : k0_pay8 (F := Ideal) v (ix3 0 r l) = v (ix2 r l) := by
  pointwise [k0_pay8]
theorem pay9_apply (v : FVec Ideal S512x128 .f32) (r : Fin 512) (l : Fin 128) : k0_pay9 (F := Ideal) v (ix3 0 r l) = v (ix2 r l) := by
  pointwise [k0_pay9]
theorem pay10_apply (v : FVec Ideal S512x128 .f32) (r : Fin 512) (l : Fin 128) : k0_pay10 (F := Ideal) v (ix3 0 r l) = v (ix2 r l) := by
  pointwise [k0_pay10]
theorem pay11_apply (v : FVec Ideal S512x128 .f32) (r : Fin 512) (l : Fin 128) : k0_pay11 (F := Ideal) v (ix3 0 r l) = v (ix2 r l) := by
  pointwise [k0_pay11]
theorem pay12_apply (v : FVec Ideal S512x128 .f32) (r : Fin 512) (l : Fin 128) : k0_pay12 (F := Ideal) v (ix3 0 r l) = v (ix2 r l) := by
  pointwise [k0_pay12]
theorem pay13_apply (v : FVec Ideal S512x128 .f32) (r : Fin 512) (l : Fin 128) : k0_pay13 (F := Ideal) v (ix3 0 r l) = v (ix2 r l) := by
  pointwise [k0_pay13]
theorem pay14_apply (v : FVec Ideal S512x128 .f32) (r : Fin 512) (l : Fin 128) : k0_pay14 (F := Ideal) v (ix3 0 r l) = v (ix2 r l) := by
  pointwise [k0_pay14]
theorem pay6_apply (v : FVec Ideal S512x128 .f32) (r : Fin 512) (l : Fin 128) : k0_pay6 (F := Ideal) v (ix3 0 r l) = v (ix2 r l) := by
  pointwise [k0_pay6]
theorem pay7_apply (v : FVec Ideal S512x1024 .f32) (r : Fin 512) (n : Fin 1024) : k0_pay7 (F := Ideal) v (ix3 0 r n) = v (ix2 r n) := by
  pointwise [k0_pay7]
theorem pay19_apply (v : FVec Ideal S512x1024 .bf16) (r : Fin 512) (n : Fin 1024) : k0_pay19 (F := Ideal) v (ix3 0 r n) = v (ix2 r n) := by
  pointwise [k0_pay19]

theorem pay20_eq (g : FVec Ideal S1x128 .f32) : k0_pay20 (F := Ideal) g = g := by
  unfold k0_pay20
  exact shapeCast_self g _

theorem head0_eq (Y : FVec Ideal S512x1024 .f32) (g : FVec Ideal S1x128 .f32) :
    k0_pay21 (F := Ideal) Y g = pairOf (extractStridedSlice S512x128 ![0, 0] Y slices_S512x1024_o0_0_S512x128) g := by
  unfold k0_pay21
  rw [pay20_eq]
  rfl

section

variable (c : Dev nD) (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x128 .f32) (harg8 : arg8.IsWhole) (arg9 : Memref sig .tc .vmem S1x512x1024 .f32) (harg9 : arg9.IsWhole) (arg10 : Memref sig .tc .vmem S1x512x1024 .f32) (harg10 : arg10.IsWhole) (arg11 : Memref sig .tc .vmem S1x512x1024 .bf16) (harg11 : arg11.IsWhole) (arg12 : Memref sig .tc .vmem S1x512x1024 .bf16) (harg12 : arg12.IsWhole)
  (x0 : FVec Ideal S1x512x1024 .f32) (x1 x2 : FVec Ideal S1x1x1024 .f32) (x3 : FVec Ideal S1x1024 .f32) (x4 x5 : FVec Ideal S1024x1024 .bf16) (x6 : FVec Ideal S1x128 .f32)

theorem matA : kernelRun0_A.sl.r (F := Ideal) c arg2 harg2 arg3 harg3 arg4 harg4 arg5 harg5 arg6 harg6 x0 x1 x2 x3 x4 = k0_pay16 (F := Ideal) x0 x3 x1 x2 x4 := by
  unfold kernelRun0_A.sl.r
  rw [rd arg2 harg2 x0 inb_S1x512x1024_S1x512x1024_0_0_0 hz3, rd arg3 harg3 x1 inb_S1x1x1024_S1x1x1024_0_0_0 hz3, rd arg4 harg4 x2 inb_S1x1x1024_S1x1x1024_0_0_0 hz3,
    rd arg5 harg5 x3 inb_S1x1024_S1x1024_0_0 hz2, rd arg6 harg6 x4 inb_S1024x1024_S1024x1024_0_0 hz2]

theorem valA : kernelRun0_A.sl.r_1 (F := Ideal) c arg2 harg2 arg3 harg3 arg4 harg4 arg5 harg5 arg7 harg7 x0 x1 x2 x3 x5 = k0_pay17 (F := Ideal) x0 x3 x1 x2 x5 := by
  unfold kernelRun0_A.sl.r_1
  rw [rd arg2 harg2 x0 inb_S1x512x1024_S1x512x1024_0_0_0 hz3, rd arg3 harg3 x1 inb_S1x1x1024_S1x1x1024_0_0_0 hz3, rd arg4 harg4 x2 inb_S1x1x1024_S1x1x1024_0_0_0 hz3,
    rd arg5 harg5 x3 inb_S1x1024_S1x1024_0_0 hz2, rd arg7 harg7 x5 inb_S1024x1024_S1024x1024_0_0 hz2]

theorem halfA : kernelRun0_A.sl.r_2 (F := Ideal) c arg2 harg2 arg3 harg3 arg4 harg4 arg5 harg5 arg7 harg7 x0 x1 x2 x3 x5 = k0_pay18 (F := Ideal) x0 x3 x1 x2 x5 := by
  unfold kernelRun0_A.sl.r_2
  rw [rd arg2 harg2 x0 inb_S1x512x1024_S1x512x1024_0_0_0 hz3, rd arg3 harg3 x1 inb_S1x1x1024_S1x1x1024_0_0_0 hz3, rd arg4 harg4 x2 inb_S1x1x1024_S1x1x1024_0_0_0 hz3,
    rd arg5 harg5 x3 inb_S1x1024_S1x1024_0_0 hz2, rd arg7 harg7 x5 inb_S1024x1024_S1024x1024_0_0 hz2]

theorem head0A : kernelRun0_A.sl.r_4 (F := Ideal) c arg2 harg2 arg3 harg3 arg4 harg4 arg5 harg5 arg6 harg6 arg8 harg8 x0 x1 x2 x3 x4 x6
    = pairOf (extractStridedSlice S512x128 ![0, 0] (k0_pay16 (F := Ideal) x0 x3 x1 x2 x4) slices_S512x1024_o0_0_S512x128) x6 := by
  rw [← matA c arg2 harg2 arg3 harg3 arg4 harg4 arg5 harg5 arg6 harg6 x0 x1 x2 x3 x4]
  unfold kernelRun0_A.sl.r_4
  rw [rd arg8 harg8 x6 inb_S1x128_S1x128_0_0 hz2]
  exact head0_eq _ x6

theorem head128A : kernelRun0_A.sl.r_8 (F := Ideal) c arg2 harg2 arg3 harg3 arg4 harg4 arg5 harg5 arg6 harg6 arg8 harg8 x0 x1 x2 x3 x4 x6
    = pairOf (extractStridedSlice S512x128 ![0, 128] (k0_pay16 (F := Ideal) x0 x3 x1 x2 x4) slices_S512x1024_o0_128_S512x128) x6 := by
  rw [← matA c arg2 harg2 arg3 harg3 arg4 harg4 arg5 harg5 arg6 harg6 x0 x1 x2 x3 x4]
  unfold kernelRun0_A.sl.r_8 kernelRun0_A.sl.r_3 kernelRun0_A.sl.r_5 kernelRun0_A.sl.r_6 kernelRun0_A.sl.r_7
  rw [rd arg8 harg8 x6 inb_S1x128_S1x128_0_0 hz2, pay20_eq]
  rfl

theorem head256A : kernelRun0_A.sl.r_9 (F := Ideal) c arg2 harg2 arg3 harg3 arg4 harg4 arg5 harg5 arg6 harg6 arg8 harg8 x0 x1 x2 x3 x4 x6
    = pairOf (extractStridedSlice S512x128 ![0, 256] (k0_pay16 (F := Ideal) x0 x3 x1 x2 x4) slices_S512x1024_o0_256_S512x128) x6 := by
  rw [← matA c arg2 harg2 arg3 harg3 arg4 harg4 arg5 harg5 arg6 harg6 x0 x1 x2 x3 x4]
  unfold kernelRun0_A.sl.r_9 kernelRun0_A.sl.r_3
  rw [rd arg8 harg8 x6 inb_S1x128_S1x128_0_0 hz2, pay20_eq]
  rfl

theorem head384A : kernelRun0_A.sl.r_13 (F := Ideal) c arg2 harg2 arg3 harg3 arg4 harg4 arg5 harg5 arg6 harg6 arg8 harg8 x0 x1 x2 x3 x4 x6
    = pairOf (extractStridedSlice S512x128 ![0, 384] (k0_pay16 (F := Ideal) x0 x3 x1 x2 x4) slices_S512x1024_o0_384_S512x128) x6 := by
  rw [← matA c arg2 harg2 arg3 harg3 arg4 harg4 arg5 harg5 arg6 harg6 x0 x1 x2 x3 x4]
  unfold kernelRun0_A.sl.r_13 kernelRun0_A.sl.r_3 kernelRun0_A.sl.r_10 kernelRun0_A.sl.r_11 kernelRun0_A.sl.r_12
  rw [rd arg8 harg8 x6 inb_S1x128_S1x128_0_0 hz2, pay20_eq]
  rfl

theorem head512A : kernelRun0_A.sl.r_14 (F := Ideal) c arg2 harg2 arg3 harg3 arg4 harg4 arg5 harg5 arg6 harg6 arg8 harg8 x0 x1 x2 x3 x4 x6
    = pairOf (extractStridedSlice S512x128 ![0, 512] (k0_pay16 (F := Ideal) x0 x3 x1 x2 x4) slices_S512x1024_o0_512_S512x128) x6 := by
  rw [← matA c arg2 harg2 arg3 harg3 arg4 harg4 arg5 harg5 arg6 harg6 x0 x1 x2 x3 x4]
  unfold kernelRun0_A.sl.r_14 kernelRun0_A.sl.r_3
  rw [rd arg8 harg8 x6 inb_S1x128_S1x128_0_0 hz2, pay20_eq]
  rfl

theorem head640A : kernelRun0_A.sl.r_17 (F := Ideal) c arg2 harg2 arg3 harg3 arg4 harg4 arg5 harg5 arg6 harg6 arg8 harg8 x0 x1 x2 x3 x4 x6
    = pairOf (extractStridedSlice S512x128 ![0, 640] (k0_pay16 (F := Ideal) x0 x3 x1 x2 x4) slices_S512x1024_o0_640_S512x128) x6 := by
  rw [← matA c arg2 harg2 arg3 harg3 arg4 harg4 arg5 harg5 arg6 harg6 x0 x1 x2 x3 x4]
  unfold kernelRun0_A.sl.r_17 kernelRun0_A.sl.r_3 kernelRun0_A.sl.r_15 kernelRun0_A.sl.r_16
  rw [rd arg8 harg8 x6 inb_S1x128_S1x128_0_0 hz2, pay20_eq]
  rfl

theorem head768A : kernelRun0_A.sl.r_18 (F := Ideal) c arg2 harg2 arg3 harg3 arg4 harg4 arg5 harg5 arg6 harg6 arg8 harg8 x0 x1 x2 x3 x4 x6
    = pairOf (extractStridedSlice S512x128 ![0, 768] (k0_pay16 (F := Ideal) x0 x3 x1 x2 x4) slices_S512x1024_o0_768_S512x128) x6 := by
  rw [← matA c arg2 harg2 arg3 harg3 arg4 harg4 arg5 harg5 arg6 harg6 x0 x1 x2 x3 x4]
  unfold kernelRun0_A.sl.r_18 kernelRun0_A.sl.r_3
  rw [rd arg8 harg8 x6 inb_S1x128_S1x128_0_0 hz2, pay20_eq]
  rfl

theorem head896A : kernelRun0_A.sl.r_19 (F := Ideal) c arg2 harg2 arg3 harg3 arg4 harg4 arg5 harg5 arg6 harg6 arg8 harg8 x0 x1 x2 x3 x4 x6
    = pairOf (extractStridedSlice S512x128 ![0, 896] (k0_pay16 (F := Ideal) x0 x3 x1 x2 x4) slices_S512x1024_o0_896_S512x128) x6 := by
  rw [← matA c arg2 harg2 arg3 harg3 arg4 harg4 arg5 harg5 arg6 harg6 x0 x1 x2 x3 x4]
  unfold kernelRun0_A.sl.r_19 kernelRun0_A.sl.r_3
  rw [rd arg8 harg8 x6 inb_S1x128_S1x128_0_0 hz2, pay20_eq]
  rfl

theorem matB : kernelRun0_B.sl.r (F := Ideal) c arg2 harg2 arg3 harg3 arg4 harg4 arg5 harg5 arg6 harg6 x0 x1 x2 x3 x4 = k0_pay16 (F := Ideal) x0 x3 x1 x2 x4 := by
  unfold kernelRun0_B.sl.r
  rw [rd arg2 harg2 x0 inb_S1x512x1024_S1x512x1024_0_0_0 hz3, rd arg3 harg3 x1 inb_S1x1x1024_S1x1x1024_0_0_0 hz3, rd arg4 harg4 x2 inb_S1x1x1024_S1x1x1024_0_0_0 hz3,
    rd arg5 harg5 x3 inb_S1x1024_S1x1024_0_0 hz2, rd arg6 harg6 x4 inb_S1024x1024_S1024x1024_0_0 hz2]

theorem valB : kernelRun0_B.sl.r_1 (F := Ideal) c arg2 harg2 arg3 harg3 arg4 harg4 arg5 harg5 arg7 harg7 x0 x1 x2 x3 x5 = k0_pay17 (F := Ideal) x0 x3 x1 x2 x5 := by
  unfold kernelRun0_B.sl.r_1
  rw [rd arg2 harg2 x0 inb_S1x512x1024_S1x512x1024_0_0_0 hz3, rd arg3 harg3 x1 inb_S1x1x1024_S1x1x1024_0_0_0 hz3, rd arg4 harg4 x2 inb_S1x1x1024_S1x1x1024_0_0_0 hz3,
    rd arg5 harg5 x3 inb_S1x1024_S1x1024_0_0 hz2, rd arg7 harg7 x5 inb_S1024x1024_S1024x1024_0_0 hz2]

theorem halfB : kernelRun0_B.sl.r_2 (F := Ideal) c arg2 harg2 arg3 harg3 arg4 harg4 arg5 harg5 arg7 harg7 x0 x1 x2 x3 x5 = k0_pay18 (F := Ideal) x0 x3 x1 x2 x5 := by
  unfold kernelRun0_B.sl.r_2
  rw [rd arg2 harg2 x0 inb_S1x512x1024_S1x512x1024_0_0_0 hz3, rd arg3 harg3 x1 inb_S1x1x1024_S1x1x1024_0_0_0 hz3, rd arg4 harg4 x2 inb_S1x1x1024_S1x1x1024_0_0_0 hz3,
    rd arg5 harg5 x3 inb_S1x1024_S1x1024_0_0 hz2, rd arg7 harg7 x5 inb_S1024x1024_S1024x1024_0_0 hz2]

theorem head0B : kernelRun0_B.sl.r_4 (F := Ideal) c arg2 harg2 arg3 harg3 arg4 harg4 arg5 harg5 arg6 harg6 arg8 harg8 x0 x1 x2 x3 x4 x6
    = pairOf (extractStridedSlice S512x128 ![0, 0] (k0_pay16 (F := Ideal) x0 x3 x1 x2 x4) slices_S512x1024_o0_0_S512x128) x6 := by
  rw [← matB c arg2 harg2 arg3 harg3 arg4 harg4 arg5 harg5 arg6 harg6 x0 x1 x2 x3 x4]
  unfold kernelRun0_B.sl.r_4
  rw [rd arg8 harg8 x6 inb_S1x128_S1x128_0_0 hz2]
  exact head0_eq _ x6

theorem head128B : kernelRun0_B.sl.r_8 (F := Ideal) c arg2 harg2 arg3 harg3 arg4 harg4 arg5 harg5 arg6 harg6 arg8 harg8 x0 x1 x2 x3 x4 x6
    = pairOf (extractStridedSlice S512x128 ![0, 128] (k0_pay16 (F := Ideal) x0 x3 x1 x2 x4) slices_S512x1024_o0_128_S512x128) x6 := by
  rw [← matB c arg2 harg2 arg3 harg3 arg4 harg4 arg5 harg5 arg6 harg6 x0 x1 x2 x3 x4]
  unfold kernelRun0_B.sl.r_8 kernelRun0_B.sl.r_3 kernelRun0_B.sl.r_5 kernelRun0_B.sl.r_6 kernelRun0_B.sl.r_7
  rw [rd arg8 harg8 x6 inb_S1x128_S1x128_0_0 hz2, pay20_eq]
  rfl

theorem head256B : kernelRun0_B.sl.r_9 (F := Ideal) c arg2 harg2 arg3 harg3 arg4 harg4 arg5 harg5 arg6 harg6 arg8 harg8 x0 x1 x2 x3 x4 x6
    = pairOf (extractStridedSlice S512x128 ![0, 256] (k0_pay16 (F := Ideal) x0 x3 x1 x2 x4) slices_S512x1024_o0_256_S512x128) x6 := by
  rw [← matB c arg2 harg2 arg3 harg3 arg4 harg4 arg5 harg5 arg6 harg6 x0 x1 x2 x3 x4]
  unfold kernelRun0_B.sl.r_9 kernelRun0_B.sl.r_3
  rw [rd arg8 harg8 x6 inb_S1x128_S1x128_0_0 hz2, pay20_eq]
  rfl

theorem head384B : kernelRun0_B.sl.r_13 (F := Ideal) c arg2 harg2 arg3 harg3 arg4 harg4 arg5 harg5 arg6 harg6 arg8 harg8 x0 x1 x2 x3 x4 x6
    = pairOf (extractStridedSlice S512x128 ![0, 384] (k0_pay16 (F := Ideal) x0 x3 x1 x2 x4) slices_S512x1024_o0_384_S512x128) x6 := by
  rw [← matB c arg2 harg2 arg3 harg3 arg4 harg4 arg5 harg5 arg6 harg6 x0 x1 x2 x3 x4]
  unfold kernelRun0_B.sl.r_13 kernelRun0_B.sl.r_3 kernelRun0_B.sl.r_10 kernelRun0_B.sl.r_11 kernelRun0_B.sl.r_12
  rw [rd arg8 harg8 x6 inb_S1x128_S1x128_0_0 hz2, pay20_eq]
  rfl

theorem head512B : kernelRun0_B.sl.r_14 (F := Ideal) c arg2 harg2 arg3 harg3 arg4 harg4 arg5 harg5 arg6 harg6 arg8 harg8 x0 x1 x2 x3 x4 x6
    = pairOf (extractStridedSlice S512x128 ![0, 512] (k0_pay16 (F := Ideal) x0 x3 x1 x2 x4) slices_S512x1024_o0_512_S512x128) x6 := by
  rw [← matB c arg2 harg2 arg3 harg3 arg4 harg4 arg5 harg5 arg6 harg6 x0 x1 x2 x3 x4]
  unfold kernelRun0_B.sl.r_14 kernelRun0_B.sl.r_3
  rw [rd arg8 harg8 x6 inb_S1x128_S1x128_0_0 hz2, pay20_eq]
  rfl

theorem head640B : kernelRun0_B.sl.r_17 (F := Ideal) c arg2 harg2 arg3 harg3 arg4 harg4 arg5 harg5 arg6 harg6 arg8 harg8 x0 x1 x2 x3 x4 x6
    = pairOf (extractStridedSlice S512x128 ![0, 640] (k0_pay16 (F := Ideal) x0 x3 x1 x2 x4) slices_S512x1024_o0_640_S512x128) x6 := by
  rw [← matB c arg2 harg2 arg3 harg3 arg4 harg4 arg5 harg5 arg6 harg6 x0 x1 x2 x3 x4]
  unfold kernelRun0_B.sl.r_17 kernelRun0_B.sl.r_3 kernelRun0_B.sl.r_15 kernelRun0_B.sl.r_16
  rw [rd arg8 harg8 x6 inb_S1x128_S1x128_0_0 hz2, pay20_eq]
  rfl

theorem head768B : kernelRun0_B.sl.r_18 (F := Ideal) c arg2 harg2 arg3 harg3 arg4 harg4 arg5 harg5 arg6 harg6 arg8 harg8 x0 x1 x2 x3 x4 x6
    = pairOf (extractStridedSlice S512x128 ![0, 768] (k0_pay16 (F := Ideal) x0 x3 x1 x2 x4) slices_S512x1024_o0_768_S512x128) x6 := by
  rw [← matB c arg2 harg2 arg3 harg3 arg4 harg4 arg5 harg5 arg6 harg6 x0 x1 x2 x3 x4]
  unfold kernelRun0_B.sl.r_18 kernelRun0_B.sl.r_3
  rw [rd arg8 harg8 x6 inb_S1x128_S1x128_0_0 hz2, pay20_eq]
  rfl

theorem head896B : kernelRun0_B.sl.r_19 (F := Ideal) c arg2 harg2 arg3 harg3 arg4 harg4 arg5 harg5 arg6 harg6 arg8 harg8 x0 x1 x2 x3 x4 x6
    = pairOf (extractStridedSlice S512x128 ![0, 896] (k0_pay16 (F := Ideal) x0 x3 x1 x2 x4) slices_S512x1024_o0_896_S512x128) x6 := by
  rw [← matB c arg2 harg2 arg3 harg3 arg4 harg4 arg5 harg5 arg6 harg6 x0 x1 x2 x3 x4]
  unfold kernelRun0_B.sl.r_19 kernelRun0_B.sl.r_3
  rw [rd arg8 harg8 x6 inb_S1x128_S1x128_0_0 hz2, pay20_eq]
  rfl

/-- The keys stored in half the width, at a row and column. -/
theorem out9A (hc0 : ¬cond0_0 i) (r : Fin 512) (n : Fin 1024) :
    out0_A_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 (ix3 0 r n) = keyBlk (k0_pay16 (F := Ideal) x0 x3 x1 x2 x4) x6 r n := by
  unfold out0_A_9
  refine View.read_writes_apply_of_pieces _ _ (keyArr (k0_pay16 (F := Ideal) x0 x3 x1 x2 x4) x6) _ ?_ (ix3 0 r n) (cover0_A_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 _)
  unfold kernelRun0_A
  dsimp only
  intro pc hpc x
  simp only [List.mem_cons, List.not_mem_nil, or_false] at hpc
  rcases hpc with rfl | rfl | rfl | rfl | rfl | rfl | rfl | rfl
  · exact piece_eq 896 7 rfl _ x6 _ slices_S512x1024_o0_896_S512x128 (fun r l => (pay5_apply _ r l).trans (congrFun (head896A c arg2 harg2 arg3 harg3 arg4 harg4 arg5 harg5 arg6 harg6 arg8 harg8 x0 x1 x2 x3 x4 x6) _)) inb_S1x512x1024_S1x512x128_0_0_896 x
  · exact piece_eq 768 6 rfl _ x6 _ slices_S512x1024_o0_768_S512x128 (fun r l => (pay4_apply _ r l).trans (congrFun (head768A c arg2 harg2 arg3 harg3 arg4 harg4 arg5 harg5 arg6 harg6 arg8 harg8 x0 x1 x2 x3 x4 x6) _)) inb_S1x512x1024_S1x512x128_0_0_768 x
  · exact piece_eq 640 5 rfl _ x6 _ slices_S512x1024_o0_640_S512x128 (fun r l => (pay3_apply _ r l).trans (congrFun (head640A c arg2 harg2 arg3 harg3 arg4 harg4 arg5 harg5 arg6 harg6 arg8 harg8 x0 x1 x2 x3 x4 x6) _)) inb_S1x512x1024_S1x512x128_0_0_640 x
  · exact piece_eq 512 4 rfl _ x6 _ slices_S512x1024_o0_512_S512x128 (fun r l => (pay2_apply _ r l).trans (congrFun (head512A c arg2 harg2 arg3 harg3 arg4 harg4 arg5 harg5 arg6 harg6 arg8 harg8 x0 x1 x2 x3 x4 x6) _)) inb_S1x512x1024_S1x512x128_0_0_512 x
  · exact piece_eq 384 3 rfl _ x6 _ slices_S512x1024_o0_384_S512x128 (fun r l => (pay1_apply _ r l).trans (congrFun (head384A c arg2 harg2 arg3 harg3 arg4 harg4 arg5 harg5 arg6 harg6 arg8 harg8 x0 x1 x2 x3 x4 x6) _)) inb_S1x512x1024_S1x512x128_0_0_384 x
  · exact piece_eq 256 2 rfl _ x6 _ slices_S512x1024_o0_256_S512x128 (fun r l => (pay42_apply _ r l).trans (congrFun (head256A c arg2 harg2 arg3 harg3 arg4 harg4 arg5 harg5 arg6 harg6 arg8 harg8 x0 x1 x2 x3 x4 x6) _)) inb_S1x512x1024_S1x512x128_0_0_256 x
  · exact piece_eq 128 1 rfl _ x6 _ slices_S512x1024_o0_128_S512x128 (fun r l => (pay41_apply _ r l).trans (congrFun (head128A c arg2 harg2 arg3 harg3 arg4 harg4 arg5 harg5 arg6 harg6 arg8 harg8 x0 x1 x2 x3 x4 x6) _)) inb_S1x512x1024_S1x512x128_0_0_128 x
  · exact piece_eq 0 0 rfl _ x6 _ slices_S512x1024_o0_0_S512x128 (fun r l => (pay40_apply _ r l).trans (congrFun (head0A c arg2 harg2 arg3 harg3 arg4 harg4 arg5 harg5 arg6 harg6 arg8 harg8 x0 x1 x2 x3 x4 x6) _)) inb_S1x512x1024_S1x512x128_0_0_0 x

/-- The keys stored in half the width, at a row and column. -/
theorem out9B (hc0 : cond0_0 i) (r : Fin 512) (n : Fin 1024) :
    out0_B_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 (ix3 0 r n) = keyBlk (k0_pay16 (F := Ideal) x0 x3 x1 x2 x4) x6 r n := by
  unfold out0_B_9
  refine View.read_writes_apply_of_pieces _ _ (keyArr (k0_pay16 (F := Ideal) x0 x3 x1 x2 x4) x6) _ ?_ (ix3 0 r n) (cover0_B_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 _)
  unfold kernelRun0_B
  dsimp only
  intro pc hpc x
  simp only [List.mem_cons, List.not_mem_nil, or_false] at hpc
  rcases hpc with rfl | rfl | rfl | rfl | rfl | rfl | rfl | rfl
  · exact piece_eq 896 7 rfl _ x6 _ slices_S512x1024_o0_896_S512x128 (fun r l => (pay5_apply _ r l).trans (congrFun (head896B c arg2 harg2 arg3 harg3 arg4 harg4 arg5 harg5 arg6 harg6 arg8 harg8 x0 x1 x2 x3 x4 x6) _)) inb_S1x512x1024_S1x512x128_0_0_896 x
  · exact piece_eq 768 6 rfl _ x6 _ slices_S512x1024_o0_768_S512x128 (fun r l => (pay4_apply _ r l).trans (congrFun (head768B c arg2 harg2 arg3 harg3 arg4 harg4 arg5 harg5 arg6 harg6 arg8 harg8 x0 x1 x2 x3 x4 x6) _)) inb_S1x512x1024_S1x512x128_0_0_768 x
  · exact piece_eq 640 5 rfl _ x6 _ slices_S512x1024_o0_640_S512x128 (fun r l => (pay3_apply _ r l).trans (congrFun (head640B c arg2 harg2 arg3 harg3 arg4 harg4 arg5 harg5 arg6 harg6 arg8 harg8 x0 x1 x2 x3 x4 x6) _)) inb_S1x512x1024_S1x512x128_0_0_640 x
  · exact piece_eq 512 4 rfl _ x6 _ slices_S512x1024_o0_512_S512x128 (fun r l => (pay2_apply _ r l).trans (congrFun (head512B c arg2 harg2 arg3 harg3 arg4 harg4 arg5 harg5 arg6 harg6 arg8 harg8 x0 x1 x2 x3 x4 x6) _)) inb_S1x512x1024_S1x512x128_0_0_512 x
  · exact piece_eq 384 3 rfl _ x6 _ slices_S512x1024_o0_384_S512x128 (fun r l => (pay1_apply _ r l).trans (congrFun (head384B c arg2 harg2 arg3 harg3 arg4 harg4 arg5 harg5 arg6 harg6 arg8 harg8 x0 x1 x2 x3 x4 x6) _)) inb_S1x512x1024_S1x512x128_0_0_384 x
  · exact piece_eq 256 2 rfl _ x6 _ slices_S512x1024_o0_256_S512x128 (fun r l => (pay42_apply _ r l).trans (congrFun (head256B c arg2 harg2 arg3 harg3 arg4 harg4 arg5 harg5 arg6 harg6 arg8 harg8 x0 x1 x2 x3 x4 x6) _)) inb_S1x512x1024_S1x512x128_0_0_256 x
  · exact piece_eq 128 1 rfl _ x6 _ slices_S512x1024_o0_128_S512x128 (fun r l => (pay41_apply _ r l).trans (congrFun (head128B c arg2 harg2 arg3 harg3 arg4 harg4 arg5 harg5 arg6 harg6 arg8 harg8 x0 x1 x2 x3 x4 x6) _)) inb_S1x512x1024_S1x512x128_0_0_128 x
  · exact piece_eq 0 0 rfl _ x6 _ slices_S512x1024_o0_0_S512x128 (fun r l => (pay40_apply _ r l).trans (congrFun (head0B c arg2 harg2 arg3 harg3 arg4 harg4 arg5 harg5 arg6 harg6 arg8 harg8 x0 x1 x2 x3 x4 x6) _)) inb_S1x512x1024_S1x512x128_0_0_0 x

/-- The last rows' keys, at a row and column. -/
theorem out7B (hc0 : cond0_0 i) (r : Fin 512) (n : Fin 1024) :
    out0_B_7 (F := Ideal) c i arg2 harg2 arg3 harg3 arg4 harg4 arg5 harg5 arg6 harg6 arg7 harg7 arg8 harg8 arg9 harg9 arg10 harg10 arg11 harg11 arg12 harg12 hc0 x0 x1 x2 x3 x4 x5 x6 (ix3 0 r n) = keyBlk (k0_pay16 (F := Ideal) x0 x3 x1 x2 x4) x6 r n := by
  unfold out0_B_7
  refine View.read_writes_apply_of_pieces _ _ (keyArr (k0_pay16 (F := Ideal) x0 x3 x1 x2 x4) x6) _ ?_ (ix3 0 r n) (cover0_B_7 (F := Ideal) c i arg2 harg2 arg3 harg3 arg4 harg4 arg5 harg5 arg6 harg6 arg7 harg7 arg8 harg8 arg9 harg9 arg10 harg10 arg11 harg11 arg12 harg12 hc0 x0 x1 x2 x3 x4 x5 x6 _)
  unfold kernelRun0_B
  dsimp only
  intro pc hpc x
  simp only [List.mem_cons, List.not_mem_nil, or_false] at hpc
  rcases hpc with rfl | rfl | rfl | rfl | rfl | rfl | rfl | rfl
  · exact piece_eq 896 7 rfl _ x6 _ slices_S512x1024_o0_896_S512x128 (fun r l => (pay6_apply _ r l).trans (congrFun (head896B c arg2 harg2 arg3 harg3 arg4 harg4 arg5 harg5 arg6 harg6 arg8 harg8 x0 x1 x2 x3 x4 x6) _)) inb_S1x512x1024_S1x512x128_0_0_896 x
  · exact piece_eq 768 6 rfl _ x6 _ slices_S512x1024_o0_768_S512x128 (fun r l => (pay14_apply _ r l).trans (congrFun (head768B c arg2 harg2 arg3 harg3 arg4 harg4 arg5 harg5 arg6 harg6 arg8 harg8 x0 x1 x2 x3 x4 x6) _)) inb_S1x512x1024_S1x512x128_0_0_768 x
  · exact piece_eq 640 5 rfl _ x6 _ slices_S512x1024_o0_640_S512x128 (fun r l => (pay13_apply _ r l).trans (congrFun (head640B c arg2 harg2 arg3 harg3 arg4 harg4 arg5 harg5 arg6 harg6 arg8 harg8 x0 x1 x2 x3 x4 x6) _)) inb_S1x512x1024_S1x512x128_0_0_640 x
  · exact piece_eq 512 4 rfl _ x6 _ slices_S512x1024_o0_512_S512x128 (fun r l => (pay12_apply _ r l).trans (congrFun (head512B c arg2 harg2 arg3 harg3 arg4 harg4 arg5 harg5 arg6 harg6 arg8 harg8 x0 x1 x2 x3 x4 x6) _)) inb_S1x512x1024_S1x512x128_0_0_512 x
  · exact piece_eq 384 3 rfl _ x6 _ slices_S512x1024_o0_384_S512x128 (fun r l => (pay11_apply _ r l).trans (congrFun (head384B c arg2 harg2 arg3 harg3 arg4 harg4 arg5 harg5 arg6 harg6 arg8 harg8 x0 x1 x2 x3 x4 x6) _)) inb_S1x512x1024_S1x512x128_0_0_384 x
  · exact piece_eq 256 2 rfl _ x6 _ slices_S512x1024_o0_256_S512x128 (fun r l => (pay10_apply _ r l).trans (congrFun (head256B c arg2 harg2 arg3 harg3 arg4 harg4 arg5 harg5 arg6 harg6 arg8 harg8 x0 x1 x2 x3 x4 x6) _)) inb_S1x512x1024_S1x512x128_0_0_256 x
  · exact piece_eq 128 1 rfl _ x6 _ slices_S512x1024_o0_128_S512x128 (fun r l => (pay9_apply _ r l).trans (congrFun (head128B c arg2 harg2 arg3 harg3 arg4 harg4 arg5 harg5 arg6 harg6 arg8 harg8 x0 x1 x2 x3 x4 x6) _)) inb_S1x512x1024_S1x512x128_0_0_128 x
  · exact piece_eq 0 0 rfl _ x6 _ slices_S512x1024_o0_0_S512x128 (fun r l => (pay8_apply _ r l).trans (congrFun (head0B c arg2 harg2 arg3 harg3 arg4 harg4 arg5 harg5 arg6 harg6 arg8 harg8 x0 x1 x2 x3 x4 x6) _)) inb_S1x512x1024_S1x512x128_0_0_0 x

/-- The values stored in half the width, at a row and column. -/
theorem out10A (hc0 : ¬cond0_0 i) (r : Fin 512) (n : Fin 1024) :
    out0_A_10 (F := Ideal) c i arg2 harg2 arg3 harg3 arg4 harg4 arg5 harg5 arg6 harg6 arg7 harg7 arg8 harg8 arg9 harg9 arg10 harg10 arg11 harg11 arg12 harg12 hc0 x0 x1 x2 x3 x4 x5 x6 (ix3 0 r n) = k0_pay17 (F := Ideal) x0 x3 x1 x2 x5 (ix2 r n) := by
  unfold out0_A_10
  unfold kernelRun0_A
  dsimp only
  rw [whole_block, pay19_apply, halfA c arg2 harg2 arg3 harg3 arg4 harg4 arg5 harg5 arg7 harg7 x0 x1 x2 x3 x5]
  rw [pay18_apply]

/-- The values stored in half the width, at a row and column. -/
theorem out10B (hc0 : cond0_0 i) (r : Fin 512) (n : Fin 1024) :
    out0_B_10 (F := Ideal) c i arg2 harg2 arg3 harg3 arg4 harg4 arg5 harg5 arg6 harg6 arg7 harg7 arg8 harg8 arg9 harg9 arg10 harg10 arg11 harg11 arg12 harg12 hc0 x0 x1 x2 x3 x4 x5 x6 (ix3 0 r n) = k0_pay17 (F := Ideal) x0 x3 x1 x2 x5 (ix2 r n) := by
  unfold out0_B_10
  unfold kernelRun0_B
  dsimp only
  rw [whole_block, pay19_apply, halfB c arg2 harg2 arg3 harg3 arg4 harg4 arg5 harg5 arg7 harg7 x0 x1 x2 x3 x5]
  rw [pay18_apply]

/-- The last rows' values, at a row and column. -/
theorem out8B (hc0 : cond0_0 i) (r : Fin 512) (n : Fin 1024) :
    out0_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 (ix3 0 r n) = k0_pay17 (F := Ideal) x0 x3 x1 x2 x5 (ix2 r n) := by
  unfold out0_B_8
  unfold kernelRun0_B
  dsimp only
  rw [whole_block, pay7_apply, valB c arg2 harg2 arg3 harg3 arg4 harg4 arg5 harg5 arg7 harg7 x0 x1 x2 x3 x5]

end

end Cert.KernelKvIdeal.Kv

end
-- ==== Proof.Sub.KvRef.lean ====
/- The reference's shared keys and values read at an index. -/
module

public import proofs.«01_k».proof.Proof.Gen.ReferenceKvIdeal.Run
public import proofs.«01_k».proof.Proof.Sub.KvMath
public import Idealize.ShloMosaic.Lib.Pipeline.Value

@[expose] public section

set_option maxRecDepth 16384

noncomputable section

namespace Cert.ReferenceKvIdeal.Kv

open Cert.ReferenceKvIdeal Cert.ReferenceKvIdeal.Gen Idealize.ShloMosaic Idealize.ShloMosaic.TcCoe Cert.Kv

/-- The rows' root mean squares' inverses. -/
def inv (X : FVec Ideal S16x4096x1024 .f32) : FVec Ideal S16x4096x1 .f32 :=
  Host.rsqrt (addf (Host.divf (broadcastInDim S16x4096x1 ![0, 1] bcast_S16x4096_S16x4096x1_0_1 (Host.reduceAdd (mulf X X) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))

/-- The modulated stream. -/
def stream (X : FVec Ideal S16x4096x1024 .f32) (sh sc : FVec Ideal S16x1024 .f32) (w : FVec Ideal S1024 .f32) : FVec Ideal S16x4096x1024 .f32 :=
  addf (mulf (mulf (mulf X (broadcastInDim S16x4096x1024 ![0, 1, 2] bcast_S16x4096x1_S16x4096x1024_0_1_2 (inv X))) (broadcastInDim S16x4096x1024 ![0, 1, 2] bcast_S1x1x1024_S16x4096x1024_0_1_2 (broadcastInDim S1x1x1024 ![2] bcast_S1024_S1x1x1024_2 w))) (broadcastInDim S16x4096x1024 ![0, 1, 2] bcast_S16x1x1024_S16x4096x1024_0_1_2 (addf (broadcastInDim S16x1x1024 ![] bcast_S_S16x1x1024 (constant S_ .f32 0x3F800000#32)) (broadcastInDim S16x1x1024 ![0, 2] bcast_S16x1024_S16x1x1024_0_2 sc)))) (broadcastInDim S16x4096x1024 ![0, 1, 2] bcast_S16x1x1024_S16x4096x1024_0_1_2 (broadcastInDim S16x1x1024 ![0, 2] bcast_S16x1024_S16x1x1024_0_2 sh))

/-- Its product with the weights. -/
def proj (H : FVec Ideal S16x4096x1024 .f32) (W : FVec Ideal S1024x2048 .f32) : FVec Ideal S16x4096x2048 .f32 :=
  Host.dotGeneral dot_S16x4096x1024_S1024x2048_S16x4096x2048_2_0_01_1_n_n none H W

/-- The keys' half, a head at a time. -/
def keys (P : FVec Ideal S16x4096x2048 .f32) : FVec Ideal S16x4096x16x64 .f32 :=
  shapeCast _ (extractStridedSlice S16x4096x1x16x64 ![0, 0, 0, 0, 0] (shapeCast _ P shapeCasts_S16x4096x2048_S16x4096x2x16x64) slices_S16x4096x2x16x64_S16x4096x1x16x64_0_0_0_0_0) shapeCasts_S16x4096x1x16x64_S16x4096x16x64

/-- The values' half, a head at a time. -/
def vals (P : FVec Ideal S16x4096x2048 .f32) : FVec Ideal S16x4096x16x64 .f32 :=
  shapeCast _ (extractStridedSlice S16x4096x1x16x64 ![0, 0, 1, 0, 0] (shapeCast _ P shapeCasts_S16x4096x2048_S16x4096x2x16x64) slices_S16x4096x2x16x64_S16x4096x1x16x64_0_0_1_0_0) shapeCasts_S16x4096x1x16x64_S16x4096x16x64

/-- Each head over its root mean square. -/
def normed (K : FVec Ideal S16x4096x16x64 .f32) (g : FVec Ideal S64 .f32) : FVec Ideal S16x4096x16x64 .f32 :=
  mulf (mulf K (broadcastInDim S16x4096x16x64 ![0, 1, 2, 3] bcast_S16x4096x16x1_S16x4096x16x64_0_1_2_3 (Host.rsqrt (addf (Host.divf (broadcastInDim S16x4096x16x1 ![0, 1, 2] bcast_S16x4096x16_S16x4096x16x1_0_1_2 (Host.reduceAdd (mulf K K) (constant S_ .f32 0x00000000#32) reducesTo_S16x4096x16x64_S16x4096x16_d3 h_S_)) (broadcastInDim S16x4096x16x1 ![] bcast_S_S16x4096x16x1 (constant S_ .f32 0x42800000#32))) (broadcastInDim S16x4096x16x1 ![] bcast_S_S16x4096x16x1 (constant S_ .f32 0x358637BD#32)))))) (broadcastInDim S16x4096x16x64 ![0, 1, 2, 3] bcast_S1x1x1x64_S16x4096x16x64_0_1_2_3 (broadcastInDim S1x1x1x64 ![3] bcast_S64_S1x1x1x64_3 g))

/-- The heads side by side again. -/
def flat (K : FVec Ideal S16x4096x16x64 .f32) : FVec Ideal S16x4096x1024 .f32 := shapeCast _ K shapeCasts_S16x4096x16x64_S16x4096x1024

/-- The last 512 rows. -/
def tail (A : FVec Ideal S16x4096x1024 .f32) : FVec Ideal S16x512x1024 .f32 :=
  extractStridedSlice S16x512x1024 ![0, 3584, 0] A slices_S16x4096x1024_S16x512x1024_0_3584_0

/-- The same in half the width. -/
def half (A : FVec Ideal S16x4096x1024 .f32) : FVec Ideal S16x4096x1024 .bf16 := truncf .bf16 A bitsLt_bf16_f32

/-- All rows' keys. -/
def allKeys (X : FVec Ideal S16x4096x1024 .f32) (sh sc : FVec Ideal S16x1024 .f32) (w : FVec Ideal S1024 .f32) (W : FVec Ideal S1024x2048 .f32) (g : FVec Ideal S64 .f32) :
    FVec Ideal S16x4096x1024 .f32 := flat (normed (keys (proj (stream X sh sc w) W)) g)

/-- All rows' values. -/
def allVals (X : FVec Ideal S16x4096x1024 .f32) (sh sc : FVec Ideal S16x1024 .f32) (w : FVec Ideal S1024 .f32) (W : FVec Ideal S1024x2048 .f32) :
    FVec Ideal S16x4096x1024 .f32 := flat (vals (proj (stream X sh sc w) W))

/-- The reference's four results are the last rows' keys and values, and all rows'. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = tail (allKeys (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v43) = tail (allVals (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v44) = half (allKeys (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v45) = half (allVals (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run (F := Ideal) m ρ

theorem inv_apply (X : FVec Ideal S16x4096x1024 .f32) (b : Fin 16) (t : Fin 4096) :
    inv X (ix3 b t 0) = Ideal.rsqrt (Ideal.div (∑ i : Fin 1024, X (ix3 b t i) * X (ix3 b t i)) (Ideal.ofBits .f32 0x44800000#32) + eps) := by
  unfold inv eps
  pointwise

theorem stream_apply (X : FVec Ideal S16x4096x1024 .f32) (sh sc : FVec Ideal S16x1024 .f32) (w : FVec Ideal S1024 .f32) (b : Fin 16) (t : Fin 4096) (e : Fin 1024) :
    stream X sh sc w (ix3 b t e) = hid (fun i => X (ix3 b t i)) (fun i => w (ix1 i)) (fun i => sh (ix2 b i)) (fun i => sc (ix2 b i)) e := by
  unfold stream hid
  pointwise [inv_apply]

theorem proj_apply (H : FVec Ideal S16x4096x1024 .f32) (W : FVec Ideal S1024x2048 .f32) (b : Fin 16) (t : Fin 4096) (n : Fin 2048) :
    proj H W (ix3 b t n) = ∑ e : Fin 1024, (H (ix3 b t e) * W (ix2 e n) : EReal) := by
  unfold proj
  pointwise

theorem keys_apply (P : FVec Ideal S16x4096x2048 .f32) (b : Fin 16) (t : Fin 4096) (h : Fin 16) (d : Fin 64) :
    keys P (ix4 b t h d) = P (ix3 b t ⟨h.val * 64 + d.val, by omega⟩) := by
  unfold keys
  pointwise

theorem vals_apply (P : FVec Ideal S16x4096x2048 .f32) (b : Fin 16) (t : Fin 4096) (h : Fin 16) (d : Fin 64) :
    vals P (ix4 b t h d) = P (ix3 b t ⟨1024 + h.val * 64 + d.val, by omega⟩) := by
  unfold vals
  pointwise

theorem normed_apply (K : FVec Ideal S16x4096x16x64 .f32) (g : FVec Ideal S64 .f32) (b : Fin 16) (t : Fin 4096) (h : Fin 16) (d : Fin 64) :
    normed K g (ix4 b t h d) = K (ix4 b t h d) * Ideal.rsqrt (Ideal.div (∑ i : Fin 64, K (ix4 b t h i) * K (ix4 b t h i)) (Ideal.ofBits .f32 0x42800000#32) + eps) * g (ix1 d) := by
  unfold normed eps
  pointwise

theorem flat_apply (K : FVec Ideal S16x4096x16x64 .f32) (b : Fin 16) (t : Fin 4096) (n : Fin 1024) :
    flat K (ix3 b t n) = K (ix4 b t ⟨n.val / 64, by omega⟩ ⟨n.val % 64, by omega⟩) := by
  unfold flat
  pointwise

theorem tail_apply (A : FVec Ideal S16x4096x1024 .f32) (b : Fin 16) (r : Fin 512) (n : Fin 1024) :
    tail A (ix3 b r n) = A (ix3 b ⟨3584 + r.val, by omega⟩ n) := by
  unfold tail
  pointwise

variable (X : FVec Ideal S16x4096x1024 .f32) (sh sc : FVec Ideal S16x1024 .f32) (w : FVec Ideal S1024 .f32) (W : FVec Ideal S1024x2048 .f32) (g : FVec Ideal S64 .f32)

/-- The projection at a row and column. -/
def col (b : Fin 16) (t : Fin 4096) (n : Fin 2048) : EReal :=
  ∑ e : Fin 1024, hid (fun i => X (ix3 b t i)) (fun i => w (ix1 i)) (fun i => sh (ix2 b i)) (fun i => sc (ix2 b i)) e * W (ix2 e n)

theorem proj_stream (b : Fin 16) (t : Fin 4096) (n : Fin 2048) : proj (stream X sh sc w) W (ix3 b t n) = col X sh sc w W b t n := by
  unfold col
  rw [proj_apply]
  simp only [stream_apply]

theorem allVals_apply (b : Fin 16) (t : Fin 4096) (n : Fin 1024) :
    allVals X sh sc w W (ix3 b t n) = col X sh sc w W b t ⟨1024 + n.val, by omega⟩ := by
  unfold allVals
  rw [flat_apply, vals_apply, proj_stream]
  congr 1
  apply Fin.ext
  show 1024 + n.val / 64 * 64 + n.val % 64 = 1024 + n.val
  omega

theorem allKeys_apply (b : Fin 16) (t : Fin 4096) (n : Fin 1024) :
    allKeys X sh sc w W g (ix3 b t n) = headRms (fun n => col X sh sc w W b t ⟨n.val, by omega⟩) (fun d => g (ix1 d)) n := by
  unfold allKeys headRms
  rw [flat_apply, normed_apply]
  simp only [keys_apply, proj_stream, mul_comm (n.val / 64) 64]
  have e : (⟨64 * (n.val / 64) + n.val % 64, by omega⟩ : Fin 2048) = ⟨n.val, by omega⟩ := Fin.ext (by show 64 * (n.val / 64) + n.val % 64 = n.val; omega)
  rw [e]

end Cert.ReferenceKvIdeal.Kv

end
-- ==== Proof.Sub.KvValue.lean ====
/- What the keys' and values' call ends with: each result is the reference's. -/
module

public import proofs.«01_k».proof.Proof.Sub.KvCover
public import proofs.«01_k».proof.Proof.Sub.KvBlock
public import proofs.«01_k».proof.Proof.Sub.KvRef

@[expose] public section

set_option maxRecDepth 16384

noncomputable section

namespace Cert.KernelKvIdeal.Kv

open Cert.KernelKvIdeal Cert.KernelKvIdeal.Gen Cert.Kv Cert.ReferenceKvIdeal.Kv Idealize.ShloMosaic Idealize.ShloMosaic.TcCoe

/-- Every entry is a real number. -/
def Reals {s : Shape} (X : FVec Ideal s .f32) : Prop := ∀ j, ∃ x : ℝ, X j = (x : EReal)

section

variable (X : FVec Ideal S16x4096x1024 .f32) (sh sc : FVec Ideal S16x1024 .f32) (w : FVec Ideal S1024 .f32) (W : FVec Ideal S1024x2048 .f32) (g : FVec Ideal S64 .f32)

/-- The projection is real, whatever the rows. -/
theorem col_real (hsh : Reals sh) (hsc : Reals sc) (hw : Reals w) (hW : Reals W) (b : Fin 16) (t : Fin 4096) (n : Fin 2048) :
    ∃ y : ℝ, col X sh sc w W b t n = y := by
  unfold col
  exact dot_real _ (fun e => W (ix2 e n)) (fun e => hid_real _ _ _ _ (fun i => hw (ix1 i)) (fun i => hsh (ix2 b i)) (fun i => hsc (ix2 b i)) e)
    (fun e => hW (ix2 e n))

variable (x0 : FVec Ideal S1x512x1024 .f32) (x1 x2 : FVec Ideal S1x1x1024 .f32) (x3 : FVec Ideal S1x1024 .f32) (x4 x5 : FVec Ideal S1024x1024 .bf16) (x6 : FVec Ideal S1x128 .f32)
variable (b : Fin 16) (t : Fin 4096) (r : Fin 512)
  (h0 : ∀ i : Fin 1024, x0 (ix3 0 r i) = X (ix3 b t i)) (h1 : ∀ i : Fin 1024, x1 (ix3 0 0 i) = sh (ix2 b i)) (h2 : ∀ i : Fin 1024, x2 (ix3 0 0 i) = sc (ix2 b i))
  (h3 : ∀ i : Fin 1024, x3 (ix2 0 i) = w (ix1 i)) (h4 : ∀ e n : Fin 1024, x4 (ix2 e n) = W (ix2 e ⟨n.val, by omega⟩))
  (h5 : ∀ e n : Fin 1024, x5 (ix2 e n) = W (ix2 e ⟨1024 + n.val, by omega⟩)) (h6 : ∀ l : Fin 128, x6 (ix2 0 l) = g (ix1 ⟨l.val % 64, by omega⟩))

include h0 h1 h2 h3 in
/-- A block's row of the keys' projection. -/
theorem mat_col (h4 : ∀ e n : Fin 1024, x4 (ix2 e n) = W (ix2 e ⟨n.val, by omega⟩)) (n : Fin 1024) :
    k0_pay16 (F := Ideal) x0 x3 x1 x2 x4 (ix2 r n) = col X sh sc w W b t ⟨n.val, by omega⟩ := by
  rw [pay16_apply]
  simp only [h0, h1, h2, h3, h4]
  rfl

include h0 h1 h2 h3 in
/-- A block's row of the values' projection is the reference's values'. -/
theorem vals_row (h5 : ∀ e n : Fin 1024, x5 (ix2 e n) = W (ix2 e ⟨1024 + n.val, by omega⟩)) (n : Fin 1024) :
    k0_pay17 (F := Ideal) x0 x3 x1 x2 x5 (ix2 r n) = allVals X sh sc w W (ix3 b t n) := by
  rw [pay17_apply, allVals_apply]
  simp only [h0, h1, h2, h3, h5]
  rfl

include h0 h1 h2 h3 in
/-- A block's row of the keys is the reference's keys'. -/
theorem keys_row (hsh : Reals sh) (hsc : Reals sc) (hw : Reals w) (hW : Reals W)
    (h4 : ∀ e n : Fin 1024, x4 (ix2 e n) = W (ix2 e ⟨n.val, by omega⟩)) (h6 : ∀ l : Fin 128, x6 (ix2 0 l) = g (ix1 ⟨l.val % 64, by omega⟩)) (n : Fin 1024) :
    keyBlk (k0_pay16 (F := Ideal) x0 x3 x1 x2 x4) x6 r n = allKeys X sh sc w W g (ix3 b t n) := by
  rw [allKeys_apply]
  have hp := pair_head (fun n => col X sh sc w W b t ⟨n.val, by omega⟩) (fun n => col_real X sh sc w W hsh hsc hw hW b t ⟨n.val, by omega⟩) (fun d => g (ix1 d))
    ⟨n.val / 128, by omega⟩ ⟨n.val % 128, by omega⟩
  have en : (⟨128 * (n.val / 128) + n.val % 128, by omega⟩ : Fin 1024) = n := Fin.ext (by show 128 * (n.val / 128) + n.val % 128 = n.val; omega)
  unfold keyBlk
  rw [h6, funext fun i : Fin 128 => mat_col X sh sc w W x0 x1 x2 x3 x4 b t r h0 h1 h2 h3 h4 ⟨128 * (n.val / 128) + i.val, by omega⟩]
  exact hp.trans (congrArg _ en)

end

/-- A block agreeing with an array at every row and column is the block read from it. -/
theorem cut_eq7 (O : FVec Ideal S1x512x1024 .f32) (G : FVec Ideal S16x512x1024 .f32) (t : Fin cfg0.N) (ht : t.val % 8 = 7)
    (h : ∀ (r : Fin 512) (n : Fin 1024), O (ix3 0 r n) = G (ix3 ⟨t.val / 8, by have := points t; omega⟩ r n)) :
    (cfg0.win 7).cut (grid0.coords t) O = ((cfg0.win 7).blk t).view.read (Elt Ideal) G := by
  refine funext fun (j : S1x512x1024.Idx) => ?_
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  show O j = _
  rw [hj]
  exact (h (j 1) (j 2)).trans (oblk7 G t ht (j 1) (j 2)).symm

theorem cut_eq8 (O : FVec Ideal S1x512x1024 .f32) (G : FVec Ideal S16x512x1024 .f32) (t : Fin cfg0.N) (ht : t.val % 8 = 7)
    (h : ∀ (r : Fin 512) (n : Fin 1024), O (ix3 0 r n) = G (ix3 ⟨t.val / 8, by have := points t; omega⟩ r n)) :
    (cfg0.win 8).cut (grid0.coords t) O = ((cfg0.win 8).blk t).view.read (Elt Ideal) G := by
  refine funext fun (j : S1x512x1024.Idx) => ?_
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  show O j = _
  rw [hj]
  exact (h (j 1) (j 2)).trans (oblk8 G t ht (j 1) (j 2)).symm

theorem cut_eq9 (O : FVec Ideal S1x512x1024 .bf16) (G : FVec Ideal S16x4096x1024 .bf16) (t : Fin cfg0.N)
    (h : ∀ (r : Fin 512) (n : Fin 1024), O (ix3 0 r n) = G (ix3 ⟨t.val / 8, by have := points t; omega⟩ ⟨512 * (t.val % 8) + r.val, by omega⟩ n)) :
    (cfg0.win 9).cut (grid0.coords t) O = ((cfg0.win 9).blk t).view.read (Elt Ideal) G := by
  refine funext fun (j : S1x512x1024.Idx) => ?_
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  show O j = _
  rw [hj]
  exact (h (j 1) (j 2)).trans (oblk9 G t (j 1) (j 2)).symm

theorem cut_eq10 (O : FVec Ideal S1x512x1024 .bf16) (G : FVec Ideal S16x4096x1024 .bf16) (t : Fin cfg0.N)
    (h : ∀ (r : Fin 512) (n : Fin 1024), O (ix3 0 r n) = G (ix3 ⟨t.val / 8, by have := points t; omega⟩ ⟨512 * (t.val % 8) + r.val, by omega⟩ n)) :
    (cfg0.win 10).cut (grid0.coords t) O = ((cfg0.win 10).blk t).view.read (Elt Ideal) G := by
  refine funext fun (j : S1x512x1024.Idx) => ?_
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  show O j = _
  rw [hj]
  exact (h (j 1) (j 2)).trans (oblk10 G t (j 1) (j 2)).symm

variable (m : (ℓ : Loc nD τ sig) → Buf (Elt Ideal) ℓ)

/-- The reference's keys and values of the call's six arguments. -/
def keysOf (c : Dev nD) : FVec Ideal S16x4096x1024 .f32 := allKeys (m (c.tc.loc main_arg0)) (m (c.tc.loc main_arg1)) (m (c.tc.loc main_arg2)) (m (c.tc.loc main_arg3)) (m (c.tc.loc main_arg4)) (m (c.tc.loc main_arg5))
def valsOf (c : Dev nD) : FVec Ideal S16x4096x1024 .f32 := allVals (m (c.tc.loc main_arg0)) (m (c.tc.loc main_arg1)) (m (c.tc.loc main_arg2)) (m (c.tc.loc main_arg3)) (m (c.tc.loc main_arg4))

/-- What point `t` computes of its blocks is its rows of the reference's keys, … -/
theorem keys_point (c : Dev nD) (q1 : Reals (m (c.tc.loc main_arg1))) (q2 : Reals (m (c.tc.loc main_arg2))) (q3 : Reals (m (c.tc.loc main_arg3))) (q4 : Reals (m (c.tc.loc main_arg4)))
    (t : Fin cfg0.N) (r : Fin 512) (n : Fin 1024) :
    keyBlk (k0_pay16 (F := Ideal) (iblk m c 0 t) (iblk m c 3 t) (iblk m c 1 t) (iblk m c 2 t) (iblk m c 4 t)) (iblk m c 6 t) r n
      = keysOf m c (ix3 ⟨t.val / 8, by have := points t; omega⟩ ⟨512 * (t.val % 8) + r.val, by omega⟩ n) :=
  keys_row (m (c.tc.loc main_arg0)) (m (c.tc.loc main_arg1)) (m (c.tc.loc main_arg2)) (m (c.tc.loc main_arg3)) (m (c.tc.loc main_arg4)) (m (c.tc.loc main_arg5))
    (iblk m c 0 t) (iblk m c 1 t) (iblk m c 2 t) (iblk m c 3 t) (iblk m c 4 t) (iblk m c 6 t) _ _ r
    (fun i => blk0 m c t r i) (fun i => blk1 m c t i) (fun i => blk2 m c t i) (fun i => blk3 m c t i) q1 q2 q3 q4
    (fun e n => blk4 m c t e n) (fun l => blk6 m c t l) n

/-- … and of its values. -/
theorem vals_point (c : Dev nD) (t : Fin cfg0.N) (r : Fin 512) (n : Fin 1024) :
    k0_pay17 (F := Ideal) (iblk m c 0 t) (iblk m c 3 t) (iblk m c 1 t) (iblk m c 2 t) (iblk m c 5 t) (ix2 r n)
      = valsOf m c (ix3 ⟨t.val / 8, by have := points t; omega⟩ ⟨512 * (t.val % 8) + r.val, by omega⟩ n) :=
  vals_row (m (c.tc.loc main_arg0)) (m (c.tc.loc main_arg1)) (m (c.tc.loc main_arg2)) (m (c.tc.loc main_arg3)) (m (c.tc.loc main_arg4))
    (iblk m c 0 t) (iblk m c 1 t) (iblk m c 2 t) (iblk m c 3 t) (iblk m c 5 t) _ _ r
    (fun i => blk0 m c t r i) (fun i => blk1 m c t i) (fun i => blk2 m c t i) (fun i => blk3 m c t i)
    (fun e n => blk5 m c t e n) n

/-- The last row block of an array is its tail. -/
theorem tail_row (A : FVec Ideal S16x4096x1024 .f32) (t : Fin cfg0.N) (ht : t.val % 8 = 7) (r : Fin 512) (n : Fin 1024) :
    A (ix3 ⟨t.val / 8, by have := points t; omega⟩ ⟨512 * (t.val % 8) + r.val, by omega⟩ n) = tail A (ix3 ⟨t.val / 8, by have := points t; omega⟩ r n) := by
  rw [tail_apply]
  exact congrArg (fun q => A (ix3 _ q n)) (Fin.ext (by show 512 * (t.val % 8) + r.val = 3584 + r.val; rw [ht]))

theorem flushed_eq7 (c : Dev nD) (q1 : Reals (m (c.tc.loc main_arg1))) (q2 : Reals (m (c.tc.loc main_arg2))) (q3 : Reals (m (c.tc.loc main_arg3))) (q4 : Reals (m (c.tc.loc main_arg4))) (t : Fin cfg0.N) (ht : t.val % 8 = 7) :
    (dats m 0 c).flushed 7 t = ((cfg0.win 7).blk t).view.read (Elt Ideal) (tail (keysOf m c)) := by
  rw [Cert.KernelKvIdeal.Value.flushed7_B m c t ht]
  exact cut_eq7 _ _ t ht fun r n => (out7B c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) _ r n).trans
    ((keys_point m c q1 q2 q3 q4 t r n).trans (tail_row _ t ht r n))

theorem flushed_eq8 (c : Dev nD) (t : Fin cfg0.N) (ht : t.val % 8 = 7) :
    (dats m 0 c).flushed 8 t = ((cfg0.win 8).blk t).view.read (Elt Ideal) (tail (valsOf m c)) := by
  rw [Cert.KernelKvIdeal.Value.flushed8_B m c t ht]
  exact cut_eq8 _ _ t ht fun r n => (out8B c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) _ r n).trans
    ((vals_point m c t r n).trans (tail_row _ t ht r n))

theorem flushed_eq9 (c : Dev nD) (q1 : Reals (m (c.tc.loc main_arg1))) (q2 : Reals (m (c.tc.loc main_arg2))) (q3 : Reals (m (c.tc.loc main_arg3))) (q4 : Reals (m (c.tc.loc main_arg4))) (t : Fin cfg0.N) :
    (dats m 0 c).flushed 9 t = ((cfg0.win 9).blk t).view.read (Elt Ideal) (half (keysOf m c)) := by
  by_cases ht : t.val % 8 = 7
  · rw [Cert.KernelKvIdeal.Value.flushed9_B m c t ht]
    exact cut_eq9 _ _ t fun r n => (out9B c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) _ r n).trans (keys_point m c q1 q2 q3 q4 t r n)
  · rw [Cert.KernelKvIdeal.Value.flushed9_A m c t ht]
    exact cut_eq9 _ _ t fun r n => (out9A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) _ r n).trans (keys_point m c q1 q2 q3 q4 t r n)

theorem flushed_eq10 (c : Dev nD) (t : Fin cfg0.N) :
    (dats m 0 c).flushed 10 t = ((cfg0.win 10).blk t).view.read (Elt Ideal) (half (valsOf m c)) := by
  by_cases ht : t.val % 8 = 7
  · rw [Cert.KernelKvIdeal.Value.flushed10_B m c t ht]
    exact cut_eq10 _ _ t fun r n => (out10B c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) _ r n).trans (vals_point m c t r n)
  · rw [Cert.KernelKvIdeal.Value.flushed10_A m c t ht]
    exact cut_eq10 _ _ t fun r n => (out10A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) _ r n).trans (vals_point m c t r n)

/-- So the four results end at the last rows' keys and values, and all rows'. -/
theorem final7 (c : Dev nD) (q1 : Reals (m (c.tc.loc main_arg1))) (q2 : Reals (m (c.tc.loc main_arg2))) (q3 : Reals (m (c.tc.loc main_arg3))) (q4 : Reals (m (c.tc.loc main_arg4))) : (dats m 0 c).arrAt 7 cfg0.N = tail (keysOf m c) :=
  (dats m 0 c).arrAt_eq_of_cover 7 (tail (keysOf m c)) (fun t hf => flushed_eq7 m c q1 q2 q3 q4 t ((flush0_7 t).mp hf)) covered7

theorem final8 (c : Dev nD) : (dats m 0 c).arrAt 8 cfg0.N = tail (valsOf m c) :=
  (dats m 0 c).arrAt_eq_of_cover 8 (tail (valsOf m c)) (fun t hf => flushed_eq8 m c t ((flush0_8 t).mp hf)) covered8

theorem final9 (c : Dev nD) (q1 : Reals (m (c.tc.loc main_arg1))) (q2 : Reals (m (c.tc.loc main_arg2))) (q3 : Reals (m (c.tc.loc main_arg3))) (q4 : Reals (m (c.tc.loc main_arg4))) : (dats m 0 c).arrAt 9 cfg0.N = half (keysOf m c) :=
  (dats m 0 c).arrAt_eq_of_cover 9 (half (keysOf m c)) (fun t _ => flushed_eq9 m c q1 q2 q3 q4 t) covered9

theorem final10 (c : Dev nD) : (dats m 0 c).arrAt 10 cfg0.N = half (valsOf m c) :=
  (dats m 0 c).arrAt_eq_of_cover 10 (half (valsOf m c)) (fun t _ => flushed_eq10 m c t) covered10

end Cert.KernelKvIdeal.Kv

end
-- ==== Proof.Sub.KvClaims.lean ====
/- The claims of the keys' and values' call, one theorem each. -/
module

public import proofs.«01_k».proof.Defs
public import proofs.«01_k».proof.Proof.Gen.KernelKv.Frame
public import proofs.«01_k».proof.Proof.Gen.KernelKvIdeal.Frame
public import proofs.«01_k».proof.Proof.Gen.Pre_weights_finite
public import proofs.«01_k».proof.Proof.Sub.Claims
public import proofs.«01_k».proof.Proof.Sub.KvValue
public import Idealize.ShloMosaic.Adequacy
public import Idealize.ShloMosaic.Init

@[expose] public section

set_option maxRecDepth 16384

noncomputable section

namespace Cert.Proof.Kv

open Idealize.ShloMosaic Idealize.ShloMosaic.TcCoe Idealize.SL.Sem

attribute [local instance] Cert.Pre_weights_finite.Gen.facts Cert.KernelKv.Gen.facts Cert.KernelKvIdeal.Gen.facts Cert.ReferenceKvIdeal.Gen.facts

/-- The kernel as printed runs, leaves its arguments as they were and every semaphore at zero. -/
theorem frame_p : Cert.quiescent_KernelKv := fun m ρ _ => Cert.KernelKv.Gen.frame m ρ

/-- So does its idealization, … -/
theorem frame_pi : Cert.quiescent_KernelKvIdeal := fun m ρ _ => Cert.KernelKvIdeal.Gen.frame m ρ

theorem frame_pi_pre : Cert.quiescent_KernelKvIdeal_pre_weights_finite := fun m ρ _ => Cert.KernelKvIdeal.Gen.frame m ρ

/-- … and the reference's. -/
theorem frame_ri : Cert.quiescent_ReferenceKvIdeal := fun m ρ _ =>
  (θ_run Cert.ReferenceKvIdeal.defs _ _).mono (fun r h => ⟨fun c => (h c).2.2.2.2, Idealize.ShloMosaic.sem_eq_zero_of_no_sems (by decide) r.2⟩)
    (Cert.ReferenceKvIdeal.Value.run (F := Ideal) m ρ)

theorem frame_ri_pre : Cert.quiescent_ReferenceKvIdeal_pre_weights_finite := fun m ρ _ => frame_ri m ρ trivial

/-- The idealized kernel is the kernel's own text. -/
theorem preserves : Cert.preserves_KernelKv_KernelKvIdeal := trivial

/-- From arguments that agree, the modulation, the row norm's weight and the projection real numbers, the idealized kernel and the reference end
    with the same four results, each leaving its arguments as they were. -/
theorem algebraic : Cert.algebraic_KernelKvIdeal_ReferenceKvIdeal_pre_weights_finite := by
  intro m ρ m' ρ' hpre hagree
  refine ⟨fun c => Cert.ReferenceKvIdeal.Kv.tail (Cert.KernelKvIdeal.Kv.keysOf m c), fun c => Cert.ReferenceKvIdeal.Kv.tail (Cert.KernelKvIdeal.Kv.valsOf m c),
    fun c => Cert.ReferenceKvIdeal.Kv.half (Cert.KernelKvIdeal.Kv.keysOf m c), fun c => Cert.ReferenceKvIdeal.Kv.half (Cert.KernelKvIdeal.Kv.valsOf m c), ?_, ?_⟩
  · refine (θ_run Cert.KernelKvIdeal.defs _ _).mono (fun _ h c => ?_) (Cert.KernelKvIdeal.Value.run_blocks (F := Ideal) m ρ)
    obtain ⟨p1, p2, p3, p4⟩ := hpre c
    have q1 : Cert.KernelKvIdeal.Kv.Reals (m (c.tc.loc Cert.KernelKvIdeal.main_arg1)) := fun j => Attn.real_of_abs _ (congrFun p1 j)
    have q2 : Cert.KernelKvIdeal.Kv.Reals (m (c.tc.loc Cert.KernelKvIdeal.main_arg2)) := fun j => Attn.real_of_abs _ (congrFun p2 j)
    have q3 : Cert.KernelKvIdeal.Kv.Reals (m (c.tc.loc Cert.KernelKvIdeal.main_arg3)) := fun j => Attn.real_of_abs _ (congrFun p3 j)
    have q4 : Cert.KernelKvIdeal.Kv.Reals (m (c.tc.loc Cert.KernelKvIdeal.main_arg4)) := fun j => Attn.real_of_abs _ (congrFun p4 j)
    obtain ⟨r0, r1, r2, r3, ha⟩ := h c
    exact ⟨r0.trans (Cert.KernelKvIdeal.Kv.final7 m c q1 q2 q3 q4), r1.trans (Cert.KernelKvIdeal.Kv.final8 m c),
      r2.trans (Cert.KernelKvIdeal.Kv.final9 m c q1 q2 q3 q4), r3.trans (Cert.KernelKvIdeal.Kv.final10 m c), ha⟩
  · refine (θ_run Cert.ReferenceKvIdeal.defs _ _).mono (fun _ h c => ?_) (Cert.ReferenceKvIdeal.Kv.run m' ρ')
    obtain ⟨a0, a1, a2, a3, a4, a5⟩ := hagree c
    obtain ⟨r0, r1, r2, r3, ha⟩ := h c
    refine ⟨r0.trans ?_, r1.trans ?_, r2.trans ?_, r3.trans ?_, ha⟩
    · rw [a0, a1, a2, a3, a4, a5]; rfl
    · rw [a0, a1, a2, a3, a4]; rfl
    · rw [a0, a1, a2, a3, a4, a5]; rfl
    · rw [a0, a1, a2, a3, a4]; rfl

end Cert.Proof.Kv

end
-- ==== Proof.Sub.PreHost.lean ====
/- What the host's operations hand to the latent projections' call, of the arguments that its key latent and its rotary key depend on. -/
module

public import proofs.«01_k».proof.Proof.Gen.KernelPreIdeal.Frame
public import Idealize.ShloMosaic.Lib.Pointwise

@[expose] public section

set_option maxRecDepth 16384

noncomputable section

namespace Cert.KernelPreIdeal.Pre

open Cert.KernelPreIdeal Cert.KernelPreIdeal.Gen Idealize.ShloMosaic Idealize.ShloMosaic.TcCoe Idealize.ShloMosaic.StableHlo

/-- The projection's weights. -/
def winArr (W : FVec Ideal S1024x672 .f32) : FVec Ideal S1024x672 .bf16 := truncf .bf16 W bitsLt_bf16_f32

/-- A modulation with an axis added. -/
def modArr (s : FVec Ideal S16x1024 .f32) : FVec Ideal S16x1x1024 .f32 := broadcastInDim S16x1x1024 ![0, 2] bcast_S16x1024_S16x1x1024_0_2 s

/-- The row norm's weight with an axis added. -/
def nwArr (w : FVec Ideal S1024 .f32) : FVec Ideal S1x1024 .f32 := broadcastInDim S1x1024 ![1] bcast_S1024_S1x1024_1 w

/-- The latent's norm's weight with an axis added. -/
def latArr (g : FVec Ideal S256 .f32) : FVec Ideal S1x256 .f32 := broadcastInDim S1x256 ![1] bcast_S256_S1x256_1 g

theorem winArr_apply (W : FVec Ideal S1024x672 .f32) (e : Fin 1024) (n : Fin 672) : winArr W (ix2 e n) = W (ix2 e n) := by
  unfold winArr
  pointwise

theorem modArr_apply (s : FVec Ideal S16x1024 .f32) (b : Fin 16) (n : Fin 1024) : modArr s (ix3 b 0 n) = s (ix2 b n) := by
  unfold modArr
  pointwise

theorem nwArr_apply (w : FVec Ideal S1024 .f32) (n : Fin 1024) : nwArr w (ix2 0 n) = w (ix1 n) := by
  unfold nwArr
  pointwise

theorem latArr_apply (g : FVec Ideal S256 .f32) (n : Fin 256) : latArr g (ix2 0 n) = g (ix1 n) := by
  unfold latArr
  pointwise

variable (m : (ℓ : Loc nD τ sig) → Buf (Elt Ideal) ℓ) (c : Dev nD)

/-- The call takes the shift and the scale, … -/
theorem V_sh : (V m c main_v59 : FVec Ideal S16x1x1024 .f32) = modArr (m ((c : Thread nD τ).loc main_arg1)) := by
  show after _ _ _ = _
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

theorem V_sc : (V m c main_v60 : FVec Ideal S16x1x1024 .f32) = modArr (m ((c : Thread nD τ).loc main_arg2)) := by
  show after _ _ _ = _
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

/-- … the row norm's weight, … -/
theorem V_nw : (V m c main_v61 : FVec Ideal S1x1024 .f32) = nwArr (m ((c : Thread nD τ).loc main_arg3)) := by
  show after _ _ _ = _
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

/-- … the projection, … -/
theorem V_win : (V m c main_v0 : FVec Ideal S1024x672 .bf16) = winArr (m ((c : Thread nD τ).loc main_arg4)) := by
  show after _ _ _ = _
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

/-- … and the latent's norm's weight. -/
theorem V_lat : (V m c main_v2 : FVec Ideal S1x256 .f32) = latArr (m ((c : Thread nD τ).loc main_arg6)) := by
  show after _ _ _ = _
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

end Cert.KernelPreIdeal.Pre

end
-- ==== Proof.Sub.PreCover.lean ====
/- Which part of each array a grid point of the latent projections' call reads and writes, and that the blocks written cover the key latent
   and the rotary key. -/
module

public import proofs.«01_k».proof.Proof.Gen.KernelPreIdeal.Value
public import proofs.«01_k».proof.Proof.Sub.PreHost
public import Idealize.ShloMosaic.Lib.Pointwise
public import Idealize.ShloMosaic.Lib.Pipeline.Value

@[expose] public section

set_option maxRecDepth 16384

noncomputable section

namespace Cert.KernelPreIdeal.Pre

open Cert.KernelPreIdeal Cert.KernelPreIdeal.Gen Idealize.ShloMosaic Idealize.ShloMosaic.TcCoe

/-- Each window's block at point `t`: batch `t / 16`, row block `t % 16`. -/
theorem index0 : ∀ t : Fin grid0.N, win0_0.index t 0 = t.val / 16 ∧ win0_0.index t 1 = t.val % 16 ∧ win0_0.index t 2 = 0 := by decide +kernel
theorem index11 : ∀ t : Fin grid0.N, win0_11.index t 0 = t.val / 16 ∧ win0_11.index t 1 = t.val % 16 ∧ win0_11.index t 2 = 0 := by decide +kernel
theorem index12 : ∀ t : Fin grid0.N, win0_12.index t 0 = t.val / 16 ∧ win0_12.index t 1 = t.val % 16 ∧ win0_12.index t 2 = 0 := by decide +kernel
theorem index1 : ∀ t : Fin grid0.N, win0_1.index t 0 = t.val / 16 ∧ win0_1.index t 1 = 0 ∧ win0_1.index t 2 = 0 := by decide +kernel
theorem index2 : ∀ t : Fin grid0.N, win0_2.index t 0 = t.val / 16 ∧ win0_2.index t 1 = 0 ∧ win0_2.index t 2 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index6 : ∀ t : Fin grid0.N, win0_6.index t 0 = 0 ∧ win0_6.index t 1 = 0 := by decide +kernel
theorem xsize11 : ∀ t : Fin grid0.N, win0_11.xsize (grid0.coords t) 0 = 1 ∧ win0_11.xsize (grid0.coords t) 1 = 256 ∧ win0_11.xsize (grid0.coords t) 2 = 256 := by decide +kernel
theorem xsize12 : ∀ t : Fin grid0.N, win0_12.xsize (grid0.coords t) 0 = 1 ∧ win0_12.xsize (grid0.coords t) 1 = 256 ∧ win0_12.xsize (grid0.coords t) 2 = 32 := by decide +kernel

theorem points (t : Fin cfg0.N) : t.val < 256 := lt_of_lt_of_eq t.isLt N_0

/-- What point `t` reads of each argument. -/
theorem read0 (U : FVec Ideal S16x4096x1024 .f32) (t : Fin cfg0.N) (r : Fin 256) (n : Fin 1024) :
    ((cfg0.win 0).blk t).view.read (Elt Ideal) U (ix3 0 r n) = U (ix3 ⟨t.val / 16, by have := points t; omega⟩ ⟨256 * (t.val % 16) + r.val, by omega⟩ n) := by
  obtain ⟨e0, e1, e2⟩ := index0 t
  rw [View.read_apply]
  show U _ = U _
  congr 1
  funext a
  apply Fin.ext
  match a with
  | ⟨0, _⟩ => show win0_0.index t 0 * 1 + 1 * 0 = t.val / 16; rw [e0]; omega
  | ⟨1, _⟩ => show win0_0.index t 1 * 256 + 1 * r.val = 256 * (t.val % 16) + r.val; rw [e1]; omega
  | ⟨2, _⟩ => show win0_0.index t 2 * 1024 + 1 * n.val = n.val; rw [e2]; omega

theorem read1 (U : FVec Ideal S16x1x1024 .f32) (t : Fin cfg0.N) (n : Fin 1024) :
    ((cfg0.win 1).blk t).view.read (Elt Ideal) U (ix3 0 0 n) = U (ix3 ⟨t.val / 16, by have := points t; omega⟩ 0 n) := by
  obtain ⟨e0, e1, e2⟩ := index1 t
  rw [View.read_apply]
  show U _ = U _
  congr 1
  funext a
  apply Fin.ext
  match a with
  | ⟨0, _⟩ => show win0_1.index t 0 * 1 + 1 * 0 = t.val / 16; rw [e0]; omega
  | ⟨1, _⟩ => show win0_1.index t 1 * 1 + 1 * 0 = 0; rw [e1]
  | ⟨2, _⟩ => show win0_1.index t 2 * 1024 + 1 * n.val = n.val; rw [e2]; omega

theorem read2 (U : FVec Ideal S16x1x1024 .f32) (t : Fin cfg0.N) (n : Fin 1024) :
    ((cfg0.win 2).blk t).view.read (Elt Ideal) U (ix3 0 0 n) = U (ix3 ⟨t.val / 16, by have := points t; omega⟩ 0 n) := by
  obtain ⟨e0, e1, e2⟩ := index2 t
  rw [View.read_apply]
  show U _ = U _
  congr 1
  funext a
  apply Fin.ext
  match a with
  | ⟨0, _⟩ => show win0_2.index t 0 * 1 + 1 * 0 = t.val / 16; rw [e0]; omega
  | ⟨1, _⟩ => show win0_2.index t 1 * 1 + 1 * 0 = 0; rw [e1]
  | ⟨2, _⟩ => show win0_2.index t 2 * 1024 + 1 * n.val = n.val; rw [e2]; omega

theorem read3 (U : FVec Ideal S1x1024 .f32) (t : Fin cfg0.N) (n : Fin 1024) :
    ((cfg0.win 3).blk t).view.read (Elt Ideal) U (ix2 0 n) = U (ix2 0 n) := by
  obtain ⟨e0, e1⟩ := index3 t
  rw [View.read_apply]
  show U _ = U _
  congr 1
  funext a
  apply Fin.ext
  match a with
  | ⟨0, _⟩ => show win0_3.index t 0 * 1 + 1 * 0 = 0; rw [e0]
  | ⟨1, _⟩ => show win0_3.index t 1 * 1024 + 1 * n.val = n.val; rw [e1]; omega

theorem read4 (U : FVec Ideal S1024x672 .bf16) (t : Fin cfg0.N) (e : Fin 1024) (n : Fin 672) :
    ((cfg0.win 4).blk t).view.read (Elt Ideal) U (ix2 e n) = U (ix2 e n) := by
  obtain ⟨e0, e1⟩ := index4 t
  rw [View.read_apply]
  show U _ = U _
  congr 1
  funext a
  apply Fin.ext
  match a with
  | ⟨0, _⟩ => show win0_4.index t 0 * 1024 + 1 * e.val = e.val; rw [e0]; omega
  | ⟨1, _⟩ => show win0_4.index t 1 * 672 + 1 * n.val = n.val; rw [e1]; omega

theorem read6 (U : FVec Ideal S1x256 .f32) (t : Fin cfg0.N) (n : Fin 256) :
    ((cfg0.win 6).blk t).view.read (Elt Ideal) U (ix2 0 n) = U (ix2 0 n) := by
  obtain ⟨e0, e1⟩ := index6 t
  rw [View.read_apply]
  show U _ = U _
  congr 1
  funext a
  apply Fin.ext
  match a with
  | ⟨0, _⟩ => show win0_6.index t 0 * 1 + 1 * 0 = 0; rw [e0]
  | ⟨1, _⟩ => show win0_6.index t 1 * 256 + 1 * n.val = n.val; rw [e1]; omega

variable (m : (ℓ : Loc nD τ sig) → Buf (Elt Ideal) ℓ) (c : Dev nD)

/-- The same, in the call's own arguments. -/
theorem blk0 (t : Fin cfg0.N) (r : Fin 256) (n : Fin 1024) : (iblk m c 0 t : FVec Ideal S1x256x1024 .f32) (ix3 0 r n) = m ((c : Thread nD τ).loc main_arg0) (ix3 ⟨t.val / 16, by have := points t; omega⟩ ⟨256 * (t.val % 16) + r.val, by omega⟩ n) := by
  unfold iblk
  exact (read0 (V m c main_arg0) t r n).trans (congrFun (V_main_arg0 m c) _)

theorem blk1 (t : Fin cfg0.N) (n : Fin 1024) : (iblk m c 1 t : FVec Ideal S1x1x1024 .f32) (ix3 0 0 n) = m ((c : Thread nD τ).loc main_arg1) (ix2 ⟨t.val / 16, by have := points t; omega⟩ n) := by
  unfold iblk
  exact (read1 (V m c main_v59) t n).trans ((congrFun (V_sh m c) _).trans (modArr_apply _ _ _))

theorem blk2 (t : Fin cfg0.N) (n : Fin 1024) : (iblk m c 2 t : FVec Ideal S1x1x1024 .f32) (ix3 0 0 n) = m ((c : Thread nD τ).loc main_arg2) (ix2 ⟨t.val / 16, by have := points t; omega⟩ n) := by
  unfold iblk
  exact (read2 (V m c main_v60) t n).trans ((congrFun (V_sc m c) _).trans (modArr_apply _ _ _))

theorem blk3 (t : Fin cfg0.N) (n : Fin 1024) : (iblk m c 3 t : FVec Ideal S1x1024 .f32) (ix2 0 n) = m ((c : Thread nD τ).loc main_arg3) (ix1 n) := by
  unfold iblk
  exact (read3 (V m c main_v61) t n).trans ((congrFun (V_nw m c) _).trans (nwArr_apply _ _))

theorem blk4 (t : Fin cfg0.N) (e : Fin 1024) (n : Fin 672) : (iblk m c 4 t : FVec Ideal S1024x672 .bf16) (ix2 e n) = m ((c : Thread nD τ).loc main_arg4) (ix2 e n) := by
  unfold iblk
  exact (read4 (V m c main_v0) t e n).trans ((congrFun (V_win m c) _).trans (winArr_apply _ _ _))

theorem blk6 (t : Fin cfg0.N) (n : Fin 256) : (iblk m c 6 t : FVec Ideal S1x256 .f32) (ix2 0 n) = m ((c : Thread nD τ).loc main_arg6) (ix1 n) := by
  unfold iblk
  exact (read6 (V m c main_v2) t n).trans ((congrFun (V_lat m c) _).trans (latArr_apply _ _))

/-- What point `t` writes of each result. -/
theorem oblk11 (G : FVec Ideal S16x4096x256 .f32) (t : Fin cfg0.N) (r : Fin 256) (n : Fin 256) :
    ((cfg0.win 11).blk t).view.read (Elt Ideal) G (ix3 0 r n) = G (ix3 ⟨t.val / 16, by have := points t; omega⟩ ⟨256 * (t.val % 16) + r.val, by omega⟩ n) := by
  obtain ⟨e0, e1, e2⟩ := index11 t
  rw [View.read_apply]
  show G _ = G _
  congr 1
  funext a
  apply Fin.ext
  match a with
  | ⟨0, _⟩ => show win0_11.index t 0 * 1 + 1 * 0 = t.val / 16; rw [e0]; omega
  | ⟨1, _⟩ => show win0_11.index t 1 * 256 + 1 * r.val = 256 * (t.val % 16) + r.val; rw [e1]; omega
  | ⟨2, _⟩ => show win0_11.index t 2 * 256 + 1 * n.val = n.val; rw [e2]; omega

theorem oblk12 (G : FVec Ideal S16x4096x32 .f32) (t : Fin cfg0.N) (r : Fin 256) (n : Fin 32) :
    ((cfg0.win 12).blk t).view.read (Elt Ideal) G (ix3 0 r n) = G (ix3 ⟨t.val / 16, by have := points t; omega⟩ ⟨256 * (t.val % 16) + r.val, by omega⟩ n) := by
  obtain ⟨e0, e1, e2⟩ := index12 t
  rw [View.read_apply]
  show G _ = G _
  congr 1
  funext a
  apply Fin.ext
  match a with
  | ⟨0, _⟩ => show win0_12.index t 0 * 1 + 1 * 0 = t.val / 16; rw [e0]; omega
  | ⟨1, _⟩ => show win0_12.index t 1 * 256 + 1 * r.val = 256 * (t.val % 16) + r.val; rw [e1]; omega
  | ⟨2, _⟩ => show win0_12.index t 2 * 32 + 1 * n.val = n.val; rw [e2]; omega

/-- Every place of the result is in the block of some point that writes it. -/
theorem covered11 (i : S16x4096x256.Idx) : ∃ t : Fin cfg0.N, (cfg0.win 11).flush t = true ∧ i ∈ ((cfg0.win 11).blk t).view.set := by
  have h0 : (i 0 : Nat) < 16 := (i 0).isLt
  have h1 : (i 1 : Nat) < 4096 := (i 1).isLt
  have h2 : (i 2 : Nat) < 256 := (i 2).isLt
  refine ⟨⟨16 * (i 0).val + (i 1).val / 256, lt_of_lt_of_eq (by omega : _ < 256) N_0.symm⟩, flush0_11 _, ?_⟩
  generalize ht : (⟨16 * (i 0).val + (i 1).val / 256, lt_of_lt_of_eq (by omega : _ < 256) N_0.symm⟩ : Fin cfg0.N) = t
  have hv : t.val = 16 * (i 0).val + (i 1).val / 256 := by rw [← ht]
  obtain ⟨e0, e1, e2⟩ := index11 t
  obtain ⟨x0, x1, x2⟩ := xsize11 t
  show i ∈ ((View.whole main_v62_0).slice (win0_11.rect t)).set
  rw [View.set_slice_whole, Rect.mem_set_unit]
  intro a
  match a with
  | ⟨0, _⟩ => show win0_11.index t 0 * 1 ≤ (i 0 : Nat) ∧ (i 0 : Nat) < win0_11.index t 0 * 1 + win0_11.xsize (grid0.coords t) 0
              rw [e0, x0]; omega
  | ⟨1, _⟩ => show win0_11.index t 1 * 256 ≤ (i 1 : Nat) ∧ (i 1 : Nat) < win0_11.index t 1 * 256 + win0_11.xsize (grid0.coords t) 1
              rw [e1, x1]; omega
  | ⟨2, _⟩ => show win0_11.index t 2 * 256 ≤ (i 2 : Nat) ∧ (i 2 : Nat) < win0_11.index t 2 * 256 + win0_11.xsize (grid0.coords t) 2
              rw [e2, x2]; omega

/-- Every place of the result is in the block of some point that writes it. -/
theorem covered12 (i : S16x4096x32.Idx) : ∃ t : Fin cfg0.N, (cfg0.win 12).flush t = true ∧ i ∈ ((cfg0.win 12).blk t).view.set := by
  have h0 : (i 0 : Nat) < 16 := (i 0).isLt
  have h1 : (i 1 : Nat) < 4096 := (i 1).isLt
  have h2 : (i 2 : Nat) < 32 := (i 2).isLt
  refine ⟨⟨16 * (i 0).val + (i 1).val / 256, lt_of_lt_of_eq (by omega : _ < 256) N_0.symm⟩, flush0_12 _, ?_⟩
  generalize ht : (⟨16 * (i 0).val + (i 1).val / 256, lt_of_lt_of_eq (by omega : _ < 256) N_0.symm⟩ : Fin cfg0.N) = t
  have hv : t.val = 16 * (i 0).val + (i 1).val / 256 := by rw [← ht]
  obtain ⟨e0, e1, e2⟩ := index12 t
  obtain ⟨x0, x1, x2⟩ := xsize12 t
  show i ∈ ((View.whole main_v62_1).slice (win0_12.rect t)).set
  rw [View.set_slice_whole, Rect.mem_set_unit]
  intro a
  match a with
  | ⟨0, _⟩ => show win0_12.index t 0 * 1 ≤ (i 0 : Nat) ∧ (i 0 : Nat) < win0_12.index t 0 * 1 + win0_12.xsize (grid0.coords t) 0
              rw [e0, x0]; omega
  | ⟨1, _⟩ => show win0_12.index t 1 * 256 ≤ (i 1 : Nat) ∧ (i 1 : Nat) < win0_12.index t 1 * 256 + win0_12.xsize (grid0.coords t) 1
              rw [e1, x1]; omega
  | ⟨2, _⟩ => show win0_12.index t 2 * 32 ≤ (i 2 : Nat) ∧ (i 2 : Nat) < win0_12.index t 2 * 32 + win0_12.xsize (grid0.coords t) 2
              rw [e2, x2]; omega

end Cert.KernelPreIdeal.Pre

end
-- ==== Proof.Sub.PreBlock.lean ====
/- What one grid point of the latent projections' kernel writes of the key latent and the rotary key. -/
module

public import proofs.«01_k».proof.Proof.Gen.KernelPreIdeal.Value
public import proofs.«01_k».proof.Proof.Sub.KvMath
public import Idealize.ShloMosaic.Lib.Pointwise
public import Idealize.ShloMosaic.Lib.Pipeline.Value

@[expose] public section

set_option maxRecDepth 16384

noncomputable section

namespace Cert.KernelPreIdeal.Pre

open Cert.KernelPreIdeal Cert.KernelPreIdeal.Gen Idealize.ShloMosaic Idealize.ShloMosaic.TcCoe Cert.Kv

theorem hz3 : (![0, 0, 0] : Fin 3 → ℕ) = fun _ => 0 := funext fun a => by fin_cases a <;> rfl
theorem hz2 : (![0, 0] : Fin 2 → ℕ) = fun _ => 0 := funext fun a => by fin_cases a <;> rfl

/-- The modulated rows' product with the projection, at a row and column. -/
def pcol (v0 : FVec Ideal S1x256x1024 .f32) (v2 : FVec Ideal S1x1024 .f32) (v4 v6 : FVec Ideal S1x1x1024 .f32) (W : FVec Ideal S1024x672 .bf16) (r : Fin 256) (n : Fin 672) : EReal :=
  ∑ e : Fin 1024, hid (fun i => v0 (ix3 0 r i)) (fun i => v2 (ix2 0 i)) (fun i => v4 (ix3 0 0 i)) (fun i => v6 (ix3 0 0 i)) e * W (ix2 e n)

theorem pay3_apply (v0 : FVec Ideal S1x256x1024 .f32) (v2 : FVec Ideal S1x1024 .f32) (v4 v6 : FVec Ideal S1x1x1024 .f32) (W : FVec Ideal S1024x672 .bf16) (r : Fin 256) (n : Fin 672) :
    k0_pay3 (F := Ideal) v0 v2 v4 v6 W (ix2 r n) = pcol v0 v2 v4 v6 W r n := by
  unfold pcol hid eps
  pointwise [k0_pay3]

theorem pay7_apply (Q : FVec Ideal S256x672 .f32) (g : FVec Ideal S1x256 .f32) (r : Fin 256) (n : Fin 256) :
    k0_pay7 (F := Ideal) Q g (ix3 0 r n) = Q (ix2 r ⟨384 + n.val, by omega⟩)
      * Ideal.rsqrt (Ideal.div (∑ i : Fin 256, Q (ix2 r ⟨384 + i.val, by omega⟩) * Q (ix2 r ⟨384 + i.val, by omega⟩)) (Ideal.ofBits .f32 0x43800000#32) + eps) * g (ix2 0 n) := by
  unfold eps
  pointwise [k0_pay7]

theorem pay8_apply (Q : FVec Ideal S256x672 .f32) (r : Fin 256) (n : Fin 32) :
    k0_pay8 (F := Ideal) Q (ix3 0 r n) = Q (ix2 r ⟨640 + n.val, by omega⟩) := by
  pointwise [k0_pay8]

variable (x0 : FVec Ideal S1x256x1024 .f32) (x1 x2 : FVec Ideal S1x1x1024 .f32) (x3 : FVec Ideal S1x1024 .f32) (x4 : FVec Ideal S1024x672 .bf16) (x5 : FVec Ideal S1x384 .f32) (x6 : FVec Ideal S1x256 .f32) (x7 : FVec Ideal S384x2048 .bf16) (x8 : FVec Ideal S1x128 .f32) (x9 x10 : FVec Ideal S256x128 .f32)

/-- The projection a point makes, its loads read off. -/
theorem proj_eq : k0_pay39 (F := Ideal) x0 x1 x2 x3 x4 x5 x6 x7 x8 x9 x10 = k0_pay3 (F := Ideal) x0 x3 x1 x2 x4 := by
  unfold k0_pay39
  rw [View.ld_unit_zero hz3, View.ld_unit_zero hz2, View.ld_unit_zero hz3, View.ld_unit_zero hz3, View.ld_unit_zero hz2]

/-- The key latent a point writes, at a row and column. -/
theorem out11 (r n : Fin 256) :
    out0_11 (F := Ideal) x0 x1 x2 x3 x4 x5 x6 x7 x8 x9 x10 (ix3 0 r n) = pcol x0 x3 x1 x2 x4 r ⟨384 + n.val, by omega⟩
      * Ideal.rsqrt (Ideal.div (∑ i : Fin 256, pcol x0 x3 x1 x2 x4 r ⟨384 + i.val, by omega⟩ * pcol x0 x3 x1 x2 x4 r ⟨384 + i.val, by omega⟩) (Ideal.ofBits .f32 0x43800000#32) + eps) * x6 (ix2 0 n) := by
  unfold out0_11
  rw [View.canon_unit_zero hz3, proj_eq, View.ld_unit_zero hz2, pay7_apply]
  simp only [pay3_apply]

/-- The rotary key a point writes, at a row and column. -/
theorem out12 (r : Fin 256) (n : Fin 32) :
    out0_12 (F := Ideal) x0 x1 x2 x3 x4 x5 x6 x7 x8 x9 x10 (ix3 0 r n) = pcol x0 x3 x1 x2 x4 r ⟨640 + n.val, by omega⟩ := by
  unfold out0_12
  rw [View.canon_unit_zero hz3, proj_eq, pay8_apply, pay3_apply]

end Cert.KernelPreIdeal.Pre

end
-- ==== Proof.Sub.PreRef.lean ====
/- The reference's key latent and rotary key read at an index. -/
module

public import proofs.«01_k».proof.Proof.Gen.ReferencePreIdeal.Run
public import proofs.«01_k».proof.Proof.Sub.KvMath
public import Idealize.ShloMosaic.Lib.Pipeline.Value

@[expose] public section

set_option maxRecDepth 16384

noncomputable section

namespace Cert.ReferencePreIdeal.Pre

open Cert.ReferencePreIdeal Cert.ReferencePreIdeal.Gen Idealize.ShloMosaic Idealize.ShloMosaic.TcCoe Cert.Kv

/-- The rows' root mean squares' inverses. -/
def inv (X : FVec Ideal S16x4096x1024 .f32) : FVec Ideal S16x4096x1 .f32 :=
  Host.rsqrt (addf (Host.divf (broadcastInDim S16x4096x1 ![0, 1] bcast_S16x4096_S16x4096x1_0_1 (Host.reduceAdd (mulf X X) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))

/-- The modulated stream. -/
def stream (X : FVec Ideal S16x4096x1024 .f32) (sh sc : FVec Ideal S16x1024 .f32) (w : FVec Ideal S1024 .f32) : FVec Ideal S16x4096x1024 .f32 :=
  addf (mulf (mulf (mulf X (broadcastInDim S16x4096x1024 ![0, 1, 2] bcast_S16x4096x1_S16x4096x1024_0_1_2 (inv X))) (broadcastInDim S16x4096x1024 ![0, 1, 2] bcast_S1x1x1024_S16x4096x1024_0_1_2 (broadcastInDim S1x1x1024 ![2] bcast_S1024_S1x1x1024_2 w))) (broadcastInDim S16x4096x1024 ![0, 1, 2] bcast_S16x1x1024_S16x4096x1024_0_1_2 (addf (broadcastInDim S16x1x1024 ![] bcast_S_S16x1x1024 (constant S_ .f32 0x3F800000#32)) (broadcastInDim S16x1x1024 ![0, 2] bcast_S16x1024_S16x1x1024_0_2 sc)))) (broadcastInDim S16x4096x1024 ![0, 1, 2] bcast_S16x1x1024_S16x4096x1024_0_1_2 (broadcastInDim S16x1x1024 ![0, 2] bcast_S16x1024_S16x1x1024_0_2 sh))

/-- Its product with the weights. -/
def proj (H : FVec Ideal S16x4096x1024 .f32) (W : FVec Ideal S1024x672 .f32) : FVec Ideal S16x4096x672 .f32 :=
  Host.dotGeneral dot_S16x4096x1024_S1024x672_S16x4096x672_2_0_01_1_n_n none H W

/-- The projection's columns for the key latent. -/
def latCols (Q : FVec Ideal S16x4096x672 .f32) : FVec Ideal S16x4096x256 .f32 :=
  extractStridedSlice S16x4096x256 ![0, 0, 384] Q slices_S16x4096x672_S16x4096x256_0_0_384

/-- The latent over its root mean square. -/
def normed (K : FVec Ideal S16x4096x256 .f32) (g : FVec Ideal S256 .f32) : FVec Ideal S16x4096x256 .f32 :=
  mulf (mulf K (broadcastInDim S16x4096x256 ![0, 1, 2] bcast_S16x4096x1_S16x4096x256_0_1_2 (Host.rsqrt (addf (Host.divf (broadcastInDim S16x4096x1 ![0, 1] bcast_S16x4096_S16x4096x1_0_1 (Host.reduceAdd (mulf K K) (constant S_ .f32 0x00000000#32) reducesTo_S16x4096x256_S16x4096_d2 h_S_)) (broadcastInDim S16x4096x1 ![] bcast_S_S16x4096x1 (constant S_ .f32 0x43800000#32))) (broadcastInDim S16x4096x1 ![] bcast_S_S16x4096x1 (constant S_ .f32 0x358637BD#32)))))) (broadcastInDim S16x4096x256 ![0, 1, 2] bcast_S1x1x256_S16x4096x256_0_1_2 (broadcastInDim S1x1x256 ![2] bcast_S256_S1x1x256_2 g))

/-- The key latent. -/
def latent (X : FVec Ideal S16x4096x1024 .f32) (sh sc : FVec Ideal S16x1024 .f32) (w : FVec Ideal S1024 .f32) (W : FVec Ideal S1024x672 .f32) (g : FVec Ideal S256 .f32) :
    FVec Ideal S16x4096x256 .f32 := normed (latCols (proj (stream X sh sc w) W)) g

/-- The key's rotary part, before its rotation. -/
def rotary (X : FVec Ideal S16x4096x1024 .f32) (sh sc : FVec Ideal S16x1024 .f32) (w : FVec Ideal S1024 .f32) (W : FVec Ideal S1024x672 .f32) :
    FVec Ideal S16x4096x32 .f32 := extractStridedSlice S16x4096x32 ![0, 0, 640] (proj (stream X sh sc w) W) slices_S16x4096x672_S16x4096x32_0_0_640

/-- The reference's two results are the key latent and the rotary key. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = latent (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v36) = rotary (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Value.run (F := Ideal) m ρ

theorem inv_apply (X : FVec Ideal S16x4096x1024 .f32) (b : Fin 16) (t : Fin 4096) :
    inv X (ix3 b t 0) = Ideal.rsqrt (Ideal.div (∑ i : Fin 1024, X (ix3 b t i) * X (ix3 b t i)) (Ideal.ofBits .f32 0x44800000#32) + eps) := by
  unfold inv eps
  pointwise

theorem stream_apply (X : FVec Ideal S16x4096x1024 .f32) (sh sc : FVec Ideal S16x1024 .f32) (w : FVec Ideal S1024 .f32) (b : Fin 16) (t : Fin 4096) (e : Fin 1024) :
    stream X sh sc w (ix3 b t e) = hid (fun i => X (ix3 b t i)) (fun i => w (ix1 i)) (fun i => sh (ix2 b i)) (fun i => sc (ix2 b i)) e := by
  unfold stream hid
  pointwise [inv_apply]

theorem proj_apply (H : FVec Ideal S16x4096x1024 .f32) (W : FVec Ideal S1024x672 .f32) (b : Fin 16) (t : Fin 4096) (n : Fin 672) :
    proj H W (ix3 b t n) = ∑ e : Fin 1024, (H (ix3 b t e) * W (ix2 e n) : EReal) := by
  unfold proj
  pointwise

theorem latCols_apply (Q : FVec Ideal S16x4096x672 .f32) (b : Fin 16) (t : Fin 4096) (n : Fin 256) :
    latCols Q (ix3 b t n) = Q (ix3 b t ⟨384 + n.val, by omega⟩) := by
  unfold latCols
  pointwise

theorem normed_apply (K : FVec Ideal S16x4096x256 .f32) (g : FVec Ideal S256 .f32) (b : Fin 16) (t : Fin 4096) (n : Fin 256) :
    normed K g (ix3 b t n) = K (ix3 b t n) * Ideal.rsqrt (Ideal.div (∑ i : Fin 256, K (ix3 b t i) * K (ix3 b t i)) (Ideal.ofBits .f32 0x43800000#32) + eps) * g (ix1 n) := by
  unfold normed eps
  pointwise

variable (X : FVec Ideal S16x4096x1024 .f32) (sh sc : FVec Ideal S16x1024 .f32) (w : FVec Ideal S1024 .f32) (W : FVec Ideal S1024x672 .f32) (g : FVec Ideal S256 .f32)

/-- The projection at a row and column. -/
def col (b : Fin 16) (t : Fin 4096) (n : Fin 672) : EReal :=
  ∑ e : Fin 1024, hid (fun i => X (ix3 b t i)) (fun i => w (ix1 i)) (fun i => sh (ix2 b i)) (fun i => sc (ix2 b i)) e * W (ix2 e n)

theorem proj_stream (b : Fin 16) (t : Fin 4096) (n : Fin 672) : proj (stream X sh sc w) W (ix3 b t n) = col X sh sc w W b t n := by
  unfold col
  rw [proj_apply]
  simp only [stream_apply]

theorem latent_apply (b : Fin 16) (t : Fin 4096) (n : Fin 256) :
    latent X sh sc w W g (ix3 b t n) = col X sh sc w W b t ⟨384 + n.val, by omega⟩
      * Ideal.rsqrt (Ideal.div (∑ i : Fin 256, col X sh sc w W b t ⟨384 + i.val, by omega⟩ * col X sh sc w W b t ⟨384 + i.val, by omega⟩) (Ideal.ofBits .f32 0x43800000#32) + eps) * g (ix1 n) := by
  unfold latent
  rw [normed_apply]
  simp only [latCols_apply, proj_stream]

theorem rotary_apply (b : Fin 16) (t : Fin 4096) (n : Fin 32) :
    rotary X sh sc w W (ix3 b t n) = col X sh sc w W b t ⟨640 + n.val, by omega⟩ := by
  rw [← proj_stream]
  unfold rotary
  generalize proj (stream X sh sc w) W = Q
  pointwise

end Cert.ReferencePreIdeal.Pre

end
-- ==== Proof.Sub.PreValue.lean ====
/- What the latent projections' call ends with: the key latent and the rotary key are the reference's. -/
module

public import proofs.«01_k».proof.Proof.Sub.PreCover
public import proofs.«01_k».proof.Proof.Sub.PreBlock
public import proofs.«01_k».proof.Proof.Sub.PreRef

@[expose] public section

set_option maxRecDepth 16384

noncomputable section

namespace Cert.KernelPreIdeal.Pre

open Cert.KernelPreIdeal Cert.KernelPreIdeal.Gen Cert.Kv Cert.ReferencePreIdeal.Pre Idealize.ShloMosaic Idealize.ShloMosaic.TcCoe

section

variable (X : FVec Ideal S16x4096x1024 .f32) (sh sc : FVec Ideal S16x1024 .f32) (w : FVec Ideal S1024 .f32) (W : FVec Ideal S1024x672 .f32) (g : FVec Ideal S256 .f32)
variable (x0 : FVec Ideal S1x256x1024 .f32) (x1 x2 : FVec Ideal S1x1x1024 .f32) (x3 : FVec Ideal S1x1024 .f32) (x4 : FVec Ideal S1024x672 .bf16)
variable (b : Fin 16) (t : Fin 4096) (r : Fin 256)

/-- A block's row of the projection is the reference's. -/
theorem pcol_col (h0 : ∀ i : Fin 1024, x0 (ix3 0 r i) = X (ix3 b t i)) (h1 : ∀ i : Fin 1024, x1 (ix3 0 0 i) = sh (ix2 b i)) (h2 : ∀ i : Fin 1024, x2 (ix3 0 0 i) = sc (ix2 b i))
    (h3 : ∀ i : Fin 1024, x3 (ix2 0 i) = w (ix1 i)) (h4 : ∀ (e : Fin 1024) (n : Fin 672), x4 (ix2 e n) = W (ix2 e n)) (n : Fin 672) :
    pcol x0 x3 x1 x2 x4 r n = col X sh sc w W b t n := by
  unfold pcol col
  simp only [h0, h1, h2, h3, h4]

end

/-- A block agreeing with an array at every row and column is the block read from it. -/
theorem cut_eq11 (O : FVec Ideal S1x256x256 .f32) (G : FVec Ideal S16x4096x256 .f32) (t : Fin cfg0.N)
    (h : ∀ (r : Fin 256) (n : Fin 256), O (ix3 0 r n) = G (ix3 ⟨t.val / 16, by have := points t; omega⟩ ⟨256 * (t.val % 16) + r.val, by omega⟩ n)) :
    (cfg0.win 11).cut (grid0.coords t) O = ((cfg0.win 11).blk t).view.read (Elt Ideal) G := by
  refine funext fun (j : S1x256x256.Idx) => ?_
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  show O j = _
  rw [hj]
  exact (h (j 1) (j 2)).trans (oblk11 G t (j 1) (j 2)).symm

/-- A block agreeing with an array at every row and column is the block read from it. -/
theorem cut_eq12 (O : FVec Ideal S1x256x32 .f32) (G : FVec Ideal S16x4096x32 .f32) (t : Fin cfg0.N)
    (h : ∀ (r : Fin 256) (n : Fin 32), O (ix3 0 r n) = G (ix3 ⟨t.val / 16, by have := points t; omega⟩ ⟨256 * (t.val % 16) + r.val, by omega⟩ n)) :
    (cfg0.win 12).cut (grid0.coords t) O = ((cfg0.win 12).blk t).view.read (Elt Ideal) G := by
  refine funext fun (j : S1x256x32.Idx) => ?_
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  show O j = _
  rw [hj]
  exact (h (j 1) (j 2)).trans (oblk12 G t (j 1) (j 2)).symm

variable (m : (ℓ : Loc nD τ sig) → Buf (Elt Ideal) ℓ)

/-- The reference's key latent and rotary key of the call's arguments. -/
def latentOf (c : Dev nD) : FVec Ideal S16x4096x256 .f32 := latent (m (c.tc.loc main_arg0)) (m (c.tc.loc main_arg1)) (m (c.tc.loc main_arg2)) (m (c.tc.loc main_arg3)) (m (c.tc.loc main_arg4)) (m (c.tc.loc main_arg6))
def rotaryOf (c : Dev nD) : FVec Ideal S16x4096x32 .f32 := rotary (m (c.tc.loc main_arg0)) (m (c.tc.loc main_arg1)) (m (c.tc.loc main_arg2)) (m (c.tc.loc main_arg3)) (m (c.tc.loc main_arg4))

/-- What point `t` computes of its blocks is its rows of the reference's projection. -/
theorem pcol_point (c : Dev nD) (t : Fin cfg0.N) (r : Fin 256) (n : Fin 672) :
    pcol (iblk m c 0 t) (iblk m c 3 t) (iblk m c 1 t) (iblk m c 2 t) (iblk m c 4 t) r n
      = col (m (c.tc.loc main_arg0)) (m (c.tc.loc main_arg1)) (m (c.tc.loc main_arg2)) (m (c.tc.loc main_arg3)) (m (c.tc.loc main_arg4)) ⟨t.val / 16, by have := points t; omega⟩ ⟨256 * (t.val % 16) + r.val, by omega⟩ n :=
  pcol_col _ _ _ _ _ (iblk m c 0 t) (iblk m c 1 t) (iblk m c 2 t) (iblk m c 3 t) (iblk m c 4 t) _ _ r
    (fun i => blk0 m c t r i) (fun i => blk1 m c t i) (fun i => blk2 m c t i) (fun i => blk3 m c t i) (fun e n => blk4 m c t e n) n

theorem flushed_eq11 (c : Dev nD) (t : Fin cfg0.N) :
    (dats m 0 c).flushed 11 t = ((cfg0.win 11).blk t).view.read (Elt Ideal) (latentOf m c) := by
  rw [Cert.KernelPreIdeal.Value.flushed11 m c t]
  refine cut_eq11 _ _ t fun r n => (out11 _ _ _ _ _ _ _ _ _ _ _ r n).trans ?_
  unfold latentOf
  rw [latent_apply, blk6]
  simp only [pcol_point]

theorem flushed_eq12 (c : Dev nD) (t : Fin cfg0.N) :
    (dats m 0 c).flushed 12 t = ((cfg0.win 12).blk t).view.read (Elt Ideal) (rotaryOf m c) := by
  rw [Cert.KernelPreIdeal.Value.flushed12 m c t]
  refine cut_eq12 _ _ t fun r n => (out12 _ _ _ _ _ _ _ _ _ _ _ r n).trans ?_
  unfold rotaryOf
  rw [rotary_apply, pcol_point]

/-- So the two results end at the reference's key latent and rotary key. -/
theorem final11 (c : Dev nD) : (dats m 0 c).arrAt 11 cfg0.N = latentOf m c :=
  (dats m 0 c).arrAt_eq_of_cover 11 (latentOf m c) (fun t _ => flushed_eq11 m c t) covered11

theorem final12 (c : Dev nD) : (dats m 0 c).arrAt 12 cfg0.N = rotaryOf m c :=
  (dats m 0 c).arrAt_eq_of_cover 12 (rotaryOf m c) (fun t _ => flushed_eq12 m c t) covered12

end Cert.KernelPreIdeal.Pre

end
-- ==== Proof.Sub.PreClaims.lean ====
/- The claims of the latent projections' call, one theorem each. -/
module

public import proofs.«01_k».proof.Defs
public import proofs.«01_k».proof.Proof.Gen.KernelPre.Frame
public import proofs.«01_k».proof.Proof.Gen.KernelPreIdeal.Frame
public import proofs.«01_k».proof.Proof.Sub.PreValue
public import Idealize.ShloMosaic.Adequacy
public import Idealize.ShloMosaic.Init

@[expose] public section

set_option maxRecDepth 16384

noncomputable section

namespace Cert.Proof.Pre

open Idealize.ShloMosaic Idealize.ShloMosaic.TcCoe Idealize.SL.Sem

attribute [local instance] Cert.KernelPre.Gen.facts Cert.KernelPreIdeal.Gen.facts Cert.ReferencePreIdeal.Gen.facts

/-- The kernel as printed runs, leaves its arguments as they were and every semaphore at zero. -/
theorem frame_p : Cert.quiescent_KernelPre := fun m ρ _ => Cert.KernelPre.Gen.frame m ρ

/-- So does its idealization, … -/
theorem frame_pi : Cert.quiescent_KernelPreIdeal := fun m ρ _ => Cert.KernelPreIdeal.Gen.frame m ρ

/-- … and the reference's. -/
theorem frame_ri : Cert.quiescent_ReferencePreIdeal := fun m ρ _ =>
  (θ_run Cert.ReferencePreIdeal.defs _ _).mono (fun r h => ⟨fun c => (h c).2.2, Idealize.ShloMosaic.sem_eq_zero_of_no_sems (by decide) r.2⟩)
    (Cert.ReferencePreIdeal.Value.run (F := Ideal) m ρ)

/-- The idealized kernel is the kernel's own text. -/
theorem preserves : Cert.preserves_KernelPre_KernelPreIdeal := trivial

/-- From arguments that agree, the idealized kernel and the reference end with the same two results, each leaving its arguments as they were. -/
theorem algebraic : Cert.algebraic_KernelPreIdeal_ReferencePreIdeal := by
  intro m ρ m' ρ' _ hagree
  refine ⟨fun c => Cert.KernelPreIdeal.Pre.latentOf m c, fun c => Cert.KernelPreIdeal.Pre.rotaryOf m c, ?_, ?_⟩
  · refine (θ_run Cert.KernelPreIdeal.defs _ _).mono (fun _ h c => ?_) (Cert.KernelPreIdeal.Value.run_blocks (F := Ideal) m ρ)
    obtain ⟨r0, r1, _, ha⟩ := h c
    exact ⟨r0.trans (Cert.KernelPreIdeal.Pre.final11 m c), r1.trans (Cert.KernelPreIdeal.Pre.final12 m c), ha⟩
  · refine (θ_run Cert.ReferencePreIdeal.defs _ _).mono (fun _ h c => ?_) (Cert.ReferencePreIdeal.Pre.run m' ρ')
    obtain ⟨a0, a1, a2, a3, a4, _, a6, _, _⟩ := hagree c
    obtain ⟨r0, r1, ha⟩ := h c
    refine ⟨r0.trans ?_, r1.trans ?_, ha⟩
    · rw [a0, a1, a2, a3, a4, a6]; rfl
    · rw [a0, a1, a2, a3, a4]; rfl

end Cert.Proof.Pre

end
-- ==== Proof.Sub.BandHost.lean ====
/- What the host's operations hand to the band queries' call. -/
module

public import proofs.«01_k».proof.Proof.Gen.KernelBandIdeal.Frame
public import Idealize.ShloMosaic.Lib.Pointwise

@[expose] public section

set_option maxRecDepth 16384

noncomputable section

namespace Cert.KernelBandIdeal.Band

open Cert.KernelBandIdeal Cert.KernelBandIdeal.Gen Idealize.ShloMosaic Idealize.ShloMosaic.TcCoe Idealize.ShloMosaic.StableHlo

/-- The queries' weights. -/
def wqArr (W : FVec Ideal S1024x1024 .f32) : FVec Ideal S1024x1024 .bf16 := truncf .bf16 W bitsLt_bf16_f32

/-- The head's norm weight, once for each head of a pair. -/
def gArr (g : FVec Ideal S64 .f32) : FVec Ideal S1x128 .f32 :=
  broadcastInDim S1x128 ![1] bcast_S128_S1x128_1 (shapeCast S128 (broadcastInDim S2x64 ![0, 1] bcast_S1x64_S2x64_0_1 (shapeCast S1x64 g shapeCasts_S64_S1x64)) shapeCasts_S2x64_S128)

/-- A modulation with an axis added. -/
def modArr (s : FVec Ideal S16x1024 .f32) : FVec Ideal S16x1x1024 .f32 := broadcastInDim S16x1x1024 ![0, 2] bcast_S16x1024_S16x1x1024_0_2 s

/-- The row norm's weight with an axis added. -/
def nwArr (w : FVec Ideal S1024 .f32) : FVec Ideal S1x1024 .f32 := broadcastInDim S1x1024 ![1] bcast_S1024_S1x1024_1 w

theorem wqArr_apply (W : FVec Ideal S1024x1024 .f32) (e n : Fin 1024) : wqArr W (ix2 e n) = W (ix2 e n) := by
  unfold wqArr
  pointwise

theorem gArr_apply (g : FVec Ideal S64 .f32) (l : Fin 128) : gArr g (ix2 0 l) = g (ix1 ⟨l.val % 64, by omega⟩) := by
  unfold gArr
  pointwise

theorem modArr_apply (s : FVec Ideal S16x1024 .f32) (b : Fin 16) (n : Fin 1024) : modArr s (ix3 b 0 n) = s (ix2 b n) := by
  unfold modArr
  pointwise

theorem nwArr_apply (w : FVec Ideal S1024 .f32) (n : Fin 1024) : nwArr w (ix2 0 n) = w (ix1 n) := by
  unfold nwArr
  pointwise

variable (m : (ℓ : Loc nD τ sig) → Buf (Elt Ideal) ℓ) (c : Dev nD)

/-- The call takes the shift and the scale, … -/
theorem V_sh : (V m c main_v5 : FVec Ideal S16x1x1024 .f32) = modArr (m ((c : Thread nD τ).loc main_arg1)) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem V_sc : (V m c main_v6 : FVec Ideal S16x1x1024 .f32) = modArr (m ((c : Thread nD τ).loc main_arg2)) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

/-- … the row norm's weight, … -/
theorem V_nw : (V m c main_v7 : FVec Ideal S1x1024 .f32) = nwArr (m ((c : Thread nD τ).loc main_arg3)) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

/-- … the projection, … -/
theorem V_wq : (V m c main_v4 : FVec Ideal S1024x1024 .bf16) = wqArr (m ((c : Thread nD τ).loc main_arg4)) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

/-- … and the head norm's weight. -/
theorem V_g : (V m c main_v3 : FVec Ideal S1x128 .f32) = gArr (m ((c : Thread nD τ).loc main_arg5)) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

end Cert.KernelBandIdeal.Band

end
-- ==== Proof.Sub.BandCover.lean ====
/- Which part of each array a grid point of the band queries' call reads and writes, and that the blocks written cover the
   result. -/
module

public import proofs.«01_k».proof.Proof.Gen.KernelBandIdeal.Value
public import proofs.«01_k».proof.Proof.Sub.BandHost
public import Idealize.ShloMosaic.Lib.Pointwise
public import Idealize.ShloMosaic.Lib.Pipeline.Value

@[expose] public section

set_option maxRecDepth 16384

noncomputable section

namespace Cert.KernelBandIdeal.Band

open Cert.KernelBandIdeal Cert.KernelBandIdeal.Gen Idealize.ShloMosaic Idealize.ShloMosaic.TcCoe

/-- Each window's block at point `t`: batch `t / 16`, row block `t % 16`. -/
theorem index0 : ∀ t : Fin grid0.N, win0_0.index t 0 = t.val / 8 ∧ win0_0.index t 1 = t.val % 8 ∧ win0_0.index t 2 = 0 := by decide +kernel
theorem index6 : ∀ t : Fin grid0.N, win0_6.index t 0 = t.val / 8 ∧ win0_6.index t 1 = t.val % 8 ∧ win0_6.index t 2 = 0 := by decide +kernel
theorem index1 : ∀ t : Fin grid0.N, win0_1.index t 0 = t.val / 8 ∧ win0_1.index t 1 = 0 ∧ win0_1.index t 2 = 0 := by decide +kernel
theorem index2 : ∀ t : Fin grid0.N, win0_2.index t 0 = t.val / 8 ∧ win0_2.index t 1 = 0 ∧ win0_2.index t 2 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem xsize6 : ∀ t : Fin grid0.N, win0_6.xsize (grid0.coords t) 0 = 1 ∧ win0_6.xsize (grid0.coords t) 1 = 512 ∧ win0_6.xsize (grid0.coords t) 2 = 1024 := by decide +kernel

theorem points (t : Fin cfg0.N) : t.val < 128 := lt_of_lt_of_eq t.isLt N_0

/-- What point `t` reads of each argument. -/
theorem read0 (U : FVec Ideal S16x4096x1024 .f32) (t : Fin cfg0.N) (r : Fin 512) (n : Fin 1024) :
    ((cfg0.win 0).blk t).view.read (Elt Ideal) U (ix3 0 r n) = U (ix3 ⟨t.val / 8, by have := points t; omega⟩ ⟨512 * (t.val % 8) + r.val, by omega⟩ n) := by
  obtain ⟨e0, e1, e2⟩ := index0 t
  rw [View.read_apply]
  show U _ = U _
  congr 1
  funext a
  apply Fin.ext
  match a with
  | ⟨0, _⟩ => show win0_0.index t 0 * 1 + 1 * 0 = t.val / 8; rw [e0]; omega
  | ⟨1, _⟩ => show win0_0.index t 1 * 512 + 1 * r.val = 512 * (t.val % 8) + r.val; rw [e1]; omega
  | ⟨2, _⟩ => show win0_0.index t 2 * 1024 + 1 * n.val = n.val; rw [e2]; omega

theorem read1 (U : FVec Ideal S16x1x1024 .f32) (t : Fin cfg0.N) (n : Fin 1024) :
    ((cfg0.win 1).blk t).view.read (Elt Ideal) U (ix3 0 0 n) = U (ix3 ⟨t.val / 8, by have := points t; omega⟩ 0 n) := by
  obtain ⟨e0, e1, e2⟩ := index1 t
  rw [View.read_apply]
  show U _ = U _
  congr 1
  funext a
  apply Fin.ext
  match a with
  | ⟨0, _⟩ => show win0_1.index t 0 * 1 + 1 * 0 = t.val / 8; rw [e0]; omega
  | ⟨1, _⟩ => show win0_1.index t 1 * 1 + 1 * 0 = 0; rw [e1]
  | ⟨2, _⟩ => show win0_1.index t 2 * 1024 + 1 * n.val = n.val; rw [e2]; omega

theorem read2 (U : FVec Ideal S16x1x1024 .f32) (t : Fin cfg0.N) (n : Fin 1024) :
    ((cfg0.win 2).blk t).view.read (Elt Ideal) U (ix3 0 0 n) = U (ix3 ⟨t.val / 8, by have := points t; omega⟩ 0 n) := by
  obtain ⟨e0, e1, e2⟩ := index2 t
  rw [View.read_apply]
  show U _ = U _
  congr 1
  funext a
  apply Fin.ext
  match a with
  | ⟨0, _⟩ => show win0_2.index t 0 * 1 + 1 * 0 = t.val / 8; rw [e0]; omega
  | ⟨1, _⟩ => show win0_2.index t 1 * 1 + 1 * 0 = 0; rw [e1]
  | ⟨2, _⟩ => show win0_2.index t 2 * 1024 + 1 * n.val = n.val; rw [e2]; omega

theorem read3 (U : FVec Ideal S1x1024 .f32) (t : Fin cfg0.N) (n : Fin 1024) :
    ((cfg0.win 3).blk t).view.read (Elt Ideal) U (ix2 0 n) = U (ix2 0 n) := by
  obtain ⟨e0, e1⟩ := index3 t
  rw [View.read_apply]
  show U _ = U _
  congr 1
  funext a
  apply Fin.ext
  match a with
  | ⟨0, _⟩ => show win0_3.index t 0 * 1 + 1 * 0 = 0; rw [e0]
  | ⟨1, _⟩ => show win0_3.index t 1 * 1024 + 1 * n.val = n.val; rw [e1]; omega

theorem read4 (U : FVec Ideal S1024x1024 .bf16) (t : Fin cfg0.N) (e : Fin 1024) (n : Fin 1024) :
    ((cfg0.win 4).blk t).view.read (Elt Ideal) U (ix2 e n) = U (ix2 e n) := by
  obtain ⟨e0, e1⟩ := index4 t
  rw [View.read_apply]
  show U _ = U _
  congr 1
  funext a
  apply Fin.ext
  match a with
  | ⟨0, _⟩ => show win0_4.index t 0 * 1024 + 1 * e.val = e.val; rw [e0]; omega
  | ⟨1, _⟩ => show win0_4.index t 1 * 1024 + 1 * n.val = n.val; rw [e1]; omega

theorem read5 (U : FVec Ideal S1x128 .f32) (t : Fin cfg0.N) (n : Fin 128) :
    ((cfg0.win 5).blk t).view.read (Elt Ideal) U (ix2 0 n) = U (ix2 0 n) := by
  obtain ⟨e0, e1⟩ := index5 t
  rw [View.read_apply]
  show U _ = U _
  congr 1
  funext a
  apply Fin.ext
  match a with
  | ⟨0, _⟩ => show win0_5.index t 0 * 1 + 1 * 0 = 0; rw [e0]
  | ⟨1, _⟩ => show win0_5.index t 1 * 128 + 1 * n.val = n.val; rw [e1]; omega

variable (m : (ℓ : Loc nD τ sig) → Buf (Elt Ideal) ℓ) (c : Dev nD)

/-- The same, in the call's own arguments. -/
theorem blk0 (t : Fin cfg0.N) (r : Fin 512) (n : Fin 1024) : (iblk m c 0 t : FVec Ideal S1x512x1024 .f32) (ix3 0 r n) = m ((c : Thread nD τ).loc main_arg0) (ix3 ⟨t.val / 8, by have := points t; omega⟩ ⟨512 * (t.val % 8) + r.val, by omega⟩ n) := by
  unfold iblk
  exact (read0 (V m c main_arg0) t r n).trans (congrFun (V_main_arg0 m c) _)

theorem blk1 (t : Fin cfg0.N) (n : Fin 1024) : (iblk m c 1 t : FVec Ideal S1x1x1024 .f32) (ix3 0 0 n) = m ((c : Thread nD τ).loc main_arg1) (ix2 ⟨t.val / 8, by have := points t; omega⟩ n) := by
  unfold iblk
  exact (read1 (V m c main_v5) t n).trans ((congrFun (V_sh m c) _).trans (modArr_apply _ _ _))

theorem blk2 (t : Fin cfg0.N) (n : Fin 1024) : (iblk m c 2 t : FVec Ideal S1x1x1024 .f32) (ix3 0 0 n) = m ((c : Thread nD τ).loc main_arg2) (ix2 ⟨t.val / 8, by have := points t; omega⟩ n) := by
  unfold iblk
  exact (read2 (V m c main_v6) t n).trans ((congrFun (V_sc m c) _).trans (modArr_apply _ _ _))

theorem blk3 (t : Fin cfg0.N) (n : Fin 1024) : (iblk m c 3 t : FVec Ideal S1x1024 .f32) (ix2 0 n) = m ((c : Thread nD τ).loc main_arg3) (ix1 n) := by
  unfold iblk
  exact (read3 (V m c main_v7) t n).trans ((congrFun (V_nw m c) _).trans (nwArr_apply _ _))

theorem blk4 (t : Fin cfg0.N) (e : Fin 1024) (n : Fin 1024) : (iblk m c 4 t : FVec Ideal S1024x1024 .bf16) (ix2 e n) = m ((c : Thread nD τ).loc main_arg4) (ix2 e n) := by
  unfold iblk
  exact (read4 (V m c main_v4) t e n).trans ((congrFun (V_wq m c) _).trans (wqArr_apply _ _ _))

theorem blk5 (t : Fin cfg0.N) (l : Fin 128) : (iblk m c 5 t : FVec Ideal S1x128 .f32) (ix2 0 l) = m ((c : Thread nD τ).loc main_arg5) (ix1 ⟨l.val % 64, by omega⟩) := by
  unfold iblk
  exact (read5 (V m c main_v3) t l).trans ((congrFun (V_g m c) _).trans (gArr_apply _ _))

/-- What point `t` writes of each result. -/
theorem oblk6 (G : FVec Ideal S16x4096x1024 .bf16) (t : Fin cfg0.N) (r : Fin 512) (n : Fin 1024) :
    ((cfg0.win 6).blk t).view.read (Elt Ideal) G (ix3 0 r n) = G (ix3 ⟨t.val / 8, by have := points t; omega⟩ ⟨512 * (t.val % 8) + r.val, by omega⟩ n) := by
  obtain ⟨e0, e1, e2⟩ := index6 t
  rw [View.read_apply]
  show G _ = G _
  congr 1
  funext a
  apply Fin.ext
  match a with
  | ⟨0, _⟩ => show win0_6.index t 0 * 1 + 1 * 0 = t.val / 8; rw [e0]; omega
  | ⟨1, _⟩ => show win0_6.index t 1 * 512 + 1 * r.val = 512 * (t.val % 8) + r.val; rw [e1]; omega
  | ⟨2, _⟩ => show win0_6.index t 2 * 1024 + 1 * n.val = n.val; rw [e2]; omega

/-- Every place of the result is in the block of some point that writes it. -/
theorem covered6 (i : S16x4096x1024.Idx) : ∃ t : Fin cfg0.N, (cfg0.win 6).flush t = true ∧ i ∈ ((cfg0.win 6).blk t).view.set := by
  have h0 : (i 0 : Nat) < 16 := (i 0).isLt
  have h1 : (i 1 : Nat) < 4096 := (i 1).isLt
  have h2 : (i 2 : Nat) < 1024 := (i 2).isLt
  refine ⟨⟨8 * (i 0).val + (i 1).val / 512, lt_of_lt_of_eq (by omega : _ < 128) N_0.symm⟩, flush0_6 _, ?_⟩
  generalize ht : (⟨8 * (i 0).val + (i 1).val / 512, lt_of_lt_of_eq (by omega : _ < 128) N_0.symm⟩ : Fin cfg0.N) = t
  have hv : t.val = 8 * (i 0).val + (i 1).val / 512 := by rw [← ht]
  obtain ⟨e0, e1, e2⟩ := index6 t
  obtain ⟨x0, x1, x2⟩ := xsize6 t
  show i ∈ ((View.whole main_v8).slice (win0_6.rect t)).set
  rw [View.set_slice_whole, Rect.mem_set_unit]
  intro a
  match a with
  | ⟨0, _⟩ => show win0_6.index t 0 * 1 ≤ (i 0 : Nat) ∧ (i 0 : Nat) < win0_6.index t 0 * 1 + win0_6.xsize (grid0.coords t) 0
              rw [e0, x0]; omega
  | ⟨1, _⟩ => show win0_6.index t 1 * 512 ≤ (i 1 : Nat) ∧ (i 1 : Nat) < win0_6.index t 1 * 512 + win0_6.xsize (grid0.coords t) 1
              rw [e1, x1]; omega
  | ⟨2, _⟩ => show win0_6.index t 2 * 1024 ≤ (i 2 : Nat) ∧ (i 2 : Nat) < win0_6.index t 2 * 1024 + win0_6.xsize (grid0.coords t) 2
              rw [e2, x2]; omega

end Cert.KernelBandIdeal.Band

end
-- ==== Proof.Sub.BandBlock.lean ====
/- What one grid point of the band queries' kernel writes. -/
module

public import proofs.«01_k».proof.Proof.Gen.KernelBandIdeal.Value
public import proofs.«01_k».proof.Proof.Sub.KvBlock

@[expose] public section

set_option maxRecDepth 16384

noncomputable section

namespace Cert.KernelBandIdeal.Band

open Cert.KernelBandIdeal Cert.KernelBandIdeal.Gen Idealize.ShloMosaic Idealize.ShloMosaic.TcCoe Cert.Kv
open Cert.KernelKvIdeal.Kv (pairOf lanes keyArr keyBlk piece_eq hz2 hz3)

/-- The modulated rows' product with the projection, at a row and column. -/
theorem pay3_apply (v0 : FVec Ideal S1x512x1024 .f32) (v2 : FVec Ideal S1x1024 .f32) (v4 v6 : FVec Ideal S1x1x1024 .f32) (W : FVec Ideal S1024x1024 .bf16) (r : Fin 512) (n : Fin 1024) :
    k0_pay3 (F := Ideal) v0 v2 v4 v6 W (ix2 r n)
      = ∑ e : Fin 1024, hid (fun i => v0 (ix3 0 r i)) (fun i => v2 (ix2 0 i)) (fun i => v4 (ix3 0 0 i)) (fun i => v6 (ix3 0 0 i)) e * W (ix2 e n) := by
  unfold hid eps
  pointwise [k0_pay3]

/-- A pair of heads, normalized and scaled, as it is stored. -/
def packed (x : FVec Ideal S512x128 .f32) (g : FVec Ideal S1x128 .f32) : FVec Ideal S1x512x128 .bf16 :=
  shapeCast S1x512x128 (truncf .bf16 (mulf (pairOf x g) (broadcast S512x128 (Scalar.ofBits (F := Ideal) .f32 0x3E000000#32))) bitsLt_bf16_f32) shapeCasts_S512x128_S1x512x128

theorem packed_apply (x : FVec Ideal S512x128 .f32) (g : FVec Ideal S1x128 .f32) (r : Fin 512) (l : Fin 128) :
    packed x g (ix3 0 r l) = pairOf x g (ix2 r l) * Ideal.ofBits .f32 0x3E000000#32 := by
  unfold packed
  pointwise

/-- The queries of a block as an array. -/
def qArr (K : FVec Ideal S512x1024 .f32) (g : FVec Ideal S1x128 .f32) (j : S1x512x1024.Idx) : EReal := keyArr K g j * Ideal.ofBits .f32 0x3E000000#32

/-- A stored pair is its lanes of that array. -/
theorem pair_piece (o : ℕ) (p : Fin 8) (ho : o = 128 * p.val) (K : FVec Ideal S512x1024 .f32) (g : FVec Ideal S1x128 .f32) (q : S1x512x128.Idx → EReal)
    (hs : S512x1024.Slices ![0, o] S512x128) (hq : q = packed (extractStridedSlice S512x128 ![0, o] K hs) g)
    (inb : ∀ a, (![0, 0, o] : Fin 3 → ℕ) a + S1x512x128.size a ≤ S1x512x1024.size a)
    (x : (Rect.unit (s := S1x512x1024) ![0, 0, o] S1x512x128.size inb).shape.Idx) :
    q x = qArr K g ((Rect.unit (s := S1x512x1024) ![0, 0, o] S1x512x128.size inb).emb x) := by
  have hx : x = (ix3 0 (x 1) (x 2) : S1x512x128.Idx) := by
    funext a
    match a with
    | ⟨0, _⟩ => exact Fin.ext (by have : (x 0).val < 1 := (x 0).isLt; show (x 0).val = 0; omega)
    | ⟨1, _⟩ => rfl
    | ⟨2, _⟩ => rfl
  have h := piece_eq o p ho K g (fun y => pairOf (extractStridedSlice S512x128 ![0, o] K hs) g (ix2 (y 1) (y 2))) hs (fun r l => rfl) inb x
  unfold qArr
  rw [← h, hq]
  exact (congrArg (packed _ g) hx).trans (packed_apply _ g (x 1 : Fin 512) (x 2 : Fin 128))

section

variable (Y : FVec Ideal S512x1024 .f32) (g : FVec Ideal S1x128 .f32)

/-! What each store holds is the scaled norm of its pair of heads. -/

theorem pair128 : k0_pay15 (F := Ideal) g (k0_pay9 Y) (k0_pay12 lanes) (k0_pay13 Y lanes) (k0_pay14 Y lanes) = packed (extractStridedSlice S512x128 ![0, 128] Y slices_S512x1024_o0_128_S512x128) g := rfl
theorem pair256 : k0_pay17 (F := Ideal) (k0_pay16 Y g lanes) = packed (extractStridedSlice S512x128 ![0, 256] Y slices_S512x1024_o0_256_S512x128) g := rfl
theorem pair384 : k0_pay18 (F := Ideal) Y g lanes = packed (extractStridedSlice S512x128 ![0, 384] Y slices_S512x1024_o0_384_S512x128) g := rfl
theorem pair512 : k0_pay22 (F := Ideal) g lanes (k0_pay19 Y) (k0_pay20 Y) (k0_pay21 Y lanes) = packed (extractStridedSlice S512x128 ![0, 512] Y slices_S512x1024_o0_512_S512x128) g := rfl
theorem pair640 : k0_pay26 (F := Ideal) g (k0_pay23 Y) (k0_pay24 Y lanes) (k0_pay25 (F := Ideal)) = packed (extractStridedSlice S512x128 ![0, 640] Y slices_S512x1024_o0_640_S512x128) g := rfl
theorem pair768 : k0_pay1 (F := Ideal) (k0_pay27 Y g lanes) = packed (extractStridedSlice S512x128 ![0, 768] Y slices_S512x1024_o0_768_S512x128) g := rfl
theorem pair896 : k0_pay2 (F := Ideal) Y g lanes = packed (extractStridedSlice S512x128 ![0, 896] Y slices_S512x1024_o0_896_S512x128) g := rfl

theorem gain_eq : k0_pay4 (F := Ideal) g = g := by
  unfold k0_pay4
  exact shapeCast_self g _

end

variable (x0 : FVec Ideal S1x512x1024 .f32) (x1 x2 : FVec Ideal S1x1x1024 .f32) (x3 : FVec Ideal S1x1024 .f32) (x4 : FVec Ideal S1024x1024 .bf16) (x5 : FVec Ideal S1x128 .f32)

theorem pair0 : k0_pay8 (F := Ideal) x5 lanes (k0_pay5 x0 x3 x1 x2 x4) (k0_pay6 x0 x3 x1 x2 x4) k0_pay7
    = packed (extractStridedSlice S512x128 ![0, 0] (k0_pay3 (F := Ideal) x0 x3 x1 x2 x4) slices_S512x1024_o0_0_S512x128) x5 := rfl

/-- The projection and the norm's weight a point uses, their loads read off. -/
theorem proj_eq : k0_pay29 (F := Ideal) x0 x1 x2 x3 x4 x5 = k0_pay3 (F := Ideal) x0 x3 x1 x2 x4 := by
  unfold k0_pay29
  rw [View.ld_unit_zero hz3, View.ld_unit_zero hz2, View.ld_unit_zero hz3, View.ld_unit_zero hz3, View.ld_unit_zero hz2]

theorem weight_eq : k0_pay30 (F := Ideal) x0 x1 x2 x3 x4 x5 = x5 := by
  unfold k0_pay30
  rw [View.ld_unit_zero hz2, gain_eq]

theorem lanes_eq : k0_pay28 (F := Ideal) x0 x1 x2 x3 x4 x5 = lanes := rfl

/-- The queries a point writes, at a row and column. -/
theorem out6 (r : Fin 512) (n : Fin 1024) :
    out0_6 (F := Ideal) x0 x1 x2 x3 x4 x5 (ix3 0 r n) = keyBlk (k0_pay3 (F := Ideal) x0 x3 x1 x2 x4) x5 r n * Ideal.ofBits .f32 0x3E000000#32 := by
  unfold out0_6
  rw [proj_eq, weight_eq, lanes_eq, View.ld_unit_zero hz3, View.ld_unit_zero hz2, View.ld_unit_zero hz3, View.ld_unit_zero hz3, View.ld_unit_zero hz2]
  refine (View.canon_apply_of_pieces (qArr (k0_pay3 (F := Ideal) x0 x3 x1 x2 x4) x5) _ ?_ (ix3 0 r n) (cover0_6 (F := Ideal) _ _ _ _ _ _ _ _ _)).trans rfl
  intro pc hpc x
  simp only [List.mem_cons, List.not_mem_nil, or_false] at hpc
  rcases hpc with rfl | rfl | rfl | rfl | rfl | rfl | rfl | rfl
  · exact pair_piece 896 7 rfl _ x5 _ slices_S512x1024_o0_896_S512x128 (pair896 _ x5) inb_S1x512x1024_S1x512x128_0_0_896 x
  · exact pair_piece 768 6 rfl _ x5 _ slices_S512x1024_o0_768_S512x128 (pair768 _ x5) inb_S1x512x1024_S1x512x128_0_0_768 x
  · exact pair_piece 640 5 rfl _ x5 _ slices_S512x1024_o0_640_S512x128 (pair640 _ x5) inb_S1x512x1024_S1x512x128_0_0_640 x
  · exact pair_piece 512 4 rfl _ x5 _ slices_S512x1024_o0_512_S512x128 (pair512 _ x5) inb_S1x512x1024_S1x512x128_0_0_512 x
  · exact pair_piece 384 3 rfl _ x5 _ slices_S512x1024_o0_384_S512x128 (pair384 _ x5) inb_S1x512x1024_S1x512x128_0_0_384 x
  · exact pair_piece 256 2 rfl _ x5 _ slices_S512x1024_o0_256_S512x128 (pair256 _ x5) inb_S1x512x1024_S1x512x128_0_0_256 x
  · exact pair_piece 128 1 rfl _ x5 _ slices_S512x1024_o0_128_S512x128 (pair128 _ x5) inb_S1x512x1024_S1x512x128_0_0_128 x
  · exact pair_piece 0 0 rfl _ x5 _ slices_S512x1024_o0_0_S512x128 (pair0 x0 x1 x2 x3 x4 x5) inb_S1x512x1024_S1x512x128_0_0_0 x

end Cert.KernelBandIdeal.Band

end
-- ==== Proof.Sub.BandRef.lean ====
/- The reference's band queries read at an index. -/
module

public import proofs.«01_k».proof.Proof.Gen.ReferenceBandIdeal.Run
public import proofs.«01_k».proof.Proof.Sub.KvRef

@[expose] public section

set_option maxRecDepth 16384

noncomputable section

namespace Cert.ReferenceBandIdeal.Band

open Cert.ReferenceBandIdeal Cert.ReferenceBandIdeal.Gen Idealize.ShloMosaic Idealize.ShloMosaic.TcCoe Cert.Kv
open Cert.ReferenceKvIdeal.Kv (inv stream stream_apply normed normed_apply flat flat_apply half)

/-- The modulated stream's product with the weights. -/
def proj (H : FVec Ideal S16x4096x1024 .f32) (W : FVec Ideal S1024x1024 .f32) : FVec Ideal S16x4096x1024 .f32 :=
  Host.dotGeneral dot_S16x4096x1024_S1024x1024_S16x4096x1024_2_0_01_1_n_n none H W

/-- A head at a time. -/
def heads (P : FVec Ideal S16x4096x1024 .f32) : FVec Ideal S16x4096x16x64 .f32 := shapeCast _ P shapeCasts_S16x4096x1024_S16x4096x16x64

/-- The scale of the scores. -/
def scaled (K : FVec Ideal S16x4096x16x64 .f32) : FVec Ideal S16x4096x16x64 .f32 :=
  mulf K (broadcastInDim S16x4096x16x64 ![] bcast_S_S16x4096x16x64 (constant S_ .f32 0x3E000000#32))

/-- The queries. -/
def queries (X : FVec Ideal S16x4096x1024 .f32) (sh sc : FVec Ideal S16x1024 .f32) (w : FVec Ideal S1024 .f32) (W : FVec Ideal S1024x1024 .f32) (g : FVec Ideal S64 .f32) :
    FVec Ideal S16x4096x1024 .bf16 := half (flat (scaled (normed (heads (proj (stream X sh sc w) W)) g)))

/-- The reference's result is the queries. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = queries (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run (F := Ideal) m ρ

theorem proj_apply (H : FVec Ideal S16x4096x1024 .f32) (W : FVec Ideal S1024x1024 .f32) (b : Fin 16) (t : Fin 4096) (n : Fin 1024) :
    proj H W (ix3 b t n) = ∑ e : Fin 1024, (H (ix3 b t e) * W (ix2 e n) : EReal) := by
  unfold proj
  pointwise

theorem heads_apply (P : FVec Ideal S16x4096x1024 .f32) (b : Fin 16) (t : Fin 4096) (h : Fin 16) (d : Fin 64) :
    heads P (ix4 b t h d) = P (ix3 b t ⟨64 * h.val + d.val, by omega⟩) := by
  have e : (⟨64 * h.val + d.val, by omega⟩ : Fin 1024) = ⟨h.val * 64 + d.val, by omega⟩ := Fin.ext (by show 64 * h.val + d.val = h.val * 64 + d.val; omega)
  rw [e]
  unfold heads
  pointwise

theorem scaled_apply (K : FVec Ideal S16x4096x16x64 .f32) (b : Fin 16) (t : Fin 4096) (h : Fin 16) (d : Fin 64) :
    scaled K (ix4 b t h d) = K (ix4 b t h d) * Ideal.ofBits .f32 0x3E000000#32 := by
  unfold scaled
  pointwise

variable (X : FVec Ideal S16x4096x1024 .f32) (sh sc : FVec Ideal S16x1024 .f32) (w : FVec Ideal S1024 .f32) (W : FVec Ideal S1024x1024 .f32) (g : FVec Ideal S64 .f32)

/-- The projection at a row and column. -/
def col (b : Fin 16) (t : Fin 4096) (n : Fin 1024) : EReal :=
  ∑ e : Fin 1024, hid (fun i => X (ix3 b t i)) (fun i => w (ix1 i)) (fun i => sh (ix2 b i)) (fun i => sc (ix2 b i)) e * W (ix2 e n)

theorem proj_stream (b : Fin 16) (t : Fin 4096) (n : Fin 1024) : proj (stream X sh sc w) W (ix3 b t n) = col X sh sc w W b t n := by
  unfold col
  rw [proj_apply]
  simp only [stream_apply]

theorem queries_apply (b : Fin 16) (t : Fin 4096) (n : Fin 1024) :
    queries X sh sc w W g (ix3 b t n) = headRms (fun n => col X sh sc w W b t n) (fun d => g (ix1 d)) n * Ideal.ofBits .f32 0x3E000000#32 := by
  show flat (scaled (normed (heads (proj (stream X sh sc w) W)) g)) (ix3 b t n) = _
  unfold headRms
  rw [flat_apply, scaled_apply, normed_apply]
  simp only [heads_apply, proj_stream]
  have e : (⟨64 * (n.val / 64) + n.val % 64, by omega⟩ : Fin 1024) = n := Fin.ext (by show 64 * (n.val / 64) + n.val % 64 = n.val; omega)
  rw [e]

end Cert.ReferenceBandIdeal.Band

end
-- ==== Proof.Sub.BandValue.lean ====
/- What the band queries' call ends with: the reference's queries. -/
module

public import proofs.«01_k».proof.Proof.Sub.BandCover
public import proofs.«01_k».proof.Proof.Sub.BandBlock
public import proofs.«01_k».proof.Proof.Sub.BandRef
public import proofs.«01_k».proof.Proof.Sub.KvValue

@[expose] public section

set_option maxRecDepth 16384

noncomputable section

namespace Cert.KernelBandIdeal.Band

open Cert.KernelBandIdeal Cert.KernelBandIdeal.Gen Cert.Kv Cert.ReferenceBandIdeal.Band Idealize.ShloMosaic Idealize.ShloMosaic.TcCoe
open Cert.KernelKvIdeal.Kv (keyBlk Reals)

section

variable (X : FVec Ideal S16x4096x1024 .f32) (sh sc : FVec Ideal S16x1024 .f32) (w : FVec Ideal S1024 .f32) (W : FVec Ideal S1024x1024 .f32) (g : FVec Ideal S64 .f32)

/-- The projection is real, whatever the rows. -/
theorem col_real (hsh : Reals sh) (hsc : Reals sc) (hw : Reals w) (hW : Reals W) (b : Fin 16) (t : Fin 4096) (n : Fin 1024) :
    ∃ y : ℝ, col X sh sc w W b t n = y := by
  unfold col
  exact dot_real _ (fun e => W (ix2 e n)) (fun e => hid_real _ _ _ _ (fun i => hw (ix1 i)) (fun i => hsh (ix2 b i)) (fun i => hsc (ix2 b i)) e)
    (fun e => hW (ix2 e n))

/-- A block's row of the queries is the reference's. -/
theorem query_row (x0 : FVec Ideal S1x512x1024 .f32) (x1 x2 : FVec Ideal S1x1x1024 .f32) (x3 : FVec Ideal S1x1024 .f32) (x4 : FVec Ideal S1024x1024 .bf16) (x5 : FVec Ideal S1x128 .f32) (b : Fin 16) (t : Fin 4096) (r : Fin 512)
    (h0 : ∀ i : Fin 1024, x0 (ix3 0 r i) = X (ix3 b t i)) (h1 : ∀ i : Fin 1024, x1 (ix3 0 0 i) = sh (ix2 b i)) (h2 : ∀ i : Fin 1024, x2 (ix3 0 0 i) = sc (ix2 b i))
    (h3 : ∀ i : Fin 1024, x3 (ix2 0 i) = w (ix1 i)) (h4 : ∀ e n : Fin 1024, x4 (ix2 e n) = W (ix2 e n)) (h5 : ∀ l : Fin 128, x5 (ix2 0 l) = g (ix1 ⟨l.val % 64, by omega⟩))
    (hsh : Reals sh) (hsc : Reals sc) (hw : Reals w) (hW : Reals W) (n : Fin 1024) :
    keyBlk (k0_pay3 (F := Ideal) x0 x3 x1 x2 x4) x5 r n * Ideal.ofBits .f32 0x3E000000#32 = queries X sh sc w W g (ix3 b t n) := by
  rw [queries_apply]
  have hm : ∀ i : Fin 1024, k0_pay3 (F := Ideal) x0 x3 x1 x2 x4 (ix2 r i) = col X sh sc w W b t i := fun i => by
    rw [pay3_apply]
    simp only [h0, h1, h2, h3, h4]
    rfl
  have hp := pair_head (fun n => col X sh sc w W b t n) (fun n => col_real X sh sc w W hsh hsc hw hW b t n) (fun d => g (ix1 d))
    ⟨n.val / 128, by omega⟩ ⟨n.val % 128, by omega⟩
  have en : (⟨128 * (n.val / 128) + n.val % 128, by omega⟩ : Fin 1024) = n := Fin.ext (by show 128 * (n.val / 128) + n.val % 128 = n.val; omega)
  unfold keyBlk
  rw [h5, funext fun i : Fin 128 => hm ⟨128 * (n.val / 128) + i.val, by omega⟩]
  exact congrArg (· * Ideal.ofBits .f32 0x3E000000#32) (hp.trans (congrArg _ en))

end

/-- A block agreeing with an array at every row and column is the block read from it. -/
theorem cut_eq6 (O : FVec Ideal S1x512x1024 .bf16) (G : FVec Ideal S16x4096x1024 .bf16) (t : Fin cfg0.N)
    (h : ∀ (r : Fin 512) (n : Fin 1024), O (ix3 0 r n) = G (ix3 ⟨t.val / 8, by have := points t; omega⟩ ⟨512 * (t.val % 8) + r.val, by omega⟩ n)) :
    (cfg0.win 6).cut (grid0.coords t) O = ((cfg0.win 6).blk t).view.read (Elt Ideal) G := by
  refine funext fun (j : S1x512x1024.Idx) => ?_
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  show O j = _
  rw [hj]
  exact (h (j 1) (j 2)).trans (oblk6 G t (j 1) (j 2)).symm

variable (m : (ℓ : Loc nD τ sig) → Buf (Elt Ideal) ℓ)

/-- The reference's queries of the call's arguments. -/
def queriesOf (c : Dev nD) : FVec Ideal S16x4096x1024 .bf16 := queries (m (c.tc.loc main_arg0)) (m (c.tc.loc main_arg1)) (m (c.tc.loc main_arg2)) (m (c.tc.loc main_arg3)) (m (c.tc.loc main_arg4)) (m (c.tc.loc main_arg5))

theorem flushed_eq6 (c : Dev nD) (q1 : Reals (m (c.tc.loc main_arg1))) (q2 : Reals (m (c.tc.loc main_arg2))) (q3 : Reals (m (c.tc.loc main_arg3))) (q4 : Reals (m (c.tc.loc main_arg4))) (t : Fin cfg0.N) :
    (dats m 0 c).flushed 6 t = ((cfg0.win 6).blk t).view.read (Elt Ideal) (queriesOf m c) := by
  rw [Cert.KernelBandIdeal.Value.flushed6 m c t]
  exact cut_eq6 _ _ t fun r n => (out6 _ _ _ _ _ _ r n).trans
    (query_row (m (c.tc.loc main_arg0)) (m (c.tc.loc main_arg1)) (m (c.tc.loc main_arg2)) (m (c.tc.loc main_arg3)) (m (c.tc.loc main_arg4)) (m (c.tc.loc main_arg5)) (iblk m c 0 t) (iblk m c 1 t) (iblk m c 2 t) (iblk m c 3 t) (iblk m c 4 t) (iblk m c 5 t) _ _ r
      (fun i => blk0 m c t r i) (fun i => blk1 m c t i) (fun i => blk2 m c t i) (fun i => blk3 m c t i) (fun e n => blk4 m c t e n) (fun l => blk5 m c t l) q1 q2 q3 q4 n)

/-- So the result ends at the reference's queries. -/
theorem final6 (c : Dev nD) (q1 : Reals (m (c.tc.loc main_arg1))) (q2 : Reals (m (c.tc.loc main_arg2))) (q3 : Reals (m (c.tc.loc main_arg3))) (q4 : Reals (m (c.tc.loc main_arg4))) : (dats m 0 c).arrAt 6 cfg0.N = queriesOf m c :=
  (dats m 0 c).arrAt_eq_of_cover 6 (queriesOf m c) (fun t _ => flushed_eq6 m c q1 q2 q3 q4 t) covered6

end Cert.KernelBandIdeal.Band

end
-- ==== Proof.Sub.BandClaims.lean ====
/- The claims of the band queries' call, one theorem each. -/
module

public import proofs.«01_k».proof.Defs
public import proofs.«01_k».proof.Proof.Gen.KernelBand.Frame
public import proofs.«01_k».proof.Proof.Gen.KernelBandIdeal.Frame
public import proofs.«01_k».proof.Proof.Gen.Pre_query_weights_finite
public import proofs.«01_k».proof.Proof.Sub.Claims
public import proofs.«01_k».proof.Proof.Sub.BandValue
public import Idealize.ShloMosaic.Adequacy
public import Idealize.ShloMosaic.Init

@[expose] public section

set_option maxRecDepth 16384

noncomputable section

namespace Cert.Proof.Band

open Idealize.ShloMosaic Idealize.ShloMosaic.TcCoe Idealize.SL.Sem

attribute [local instance] Cert.Pre_query_weights_finite.Gen.facts Cert.KernelBand.Gen.facts Cert.KernelBandIdeal.Gen.facts Cert.ReferenceBandIdeal.Gen.facts

/-- The kernel as printed runs, leaves its arguments as they were and every semaphore at zero. -/
theorem frame_p : Cert.quiescent_KernelBand := fun m ρ _ => Cert.KernelBand.Gen.frame m ρ

/-- So does its idealization, … -/
theorem frame_pi : Cert.quiescent_KernelBandIdeal := fun m ρ _ => Cert.KernelBandIdeal.Gen.frame m ρ

theorem frame_pi_pre : Cert.quiescent_KernelBandIdeal_pre_query_weights_finite := fun m ρ _ => Cert.KernelBandIdeal.Gen.frame m ρ

/-- … and the reference's. -/
theorem frame_ri : Cert.quiescent_ReferenceBandIdeal := fun m ρ _ =>
  (θ_run Cert.ReferenceBandIdeal.defs _ _).mono (fun r h => ⟨fun c => (h c).2, Idealize.ShloMosaic.sem_eq_zero_of_no_sems (by decide) r.2⟩)
    (Cert.ReferenceBandIdeal.Value.run (F := Ideal) m ρ)

theorem frame_ri_pre : Cert.quiescent_ReferenceBandIdeal_pre_query_weights_finite := fun m ρ _ => frame_ri m ρ trivial

/-- The idealized kernel is the kernel's own text. -/
theorem preserves : Cert.preserves_KernelBand_KernelBandIdeal := trivial

/-- From arguments that agree, the modulation, the row norm's weight and the projection real numbers, the idealized kernel and the reference end
    with the same queries, each leaving its arguments as they were. -/
theorem algebraic : Cert.algebraic_KernelBandIdeal_ReferenceBandIdeal_pre_query_weights_finite := by
  intro m ρ m' ρ' hpre hagree
  refine ⟨fun c => Cert.KernelBandIdeal.Band.queriesOf m c, ?_, ?_⟩
  · refine (θ_run Cert.KernelBandIdeal.defs _ _).mono (fun _ h c => ?_) (Cert.KernelBandIdeal.Value.run_blocks (F := Ideal) m ρ)
    obtain ⟨p1, p2, p3, p4⟩ := hpre c
    obtain ⟨r0, ha⟩ := h c
    exact ⟨r0.trans (Cert.KernelBandIdeal.Band.final6 m c (fun j => Attn.real_of_abs _ (congrFun p1 j)) (fun j => Attn.real_of_abs _ (congrFun p2 j))
      (fun j => Attn.real_of_abs _ (congrFun p3 j)) (fun j => Attn.real_of_abs _ (congrFun p4 j))), ha⟩
  · refine (θ_run Cert.ReferenceBandIdeal.defs _ _).mono (fun _ h c => ?_) (Cert.ReferenceBandIdeal.Band.run m' ρ')
    obtain ⟨a0, a1, a2, a3, a4, a5⟩ := hagree c
    obtain ⟨r0, ha⟩ := h c
    refine ⟨r0.trans ?_, ha⟩
    rw [a0, a1, a2, a3, a4, a5]; rfl

end Cert.Proof.Band

end
-- ==== Proof.Sub.StepHost.lean ====
/- What the host's operations hand to the sample's latent projections' call, of the arguments that its key latent and its rotary key depend on. -/
module

public import proofs.«01_k».proof.Proof.Gen.KernelStepIdeal.Frame
public import Idealize.ShloMosaic.Lib.Pointwise

@[expose] public section

set_option maxRecDepth 16384

noncomputable section

namespace Cert.KernelStepIdeal.Step

open Cert.KernelStepIdeal Cert.KernelStepIdeal.Gen Idealize.ShloMosaic Idealize.ShloMosaic.TcCoe Idealize.ShloMosaic.StableHlo

/-- The projection's weights. -/
def winArr (W : FVec Ideal S1024x672 .f32) : FVec Ideal S1024x672 .bf16 := truncf .bf16 W bitsLt_bf16_f32

/-- The sequences' rows, one after another. -/
def xArr (X : FVec Ideal S8x64x1024 .f32) : FVec Ideal S1x512x1024 .f32 := shapeCast S1x512x1024 X shapeCasts_S8x64x1024_S1x512x1024

/-- A modulation, once for each row of its sequence. -/
def modArr (s : FVec Ideal S8x1024 .f32) : FVec Ideal S1x512x1024 .f32 :=
  broadcastInDim S1x512x1024 ![1, 2] bcast_S512x1024_S1x512x1024_1_2 (shapeCast S512x1024 (broadcastInDim S8x64x1024 ![0, 2] bcast_S8x1024_S8x64x1024_0_2 s) shapeCasts_S8x64x1024_S512x1024)

/-- The row norm's weight with an axis added. -/
def nwArr (w : FVec Ideal S1024 .f32) : FVec Ideal S1x1024 .f32 := broadcastInDim S1x1024 ![1] bcast_S1024_S1x1024_1 w

/-- The latent's norm's weight with an axis added. -/
def latArr (g : FVec Ideal S256 .f32) : FVec Ideal S1x256 .f32 := broadcastInDim S1x256 ![1] bcast_S256_S1x256_1 g

theorem winArr_apply (W : FVec Ideal S1024x672 .f32) (e : Fin 1024) (n : Fin 672) : winArr W (ix2 e n) = W (ix2 e n) := by
  unfold winArr
  pointwise

theorem xArr_apply (X : FVec Ideal S8x64x1024 .f32) (r : Fin 512) (n : Fin 1024) : xArr X (ix3 0 r n) = X (ix3 ⟨r.val / 64, by omega⟩ ⟨r.val % 64, by omega⟩ n) := by
  unfold xArr
  pointwise

theorem modArr_apply (s : FVec Ideal S8x1024 .f32) (r : Fin 512) (n : Fin 1024) : modArr s (ix3 0 r n) = s (ix2 ⟨r.val / 64, by omega⟩ n) := by
  unfold modArr
  pointwise

theorem nwArr_apply (w : FVec Ideal S1024 .f32) (n : Fin 1024) : nwArr w (ix2 0 n) = w (ix1 n) := by
  unfold nwArr
  pointwise

theorem latArr_apply (g : FVec Ideal S256 .f32) (n : Fin 256) : latArr g (ix2 0 n) = g (ix1 n) := by
  unfold latArr
  pointwise

variable (m : (ℓ : Loc nD τ sig) → Buf (Elt Ideal) ℓ) (c : Dev nD)

/-- The call takes the shift, the rows and the scale, … -/
theorem V_sh : (V m c main_v67 : FVec Ideal S1x512x1024 .f32) = modArr (m ((c : Thread nD τ).loc main_arg1)) := by
  show after _ _ _ = _
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

theorem V_x : (V m c main_v64 : FVec Ideal S1x512x1024 .f32) = xArr (m ((c : Thread nD τ).loc main_arg0)) := by
  show after _ _ _ = _
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

theorem V_sc : (V m c main_v70 : FVec Ideal S1x512x1024 .f32) = modArr (m ((c : Thread nD τ).loc main_arg2)) := by
  show after _ _ _ = _
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

/-- … the row norm's weight, … -/
theorem V_nw : (V m c main_v71 : FVec Ideal S1x1024 .f32) = nwArr (m ((c : Thread nD τ).loc main_arg3)) := by
  show after _ _ _ = _
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

/-- … the projection, … -/
theorem V_win : (V m c main_v0 : FVec Ideal S1024x672 .bf16) = winArr (m ((c : Thread nD τ).loc main_arg4)) := by
  show after _ _ _ = _
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

/-- … and the latent's norm's weight. -/
theorem V_lat : (V m c main_v2 : FVec Ideal S1x256 .f32) = latArr (m ((c : Thread nD τ).loc main_arg6)) := by
  show after _ _ _ = _
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

end Cert.KernelStepIdeal.Step

end
-- ==== Proof.Sub.StepCover.lean ====
/- Which part of each array a grid point of the sample's latent projections' call reads and writes, and that the blocks written cover the key latent
   and the rotary key. -/
module

public import proofs.«01_k».proof.Proof.Gen.KernelStepIdeal.Value
public import proofs.«01_k».proof.Proof.Sub.StepHost
public import Idealize.ShloMosaic.Lib.Pointwise
public import Idealize.ShloMosaic.Lib.Pipeline.Value

@[expose] public section

set_option maxRecDepth 16384

noncomputable section

namespace Cert.KernelStepIdeal.Step

open Cert.KernelStepIdeal Cert.KernelStepIdeal.Gen Idealize.ShloMosaic Idealize.ShloMosaic.TcCoe

/-- Each window's block at point `t`: row block `t`. -/
theorem index0 : ∀ t : Fin grid0.N, win0_0.index t 0 = 0 ∧ win0_0.index t 1 = t.val ∧ win0_0.index t 2 = 0 := by decide +kernel
theorem index1 : ∀ t : Fin grid0.N, win0_1.index t 0 = 0 ∧ win0_1.index t 1 = t.val ∧ win0_1.index t 2 = 0 := by decide +kernel
theorem index2 : ∀ t : Fin grid0.N, win0_2.index t 0 = 0 ∧ win0_2.index t 1 = t.val ∧ win0_2.index t 2 = 0 := by decide +kernel
theorem index11 : ∀ t : Fin grid0.N, win0_11.index t 0 = 0 ∧ win0_11.index t 1 = t.val ∧ win0_11.index t 2 = 0 := by decide +kernel
theorem index12 : ∀ t : Fin grid0.N, win0_12.index t 0 = 0 ∧ win0_12.index t 1 = t.val ∧ win0_12.index t 2 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index6 : ∀ t : Fin grid0.N, win0_6.index t 0 = 0 ∧ win0_6.index t 1 = 0 := by decide +kernel
theorem xsize11 : ∀ t : Fin grid0.N, win0_11.xsize (grid0.coords t) 0 = 1 ∧ win0_11.xsize (grid0.coords t) 1 = 256 ∧ win0_11.xsize (grid0.coords t) 2 = 256 := by decide +kernel
theorem xsize12 : ∀ t : Fin grid0.N, win0_12.xsize (grid0.coords t) 0 = 1 ∧ win0_12.xsize (grid0.coords t) 1 = 256 ∧ win0_12.xsize (grid0.coords t) 2 = 32 := by decide +kernel

theorem points (t : Fin cfg0.N) : t.val < 2 := lt_of_lt_of_eq t.isLt N_0

/-- What point `t` reads of each argument. -/
theorem read0 (U : FVec Ideal S1x512x1024 .f32) (t : Fin cfg0.N) (r : Fin 256) (n : Fin 1024) :
    ((cfg0.win 0).blk t).view.read (Elt Ideal) U (ix3 0 r n) = U (ix3 0 ⟨256 * t.val + r.val, by have := points t; omega⟩ n) := by
  obtain ⟨e0, e1, e2⟩ := index0 t
  rw [View.read_apply]
  show U _ = U _
  congr 1
  funext a
  apply Fin.ext
  match a with
  | ⟨0, _⟩ => show win0_0.index t 0 * 1 + 1 * 0 = 0; rw [e0]
  | ⟨1, _⟩ => show win0_0.index t 1 * 256 + 1 * r.val = 256 * t.val + r.val; rw [e1]; omega
  | ⟨2, _⟩ => show win0_0.index t 2 * 1024 + 1 * n.val = n.val; rw [e2]; omega

theorem read1 (U : FVec Ideal S1x512x1024 .f32) (t : Fin cfg0.N) (r : Fin 256) (n : Fin 1024) :
    ((cfg0.win 1).blk t).view.read (Elt Ideal) U (ix3 0 r n) = U (ix3 0 ⟨256 * t.val + r.val, by have := points t; omega⟩ n) := by
  obtain ⟨e0, e1, e2⟩ := index1 t
  rw [View.read_apply]
  show U _ = U _
  congr 1
  funext a
  apply Fin.ext
  match a with
  | ⟨0, _⟩ => show win0_1.index t 0 * 1 + 1 * 0 = 0; rw [e0]
  | ⟨1, _⟩ => show win0_1.index t 1 * 256 + 1 * r.val = 256 * t.val + r.val; rw [e1]; omega
  | ⟨2, _⟩ => show win0_1.index t 2 * 1024 + 1 * n.val = n.val; rw [e2]; omega

theorem read2 (U : FVec Ideal S1x512x1024 .f32) (t : Fin cfg0.N) (r : Fin 256) (n : Fin 1024) :
    ((cfg0.win 2).blk t).view.read (Elt Ideal) U (ix3 0 r n) = U (ix3 0 ⟨256 * t.val + r.val, by have := points t; omega⟩ n) := by
  obtain ⟨e0, e1, e2⟩ := index2 t
  rw [View.read_apply]
  show U _ = U _
  congr 1
  funext a
  apply Fin.ext
  match a with
  | ⟨0, _⟩ => show win0_2.index t 0 * 1 + 1 * 0 = 0; rw [e0]
  | ⟨1, _⟩ => show win0_2.index t 1 * 256 + 1 * r.val = 256 * t.val + r.val; rw [e1]; omega
  | ⟨2, _⟩ => show win0_2.index t 2 * 1024 + 1 * n.val = n.val; rw [e2]; omega

theorem read3 (U : FVec Ideal S1x1024 .f32) (t : Fin cfg0.N) (n : Fin 1024) :
    ((cfg0.win 3).blk t).view.read (Elt Ideal) U (ix2 0 n) = U (ix2 0 n) := by
  obtain ⟨e0, e1⟩ := index3 t
  rw [View.read_apply]
  show U _ = U _
  congr 1
  funext a
  apply Fin.ext
  match a with
  | ⟨0, _⟩ => show win0_3.index t 0 * 1 + 1 * 0 = 0; rw [e0]
  | ⟨1, _⟩ => show win0_3.index t 1 * 1024 + 1 * n.val = n.val; rw [e1]; omega

theorem read4 (U : FVec Ideal S1024x672 .bf16) (t : Fin cfg0.N) (e : Fin 1024) (n : Fin 672) :
    ((cfg0.win 4).blk t).view.read (Elt Ideal) U (ix2 e n) = U (ix2 e n) := by
  obtain ⟨e0, e1⟩ := index4 t
  rw [View.read_apply]
  show U _ = U _
  congr 1
  funext a
  apply Fin.ext
  match a with
  | ⟨0, _⟩ => show win0_4.index t 0 * 1024 + 1 * e.val = e.val; rw [e0]; omega
  | ⟨1, _⟩ => show win0_4.index t 1 * 672 + 1 * n.val = n.val; rw [e1]; omega

theorem read6 (U : FVec Ideal S1x256 .f32) (t : Fin cfg0.N) (n : Fin 256) :
    ((cfg0.win 6).blk t).view.read (Elt Ideal) U (ix2 0 n) = U (ix2 0 n) := by
  obtain ⟨e0, e1⟩ := index6 t
  rw [View.read_apply]
  show U _ = U _
  congr 1
  funext a
  apply Fin.ext
  match a with
  | ⟨0, _⟩ => show win0_6.index t 0 * 1 + 1 * 0 = 0; rw [e0]
  | ⟨1, _⟩ => show win0_6.index t 1 * 256 + 1 * n.val = n.val; rw [e1]; omega

variable (m : (ℓ : Loc nD τ sig) → Buf (Elt Ideal) ℓ) (c : Dev nD)

/-- The same, in the call's own arguments. -/
theorem blk0 (t : Fin cfg0.N) (r : Fin 256) (n : Fin 1024) : (iblk m c 0 t : FVec Ideal S1x256x1024 .f32) (ix3 0 r n) = m ((c : Thread nD τ).loc main_arg0) (ix3 ⟨(256 * t.val + r.val) / 64, by have := points t; omega⟩ ⟨(256 * t.val + r.val) % 64, by omega⟩ n) := by
  unfold iblk
  exact (read0 (V m c main_v64) t r n).trans ((congrFun (V_x m c) _).trans (xArr_apply _ _ _))

theorem blk1 (t : Fin cfg0.N) (r : Fin 256) (n : Fin 1024) : (iblk m c 1 t : FVec Ideal S1x256x1024 .f32) (ix3 0 r n) = m ((c : Thread nD τ).loc main_arg1) (ix2 ⟨(256 * t.val + r.val) / 64, by have := points t; omega⟩ n) := by
  unfold iblk
  exact (read1 (V m c main_v67) t r n).trans ((congrFun (V_sh m c) _).trans (modArr_apply _ _ _))

theorem blk2 (t : Fin cfg0.N) (r : Fin 256) (n : Fin 1024) : (iblk m c 2 t : FVec Ideal S1x256x1024 .f32) (ix3 0 r n) = m ((c : Thread nD τ).loc main_arg2) (ix2 ⟨(256 * t.val + r.val) / 64, by have := points t; omega⟩ n) := by
  unfold iblk
  exact (read2 (V m c main_v70) t r n).trans ((congrFun (V_sc m c) _).trans (modArr_apply _ _ _))

theorem blk3 (t : Fin cfg0.N) (n : Fin 1024) : (iblk m c 3 t : FVec Ideal S1x1024 .f32) (ix2 0 n) = m ((c : Thread nD τ).loc main_arg3) (ix1 n) := by
  unfold iblk
  exact (read3 (V m c main_v71) t n).trans ((congrFun (V_nw m c) _).trans (nwArr_apply _ _))

theorem blk4 (t : Fin cfg0.N) (e : Fin 1024) (n : Fin 672) : (iblk m c 4 t : FVec Ideal S1024x672 .bf16) (ix2 e n) = m ((c : Thread nD τ).loc main_arg4) (ix2 e n) := by
  unfold iblk
  exact (read4 (V m c main_v0) t e n).trans ((congrFun (V_win m c) _).trans (winArr_apply _ _ _))

theorem blk6 (t : Fin cfg0.N) (n : Fin 256) : (iblk m c 6 t : FVec Ideal S1x256 .f32) (ix2 0 n) = m ((c : Thread nD τ).loc main_arg6) (ix1 n) := by
  unfold iblk
  exact (read6 (V m c main_v2) t n).trans ((congrFun (V_lat m c) _).trans (latArr_apply _ _))

/-- What point `t` writes of each result. -/
theorem oblk11 (G : FVec Ideal S1x512x256 .f32) (t : Fin cfg0.N) (r : Fin 256) (n : Fin 256) :
    ((cfg0.win 11).blk t).view.read (Elt Ideal) G (ix3 0 r n) = G (ix3 0 ⟨256 * t.val + r.val, by have := points t; omega⟩ n) := by
  obtain ⟨e0, e1, e2⟩ := index11 t
  rw [View.read_apply]
  show G _ = G _
  congr 1
  funext a
  apply Fin.ext
  match a with
  | ⟨0, _⟩ => show win0_11.index t 0 * 1 + 1 * 0 = 0; rw [e0]
  | ⟨1, _⟩ => show win0_11.index t 1 * 256 + 1 * r.val = 256 * t.val + r.val; rw [e1]; omega
  | ⟨2, _⟩ => show win0_11.index t 2 * 256 + 1 * n.val = n.val; rw [e2]; omega

theorem oblk12 (G : FVec Ideal S1x512x32 .f32) (t : Fin cfg0.N) (r : Fin 256) (n : Fin 32) :
    ((cfg0.win 12).blk t).view.read (Elt Ideal) G (ix3 0 r n) = G (ix3 0 ⟨256 * t.val + r.val, by have := points t; omega⟩ n) := by
  obtain ⟨e0, e1, e2⟩ := index12 t
  rw [View.read_apply]
  show G _ = G _
  congr 1
  funext a
  apply Fin.ext
  match a with
  | ⟨0, _⟩ => show win0_12.index t 0 * 1 + 1 * 0 = 0; rw [e0]
  | ⟨1, _⟩ => show win0_12.index t 1 * 256 + 1 * r.val = 256 * t.val + r.val; rw [e1]; omega
  | ⟨2, _⟩ => show win0_12.index t 2 * 32 + 1 * n.val = n.val; rw [e2]; omega

/-- Every place of the result is in the block of some point that writes it. -/
theorem covered11 (i : S1x512x256.Idx) : ∃ t : Fin cfg0.N, (cfg0.win 11).flush t = true ∧ i ∈ ((cfg0.win 11).blk t).view.set := by
  have h0 : (i 0 : Nat) < 1 := (i 0).isLt
  have h1 : (i 1 : Nat) < 512 := (i 1).isLt
  have h2 : (i 2 : Nat) < 256 := (i 2).isLt
  refine ⟨⟨(i 1).val / 256, lt_of_lt_of_eq (by omega : _ < 2) N_0.symm⟩, flush0_11 _, ?_⟩
  generalize ht : (⟨(i 1).val / 256, lt_of_lt_of_eq (by omega : _ < 2) N_0.symm⟩ : Fin cfg0.N) = t
  have hv : t.val = (i 1).val / 256 := by rw [← ht]
  obtain ⟨e0, e1, e2⟩ := index11 t
  obtain ⟨x0, x1, x2⟩ := xsize11 t
  show i ∈ ((View.whole main_v72_0).slice (win0_11.rect t)).set
  rw [View.set_slice_whole, Rect.mem_set_unit]
  intro a
  match a with
  | ⟨0, _⟩ => show win0_11.index t 0 * 1 ≤ (i 0 : Nat) ∧ (i 0 : Nat) < win0_11.index t 0 * 1 + win0_11.xsize (grid0.coords t) 0
              rw [e0, x0]; omega
  | ⟨1, _⟩ => show win0_11.index t 1 * 256 ≤ (i 1 : Nat) ∧ (i 1 : Nat) < win0_11.index t 1 * 256 + win0_11.xsize (grid0.coords t) 1
              rw [e1, x1]; omega
  | ⟨2, _⟩ => show win0_11.index t 2 * 256 ≤ (i 2 : Nat) ∧ (i 2 : Nat) < win0_11.index t 2 * 256 + win0_11.xsize (grid0.coords t) 2
              rw [e2, x2]; omega

/-- Every place of the result is in the block of some point that writes it. -/
theorem covered12 (i : S1x512x32.Idx) : ∃ t : Fin cfg0.N, (cfg0.win 12).flush t = true ∧ i ∈ ((cfg0.win 12).blk t).view.set := by
  have h0 : (i 0 : Nat) < 1 := (i 0).isLt
  have h1 : (i 1 : Nat) < 512 := (i 1).isLt
  have h2 : (i 2 : Nat) < 32 := (i 2).isLt
  refine ⟨⟨(i 1).val / 256, lt_of_lt_of_eq (by omega : _ < 2) N_0.symm⟩, flush0_12 _, ?_⟩
  generalize ht : (⟨(i 1).val / 256, lt_of_lt_of_eq (by omega : _ < 2) N_0.symm⟩ : Fin cfg0.N) = t
  have hv : t.val = (i 1).val / 256 := by rw [← ht]
  obtain ⟨e0, e1, e2⟩ := index12 t
  obtain ⟨x0, x1, x2⟩ := xsize12 t
  show i ∈ ((View.whole main_v72_1).slice (win0_12.rect t)).set
  rw [View.set_slice_whole, Rect.mem_set_unit]
  intro a
  match a with
  | ⟨0, _⟩ => show win0_12.index t 0 * 1 ≤ (i 0 : Nat) ∧ (i 0 : Nat) < win0_12.index t 0 * 1 + win0_12.xsize (grid0.coords t) 0
              rw [e0, x0]; omega
  | ⟨1, _⟩ => show win0_12.index t 1 * 256 ≤ (i 1 : Nat) ∧ (i 1 : Nat) < win0_12.index t 1 * 256 + win0_12.xsize (grid0.coords t) 1
              rw [e1, x1]; omega
  | ⟨2, _⟩ => show win0_12.index t 2 * 32 ≤ (i 2 : Nat) ∧ (i 2 : Nat) < win0_12.index t 2 * 32 + win0_12.xsize (grid0.coords t) 2
              rw [e2, x2]; omega

end Cert.KernelStepIdeal.Step

end
-- ==== Proof.Sub.StepBlock.lean ====
/- What one grid point of the sample's latent projections' kernel writes of the key latent and the rotary key. -/
module

public import proofs.«01_k».proof.Proof.Gen.KernelStepIdeal.Value
public import proofs.«01_k».proof.Proof.Sub.KvMath
public import Idealize.ShloMosaic.Lib.Pointwise
public import Idealize.ShloMosaic.Lib.Pipeline.Value

@[expose] public section

set_option maxRecDepth 16384

noncomputable section

namespace Cert.KernelStepIdeal.Step

open Cert.KernelStepIdeal Cert.KernelStepIdeal.Gen Idealize.ShloMosaic Idealize.ShloMosaic.TcCoe Cert.Kv

theorem hz3 : (![0, 0, 0] : Fin 3 → ℕ) = fun _ => 0 := funext fun a => by fin_cases a <;> rfl
theorem hz2 : (![0, 0] : Fin 2 → ℕ) = fun _ => 0 := funext fun a => by fin_cases a <;> rfl

/-- The modulated rows' product with the projection, at a row and column. -/
def pcol (v0 : FVec Ideal S1x256x1024 .f32) (v2 : FVec Ideal S1x1024 .f32) (v4 v6 : FVec Ideal S1x256x1024 .f32) (W : FVec Ideal S1024x672 .bf16) (r : Fin 256) (n : Fin 672) : EReal :=
  ∑ e : Fin 1024, hid (fun i => v0 (ix3 0 r i)) (fun i => v2 (ix2 0 i)) (fun i => v4 (ix3 0 r i)) (fun i => v6 (ix3 0 r i)) e * W (ix2 e n)

theorem pay3_apply (v0 : FVec Ideal S1x256x1024 .f32) (v2 : FVec Ideal S1x1024 .f32) (v4 v6 : FVec Ideal S1x256x1024 .f32) (W : FVec Ideal S1024x672 .bf16) (r : Fin 256) (n : Fin 672) :
    k0_pay3 (F := Ideal) v0 v2 v4 v6 W (ix2 r n) = pcol v0 v2 v4 v6 W r n := by
  unfold pcol hid eps
  pointwise [k0_pay3]

theorem pay7_apply (Q : FVec Ideal S256x672 .f32) (g : FVec Ideal S1x256 .f32) (r : Fin 256) (n : Fin 256) :
    k0_pay7 (F := Ideal) Q g (ix3 0 r n) = Q (ix2 r ⟨384 + n.val, by omega⟩)
      * Ideal.rsqrt (Ideal.div (∑ i : Fin 256, Q (ix2 r ⟨384 + i.val, by omega⟩) * Q (ix2 r ⟨384 + i.val, by omega⟩)) (Ideal.ofBits .f32 0x43800000#32) + eps) * g (ix2 0 n) := by
  unfold eps
  pointwise [k0_pay7]

theorem pay8_apply (Q : FVec Ideal S256x672 .f32) (r : Fin 256) (n : Fin 32) :
    k0_pay8 (F := Ideal) Q (ix3 0 r n) = Q (ix2 r ⟨640 + n.val, by omega⟩) := by
  pointwise [k0_pay8]

variable (x0 : FVec Ideal S1x256x1024 .f32) (x1 x2 : FVec Ideal S1x256x1024 .f32) (x3 : FVec Ideal S1x1024 .f32) (x4 : FVec Ideal S1024x672 .bf16) (x5 : FVec Ideal S1x384 .f32) (x6 : FVec Ideal S1x256 .f32) (x7 : FVec Ideal S384x2048 .bf16) (x8 : FVec Ideal S1x128 .f32) (x9 x10 : FVec Ideal S256x128 .f32)

/-- The projection a point makes, its loads read off. -/
theorem proj_eq : k0_pay40 (F := Ideal) x0 x1 x2 x3 x4 x5 x6 x7 x8 x9 x10 = k0_pay3 (F := Ideal) x0 x3 x1 x2 x4 := by
  unfold k0_pay40
  rw [View.ld_unit_zero hz3, View.ld_unit_zero hz2, View.ld_unit_zero hz3, View.ld_unit_zero hz3, View.ld_unit_zero hz2]

/-- The key latent a point writes, at a row and column. -/
theorem out11 (r n : Fin 256) :
    out0_11 (F := Ideal) x0 x1 x2 x3 x4 x5 x6 x7 x8 x9 x10 (ix3 0 r n) = pcol x0 x3 x1 x2 x4 r ⟨384 + n.val, by omega⟩
      * Ideal.rsqrt (Ideal.div (∑ i : Fin 256, pcol x0 x3 x1 x2 x4 r ⟨384 + i.val, by omega⟩ * pcol x0 x3 x1 x2 x4 r ⟨384 + i.val, by omega⟩) (Ideal.ofBits .f32 0x43800000#32) + eps) * x6 (ix2 0 n) := by
  unfold out0_11
  rw [View.canon_unit_zero hz3, proj_eq, View.ld_unit_zero hz2, pay7_apply]
  simp only [pay3_apply]

/-- The rotary key a point writes, at a row and column. -/
theorem out12 (r : Fin 256) (n : Fin 32) :
    out0_12 (F := Ideal) x0 x1 x2 x3 x4 x5 x6 x7 x8 x9 x10 (ix3 0 r n) = pcol x0 x3 x1 x2 x4 r ⟨640 + n.val, by omega⟩ := by
  unfold out0_12
  rw [View.canon_unit_zero hz3, proj_eq, pay8_apply, pay3_apply]

end Cert.KernelStepIdeal.Step

end
-- ==== Proof.Sub.StepRef.lean ====
/- The reference's key latent and rotary key of the sample read at an index. -/
module

public import proofs.«01_k».proof.Proof.Gen.ReferenceStepIdeal.Run
public import proofs.«01_k».proof.Proof.Sub.KvMath
public import Idealize.ShloMosaic.Lib.Pipeline.Value

@[expose] public section

set_option maxRecDepth 16384

noncomputable section

namespace Cert.ReferenceStepIdeal.Step

open Cert.ReferenceStepIdeal Cert.ReferenceStepIdeal.Gen Idealize.ShloMosaic Idealize.ShloMosaic.TcCoe Cert.Kv

/-- The rows' root mean squares' inverses. -/
def inv (X : FVec Ideal S8x64x1024 .f32) : FVec Ideal S8x64x1 .f32 :=
  Host.rsqrt (addf (Host.divf (broadcastInDim S8x64x1 ![0, 1] bcast_S8x64_S8x64x1_0_1 (Host.reduceAdd (mulf X X) (constant S_ .f32 0x00000000#32) reducesTo_S8x64x1024_S8x64_d2 h_S_)) (broadcastInDim S8x64x1 ![] bcast_S_S8x64x1 (constant S_ .f32 0x44800000#32))) (broadcastInDim S8x64x1 ![] bcast_S_S8x64x1 (constant S_ .f32 0x358637BD#32)))

/-- The modulated stream. -/
def stream (X : FVec Ideal S8x64x1024 .f32) (sh sc : FVec Ideal S8x1024 .f32) (w : FVec Ideal S1024 .f32) : FVec Ideal S8x64x1024 .f32 :=
  addf (mulf (mulf (mulf X (broadcastInDim S8x64x1024 ![0, 1, 2] bcast_S8x64x1_S8x64x1024_0_1_2 (inv X))) (broadcastInDim S8x64x1024 ![0, 1, 2] bcast_S1x1x1024_S8x64x1024_0_1_2 (broadcastInDim S1x1x1024 ![2] bcast_S1024_S1x1x1024_2 w))) (broadcastInDim S8x64x1024 ![0, 1, 2] bcast_S8x1x1024_S8x64x1024_0_1_2 (addf (broadcastInDim S8x1x1024 ![] bcast_S_S8x1x1024 (constant S_ .f32 0x3F800000#32)) (broadcastInDim S8x1x1024 ![0, 2] bcast_S8x1024_S8x1x1024_0_2 sc)))) (broadcastInDim S8x64x1024 ![0, 1, 2] bcast_S8x1x1024_S8x64x1024_0_1_2 (broadcastInDim S8x1x1024 ![0, 2] bcast_S8x1024_S8x1x1024_0_2 sh))

/-- Its product with the weights. -/
def proj (H : FVec Ideal S8x64x1024 .f32) (W : FVec Ideal S1024x672 .f32) : FVec Ideal S8x64x672 .f32 :=
  Host.dotGeneral dot_S8x64x1024_S1024x672_S8x64x672_2_0_01_1_n_n none H W

/-- The projection's columns for the key latent. -/
def latCols (Q : FVec Ideal S8x64x672 .f32) : FVec Ideal S8x64x256 .f32 :=
  extractStridedSlice S8x64x256 ![0, 0, 384] Q slices_S8x64x672_S8x64x256_0_0_384

/-- The latent over its root mean square. -/
def normed (K : FVec Ideal S8x64x256 .f32) (g : FVec Ideal S256 .f32) : FVec Ideal S8x64x256 .f32 :=
  mulf (mulf K (broadcastInDim S8x64x256 ![0, 1, 2] bcast_S8x64x1_S8x64x256_0_1_2 (Host.rsqrt (addf (Host.divf (broadcastInDim S8x64x1 ![0, 1] bcast_S8x64_S8x64x1_0_1 (Host.reduceAdd (mulf K K) (constant S_ .f32 0x00000000#32) reducesTo_S8x64x256_S8x64_d2 h_S_)) (broadcastInDim S8x64x1 ![] bcast_S_S8x64x1 (constant S_ .f32 0x43800000#32))) (broadcastInDim S8x64x1 ![] bcast_S_S8x64x1 (constant S_ .f32 0x358637BD#32)))))) (broadcastInDim S8x64x256 ![0, 1, 2] bcast_S1x1x256_S8x64x256_0_1_2 (broadcastInDim S1x1x256 ![2] bcast_S256_S1x1x256_2 g))

/-- The key latent. -/
def latent (X : FVec Ideal S8x64x1024 .f32) (sh sc : FVec Ideal S8x1024 .f32) (w : FVec Ideal S1024 .f32) (W : FVec Ideal S1024x672 .f32) (g : FVec Ideal S256 .f32) :
    FVec Ideal S8x64x256 .f32 := normed (latCols (proj (stream X sh sc w) W)) g

/-- The key's rotary part, before its rotation. -/
def rotary (X : FVec Ideal S8x64x1024 .f32) (sh sc : FVec Ideal S8x1024 .f32) (w : FVec Ideal S1024 .f32) (W : FVec Ideal S1024x672 .f32) :
    FVec Ideal S8x64x32 .f32 := extractStridedSlice S8x64x32 ![0, 0, 640] (proj (stream X sh sc w) W) slices_S8x64x672_S8x64x32_0_0_640

/-- The sequences one after another. -/
def latRows (K : FVec Ideal S8x64x256 .f32) : FVec Ideal S1x512x256 .f32 := shapeCast _ K shapeCasts_S8x64x256_S1x512x256
def rotRows (K : FVec Ideal S8x64x32 .f32) : FVec Ideal S1x512x32 .f32 := shapeCast _ K shapeCasts_S8x64x32_S1x512x32

/-- The reference's two results are the key latent and the rotary key. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37) = latRows (latent (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)))
      ∧ r.2.mem ((c.tc : Thread nD τ).loc main_v38) = rotRows (rotary (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Value.run (F := Ideal) m ρ

theorem latRows_apply (K : FVec Ideal S8x64x256 .f32) (r : Fin 512) (n : Fin 256) : latRows K (ix3 0 r n) = K (ix3 ⟨r.val / 64, by omega⟩ ⟨r.val % 64, by omega⟩ n) := by
  unfold latRows
  pointwise

theorem rotRows_apply (K : FVec Ideal S8x64x32 .f32) (r : Fin 512) (n : Fin 32) : rotRows K (ix3 0 r n) = K (ix3 ⟨r.val / 64, by omega⟩ ⟨r.val % 64, by omega⟩ n) := by
  unfold rotRows
  pointwise

theorem inv_apply (X : FVec Ideal S8x64x1024 .f32) (b : Fin 8) (t : Fin 64) :
    inv X (ix3 b t 0) = Ideal.rsqrt (Ideal.div (∑ i : Fin 1024, X (ix3 b t i) * X (ix3 b t i)) (Ideal.ofBits .f32 0x44800000#32) + eps) := by
  unfold inv eps
  pointwise

theorem stream_apply (X : FVec Ideal S8x64x1024 .f32) (sh sc : FVec Ideal S8x1024 .f32) (w : FVec Ideal S1024 .f32) (b : Fin 8) (t : Fin 64) (e : Fin 1024) :
    stream X sh sc w (ix3 b t e) = hid (fun i => X (ix3 b t i)) (fun i => w (ix1 i)) (fun i => sh (ix2 b i)) (fun i => sc (ix2 b i)) e := by
  unfold stream hid
  pointwise [inv_apply]

theorem proj_apply (H : FVec Ideal S8x64x1024 .f32) (W : FVec Ideal S1024x672 .f32) (b : Fin 8) (t : Fin 64) (n : Fin 672) :
    proj H W (ix3 b t n) = ∑ e : Fin 1024, (H (ix3 b t e) * W (ix2 e n) : EReal) := by
  unfold proj
  pointwise

theorem latCols_apply (Q : FVec Ideal S8x64x672 .f32) (b : Fin 8) (t : Fin 64) (n : Fin 256) :
    latCols Q (ix3 b t n) = Q (ix3 b t ⟨384 + n.val, by omega⟩) := by
  unfold latCols
  pointwise

theorem normed_apply (K : FVec Ideal S8x64x256 .f32) (g : FVec Ideal S256 .f32) (b : Fin 8) (t : Fin 64) (n : Fin 256) :
    normed K g (ix3 b t n) = K (ix3 b t n) * Ideal.rsqrt (Ideal.div (∑ i : Fin 256, K (ix3 b t i) * K (ix3 b t i)) (Ideal.ofBits .f32 0x43800000#32) + eps) * g (ix1 n) := by
  unfold normed eps
  pointwise

variable (X : FVec Ideal S8x64x1024 .f32) (sh sc : FVec Ideal S8x1024 .f32) (w : FVec Ideal S1024 .f32) (W : FVec Ideal S1024x672 .f32) (g : FVec Ideal S256 .f32)

/-- The projection at a row and column. -/
def col (b : Fin 8) (t : Fin 64) (n : Fin 672) : EReal :=
  ∑ e : Fin 1024, hid (fun i => X (ix3 b t i)) (fun i => w (ix1 i)) (fun i => sh (ix2 b i)) (fun i => sc (ix2 b i)) e * W (ix2 e n)

theorem proj_stream (b : Fin 8) (t : Fin 64) (n : Fin 672) : proj (stream X sh sc w) W (ix3 b t n) = col X sh sc w W b t n := by
  unfold col
  rw [proj_apply]
  simp only [stream_apply]

theorem latent_apply (b : Fin 8) (t : Fin 64) (n : Fin 256) :
    latent X sh sc w W g (ix3 b t n) = col X sh sc w W b t ⟨384 + n.val, by omega⟩
      * Ideal.rsqrt (Ideal.div (∑ i : Fin 256, col X sh sc w W b t ⟨384 + i.val, by omega⟩ * col X sh sc w W b t ⟨384 + i.val, by omega⟩) (Ideal.ofBits .f32 0x43800000#32) + eps) * g (ix1 n) := by
  unfold latent
  rw [normed_apply]
  simp only [latCols_apply, proj_stream]

theorem rotary_apply (b : Fin 8) (t : Fin 64) (n : Fin 32) :
    rotary X sh sc w W (ix3 b t n) = col X sh sc w W b t ⟨640 + n.val, by omega⟩ := by
  rw [← proj_stream]
  unfold rotary
  generalize proj (stream X sh sc w) W = Q
  pointwise

end Cert.ReferenceStepIdeal.Step

end
-- ==== Proof.Sub.StepValue.lean ====
/- What the sample's latent projections' call ends with: the key latent and the rotary key are the reference's. -/
module

public import proofs.«01_k».proof.Proof.Sub.StepCover
public import proofs.«01_k».proof.Proof.Sub.StepBlock
public import proofs.«01_k».proof.Proof.Sub.StepRef

@[expose] public section

set_option maxRecDepth 16384

noncomputable section

namespace Cert.KernelStepIdeal.Step

open Cert.KernelStepIdeal Cert.KernelStepIdeal.Gen Cert.Kv Cert.ReferenceStepIdeal.Step Idealize.ShloMosaic Idealize.ShloMosaic.TcCoe

section

variable (X : FVec Ideal S8x64x1024 .f32) (sh sc : FVec Ideal S8x1024 .f32) (w : FVec Ideal S1024 .f32) (W : FVec Ideal S1024x672 .f32) (g : FVec Ideal S256 .f32)
variable (x0 : FVec Ideal S1x256x1024 .f32) (x1 x2 : FVec Ideal S1x256x1024 .f32) (x3 : FVec Ideal S1x1024 .f32) (x4 : FVec Ideal S1024x672 .bf16)
variable (b : Fin 8) (t : Fin 64) (r : Fin 256)

/-- A block's row of the projection is the reference's. -/
theorem pcol_col (h0 : ∀ i : Fin 1024, x0 (ix3 0 r i) = X (ix3 b t i)) (h1 : ∀ i : Fin 1024, x1 (ix3 0 r i) = sh (ix2 b i)) (h2 : ∀ i : Fin 1024, x2 (ix3 0 r i) = sc (ix2 b i))
    (h3 : ∀ i : Fin 1024, x3 (ix2 0 i) = w (ix1 i)) (h4 : ∀ (e : Fin 1024) (n : Fin 672), x4 (ix2 e n) = W (ix2 e n)) (n : Fin 672) :
    pcol x0 x3 x1 x2 x4 r n = col X sh sc w W b t n := by
  unfold pcol col
  simp only [h0, h1, h2, h3, h4]

end

/-- A block agreeing with an array at every row and column is the block read from it. -/
theorem cut_eq11 (O : FVec Ideal S1x256x256 .f32) (G : FVec Ideal S1x512x256 .f32) (t : Fin cfg0.N)
    (h : ∀ (r : Fin 256) (n : Fin 256), O (ix3 0 r n) = G (ix3 0 ⟨256 * t.val + r.val, by have := points t; omega⟩ n)) :
    (cfg0.win 11).cut (grid0.coords t) O = ((cfg0.win 11).blk t).view.read (Elt Ideal) G := by
  refine funext fun (j : S1x256x256.Idx) => ?_
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  show O j = _
  rw [hj]
  exact (h (j 1) (j 2)).trans (oblk11 G t (j 1) (j 2)).symm

/-- A block agreeing with an array at every row and column is the block read from it. -/
theorem cut_eq12 (O : FVec Ideal S1x256x32 .f32) (G : FVec Ideal S1x512x32 .f32) (t : Fin cfg0.N)
    (h : ∀ (r : Fin 256) (n : Fin 32), O (ix3 0 r n) = G (ix3 0 ⟨256 * t.val + r.val, by have := points t; omega⟩ n)) :
    (cfg0.win 12).cut (grid0.coords t) O = ((cfg0.win 12).blk t).view.read (Elt Ideal) G := by
  refine funext fun (j : S1x256x32.Idx) => ?_
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  show O j = _
  rw [hj]
  exact (h (j 1) (j 2)).trans (oblk12 G t (j 1) (j 2)).symm

variable (m : (ℓ : Loc nD τ sig) → Buf (Elt Ideal) ℓ)

/-- The reference's key latent and rotary key of the call's arguments. -/
def latentOf (c : Dev nD) : FVec Ideal S1x512x256 .f32 := latRows (latent (m (c.tc.loc main_arg0)) (m (c.tc.loc main_arg1)) (m (c.tc.loc main_arg2)) (m (c.tc.loc main_arg3)) (m (c.tc.loc main_arg4)) (m (c.tc.loc main_arg6)))
def rotaryOf (c : Dev nD) : FVec Ideal S1x512x32 .f32 := rotRows (rotary (m (c.tc.loc main_arg0)) (m (c.tc.loc main_arg1)) (m (c.tc.loc main_arg2)) (m (c.tc.loc main_arg3)) (m (c.tc.loc main_arg4)))

/-- What point `t` computes of its blocks is its rows of the reference's projection. -/
theorem pcol_point (c : Dev nD) (t : Fin cfg0.N) (r : Fin 256) (n : Fin 672) :
    pcol (iblk m c 0 t) (iblk m c 3 t) (iblk m c 1 t) (iblk m c 2 t) (iblk m c 4 t) r n
      = col (m (c.tc.loc main_arg0)) (m (c.tc.loc main_arg1)) (m (c.tc.loc main_arg2)) (m (c.tc.loc main_arg3)) (m (c.tc.loc main_arg4)) ⟨(256 * t.val + r.val) / 64, by have := points t; omega⟩ ⟨(256 * t.val + r.val) % 64, by omega⟩ n :=
  pcol_col _ _ _ _ _ (iblk m c 0 t) (iblk m c 1 t) (iblk m c 2 t) (iblk m c 3 t) (iblk m c 4 t) _ _ r
    (fun i => blk0 m c t r i) (fun i => blk1 m c t r i) (fun i => blk2 m c t r i) (fun i => blk3 m c t i) (fun e n => blk4 m c t e n) n

theorem flushed_eq11 (c : Dev nD) (t : Fin cfg0.N) :
    (dats m 0 c).flushed 11 t = ((cfg0.win 11).blk t).view.read (Elt Ideal) (latentOf m c) := by
  rw [Cert.KernelStepIdeal.Value.flushed11 m c t]
  refine cut_eq11 _ _ t fun r n => (out11 _ _ _ _ _ _ _ _ _ _ _ r n).trans ?_
  unfold latentOf
  rw [latRows_apply, latent_apply, blk6]
  simp only [pcol_point]

theorem flushed_eq12 (c : Dev nD) (t : Fin cfg0.N) :
    (dats m 0 c).flushed 12 t = ((cfg0.win 12).blk t).view.read (Elt Ideal) (rotaryOf m c) := by
  rw [Cert.KernelStepIdeal.Value.flushed12 m c t]
  refine cut_eq12 _ _ t fun r n => (out12 _ _ _ _ _ _ _ _ _ _ _ r n).trans ?_
  unfold rotaryOf
  rw [rotRows_apply, rotary_apply, pcol_point]

/-- So the two results end at the reference's key latent and rotary key. -/
theorem final11 (c : Dev nD) : (dats m 0 c).arrAt 11 cfg0.N = latentOf m c :=
  (dats m 0 c).arrAt_eq_of_cover 11 (latentOf m c) (fun t _ => flushed_eq11 m c t) covered11

theorem final12 (c : Dev nD) : (dats m 0 c).arrAt 12 cfg0.N = rotaryOf m c :=
  (dats m 0 c).arrAt_eq_of_cover 12 (rotaryOf m c) (fun t _ => flushed_eq12 m c t) covered12

end Cert.KernelStepIdeal.Step

end
-- ==== Proof.Sub.StepClaims.lean ====
/- The claims of the sample's latent projections' call, one theorem each. -/
module

public import proofs.«01_k».proof.Defs
public import proofs.«01_k».proof.Proof.Gen.KernelStep.Frame
public import proofs.«01_k».proof.Proof.Gen.KernelStepIdeal.Frame
public import proofs.«01_k».proof.Proof.Sub.StepValue
public import Idealize.ShloMosaic.Adequacy
public import Idealize.ShloMosaic.Init

@[expose] public section

set_option maxRecDepth 16384

noncomputable section

namespace Cert.Proof.Step

open Idealize.ShloMosaic Idealize.ShloMosaic.TcCoe Idealize.SL.Sem

attribute [local instance] Cert.KernelStep.Gen.facts Cert.KernelStepIdeal.Gen.facts Cert.ReferenceStepIdeal.Gen.facts

/-- The kernel as printed runs, leaves its arguments as they were and every semaphore at zero. -/
theorem frame_p : Cert.quiescent_KernelStep := fun m ρ _ => Cert.KernelStep.Gen.frame m ρ

/-- So does its idealization, … -/
theorem frame_pi : Cert.quiescent_KernelStepIdeal := fun m ρ _ => Cert.KernelStepIdeal.Gen.frame m ρ

/-- … and the reference's. -/
theorem frame_ri : Cert.quiescent_ReferenceStepIdeal := fun m ρ _ =>
  (θ_run Cert.ReferenceStepIdeal.defs _ _).mono (fun r h => ⟨fun c => (h c).2.2, Idealize.ShloMosaic.sem_eq_zero_of_no_sems (by decide) r.2⟩)
    (Cert.ReferenceStepIdeal.Value.run (F := Ideal) m ρ)

/-- The idealized kernel is the kernel's own text. -/
theorem preserves : Cert.preserves_KernelStep_KernelStepIdeal := trivial

/-- From arguments that agree, the idealized kernel and the reference end with the same two results, each leaving its arguments as they were. -/
theorem algebraic : Cert.algebraic_KernelStepIdeal_ReferenceStepIdeal := by
  intro m ρ m' ρ' _ hagree
  refine ⟨fun c => Cert.KernelStepIdeal.Step.latentOf m c, fun c => Cert.KernelStepIdeal.Step.rotaryOf m c, ?_, ?_⟩
  · refine (θ_run Cert.KernelStepIdeal.defs _ _).mono (fun _ h c => ?_) (Cert.KernelStepIdeal.Value.run_blocks (F := Ideal) m ρ)
    obtain ⟨r0, r1, _, ha⟩ := h c
    exact ⟨r0.trans (Cert.KernelStepIdeal.Step.final11 m c), r1.trans (Cert.KernelStepIdeal.Step.final12 m c), ha⟩
  · refine (θ_run Cert.ReferenceStepIdeal.defs _ _).mono (fun _ h c => ?_) (Cert.ReferenceStepIdeal.Step.run m' ρ')
    obtain ⟨a0, a1, a2, a3, a4, _, a6, _, _⟩ := hagree c
    obtain ⟨r0, r1, ha⟩ := h c
    refine ⟨r0.trans ?_, r1.trans ?_, ha⟩
    · rw [a0, a1, a2, a3, a4, a6]; rfl
    · rw [a0, a1, a2, a3, a4]; rfl

end Cert.Proof.Step

end
-- ==== Proof.Sub.CacheHost.lean ====
/- What the host's operations hand to the sample's keys' and values' call: the two halves of the weights, the norm's
   weight twice over, the sequences' rows one after another and the modulation row by row. -/
module

public import proofs.«01_k».proof.Proof.Gen.KernelCacheIdeal.Frame
public import Idealize.ShloMosaic.Lib.Pointwise

@[expose] public section

set_option maxRecDepth 16384

noncomputable section

namespace Cert.KernelCacheIdeal.Cache

open Cert.KernelCacheIdeal Cert.KernelCacheIdeal.Gen Idealize.ShloMosaic Idealize.ShloMosaic.TcCoe Idealize.ShloMosaic.StableHlo

/-- The keys' weights. -/
def wkArr (W : FVec Ideal S1024x2048 .f32) : FVec Ideal S1024x1024 .bf16 :=
  truncf .bf16 (extractStridedSlice S1024x1024 ![0, 0] W slices_S1024x2048_S1024x1024_0_0) bitsLt_bf16_f32

/-- The values' weights. -/
def wvArr (W : FVec Ideal S1024x2048 .f32) : FVec Ideal S1024x1024 .bf16 :=
  truncf .bf16 (extractStridedSlice S1024x1024 ![0, 1024] W slices_S1024x2048_S1024x1024_0_1024) bitsLt_bf16_f32

/-- The head's norm weight, once for each head of a pair. -/
def gArr (g : FVec Ideal S64 .f32) : FVec Ideal S1x128 .f32 :=
  broadcastInDim S1x128 ![1] bcast_S128_S1x128_1 (shapeCast S128 (broadcastInDim S2x64 ![0, 1] bcast_S1x64_S2x64_0_1 (shapeCast S1x64 g shapeCasts_S64_S1x64)) shapeCasts_S2x64_S128)

/-- The sequences' rows, one after another. -/
def xArr (X : FVec Ideal S8x64x1024 .f32) : FVec Ideal S1x512x1024 .f32 := shapeCast S1x512x1024 X shapeCasts_S8x64x1024_S1x512x1024

/-- A modulation, once for each row of its sequence. -/
def modArr (s : FVec Ideal S8x1024 .f32) : FVec Ideal S1x512x1024 .f32 :=
  broadcastInDim S1x512x1024 ![1, 2] bcast_S512x1024_S1x512x1024_1_2 (shapeCast S512x1024 (broadcastInDim S8x64x1024 ![0, 2] bcast_S8x1024_S8x64x1024_0_2 s) shapeCasts_S8x64x1024_S512x1024)

/-- The row norm's weight with an axis added. -/
def nwArr (w : FVec Ideal S1024 .f32) : FVec Ideal S1x1024 .f32 := broadcastInDim S1x1024 ![1] bcast_S1024_S1x1024_1 w

theorem wkArr_apply (W : FVec Ideal S1024x2048 .f32) (e n : Fin 1024) : wkArr W (ix2 e n) = W (ix2 e ⟨n.val, by omega⟩) := by
  unfold wkArr
  pointwise

theorem wvArr_apply (W : FVec Ideal S1024x2048 .f32) (e n : Fin 1024) : wvArr W (ix2 e n) = W (ix2 e ⟨1024 + n.val, by omega⟩) := by
  unfold wvArr
  pointwise

theorem gArr_apply (g : FVec Ideal S64 .f32) (l : Fin 128) : gArr g (ix2 0 l) = g (ix1 ⟨l.val % 64, by omega⟩) := by
  unfold gArr
  pointwise

theorem xArr_apply (X : FVec Ideal S8x64x1024 .f32) (r : Fin 512) (n : Fin 1024) : xArr X (ix3 0 r n) = X (ix3 ⟨r.val / 64, by omega⟩ ⟨r.val % 64, by omega⟩ n) := by
  unfold xArr
  pointwise

theorem modArr_apply (s : FVec Ideal S8x1024 .f32) (r : Fin 512) (n : Fin 1024) : modArr s (ix3 0 r n) = s (ix2 ⟨r.val / 64, by omega⟩ n) := by
  unfold modArr
  pointwise

theorem nwArr_apply (w : FVec Ideal S1024 .f32) (n : Fin 1024) : nwArr w (ix2 0 n) = w (ix1 n) := by
  unfold nwArr
  pointwise

variable (m : (ℓ : Loc nD τ sig) → Buf (Elt Ideal) ℓ) (c : Dev nD)

/-- The call takes the sequences' rows, … -/
theorem V_x : (V m c main_v8 : FVec Ideal S1x512x1024 .f32) = xArr (m ((c : Thread nD τ).loc main_arg0)) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

/-- … the two halves of the weights, … -/
theorem V_wk : (V m c main_v1 : FVec Ideal S1024x1024 .bf16) = wkArr (m ((c : Thread nD τ).loc main_arg4)) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem V_wv : (V m c main_v3 : FVec Ideal S1024x1024 .bf16) = wvArr (m ((c : Thread nD τ).loc main_arg4)) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

/-- … the head norm's weight, … -/
theorem V_g : (V m c main_v7 : FVec Ideal S1x128 .f32) = gArr (m ((c : Thread nD τ).loc main_arg5)) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

/-- … the shift and the scale, … -/
theorem V_sh : (V m c main_v11 : FVec Ideal S1x512x1024 .f32) = modArr (m ((c : Thread nD τ).loc main_arg1)) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem V_sc : (V m c main_v14 : FVec Ideal S1x512x1024 .f32) = modArr (m ((c : Thread nD τ).loc main_arg2)) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

/-- … and the row norm's weight. -/
theorem V_nw : (V m c main_v15 : FVec Ideal S1x1024 .f32) = nwArr (m ((c : Thread nD τ).loc main_arg3)) := by
  show after _ _ _ = _
  simp only [hostOps0, List.flatten_cons, List.flatten_nil, List.append_nil, List.cons_append, List.nil_append,
    TRef.binary, TRef.nullary, TRef.ternary, TRef.unary, TRef.toBuf, TRef.ofBuf, cast_eq]
  after_results_simp <;> rfl

end Cert.KernelCacheIdeal.Cache

end
-- ==== Proof.Sub.CacheCover.lean ====
/- The sample's keys' and values' call has one grid point, which reads and writes each array whole. -/
module

public import proofs.«01_k».proof.Proof.Gen.KernelCacheIdeal.Value
public import proofs.«01_k».proof.Proof.Sub.CacheHost
public import Idealize.ShloMosaic.Lib.Pointwise
public import Idealize.ShloMosaic.Lib.Pipeline.Value

@[expose] public section

set_option maxRecDepth 16384

noncomputable section

namespace Cert.KernelCacheIdeal.Cache

open Cert.KernelCacheIdeal Cert.KernelCacheIdeal.Gen Idealize.ShloMosaic Idealize.ShloMosaic.TcCoe

/-- Each window's block is the first. -/
theorem index0 : ∀ t : Fin grid0.N, win0_0.index t 0 = 0 ∧ win0_0.index t 1 = 0 ∧ win0_0.index t 2 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = 0 ∧ win0_2.index t 1 = 0 ∧ win0_2.index t 2 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 ∧ win0_7.index t 2 = 0 := by decide +kernel
theorem index8 : ∀ t : Fin grid0.N, win0_8.index t 0 = 0 ∧ win0_8.index t 1 = 0 ∧ win0_8.index t 2 = 0 := by decide +kernel
theorem index9 : ∀ t : Fin grid0.N, win0_9.index t 0 = 0 ∧ win0_9.index t 1 = 0 ∧ win0_9.index t 2 = 0 := by decide +kernel
theorem index10 : ∀ t : Fin grid0.N, win0_10.index t 0 = 0 ∧ win0_10.index t 1 = 0 ∧ win0_10.index t 2 = 0 := by decide +kernel
theorem xsize7 : ∀ t : Fin grid0.N, win0_7.xsize (grid0.coords t) 0 = 1 ∧ win0_7.xsize (grid0.coords t) 1 = 512 ∧ win0_7.xsize (grid0.coords t) 2 = 1024 := by decide +kernel
theorem xsize8 : ∀ t : Fin grid0.N, win0_8.xsize (grid0.coords t) 0 = 1 ∧ win0_8.xsize (grid0.coords t) 1 = 512 ∧ win0_8.xsize (grid0.coords t) 2 = 1024 := by decide +kernel
theorem xsize9 : ∀ t : Fin grid0.N, win0_9.xsize (grid0.coords t) 0 = 1 ∧ win0_9.xsize (grid0.coords t) 1 = 512 ∧ win0_9.xsize (grid0.coords t) 2 = 1024 := by decide +kernel
theorem xsize10 : ∀ t : Fin grid0.N, win0_10.xsize (grid0.coords t) 0 = 1 ∧ win0_10.xsize (grid0.coords t) 1 = 512 ∧ win0_10.xsize (grid0.coords t) 2 = 1024 := by decide +kernel

/-- What the point reads of each argument. -/
theorem read0 (U : FVec Ideal S1x512x1024 .f32) (t : Fin cfg0.N) (r : Fin 512) (n : Fin 1024) :
    ((cfg0.win 0).blk t).view.read (Elt Ideal) U (ix3 0 r n) = U (ix3 0 r n) := by
  obtain ⟨e0, e1, e2⟩ := index0 t
  rw [View.read_apply]
  show U _ = U _
  congr 1
  funext a
  apply Fin.ext
  match a with
  | ⟨0, _⟩ => show win0_0.index t 0 * 1 + 1 * 0 = 0; rw [e0]
  | ⟨1, _⟩ => show win0_0.index t 1 * 512 + 1 * r.val = r.val; rw [e1]; omega
  | ⟨2, _⟩ => show win0_0.index t 2 * 1024 + 1 * n.val = n.val; rw [e2]; omega

theorem read1 (U : FVec Ideal S1x512x1024 .f32) (t : Fin cfg0.N) (r : Fin 512) (n : Fin 1024) :
    ((cfg0.win 1).blk t).view.read (Elt Ideal) U (ix3 0 r n) = U (ix3 0 r n) := by
  obtain ⟨e0, e1, e2⟩ := index1 t
  rw [View.read_apply]
  show U _ = U _
  congr 1
  funext a
  apply Fin.ext
  match a with
  | ⟨0, _⟩ => show win0_1.index t 0 * 1 + 1 * 0 = 0; rw [e0]
  | ⟨1, _⟩ => show win0_1.index t 1 * 512 + 1 * r.val = r.val; rw [e1]; omega
  | ⟨2, _⟩ => show win0_1.index t 2 * 1024 + 1 * n.val = n.val; rw [e2]; omega

theorem read2 (U : FVec Ideal S1x512x1024 .f32) (t : Fin cfg0.N) (r : Fin 512) (n : Fin 1024) :
    ((cfg0.win 2).blk t).view.read (Elt Ideal) U (ix3 0 r n) = U (ix3 0 r n) := by
  obtain ⟨e0, e1, e2⟩ := index2 t
  rw [View.read_apply]
  show U _ = U _
  congr 1
  funext a
  apply Fin.ext
  match a with
  | ⟨0, _⟩ => show win0_2.index t 0 * 1 + 1 * 0 = 0; rw [e0]
  | ⟨1, _⟩ => show win0_2.index t 1 * 512 + 1 * r.val = r.val; rw [e1]; omega
  | ⟨2, _⟩ => show win0_2.index t 2 * 1024 + 1 * n.val = n.val; rw [e2]; omega

theorem read3 (U : FVec Ideal S1x1024 .f32) (t : Fin cfg0.N) (n : Fin 1024) :
    ((cfg0.win 3).blk t).view.read (Elt Ideal) U (ix2 0 n) = U (ix2 0 n) := by
  obtain ⟨e0, e1⟩ := index3 t
  rw [View.read_apply]
  show U _ = U _
  congr 1
  funext a
  apply Fin.ext
  match a with
  | ⟨0, _⟩ => show win0_3.index t 0 * 1 + 1 * 0 = 0; rw [e0]
  | ⟨1, _⟩ => show win0_3.index t 1 * 1024 + 1 * n.val = n.val; rw [e1]; omega

theorem read4 (U : FVec Ideal S1024x1024 .bf16) (t : Fin cfg0.N) (e n : Fin 1024) :
    ((cfg0.win 4).blk t).view.read (Elt Ideal) U (ix2 e n) = U (ix2 e n) := by
  obtain ⟨e0, e1⟩ := index4 t
  rw [View.read_apply]
  show U _ = U _
  congr 1
  funext a
  apply Fin.ext
  match a with
  | ⟨0, _⟩ => show win0_4.index t 0 * 1024 + 1 * e.val = e.val; rw [e0]; omega
  | ⟨1, _⟩ => show win0_4.index t 1 * 1024 + 1 * n.val = n.val; rw [e1]; omega

theorem read5 (U : FVec Ideal S1024x1024 .bf16) (t : Fin cfg0.N) (e n : Fin 1024) :
    ((cfg0.win 5).blk t).view.read (Elt Ideal) U (ix2 e n) = U (ix2 e n) := by
  obtain ⟨e0, e1⟩ := index5 t
  rw [View.read_apply]
  show U _ = U _
  congr 1
  funext a
  apply Fin.ext
  match a with
  | ⟨0, _⟩ => show win0_5.index t 0 * 1024 + 1 * e.val = e.val; rw [e0]; omega
  | ⟨1, _⟩ => show win0_5.index t 1 * 1024 + 1 * n.val = n.val; rw [e1]; omega

theorem read6 (U : FVec Ideal S1x128 .f32) (t : Fin cfg0.N) (l : Fin 128) :
    ((cfg0.win 6).blk t).view.read (Elt Ideal) U (ix2 0 l) = U (ix2 0 l) := by
  obtain ⟨e0, e1⟩ := index6 t
  rw [View.read_apply]
  show U _ = U _
  congr 1
  funext a
  apply Fin.ext
  match a with
  | ⟨0, _⟩ => show win0_6.index t 0 * 1 + 1 * 0 = 0; rw [e0]
  | ⟨1, _⟩ => show win0_6.index t 1 * 128 + 1 * l.val = l.val; rw [e1]; omega

variable (m : (ℓ : Loc nD τ sig) → Buf (Elt Ideal) ℓ) (c : Dev nD)

/-- The same, in the call's own arguments. -/
theorem blk0 (t : Fin cfg0.N) (r : Fin 512) (n : Fin 1024) : (iblk m c 0 t : FVec Ideal S1x512x1024 .f32) (ix3 0 r n) = m ((c : Thread nD τ).loc main_arg0) (ix3 ⟨r.val / 64, by omega⟩ ⟨r.val % 64, by omega⟩ n) := by
  unfold iblk
  exact (read0 (V m c main_v8) t r n).trans ((congrFun (V_x m c) _).trans (xArr_apply _ _ _))

theorem blk1 (t : Fin cfg0.N) (r : Fin 512) (n : Fin 1024) : (iblk m c 1 t : FVec Ideal S1x512x1024 .f32) (ix3 0 r n) = m ((c : Thread nD τ).loc main_arg1) (ix2 ⟨r.val / 64, by omega⟩ n) := by
  unfold iblk
  exact (read1 (V m c main_v11) t r n).trans ((congrFun (V_sh m c) _).trans (modArr_apply _ _ _))

theorem blk2 (t : Fin cfg0.N) (r : Fin 512) (n : Fin 1024) : (iblk m c 2 t : FVec Ideal S1x512x1024 .f32) (ix3 0 r n) = m ((c : Thread nD τ).loc main_arg2) (ix2 ⟨r.val / 64, by omega⟩ n) := by
  unfold iblk
  exact (read2 (V m c main_v14) t r n).trans ((congrFun (V_sc m c) _).trans (modArr_apply _ _ _))

theorem blk3 (t : Fin cfg0.N) (n : Fin 1024) : (iblk m c 3 t : FVec Ideal S1x1024 .f32) (ix2 0 n) = m ((c : Thread nD τ).loc main_arg3) (ix1 n) := by
  unfold iblk
  exact (read3 (V m c main_v15) t n).trans ((congrFun (V_nw m c) _).trans (nwArr_apply _ _))

theorem blk4 (t : Fin cfg0.N) (e n : Fin 1024) : (iblk m c 4 t : FVec Ideal S1024x1024 .bf16) (ix2 e n) = m ((c : Thread nD τ).loc main_arg4) (ix2 e ⟨n.val, by omega⟩) := by
  unfold iblk
  exact (read4 (V m c main_v1) t e n).trans ((congrFun (V_wk m c) _).trans (wkArr_apply _ _ _))

theorem blk5 (t : Fin cfg0.N) (e n : Fin 1024) : (iblk m c 5 t : FVec Ideal S1024x1024 .bf16) (ix2 e n) = m ((c : Thread nD τ).loc main_arg4) (ix2 e ⟨1024 + n.val, by omega⟩) := by
  unfold iblk
  exact (read5 (V m c main_v3) t e n).trans ((congrFun (V_wv m c) _).trans (wvArr_apply _ _ _))

theorem blk6 (t : Fin cfg0.N) (l : Fin 128) : (iblk m c 6 t : FVec Ideal S1x128 .f32) (ix2 0 l) = m ((c : Thread nD τ).loc main_arg5) (ix1 ⟨l.val % 64, by omega⟩) := by
  unfold iblk
  exact (read6 (V m c main_v7) t l).trans ((congrFun (V_g m c) _).trans (gArr_apply _ _))

/-- What the point writes of each result. -/
theorem oblk7 (G : FVec Ideal S1x512x1024 .f32) (t : Fin cfg0.N) (r : Fin 512) (n : Fin 1024) :
    ((cfg0.win 7).blk t).view.read (Elt Ideal) G (ix3 0 r n) = G (ix3 0 r n) := by
  obtain ⟨e0, e1, e2⟩ := index7 t
  rw [View.read_apply]
  show G _ = G _
  congr 1
  funext a
  apply Fin.ext
  match a with
  | ⟨0, _⟩ => show win0_7.index t 0 * 1 + 1 * 0 = 0; rw [e0]
  | ⟨1, _⟩ => show win0_7.index t 1 * 512 + 1 * r.val = r.val; rw [e1]; omega
  | ⟨2, _⟩ => show win0_7.index t 2 * 1024 + 1 * n.val = n.val; rw [e2]; omega

theorem oblk8 (G : FVec Ideal S1x512x1024 .f32) (t : Fin cfg0.N) (r : Fin 512) (n : Fin 1024) :
    ((cfg0.win 8).blk t).view.read (Elt Ideal) G (ix3 0 r n) = G (ix3 0 r n) := by
  obtain ⟨e0, e1, e2⟩ := index8 t
  rw [View.read_apply]
  show G _ = G _
  congr 1
  funext a
  apply Fin.ext
  match a with
  | ⟨0, _⟩ => show win0_8.index t 0 * 1 + 1 * 0 = 0; rw [e0]
  | ⟨1, _⟩ => show win0_8.index t 1 * 512 + 1 * r.val = r.val; rw [e1]; omega
  | ⟨2, _⟩ => show win0_8.index t 2 * 1024 + 1 * n.val = n.val; rw [e2]; omega

theorem oblk9 (G : FVec Ideal S1x512x1024 .bf16) (t : Fin cfg0.N) (r : Fin 512) (n : Fin 1024) :
    ((cfg0.win 9).blk t).view.read (Elt Ideal) G (ix3 0 r n) = G (ix3 0 r n) := by
  obtain ⟨e0, e1, e2⟩ := index9 t
  rw [View.read_apply]
  show G _ = G _
  congr 1
  funext a
  apply Fin.ext
  match a with
  | ⟨0, _⟩ => show win0_9.index t 0 * 1 + 1 * 0 = 0; rw [e0]
  | ⟨1, _⟩ => show win0_9.index t 1 * 512 + 1 * r.val = r.val; rw [e1]; omega
  | ⟨2, _⟩ => show win0_9.index t 2 * 1024 + 1 * n.val = n.val; rw [e2]; omega

theorem oblk10 (G : FVec Ideal S1x512x1024 .bf16) (t : Fin cfg0.N) (r : Fin 512) (n : Fin 1024) :
    ((cfg0.win 10).blk t).view.read (Elt Ideal) G (ix3 0 r n) = G (ix3 0 r n) := by
  obtain ⟨e0, e1, e2⟩ := index10 t
  rw [View.read_apply]
  show G _ = G _
  congr 1
  funext a
  apply Fin.ext
  match a with
  | ⟨0, _⟩ => show win0_10.index t 0 * 1 + 1 * 0 = 0; rw [e0]
  | ⟨1, _⟩ => show win0_10.index t 1 * 512 + 1 * r.val = r.val; rw [e1]; omega
  | ⟨2, _⟩ => show win0_10.index t 2 * 1024 + 1 * n.val = n.val; rw [e2]; omega

/-- Every place of the result is in the block the point writes. -/
theorem covered7 (i : S1x512x1024.Idx) : ∃ t : Fin cfg0.N, (cfg0.win 7).flush t = true ∧ i ∈ ((cfg0.win 7).blk t).view.set := by
  have h0 : (i 0 : Nat) < 1 := (i 0).isLt
  have h1 : (i 1 : Nat) < 512 := (i 1).isLt
  have h2 : (i 2 : Nat) < 1024 := (i 2).isLt
  refine ⟨t0_0, flush0_7 _, ?_⟩
  generalize (t0_0 : Fin cfg0.N) = t
  obtain ⟨e0, e1, e2⟩ := index7 t
  obtain ⟨x0, x1, x2⟩ := xsize7 t
  show i ∈ ((View.whole main_v16_0).slice (win0_7.rect t)).set
  rw [View.set_slice_whole, Rect.mem_set_unit]
  intro a
  match a with
  | ⟨0, _⟩ => show win0_7.index t 0 * 1 ≤ (i 0 : Nat) ∧ (i 0 : Nat) < win0_7.index t 0 * 1 + win0_7.xsize (grid0.coords t) 0
              rw [e0, x0]; omega
  | ⟨1, _⟩ => show win0_7.index t 1 * 512 ≤ (i 1 : Nat) ∧ (i 1 : Nat) < win0_7.index t 1 * 512 + win0_7.xsize (grid0.coords t) 1
              rw [e1, x1]; omega
  | ⟨2, _⟩ => show win0_7.index t 2 * 1024 ≤ (i 2 : Nat) ∧ (i 2 : Nat) < win0_7.index t 2 * 1024 + win0_7.xsize (grid0.coords t) 2
              rw [e2, x2]; omega

/-- Every place of the result is in the block the point writes. -/
theorem covered8 (i : S1x512x1024.Idx) : ∃ t : Fin cfg0.N, (cfg0.win 8).flush t = true ∧ i ∈ ((cfg0.win 8).blk t).view.set := by
  have h0 : (i 0 : Nat) < 1 := (i 0).isLt
  have h1 : (i 1 : Nat) < 512 := (i 1).isLt
  have h2 : (i 2 : Nat) < 1024 := (i 2).isLt
  refine ⟨t0_0, flush0_8 _, ?_⟩
  generalize (t0_0 : Fin cfg0.N) = t
  obtain ⟨e0, e1, e2⟩ := index8 t
  obtain ⟨x0, x1, x2⟩ := xsize8 t
  show i ∈ ((View.whole main_v16_1).slice (win0_8.rect t)).set
  rw [View.set_slice_whole, Rect.mem_set_unit]
  intro a
  match a with
  | ⟨0, _⟩ => show win0_8.index t 0 * 1 ≤ (i 0 : Nat) ∧ (i 0 : Nat) < win0_8.index t 0 * 1 + win0_8.xsize (grid0.coords t) 0
              rw [e0, x0]; omega
  | ⟨1, _⟩ => show win0_8.index t 1 * 512 ≤ (i 1 : Nat) ∧ (i 1 : Nat) < win0_8.index t 1 * 512 + win0_8.xsize (grid0.coords t) 1
              rw [e1, x1]; omega
  | ⟨2, _⟩ => show win0_8.index t 2 * 1024 ≤ (i 2 : Nat) ∧ (i 2 : Nat) < win0_8.index t 2 * 1024 + win0_8.xsize (grid0.coords t) 2
              rw [e2, x2]; omega

/-- Every place of the result is in the block the point writes. -/
theorem covered9 (i : S1x512x1024.Idx) : ∃ t : Fin cfg0.N, (cfg0.win 9).flush t = true ∧ i ∈ ((cfg0.win 9).blk t).view.set := by
  have h0 : (i 0 : Nat) < 1 := (i 0).isLt
  have h1 : (i 1 : Nat) < 512 := (i 1).isLt
  have h2 : (i 2 : Nat) < 1024 := (i 2).isLt
  refine ⟨t0_0, flush0_9 _, ?_⟩
  generalize (t0_0 : Fin cfg0.N) = t
  obtain ⟨e0, e1, e2⟩ := index9 t
  obtain ⟨x0, x1, x2⟩ := xsize9 t
  show i ∈ ((View.whole main_v16_2).slice (win0_9.rect t)).set
  rw [View.set_slice_whole, Rect.mem_set_unit]
  intro a
  match a with
  | ⟨0, _⟩ => show win0_9.index t 0 * 1 ≤ (i 0 : Nat) ∧ (i 0 : Nat) < win0_9.index t 0 * 1 + win0_9.xsize (grid0.coords t) 0
              rw [e0, x0]; omega
  | ⟨1, _⟩ => show win0_9.index t 1 * 512 ≤ (i 1 : Nat) ∧ (i 1 : Nat) < win0_9.index t 1 * 512 + win0_9.xsize (grid0.coords t) 1
              rw [e1, x1]; omega
  | ⟨2, _⟩ => show win0_9.index t 2 * 1024 ≤ (i 2 : Nat) ∧ (i 2 : Nat) < win0_9.index t 2 * 1024 + win0_9.xsize (grid0.coords t) 2
              rw [e2, x2]; omega

/-- Every place of the result is in the block the point writes. -/
theorem covered10 (i : S1x512x1024.Idx) : ∃ t : Fin cfg0.N, (cfg0.win 10).flush t = true ∧ i ∈ ((cfg0.win 10).blk t).view.set := by
  have h0 : (i 0 : Nat) < 1 := (i 0).isLt
  have h1 : (i 1 : Nat) < 512 := (i 1).isLt
  have h2 : (i 2 : Nat) < 1024 := (i 2).isLt
  refine ⟨t0_0, flush0_10 _, ?_⟩
  generalize (t0_0 : Fin cfg0.N) = t
  obtain ⟨e0, e1, e2⟩ := index10 t
  obtain ⟨x0, x1, x2⟩ := xsize10 t
  show i ∈ ((View.whole main_v16_3).slice (win0_10.rect t)).set
  rw [View.set_slice_whole, Rect.mem_set_unit]
  intro a
  match a with
  | ⟨0, _⟩ => show win0_10.index t 0 * 1 ≤ (i 0 : Nat) ∧ (i 0 : Nat) < win0_10.index t 0 * 1 + win0_10.xsize (grid0.coords t) 0
              rw [e0, x0]; omega
  | ⟨1, _⟩ => show win0_10.index t 1 * 512 ≤ (i 1 : Nat) ∧ (i 1 : Nat) < win0_10.index t 1 * 512 + win0_10.xsize (grid0.coords t) 1
              rw [e1, x1]; omega
  | ⟨2, _⟩ => show win0_10.index t 2 * 1024 ≤ (i 2 : Nat) ∧ (i 2 : Nat) < win0_10.index t 2 * 1024 + win0_10.xsize (grid0.coords t) 2
              rw [e2, x2]; omega

end Cert.KernelCacheIdeal.Cache

end
-- ==== Proof.Sub.CacheBlock.lean ====
/- What the sample's shared key and value kernel writes. -/
module

public import Idealize.ShloMosaic.Lib.WritesUnit
public import proofs.«01_k».proof.Proof.Gen.KernelCacheIdeal.Value
public import proofs.«01_k».proof.Proof.Sub.KvBlock

@[expose] public section

set_option maxRecDepth 16384

noncomputable section

namespace Cert.KernelCacheIdeal.Cache

open Cert.KernelCacheIdeal Cert.KernelCacheIdeal.Gen Idealize.ShloMosaic Idealize.ShloMosaic.TcCoe Cert.Kv
open Cert.KernelKvIdeal.Kv (pairOf lanes keyArr keyBlk piece_eq hz2 hz3)

/-- A load of a whole buffer is what it holds. -/
theorem rd {s : Shape} {e : EltTy} (M : Memref sig .tc .vmem s e) (hM : M.IsWhole) (x : s.Idx → Elt Ideal e) {off : Fin s.rank → ℕ}
    (inb : ∀ a, off a + s.size a ≤ s.size a) (h0 : off = fun _ => 0) :
    M.view.readAt (Elt Ideal) (Rect.unit off s.size inb).toLoadRect (hM.unread x) = x := by
  subst h0
  rw [View.readAt_eq_ld, hM.read_unread]
  funext j
  show x _ = x j
  congr 1
  funext a
  apply Fin.ext
  show 0 + 1 * (j a).val = (j a).val
  omega

/-- A whole-block store, read back. -/
theorem whole_block {e : EltTy} (v : View sig .tc .vmem S1x512x1024 e) (f : v.ty.Contents (Elt Ideal)) (inb) (w : S1x512x1024.Idx → Elt Ideal e) (r : Fin 512) (n : Fin 1024) :
    v.read (Elt Ideal) (v.writes (Elt Ideal) f [⟨Rect.unit (s := S1x512x1024) ![0, 0, 0] S1x512x1024.size inb, w⟩]) (ix3 0 r n) = w (ix3 0 r n) := by
  rw [View.read_writes_cons_unit_of_mem v f inb w [] (ix3 0 r n) (ix3 0 r n) rfl (by intro a; fin_cases a <;> simp)]

section

variable (v0 : FVec Ideal S1x512x1024 .f32) (v2 : FVec Ideal S1x1024 .f32) (v4 v6 : FVec Ideal S1x512x1024 .f32)

theorem pay15_apply (r : Fin 512) (e : Fin 1024) :
    k0_pay15 (F := Ideal) v0 v2 v4 v6 (ix2 r e)
      = hid (fun i => v0 (ix3 0 r i)) (fun i => v2 (ix2 0 i)) (fun i => v4 (ix3 0 r i)) (fun i => v6 (ix3 0 r i)) e := by
  unfold hid eps
  pointwise [k0_pay15]

theorem pay16_apply (W : FVec Ideal S1024x1024 .bf16) (r : Fin 512) (n : Fin 1024) :
    k0_pay16 (F := Ideal) v0 v2 v4 v6 W (ix2 r n)
      = ∑ e : Fin 1024, hid (fun i => v0 (ix3 0 r i)) (fun i => v2 (ix2 0 i)) (fun i => v4 (ix3 0 r i)) (fun i => v6 (ix3 0 r i)) e * W (ix2 e n) := by
  simp only [← pay15_apply]
  pointwise [k0_pay16]

theorem pay17_apply (W : FVec Ideal S1024x1024 .bf16) (r : Fin 512) (n : Fin 1024) :
    k0_pay17 (F := Ideal) v0 v2 v4 v6 W (ix2 r n)
      = ∑ e : Fin 1024, hid (fun i => v0 (ix3 0 r i)) (fun i => v2 (ix2 0 i)) (fun i => v4 (ix3 0 r i)) (fun i => v6 (ix3 0 r i)) e * W (ix2 e n) := by
  simp only [← pay15_apply]
  pointwise [k0_pay17]

theorem pay18_apply (W : FVec Ideal S1024x1024 .bf16) (j : S512x1024.Idx) :
    k0_pay18 (F := Ideal) v0 v2 v4 v6 W j = k0_pay17 (F := Ideal) v0 v2 v4 v6 W j := rfl

end

theorem pay1_apply (v : FVec Ideal S512x128 .bf16) (r : Fin 512) (l : Fin 128) : k0_pay1 (F := Ideal) v (ix3 0 r l) = v (ix2 r l) := by
  pointwise [k0_pay1]
theorem pay2_apply (v : FVec Ideal S512x128 .f32) (r : Fin 512) (l : Fin 128) : k0_pay2 (F := Ideal) v (ix3 0 r l) = v (ix2 r l) := by
  pointwise [k0_pay2]
theorem pay3_apply (v : FVec Ideal S512x128 .f32) (r : Fin 512) (l : Fin 128) : k0_pay3 (F := Ideal) v (ix3 0 r l) = v (ix2 r l) := by
  pointwise [k0_pay3]
theorem pay4_apply (v : FVec Ideal S512x128 .f32) (r : Fin 512) (l : Fin 128) : k0_pay4 (F := Ideal) v (ix3 0 r l) = v (ix2 r l) := by
  pointwise [k0_pay4]
theorem pay5_apply (v : FVec Ideal S512x128 .f32) (r : Fin 512) (l : Fin 128) : k0_pay5 (F := Ideal) v (ix3 0 r l) = v (ix2 r l) := by
  pointwise [k0_pay5]
theorem pay44_apply (v : FVec Ideal S512x128 .f32) (r : Fin 512) (l : Fin 128) : k0_pay44 (F := Ideal) v (ix3 0 r l) = v (ix2 r l) := by
  pointwise [k0_pay44]
theorem pay45_apply (v : FVec Ideal S512x128 .f32) (r : Fin 512) (l : Fin 128) : k0_pay45 (F := Ideal) v (ix3 0 r l) = v (ix2 r l) := by
  pointwise [k0_pay45]
theorem pay46_apply (v : FVec Ideal S512x128 .f32) (r : Fin 512) (l : Fin 128) : k0_pay46 (F := Ideal) v (ix3 0 r l) = v (ix2 r l) := by
  pointwise [k0_pay46]
theorem pay8_apply (v : FVec Ideal S512x128 .f32) (r : Fin 512) (l : Fin 128) : k0_pay8 (F := Ideal) v (ix3 0 r l) = v (ix2 r l) := by
  pointwise [k0_pay8]
theorem pay9_apply (v : FVec Ideal S512x128 .f32) (r : Fin 512) (l : Fin 128) : k0_pay9 (F := Ideal) v (ix3 0 r l) = v (ix2 r l) := by
  pointwise [k0_pay9]
theorem pay10_apply (v : FVec Ideal S512x128 .f32) (r : Fin 512) (l : Fin 128) : k0_pay10 (F := Ideal) v (ix3 0 r l) = v (ix2 r l) := by
  pointwise [k0_pay10]
theorem pay11_apply (v : FVec Ideal S512x128 .f32) (r : Fin 512) (l : Fin 128) : k0_pay11 (F := Ideal) v (ix3 0 r l) = v (ix2 r l) := by
  pointwise [k0_pay11]
theorem pay12_apply (v : FVec Ideal S512x128 .f32) (r : Fin 512) (l : Fin 128) : k0_pay12 (F := Ideal) v (ix3 0 r l) = v (ix2 r l) := by
  pointwise [k0_pay12]
theorem pay13_apply (v : FVec Ideal S512x128 .f32) (r : Fin 512) (l : Fin 128) : k0_pay13 (F := Ideal) v (ix3 0 r l) = v (ix2 r l) := by
  pointwise [k0_pay13]
theorem pay14_apply (v : FVec Ideal S512x128 .f32) (r : Fin 512) (l : Fin 128) : k0_pay14 (F := Ideal) v (ix3 0 r l) = v (ix2 r l) := by
  pointwise [k0_pay14]
theorem pay6_apply (v : FVec Ideal S512x128 .f32) (r : Fin 512) (l : Fin 128) : k0_pay6 (F := Ideal) v (ix3 0 r l) = v (ix2 r l) := by
  pointwise [k0_pay6]
theorem pay7_apply (v : FVec Ideal S512x1024 .f32) (r : Fin 512) (n : Fin 1024) : k0_pay7 (F := Ideal) v (ix3 0 r n) = v (ix2 r n) := by
  pointwise [k0_pay7]
theorem pay19_apply (v : FVec Ideal S512x1024 .bf16) (r : Fin 512) (n : Fin 1024) : k0_pay19 (F := Ideal) v (ix3 0 r n) = v (ix2 r n) := by
  pointwise [k0_pay19]

theorem pay20_eq (g : FVec Ideal S1x128 .f32) : k0_pay20 (F := Ideal) g = g := by
  unfold k0_pay20
  exact shapeCast_self g _

theorem head0_eq (Y : FVec Ideal S512x1024 .f32) (g : FVec Ideal S1x128 .f32) :
    k0_pay21 (F := Ideal) Y g = pairOf (extractStridedSlice S512x128 ![0, 0] Y slices_S512x1024_o0_0_S512x128) g := by
  unfold k0_pay21
  rw [pay20_eq]
  rfl

section

variable (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x128 .f32) (harg8 : arg8.IsWhole) (arg9 : Memref sig .tc .vmem S1x512x1024 .f32) (harg9 : arg9.IsWhole) (arg10 : Memref sig .tc .vmem S1x512x1024 .f32) (harg10 : arg10.IsWhole) (arg11 : Memref sig .tc .vmem S1x512x1024 .bf16) (harg11 : arg11.IsWhole) (arg12 : Memref sig .tc .vmem S1x512x1024 .bf16) (harg12 : arg12.IsWhole)
  (x0 : FVec Ideal S1x512x1024 .f32) (x1 x2 : FVec Ideal S1x512x1024 .f32) (x3 : FVec Ideal S1x1024 .f32) (x4 x5 : FVec Ideal S1024x1024 .bf16) (x6 : FVec Ideal S1x128 .f32)

theorem matA : kernelRun0_A.sl.r (F := Ideal) c arg2 harg2 arg3 harg3 arg4 harg4 arg5 harg5 arg6 harg6 x0 x1 x2 x3 x4 = k0_pay16 (F := Ideal) x0 x3 x1 x2 x4 := by
  unfold kernelRun0_A.sl.r
  rw [rd arg2 harg2 x0 inb_S1x512x1024_S1x512x1024_0_0_0 hz3, rd arg3 harg3 x1 inb_S1x512x1024_S1x512x1024_0_0_0 hz3, rd arg4 harg4 x2 inb_S1x512x1024_S1x512x1024_0_0_0 hz3,
    rd arg5 harg5 x3 inb_S1x1024_S1x1024_0_0 hz2, rd arg6 harg6 x4 inb_S1024x1024_S1024x1024_0_0 hz2]

theorem valA : kernelRun0_A.sl.r_1 (F := Ideal) c arg2 harg2 arg3 harg3 arg4 harg4 arg5 harg5 arg7 harg7 x0 x1 x2 x3 x5 = k0_pay17 (F := Ideal) x0 x3 x1 x2 x5 := by
  unfold kernelRun0_A.sl.r_1
  rw [rd arg2 harg2 x0 inb_S1x512x1024_S1x512x1024_0_0_0 hz3, rd arg3 harg3 x1 inb_S1x512x1024_S1x512x1024_0_0_0 hz3, rd arg4 harg4 x2 inb_S1x512x1024_S1x512x1024_0_0_0 hz3,
    rd arg5 harg5 x3 inb_S1x1024_S1x1024_0_0 hz2, rd arg7 harg7 x5 inb_S1024x1024_S1024x1024_0_0 hz2]

theorem halfA : kernelRun0_A.sl.r_2 (F := Ideal) c arg2 harg2 arg3 harg3 arg4 harg4 arg5 harg5 arg7 harg7 x0 x1 x2 x3 x5 = k0_pay18 (F := Ideal) x0 x3 x1 x2 x5 := by
  unfold kernelRun0_A.sl.r_2
  rw [rd arg2 harg2 x0 inb_S1x512x1024_S1x512x1024_0_0_0 hz3, rd arg3 harg3 x1 inb_S1x512x1024_S1x512x1024_0_0_0 hz3, rd arg4 harg4 x2 inb_S1x512x1024_S1x512x1024_0_0_0 hz3,
    rd arg5 harg5 x3 inb_S1x1024_S1x1024_0_0 hz2, rd arg7 harg7 x5 inb_S1024x1024_S1024x1024_0_0 hz2]

theorem head0A : kernelRun0_A.sl.r_4 (F := Ideal) c arg2 harg2 arg3 harg3 arg4 harg4 arg5 harg5 arg6 harg6 arg8 harg8 x0 x1 x2 x3 x4 x6
    = pairOf (extractStridedSlice S512x128 ![0, 0] (k0_pay16 (F := Ideal) x0 x3 x1 x2 x4) slices_S512x1024_o0_0_S512x128) x6 := by
  rw [← matA c arg2 harg2 arg3 harg3 arg4 harg4 arg5 harg5 arg6 harg6 x0 x1 x2 x3 x4]
  unfold kernelRun0_A.sl.r_4
  rw [rd arg8 harg8 x6 inb_S1x128_S1x128_0_0 hz2]
  exact head0_eq _ x6

theorem head128A : kernelRun0_A.sl.r_8 (F := Ideal) c arg2 harg2 arg3 harg3 arg4 harg4 arg5 harg5 arg6 harg6 arg8 harg8 x0 x1 x2 x3 x4 x6
    = pairOf (extractStridedSlice S512x128 ![0, 128] (k0_pay16 (F := Ideal) x0 x3 x1 x2 x4) slices_S512x1024_o0_128_S512x128) x6 := by
  rw [← matA c arg2 harg2 arg3 harg3 arg4 harg4 arg5 harg5 arg6 harg6 x0 x1 x2 x3 x4]
  unfold kernelRun0_A.sl.r_8 kernelRun0_A.sl.r_3 kernelRun0_A.sl.r_5 kernelRun0_A.sl.r_6 kernelRun0_A.sl.r_7
  rw [rd arg8 harg8 x6 inb_S1x128_S1x128_0_0 hz2, pay20_eq]
  rfl

theorem head256A : kernelRun0_A.sl.r_9 (F := Ideal) c arg2 harg2 arg3 harg3 arg4 harg4 arg5 harg5 arg6 harg6 arg8 harg8 x0 x1 x2 x3 x4 x6
    = pairOf (extractStridedSlice S512x128 ![0, 256] (k0_pay16 (F := Ideal) x0 x3 x1 x2 x4) slices_S512x1024_o0_256_S512x128) x6 := by
  rw [← matA c arg2 harg2 arg3 harg3 arg4 harg4 arg5 harg5 arg6 harg6 x0 x1 x2 x3 x4]
  unfold kernelRun0_A.sl.r_9 kernelRun0_A.sl.r_3
  rw [rd arg8 harg8 x6 inb_S1x128_S1x128_0_0 hz2, pay20_eq]
  rfl

theorem head384A : kernelRun0_A.sl.r_13 (F := Ideal) c arg2 harg2 arg3 harg3 arg4 harg4 arg5 harg5 arg6 harg6 arg8 harg8 x0 x1 x2 x3 x4 x6
    = pairOf (extractStridedSlice S512x128 ![0, 384] (k0_pay16 (F := Ideal) x0 x3 x1 x2 x4) slices_S512x1024_o0_384_S512x128) x6 := by
  rw [← matA c arg2 harg2 arg3 harg3 arg4 harg4 arg5 harg5 arg6 harg6 x0 x1 x2 x3 x4]
  unfold kernelRun0_A.sl.r_13 kernelRun0_A.sl.r_3 kernelRun0_A.sl.r_10 kernelRun0_A.sl.r_11 kernelRun0_A.sl.r_12
  rw [rd arg8 harg8 x6 inb_S1x128_S1x128_0_0 hz2, pay20_eq]
  rfl

theorem head512A : kernelRun0_A.sl.r_14 (F := Ideal) c arg2 harg2 arg3 harg3 arg4 harg4 arg5 harg5 arg6 harg6 arg8 harg8 x0 x1 x2 x3 x4 x6
    = pairOf (extractStridedSlice S512x128 ![0, 512] (k0_pay16 (F := Ideal) x0 x3 x1 x2 x4) slices_S512x1024_o0_512_S512x128) x6 := by
  rw [← matA c arg2 harg2 arg3 harg3 arg4 harg4 arg5 harg5 arg6 harg6 x0 x1 x2 x3 x4]
  unfold kernelRun0_A.sl.r_14 kernelRun0_A.sl.r_3
  rw [rd arg8 harg8 x6 inb_S1x128_S1x128_0_0 hz2, pay20_eq]
  rfl

theorem head640A : kernelRun0_A.sl.r_18 (F := Ideal) c arg2 harg2 arg3 harg3 arg4 harg4 arg5 harg5 arg6 harg6 arg8 harg8 x0 x1 x2 x3 x4 x6
    = pairOf (extractStridedSlice S512x128 ![0, 640] (k0_pay16 (F := Ideal) x0 x3 x1 x2 x4) slices_S512x1024_o0_640_S512x128) x6 := by
  rw [← matA c arg2 harg2 arg3 harg3 arg4 harg4 arg5 harg5 arg6 harg6 x0 x1 x2 x3 x4]
  unfold kernelRun0_A.sl.r_18 kernelRun0_A.sl.r_3 kernelRun0_A.sl.r_15 kernelRun0_A.sl.r_16 kernelRun0_A.sl.r_17
  rw [rd arg8 harg8 x6 inb_S1x128_S1x128_0_0 hz2, pay20_eq]
  rfl

theorem head768A : kernelRun0_A.sl.r_19 (F := Ideal) c arg2 harg2 arg3 harg3 arg4 harg4 arg5 harg5 arg6 harg6 arg8 harg8 x0 x1 x2 x3 x4 x6
    = pairOf (extractStridedSlice S512x128 ![0, 768] (k0_pay16 (F := Ideal) x0 x3 x1 x2 x4) slices_S512x1024_o0_768_S512x128) x6 := by
  rw [← matA c arg2 harg2 arg3 harg3 arg4 harg4 arg5 harg5 arg6 harg6 x0 x1 x2 x3 x4]
  unfold kernelRun0_A.sl.r_19 kernelRun0_A.sl.r_3
  rw [rd arg8 harg8 x6 inb_S1x128_S1x128_0_0 hz2, pay20_eq]
  rfl

theorem head896A : kernelRun0_A.sl.r_22 (F := Ideal) c arg2 harg2 arg3 harg3 arg4 harg4 arg5 harg5 arg6 harg6 arg8 harg8 x0 x1 x2 x3 x4 x6
    = pairOf (extractStridedSlice S512x128 ![0, 896] (k0_pay16 (F := Ideal) x0 x3 x1 x2 x4) slices_S512x1024_o0_896_S512x128) x6 := by
  rw [← matA c arg2 harg2 arg3 harg3 arg4 harg4 arg5 harg5 arg6 harg6 x0 x1 x2 x3 x4]
  unfold kernelRun0_A.sl.r_22 kernelRun0_A.sl.r_3 kernelRun0_A.sl.r_20 kernelRun0_A.sl.r_21
  rw [rd arg8 harg8 x6 inb_S1x128_S1x128_0_0 hz2, pay20_eq]
  rfl

/-- The keys stored in half the width, at a row and column. -/
theorem out9A (hc0 : cond0_0 i) (r : Fin 512) (n : Fin 1024) :
    out0_A_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 (ix3 0 r n) = keyBlk (k0_pay16 (F := Ideal) x0 x3 x1 x2 x4) x6 r n := by
  unfold out0_A_9
  refine View.read_writes_apply_of_pieces _ _ (keyArr (k0_pay16 (F := Ideal) x0 x3 x1 x2 x4) x6) _ ?_ (ix3 0 r n) (cover0_A_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 _)
  unfold kernelRun0_A
  dsimp only
  intro pc hpc x
  simp only [List.mem_cons, List.not_mem_nil, or_false] at hpc
  rcases hpc with rfl | rfl | rfl | rfl | rfl | rfl | rfl | rfl
  · exact piece_eq 896 7 rfl _ x6 _ slices_S512x1024_o0_896_S512x128 (fun r l => (pay5_apply _ r l).trans (congrFun (head896A c arg2 harg2 arg3 harg3 arg4 harg4 arg5 harg5 arg6 harg6 arg8 harg8 x0 x1 x2 x3 x4 x6) _)) inb_S1x512x1024_S1x512x128_0_0_896 x
  · exact piece_eq 768 6 rfl _ x6 _ slices_S512x1024_o0_768_S512x128 (fun r l => (pay4_apply _ r l).trans (congrFun (head768A c arg2 harg2 arg3 harg3 arg4 harg4 arg5 harg5 arg6 harg6 arg8 harg8 x0 x1 x2 x3 x4 x6) _)) inb_S1x512x1024_S1x512x128_0_0_768 x
  · exact piece_eq 640 5 rfl _ x6 _ slices_S512x1024_o0_640_S512x128 (fun r l => (pay3_apply _ r l).trans (congrFun (head640A c arg2 harg2 arg3 harg3 arg4 harg4 arg5 harg5 arg6 harg6 arg8 harg8 x0 x1 x2 x3 x4 x6) _)) inb_S1x512x1024_S1x512x128_0_0_640 x
  · exact piece_eq 512 4 rfl _ x6 _ slices_S512x1024_o0_512_S512x128 (fun r l => (pay2_apply _ r l).trans (congrFun (head512A c arg2 harg2 arg3 harg3 arg4 harg4 arg5 harg5 arg6 harg6 arg8 harg8 x0 x1 x2 x3 x4 x6) _)) inb_S1x512x1024_S1x512x128_0_0_512 x
  · exact piece_eq 384 3 rfl _ x6 _ slices_S512x1024_o0_384_S512x128 (fun r l => (pay1_apply _ r l).trans (congrFun (head384A c arg2 harg2 arg3 harg3 arg4 harg4 arg5 harg5 arg6 harg6 arg8 harg8 x0 x1 x2 x3 x4 x6) _)) inb_S1x512x1024_S1x512x128_0_0_384 x
  · exact piece_eq 256 2 rfl _ x6 _ slices_S512x1024_o0_256_S512x128 (fun r l => (pay46_apply _ r l).trans (congrFun (head256A c arg2 harg2 arg3 harg3 arg4 harg4 arg5 harg5 arg6 harg6 arg8 harg8 x0 x1 x2 x3 x4 x6) _)) inb_S1x512x1024_S1x512x128_0_0_256 x
  · exact piece_eq 128 1 rfl _ x6 _ slices_S512x1024_o0_128_S512x128 (fun r l => (pay45_apply _ r l).trans (congrFun (head128A c arg2 harg2 arg3 harg3 arg4 harg4 arg5 harg5 arg6 harg6 arg8 harg8 x0 x1 x2 x3 x4 x6) _)) inb_S1x512x1024_S1x512x128_0_0_128 x
  · exact piece_eq 0 0 rfl _ x6 _ slices_S512x1024_o0_0_S512x128 (fun r l => (pay44_apply _ r l).trans (congrFun (head0A c arg2 harg2 arg3 harg3 arg4 harg4 arg5 harg5 arg6 harg6 arg8 harg8 x0 x1 x2 x3 x4 x6) _)) inb_S1x512x1024_S1x512x128_0_0_0 x

/-- The keys, at a row and column. -/
theorem out7A (hc0 : cond0_0 i) (r : Fin 512) (n : Fin 1024) :
    out0_A_7 (F := Ideal) c i arg2 harg2 arg3 harg3 arg4 harg4 arg5 harg5 arg6 harg6 arg7 harg7 arg8 harg8 arg9 harg9 arg10 harg10 arg11 harg11 arg12 harg12 hc0 x0 x1 x2 x3 x4 x5 x6 (ix3 0 r n) = keyBlk (k0_pay16 (F := Ideal) x0 x3 x1 x2 x4) x6 r n := by
  unfold out0_A_7
  refine View.read_writes_apply_of_pieces _ _ (keyArr (k0_pay16 (F := Ideal) x0 x3 x1 x2 x4) x6) _ ?_ (ix3 0 r n) (cover0_A_7 (F := Ideal) c i arg2 harg2 arg3 harg3 arg4 harg4 arg5 harg5 arg6 harg6 arg7 harg7 arg8 harg8 arg9 harg9 arg10 harg10 arg11 harg11 arg12 harg12 hc0 x0 x1 x2 x3 x4 x5 x6 _)
  unfold kernelRun0_A
  dsimp only
  intro pc hpc x
  simp only [List.mem_cons, List.not_mem_nil, or_false] at hpc
  rcases hpc with rfl | rfl | rfl | rfl | rfl | rfl | rfl | rfl
  · exact piece_eq 896 7 rfl _ x6 _ slices_S512x1024_o0_896_S512x128 (fun r l => (pay6_apply _ r l).trans (congrFun (head896A c arg2 harg2 arg3 harg3 arg4 harg4 arg5 harg5 arg6 harg6 arg8 harg8 x0 x1 x2 x3 x4 x6) _)) inb_S1x512x1024_S1x512x128_0_0_896 x
  · exact piece_eq 768 6 rfl _ x6 _ slices_S512x1024_o0_768_S512x128 (fun r l => (pay14_apply _ r l).trans (congrFun (head768A c arg2 harg2 arg3 harg3 arg4 harg4 arg5 harg5 arg6 harg6 arg8 harg8 x0 x1 x2 x3 x4 x6) _)) inb_S1x512x1024_S1x512x128_0_0_768 x
  · exact piece_eq 640 5 rfl _ x6 _ slices_S512x1024_o0_640_S512x128 (fun r l => (pay13_apply _ r l).trans (congrFun (head640A c arg2 harg2 arg3 harg3 arg4 harg4 arg5 harg5 arg6 harg6 arg8 harg8 x0 x1 x2 x3 x4 x6) _)) inb_S1x512x1024_S1x512x128_0_0_640 x
  · exact piece_eq 512 4 rfl _ x6 _ slices_S512x1024_o0_512_S512x128 (fun r l => (pay12_apply _ r l).trans (congrFun (head512A c arg2 harg2 arg3 harg3 arg4 harg4 arg5 harg5 arg6 harg6 arg8 harg8 x0 x1 x2 x3 x4 x6) _)) inb_S1x512x1024_S1x512x128_0_0_512 x
  · exact piece_eq 384 3 rfl _ x6 _ slices_S512x1024_o0_384_S512x128 (fun r l => (pay11_apply _ r l).trans (congrFun (head384A c arg2 harg2 arg3 harg3 arg4 harg4 arg5 harg5 arg6 harg6 arg8 harg8 x0 x1 x2 x3 x4 x6) _)) inb_S1x512x1024_S1x512x128_0_0_384 x
  · exact piece_eq 256 2 rfl _ x6 _ slices_S512x1024_o0_256_S512x128 (fun r l => (pay10_apply _ r l).trans (congrFun (head256A c arg2 harg2 arg3 harg3 arg4 harg4 arg5 harg5 arg6 harg6 arg8 harg8 x0 x1 x2 x3 x4 x6) _)) inb_S1x512x1024_S1x512x128_0_0_256 x
  · exact piece_eq 128 1 rfl _ x6 _ slices_S512x1024_o0_128_S512x128 (fun r l => (pay9_apply _ r l).trans (congrFun (head128A c arg2 harg2 arg3 harg3 arg4 harg4 arg5 harg5 arg6 harg6 arg8 harg8 x0 x1 x2 x3 x4 x6) _)) inb_S1x512x1024_S1x512x128_0_0_128 x
  · exact piece_eq 0 0 rfl _ x6 _ slices_S512x1024_o0_0_S512x128 (fun r l => (pay8_apply _ r l).trans (congrFun (head0A c arg2 harg2 arg3 harg3 arg4 harg4 arg5 harg5 arg6 harg6 arg8 harg8 x0 x1 x2 x3 x4 x6) _)) inb_S1x512x1024_S1x512x128_0_0_0 x

/-- The values stored in half the width, at a row and column. -/
theorem out10A (hc0 : cond0_0 i) (r : Fin 512) (n : Fin 1024) :
    out0_A_10 (F := Ideal) c i arg2 harg2 arg3 harg3 arg4 harg4 arg5 harg5 arg6 harg6 arg7 harg7 arg8 harg8 arg9 harg9 arg10 harg10 arg11 harg11 arg12 harg12 hc0 x0 x1 x2 x3 x4 x5 x6 (ix3 0 r n) = k0_pay17 (F := Ideal) x0 x3 x1 x2 x5 (ix2 r n) := by
  unfold out0_A_10
  unfold kernelRun0_A
  dsimp only
  rw [whole_block, pay19_apply, halfA c arg2 harg2 arg3 harg3 arg4 harg4 arg5 harg5 arg7 harg7 x0 x1 x2 x3 x5]
  rw [pay18_apply]

/-- The values, at a row and column. -/
theorem out8A (hc0 : cond0_0 i) (r : Fin 512) (n : Fin 1024) :
    out0_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 (ix3 0 r n) = k0_pay17 (F := Ideal) x0 x3 x1 x2 x5 (ix2 r n) := by
  unfold out0_A_8
  unfold kernelRun0_A
  dsimp only
  rw [whole_block, pay7_apply, valA c arg2 harg2 arg3 harg3 arg4 harg4 arg5 harg5 arg7 harg7 x0 x1 x2 x3 x5]

end

end Cert.KernelCacheIdeal.Cache

end
-- ==== Proof.Sub.CacheRef.lean ====
/- The reference's keys and values of the sample's rows, read at an index. -/
module

public import proofs.«01_k».proof.Proof.Gen.ReferenceCacheIdeal.Run
public import proofs.«01_k».proof.Proof.Sub.KvMath
public import Idealize.ShloMosaic.Lib.Pipeline.Value

@[expose] public section

set_option maxRecDepth 16384

noncomputable section

namespace Cert.ReferenceCacheIdeal.Cache

open Cert.ReferenceCacheIdeal Cert.ReferenceCacheIdeal.Gen Idealize.ShloMosaic Idealize.ShloMosaic.TcCoe Cert.Kv

/-- The rows' root mean squares' inverses. -/
def inv (X : FVec Ideal S8x64x1024 .f32) : FVec Ideal S8x64x1 .f32 :=
  Host.rsqrt (addf (Host.divf (broadcastInDim S8x64x1 ![0, 1] bcast_S8x64_S8x64x1_0_1 (Host.reduceAdd (mulf X X) (constant S_ .f32 0x00000000#32) reducesTo_S8x64x1024_S8x64_d2 h_S_)) (broadcastInDim S8x64x1 ![] bcast_S_S8x64x1 (constant S_ .f32 0x44800000#32))) (broadcastInDim S8x64x1 ![] bcast_S_S8x64x1 (constant S_ .f32 0x358637BD#32)))

/-- The modulated stream. -/
def stream (X : FVec Ideal S8x64x1024 .f32) (sh sc : FVec Ideal S8x1024 .f32) (w : FVec Ideal S1024 .f32) : FVec Ideal S8x64x1024 .f32 :=
  addf (mulf (mulf (mulf X (broadcastInDim S8x64x1024 ![0, 1, 2] bcast_S8x64x1_S8x64x1024_0_1_2 (inv X))) (broadcastInDim S8x64x1024 ![0, 1, 2] bcast_S1x1x1024_S8x64x1024_0_1_2 (broadcastInDim S1x1x1024 ![2] bcast_S1024_S1x1x1024_2 w))) (broadcastInDim S8x64x1024 ![0, 1, 2] bcast_S8x1x1024_S8x64x1024_0_1_2 (addf (broadcastInDim S8x1x1024 ![] bcast_S_S8x1x1024 (constant S_ .f32 0x3F800000#32)) (broadcastInDim S8x1x1024 ![0, 2] bcast_S8x1024_S8x1x1024_0_2 sc)))) (broadcastInDim S8x64x1024 ![0, 1, 2] bcast_S8x1x1024_S8x64x1024_0_1_2 (broadcastInDim S8x1x1024 ![0, 2] bcast_S8x1024_S8x1x1024_0_2 sh))

/-- Its product with the weights. -/
def proj (H : FVec Ideal S8x64x1024 .f32) (W : FVec Ideal S1024x2048 .f32) : FVec Ideal S8x64x2048 .f32 :=
  Host.dotGeneral dot_S8x64x1024_S1024x2048_S8x64x2048_2_0_01_1_n_n none H W

/-- The keys' half, a head at a time. -/
def keys (P : FVec Ideal S8x64x2048 .f32) : FVec Ideal S8x64x16x64 .f32 :=
  shapeCast _ (extractStridedSlice S8x64x1x16x64 ![0, 0, 0, 0, 0] (shapeCast _ P shapeCasts_S8x64x2048_S8x64x2x16x64) slices_S8x64x2x16x64_S8x64x1x16x64_0_0_0_0_0) shapeCasts_S8x64x1x16x64_S8x64x16x64

/-- The values' half, a head at a time. -/
def vals (P : FVec Ideal S8x64x2048 .f32) : FVec Ideal S8x64x16x64 .f32 :=
  shapeCast _ (extractStridedSlice S8x64x1x16x64 ![0, 0, 1, 0, 0] (shapeCast _ P shapeCasts_S8x64x2048_S8x64x2x16x64) slices_S8x64x2x16x64_S8x64x1x16x64_0_0_1_0_0) shapeCasts_S8x64x1x16x64_S8x64x16x64

/-- Each head over its root mean square. -/
def normed (K : FVec Ideal S8x64x16x64 .f32) (g : FVec Ideal S64 .f32) : FVec Ideal S8x64x16x64 .f32 :=
  mulf (mulf K (broadcastInDim S8x64x16x64 ![0, 1, 2, 3] bcast_S8x64x16x1_S8x64x16x64_0_1_2_3 (Host.rsqrt (addf (Host.divf (broadcastInDim S8x64x16x1 ![0, 1, 2] bcast_S8x64x16_S8x64x16x1_0_1_2 (Host.reduceAdd (mulf K K) (constant S_ .f32 0x00000000#32) reducesTo_S8x64x16x64_S8x64x16_d3 h_S_)) (broadcastInDim S8x64x16x1 ![] bcast_S_S8x64x16x1 (constant S_ .f32 0x42800000#32))) (broadcastInDim S8x64x16x1 ![] bcast_S_S8x64x16x1 (constant S_ .f32 0x358637BD#32)))))) (broadcastInDim S8x64x16x64 ![0, 1, 2, 3] bcast_S1x1x1x64_S8x64x16x64_0_1_2_3 (broadcastInDim S1x1x1x64 ![3] bcast_S64_S1x1x1x64_3 g))

/-- The heads side by side again, the sequences' rows one after another. -/
def flat (K : FVec Ideal S8x64x16x64 .f32) : FVec Ideal S1x512x1024 .f32 := shapeCast _ K shapeCasts_S8x64x16x64_S1x512x1024

/-- The same in half the width. -/
def half (A : FVec Ideal S1x512x1024 .f32) : FVec Ideal S1x512x1024 .bf16 := truncf .bf16 A bitsLt_bf16_f32

/-- All rows' keys. -/
def allKeys (X : FVec Ideal S8x64x1024 .f32) (sh sc : FVec Ideal S8x1024 .f32) (w : FVec Ideal S1024 .f32) (W : FVec Ideal S1024x2048 .f32) (g : FVec Ideal S64 .f32) :
    FVec Ideal S1x512x1024 .f32 := flat (normed (keys (proj (stream X sh sc w) W)) g)

/-- All rows' values. -/
def allVals (X : FVec Ideal S8x64x1024 .f32) (sh sc : FVec Ideal S8x1024 .f32) (w : FVec Ideal S1024 .f32) (W : FVec Ideal S1024x2048 .f32) :
    FVec Ideal S1x512x1024 .f32 := flat (vals (proj (stream X sh sc w) W))

/-- The reference's four results are all rows' keys and values, and the same in half the width. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = (allKeys (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v41) = (allVals (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v42) = half (allKeys (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v43) = half (allVals (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run (F := Ideal) m ρ

theorem inv_apply (X : FVec Ideal S8x64x1024 .f32) (b : Fin 8) (t : Fin 64) :
    inv X (ix3 b t 0) = Ideal.rsqrt (Ideal.div (∑ i : Fin 1024, X (ix3 b t i) * X (ix3 b t i)) (Ideal.ofBits .f32 0x44800000#32) + eps) := by
  unfold inv eps
  pointwise

theorem stream_apply (X : FVec Ideal S8x64x1024 .f32) (sh sc : FVec Ideal S8x1024 .f32) (w : FVec Ideal S1024 .f32) (b : Fin 8) (t : Fin 64) (e : Fin 1024) :
    stream X sh sc w (ix3 b t e) = hid (fun i => X (ix3 b t i)) (fun i => w (ix1 i)) (fun i => sh (ix2 b i)) (fun i => sc (ix2 b i)) e := by
  unfold stream hid
  pointwise [inv_apply]

theorem proj_apply (H : FVec Ideal S8x64x1024 .f32) (W : FVec Ideal S1024x2048 .f32) (b : Fin 8) (t : Fin 64) (n : Fin 2048) :
    proj H W (ix3 b t n) = ∑ e : Fin 1024, (H (ix3 b t e) * W (ix2 e n) : EReal) := by
  unfold proj
  pointwise

theorem keys_apply (P : FVec Ideal S8x64x2048 .f32) (b : Fin 8) (t : Fin 64) (h : Fin 16) (d : Fin 64) :
    keys P (ix4 b t h d) = P (ix3 b t ⟨h.val * 64 + d.val, by omega⟩) := by
  unfold keys
  pointwise

theorem vals_apply (P : FVec Ideal S8x64x2048 .f32) (b : Fin 8) (t : Fin 64) (h : Fin 16) (d : Fin 64) :
    vals P (ix4 b t h d) = P (ix3 b t ⟨1024 + h.val * 64 + d.val, by omega⟩) := by
  unfold vals
  pointwise

theorem normed_apply (K : FVec Ideal S8x64x16x64 .f32) (g : FVec Ideal S64 .f32) (b : Fin 8) (t : Fin 64) (h : Fin 16) (d : Fin 64) :
    normed K g (ix4 b t h d) = K (ix4 b t h d) * Ideal.rsqrt (Ideal.div (∑ i : Fin 64, K (ix4 b t h i) * K (ix4 b t h i)) (Ideal.ofBits .f32 0x42800000#32) + eps) * g (ix1 d) := by
  unfold normed eps
  pointwise

theorem flat_apply (K : FVec Ideal S8x64x16x64 .f32) (r : Fin 512) (n : Fin 1024) :
    flat K (ix3 0 r n) = K (ix4 ⟨r.val / 64, by omega⟩ ⟨r.val % 64, by omega⟩ ⟨n.val / 64, by omega⟩ ⟨n.val % 64, by omega⟩) := by
  unfold flat
  pointwise

variable (X : FVec Ideal S8x64x1024 .f32) (sh sc : FVec Ideal S8x1024 .f32) (w : FVec Ideal S1024 .f32) (W : FVec Ideal S1024x2048 .f32) (g : FVec Ideal S64 .f32)

/-- The projection at a row and column. -/
def col (b : Fin 8) (t : Fin 64) (n : Fin 2048) : EReal :=
  ∑ e : Fin 1024, hid (fun i => X (ix3 b t i)) (fun i => w (ix1 i)) (fun i => sh (ix2 b i)) (fun i => sc (ix2 b i)) e * W (ix2 e n)

theorem proj_stream (b : Fin 8) (t : Fin 64) (n : Fin 2048) : proj (stream X sh sc w) W (ix3 b t n) = col X sh sc w W b t n := by
  unfold col
  rw [proj_apply]
  simp only [stream_apply]

theorem allVals_apply (r : Fin 512) (n : Fin 1024) :
    allVals X sh sc w W (ix3 0 r n) = col X sh sc w W ⟨r.val / 64, by omega⟩ ⟨r.val % 64, by omega⟩ ⟨1024 + n.val, by omega⟩ := by
  unfold allVals
  rw [flat_apply, vals_apply, proj_stream]
  congr 1
  apply Fin.ext
  show 1024 + n.val / 64 * 64 + n.val % 64 = 1024 + n.val
  omega

theorem allKeys_apply (r : Fin 512) (n : Fin 1024) :
    allKeys X sh sc w W g (ix3 0 r n) = headRms (fun n => col X sh sc w W ⟨r.val / 64, by omega⟩ ⟨r.val % 64, by omega⟩ ⟨n.val, by omega⟩) (fun d => g (ix1 d)) n := by
  unfold allKeys headRms
  rw [flat_apply, normed_apply]
  simp only [keys_apply, proj_stream, mul_comm (n.val / 64) 64]
  have e : (⟨64 * (n.val / 64) + n.val % 64, by omega⟩ : Fin 2048) = ⟨n.val, by omega⟩ := Fin.ext (by show 64 * (n.val / 64) + n.val % 64 = n.val; omega)
  rw [e]

end Cert.ReferenceCacheIdeal.Cache

end
-- ==== Proof.Sub.CacheValue.lean ====
/- What the sample's keys' and values' call ends with: each result is the reference's. -/
module

public import proofs.«01_k».proof.Proof.Sub.KvValue
public import proofs.«01_k».proof.Proof.Sub.CacheCover
public import proofs.«01_k».proof.Proof.Sub.CacheBlock
public import proofs.«01_k».proof.Proof.Sub.CacheRef

@[expose] public section

set_option maxRecDepth 16384

noncomputable section

namespace Cert.KernelCacheIdeal.Cache

open Cert.KernelCacheIdeal Cert.KernelCacheIdeal.Gen Cert.Kv Cert.ReferenceCacheIdeal.Cache Idealize.ShloMosaic Idealize.ShloMosaic.TcCoe
open Cert.KernelKvIdeal.Kv (keyBlk Reals)

section

variable (X : FVec Ideal S8x64x1024 .f32) (sh sc : FVec Ideal S8x1024 .f32) (w : FVec Ideal S1024 .f32) (W : FVec Ideal S1024x2048 .f32) (g : FVec Ideal S64 .f32)

/-- The projection is real, whatever the rows. -/
theorem col_real (hsh : Reals sh) (hsc : Reals sc) (hw : Reals w) (hW : Reals W) (b : Fin 8) (t : Fin 64) (n : Fin 2048) :
    ∃ y : ℝ, col X sh sc w W b t n = y := by
  unfold col
  exact dot_real _ (fun e => W (ix2 e n)) (fun e => hid_real _ _ _ _ (fun i => hw (ix1 i)) (fun i => hsh (ix2 b i)) (fun i => hsc (ix2 b i)) e)
    (fun e => hW (ix2 e n))

variable (x0 : FVec Ideal S1x512x1024 .f32) (x1 x2 : FVec Ideal S1x512x1024 .f32) (x3 : FVec Ideal S1x1024 .f32) (x4 x5 : FVec Ideal S1024x1024 .bf16) (x6 : FVec Ideal S1x128 .f32)
variable (r : Fin 512)
  (h0 : ∀ i : Fin 1024, x0 (ix3 0 r i) = X (ix3 ⟨r.val / 64, by omega⟩ ⟨r.val % 64, by omega⟩ i)) (h1 : ∀ i : Fin 1024, x1 (ix3 0 r i) = sh (ix2 ⟨r.val / 64, by omega⟩ i)) (h2 : ∀ i : Fin 1024, x2 (ix3 0 r i) = sc (ix2 ⟨r.val / 64, by omega⟩ i))
  (h3 : ∀ i : Fin 1024, x3 (ix2 0 i) = w (ix1 i)) (h4 : ∀ e n : Fin 1024, x4 (ix2 e n) = W (ix2 e ⟨n.val, by omega⟩))
  (h5 : ∀ e n : Fin 1024, x5 (ix2 e n) = W (ix2 e ⟨1024 + n.val, by omega⟩)) (h6 : ∀ l : Fin 128, x6 (ix2 0 l) = g (ix1 ⟨l.val % 64, by omega⟩))

include h0 h1 h2 h3 in
/-- A block's row of the keys' projection. -/
theorem mat_col (h4 : ∀ e n : Fin 1024, x4 (ix2 e n) = W (ix2 e ⟨n.val, by omega⟩)) (n : Fin 1024) :
    k0_pay16 (F := Ideal) x0 x3 x1 x2 x4 (ix2 r n) = col X sh sc w W ⟨r.val / 64, by omega⟩ ⟨r.val % 64, by omega⟩ ⟨n.val, by omega⟩ := by
  rw [pay16_apply]
  simp only [h0, h1, h2, h3, h4]
  rfl

include h0 h1 h2 h3 in
/-- A block's row of the values' projection is the reference's values'. -/
theorem vals_row (h5 : ∀ e n : Fin 1024, x5 (ix2 e n) = W (ix2 e ⟨1024 + n.val, by omega⟩)) (n : Fin 1024) :
    k0_pay17 (F := Ideal) x0 x3 x1 x2 x5 (ix2 r n) = allVals X sh sc w W (ix3 0 r n) := by
  rw [pay17_apply, allVals_apply]
  simp only [h0, h1, h2, h3, h5]
  rfl

include h0 h1 h2 h3 in
/-- A block's row of the keys is the reference's keys'. -/
theorem keys_row (hsh : Reals sh) (hsc : Reals sc) (hw : Reals w) (hW : Reals W)
    (h4 : ∀ e n : Fin 1024, x4 (ix2 e n) = W (ix2 e ⟨n.val, by omega⟩)) (h6 : ∀ l : Fin 128, x6 (ix2 0 l) = g (ix1 ⟨l.val % 64, by omega⟩)) (n : Fin 1024) :
    keyBlk (k0_pay16 (F := Ideal) x0 x3 x1 x2 x4) x6 r n = allKeys X sh sc w W g (ix3 0 r n) := by
  rw [allKeys_apply]
  have hp := pair_head (fun n => col X sh sc w W ⟨r.val / 64, by omega⟩ ⟨r.val % 64, by omega⟩ ⟨n.val, by omega⟩) (fun n => col_real X sh sc w W hsh hsc hw hW ⟨r.val / 64, by omega⟩ ⟨r.val % 64, by omega⟩ ⟨n.val, by omega⟩) (fun d => g (ix1 d))
    ⟨n.val / 128, by omega⟩ ⟨n.val % 128, by omega⟩
  have en : (⟨128 * (n.val / 128) + n.val % 128, by omega⟩ : Fin 1024) = n := Fin.ext (by show 128 * (n.val / 128) + n.val % 128 = n.val; omega)
  unfold keyBlk
  rw [h6, funext fun i : Fin 128 => mat_col X sh sc w W x0 x1 x2 x3 x4 r h0 h1 h2 h3 h4 ⟨128 * (n.val / 128) + i.val, by omega⟩]
  exact hp.trans (congrArg _ en)

end

/-- A block agreeing with an array at every row and column is the block read from it. -/
theorem cut_eq7 (O G : FVec Ideal S1x512x1024 .f32) (t : Fin cfg0.N) (h : ∀ (r : Fin 512) (n : Fin 1024), O (ix3 0 r n) = G (ix3 0 r n)) :
    (cfg0.win 7).cut (grid0.coords t) O = ((cfg0.win 7).blk t).view.read (Elt Ideal) G := by
  refine funext fun (j : S1x512x1024.Idx) => ?_
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  show O j = _
  rw [hj]
  exact (h (j 1) (j 2)).trans (oblk7 G t (j 1) (j 2)).symm

theorem cut_eq8 (O G : FVec Ideal S1x512x1024 .f32) (t : Fin cfg0.N) (h : ∀ (r : Fin 512) (n : Fin 1024), O (ix3 0 r n) = G (ix3 0 r n)) :
    (cfg0.win 8).cut (grid0.coords t) O = ((cfg0.win 8).blk t).view.read (Elt Ideal) G := by
  refine funext fun (j : S1x512x1024.Idx) => ?_
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  show O j = _
  rw [hj]
  exact (h (j 1) (j 2)).trans (oblk8 G t (j 1) (j 2)).symm

theorem cut_eq9 (O G : FVec Ideal S1x512x1024 .bf16) (t : Fin cfg0.N) (h : ∀ (r : Fin 512) (n : Fin 1024), O (ix3 0 r n) = G (ix3 0 r n)) :
    (cfg0.win 9).cut (grid0.coords t) O = ((cfg0.win 9).blk t).view.read (Elt Ideal) G := by
  refine funext fun (j : S1x512x1024.Idx) => ?_
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  show O j = _
  rw [hj]
  exact (h (j 1) (j 2)).trans (oblk9 G t (j 1) (j 2)).symm

theorem cut_eq10 (O G : FVec Ideal S1x512x1024 .bf16) (t : Fin cfg0.N) (h : ∀ (r : Fin 512) (n : Fin 1024), O (ix3 0 r n) = G (ix3 0 r n)) :
    (cfg0.win 10).cut (grid0.coords t) O = ((cfg0.win 10).blk t).view.read (Elt Ideal) G := by
  refine funext fun (j : S1x512x1024.Idx) => ?_
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  show O j = _
  rw [hj]
  exact (h (j 1) (j 2)).trans (oblk10 G t (j 1) (j 2)).symm

variable (m : (ℓ : Loc nD τ sig) → Buf (Elt Ideal) ℓ)

/-- The reference's keys and values of the call's six arguments. -/
def keysOf (c : Dev nD) : FVec Ideal S1x512x1024 .f32 := allKeys (m (c.tc.loc main_arg0)) (m (c.tc.loc main_arg1)) (m (c.tc.loc main_arg2)) (m (c.tc.loc main_arg3)) (m (c.tc.loc main_arg4)) (m (c.tc.loc main_arg5))
def valsOf (c : Dev nD) : FVec Ideal S1x512x1024 .f32 := allVals (m (c.tc.loc main_arg0)) (m (c.tc.loc main_arg1)) (m (c.tc.loc main_arg2)) (m (c.tc.loc main_arg3)) (m (c.tc.loc main_arg4))

/-- What the point computes of its blocks is the reference's keys, … -/
theorem keys_point (c : Dev nD) (q1 : Reals (m (c.tc.loc main_arg1))) (q2 : Reals (m (c.tc.loc main_arg2))) (q3 : Reals (m (c.tc.loc main_arg3))) (q4 : Reals (m (c.tc.loc main_arg4)))
    (t : Fin cfg0.N) (r : Fin 512) (n : Fin 1024) :
    keyBlk (k0_pay16 (F := Ideal) (iblk m c 0 t) (iblk m c 3 t) (iblk m c 1 t) (iblk m c 2 t) (iblk m c 4 t)) (iblk m c 6 t) r n = keysOf m c (ix3 0 r n) :=
  keys_row (m (c.tc.loc main_arg0)) (m (c.tc.loc main_arg1)) (m (c.tc.loc main_arg2)) (m (c.tc.loc main_arg3)) (m (c.tc.loc main_arg4)) (m (c.tc.loc main_arg5))
    (iblk m c 0 t) (iblk m c 1 t) (iblk m c 2 t) (iblk m c 3 t) (iblk m c 4 t) (iblk m c 6 t) r
    (fun i => blk0 m c t r i) (fun i => blk1 m c t r i) (fun i => blk2 m c t r i) (fun i => blk3 m c t i) q1 q2 q3 q4
    (fun e n => blk4 m c t e n) (fun l => blk6 m c t l) n

/-- … and its values. -/
theorem vals_point (c : Dev nD) (t : Fin cfg0.N) (r : Fin 512) (n : Fin 1024) :
    k0_pay17 (F := Ideal) (iblk m c 0 t) (iblk m c 3 t) (iblk m c 1 t) (iblk m c 2 t) (iblk m c 5 t) (ix2 r n) = valsOf m c (ix3 0 r n) :=
  vals_row (m (c.tc.loc main_arg0)) (m (c.tc.loc main_arg1)) (m (c.tc.loc main_arg2)) (m (c.tc.loc main_arg3)) (m (c.tc.loc main_arg4))
    (iblk m c 0 t) (iblk m c 1 t) (iblk m c 2 t) (iblk m c 3 t) (iblk m c 5 t) r
    (fun i => blk0 m c t r i) (fun i => blk1 m c t r i) (fun i => blk2 m c t r i) (fun i => blk3 m c t i)
    (fun e n => blk5 m c t e n) n

theorem flushed_eq7 (c : Dev nD) (q1 : Reals (m (c.tc.loc main_arg1))) (q2 : Reals (m (c.tc.loc main_arg2))) (q3 : Reals (m (c.tc.loc main_arg3))) (q4 : Reals (m (c.tc.loc main_arg4))) (t : Fin cfg0.N) :
    (dats m 0 c).flushed 7 t = ((cfg0.win 7).blk t).view.read (Elt Ideal) (keysOf m c) := by
  rw [Cert.KernelCacheIdeal.Value.flushed7_A m c t]
  exact cut_eq7 _ _ t fun r n => (out7A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) _ r n).trans (keys_point m c q1 q2 q3 q4 t r n)

theorem flushed_eq8 (c : Dev nD) (t : Fin cfg0.N) :
    (dats m 0 c).flushed 8 t = ((cfg0.win 8).blk t).view.read (Elt Ideal) (valsOf m c) := by
  rw [Cert.KernelCacheIdeal.Value.flushed8_A m c t]
  exact cut_eq8 _ _ t fun r n => (out8A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) _ r n).trans (vals_point m c t r n)

theorem flushed_eq9 (c : Dev nD) (q1 : Reals (m (c.tc.loc main_arg1))) (q2 : Reals (m (c.tc.loc main_arg2))) (q3 : Reals (m (c.tc.loc main_arg3))) (q4 : Reals (m (c.tc.loc main_arg4))) (t : Fin cfg0.N) :
    (dats m 0 c).flushed 9 t = ((cfg0.win 9).blk t).view.read (Elt Ideal) (half (keysOf m c)) := by
  rw [Cert.KernelCacheIdeal.Value.flushed9_A m c t]
  exact cut_eq9 _ _ t fun r n => (out9A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) _ r n).trans (keys_point m c q1 q2 q3 q4 t r n)

theorem flushed_eq10 (c : Dev nD) (t : Fin cfg0.N) :
    (dats m 0 c).flushed 10 t = ((cfg0.win 10).blk t).view.read (Elt Ideal) (half (valsOf m c)) := by
  rw [Cert.KernelCacheIdeal.Value.flushed10_A m c t]
  exact cut_eq10 _ _ t fun r n => (out10A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) _ r n).trans (vals_point m c t r n)

/-- So the four results end at the reference's keys and values, and the same in half the width. -/
theorem final7 (c : Dev nD) (q1 : Reals (m (c.tc.loc main_arg1))) (q2 : Reals (m (c.tc.loc main_arg2))) (q3 : Reals (m (c.tc.loc main_arg3))) (q4 : Reals (m (c.tc.loc main_arg4))) : (dats m 0 c).arrAt 7 cfg0.N = keysOf m c :=
  (dats m 0 c).arrAt_eq_of_cover 7 (keysOf m c) (fun t _ => flushed_eq7 m c q1 q2 q3 q4 t) covered7

theorem final8 (c : Dev nD) : (dats m 0 c).arrAt 8 cfg0.N = valsOf m c :=
  (dats m 0 c).arrAt_eq_of_cover 8 (valsOf m c) (fun t _ => flushed_eq8 m c t) covered8

theorem final9 (c : Dev nD) (q1 : Reals (m (c.tc.loc main_arg1))) (q2 : Reals (m (c.tc.loc main_arg2))) (q3 : Reals (m (c.tc.loc main_arg3))) (q4 : Reals (m (c.tc.loc main_arg4))) : (dats m 0 c).arrAt 9 cfg0.N = half (keysOf m c) :=
  (dats m 0 c).arrAt_eq_of_cover 9 (half (keysOf m c)) (fun t _ => flushed_eq9 m c q1 q2 q3 q4 t) covered9

theorem final10 (c : Dev nD) : (dats m 0 c).arrAt 10 cfg0.N = half (valsOf m c) :=
  (dats m 0 c).arrAt_eq_of_cover 10 (half (valsOf m c)) (fun t _ => flushed_eq10 m c t) covered10

end Cert.KernelCacheIdeal.Cache

end
-- ==== Proof.Sub.CacheClaims.lean ====
/- The claims of the sample's keys' and values' call, one theorem each. -/
module

public import proofs.«01_k».proof.Defs
public import proofs.«01_k».proof.Proof.Gen.KernelCache.Frame
public import proofs.«01_k».proof.Proof.Gen.KernelCacheIdeal.Frame
public import proofs.«01_k».proof.Proof.Gen.Pre_step_weights_finite
public import proofs.«01_k».proof.Proof.Sub.Claims
public import proofs.«01_k».proof.Proof.Sub.CacheValue
public import Idealize.ShloMosaic.Adequacy
public import Idealize.ShloMosaic.Init

@[expose] public section

set_option maxRecDepth 16384

noncomputable section

namespace Cert.Proof.Cache

open Idealize.ShloMosaic Idealize.ShloMosaic.TcCoe Idealize.SL.Sem

attribute [local instance] Cert.Pre_step_weights_finite.Gen.facts Cert.KernelCache.Gen.facts Cert.KernelCacheIdeal.Gen.facts Cert.ReferenceCacheIdeal.Gen.facts

/-- The kernel as printed runs, leaves its arguments as they were and every semaphore at zero. -/
theorem frame_p : Cert.quiescent_KernelCache := fun m ρ _ => Cert.KernelCache.Gen.frame m ρ

/-- So does its idealization, … -/
theorem frame_pi : Cert.quiescent_KernelCacheIdeal := fun m ρ _ => Cert.KernelCacheIdeal.Gen.frame m ρ

theorem frame_pi_pre : Cert.quiescent_KernelCacheIdeal_pre_step_weights_finite := fun m ρ _ => Cert.KernelCacheIdeal.Gen.frame m ρ

/-- … and the reference's. -/
theorem frame_ri : Cert.quiescent_ReferenceCacheIdeal := fun m ρ _ =>
  (θ_run Cert.ReferenceCacheIdeal.defs _ _).mono (fun r h => ⟨fun c => (h c).2.2.2.2, Idealize.ShloMosaic.sem_eq_zero_of_no_sems (by decide) r.2⟩)
    (Cert.ReferenceCacheIdeal.Value.run (F := Ideal) m ρ)

theorem frame_ri_pre : Cert.quiescent_ReferenceCacheIdeal_pre_step_weights_finite := fun m ρ _ => frame_ri m ρ trivial

/-- The idealized kernel is the kernel's own text. -/
theorem preserves : Cert.preserves_KernelCache_KernelCacheIdeal := trivial

/-- From arguments that agree, the modulation, the row norm's weight and the projection real numbers, the idealized kernel and the reference end
    with the same four results, each leaving its arguments as they were. -/
theorem algebraic : Cert.algebraic_KernelCacheIdeal_ReferenceCacheIdeal_pre_step_weights_finite := by
  intro m ρ m' ρ' hpre hagree
  refine ⟨fun c => Cert.KernelCacheIdeal.Cache.keysOf m c, fun c => Cert.KernelCacheIdeal.Cache.valsOf m c,
    fun c => Cert.ReferenceCacheIdeal.Cache.half (Cert.KernelCacheIdeal.Cache.keysOf m c), fun c => Cert.ReferenceCacheIdeal.Cache.half (Cert.KernelCacheIdeal.Cache.valsOf m c), ?_, ?_⟩
  · refine (θ_run Cert.KernelCacheIdeal.defs _ _).mono (fun _ h c => ?_) (Cert.KernelCacheIdeal.Value.run_blocks (F := Ideal) m ρ)
    obtain ⟨p1, p2, p3, p4⟩ := hpre c
    have q1 : Cert.KernelKvIdeal.Kv.Reals (m (c.tc.loc Cert.KernelCacheIdeal.main_arg1)) := fun j => Attn.real_of_abs _ (congrFun p1 j)
    have q2 : Cert.KernelKvIdeal.Kv.Reals (m (c.tc.loc Cert.KernelCacheIdeal.main_arg2)) := fun j => Attn.real_of_abs _ (congrFun p2 j)
    have q3 : Cert.KernelKvIdeal.Kv.Reals (m (c.tc.loc Cert.KernelCacheIdeal.main_arg3)) := fun j => Attn.real_of_abs _ (congrFun p3 j)
    have q4 : Cert.KernelKvIdeal.Kv.Reals (m (c.tc.loc Cert.KernelCacheIdeal.main_arg4)) := fun j => Attn.real_of_abs _ (congrFun p4 j)
    obtain ⟨r0, r1, r2, r3, ha⟩ := h c
    exact ⟨r0.trans (Cert.KernelCacheIdeal.Cache.final7 m c q1 q2 q3 q4), r1.trans (Cert.KernelCacheIdeal.Cache.final8 m c),
      r2.trans (Cert.KernelCacheIdeal.Cache.final9 m c q1 q2 q3 q4), r3.trans (Cert.KernelCacheIdeal.Cache.final10 m c), ha⟩
  · refine (θ_run Cert.ReferenceCacheIdeal.defs _ _).mono (fun _ h c => ?_) (Cert.ReferenceCacheIdeal.Cache.run m' ρ')
    obtain ⟨a0, a1, a2, a3, a4, a5⟩ := hagree c
    obtain ⟨r0, r1, r2, r3, ha⟩ := h c
    refine ⟨r0.trans ?_, r1.trans ?_, r2.trans ?_, r3.trans ?_, ha⟩
    · rw [a0, a1, a2, a3, a4, a5]; rfl
    · rw [a0, a1, a2, a3, a4]; rfl
    · rw [a0, a1, a2, a3, a4, a5]; rfl
    · rw [a0, a1, a2, a3, a4]; rfl

end Cert.Proof.Cache

end
-- ==== Proof.lean ====
/- The certificate: its thirty-eight claims, the attention's proved in Proof/Sub/Claims.lean, the keys' and values' in
   Proof/Sub/KvClaims.lean, the latent projections' in Proof/Sub/PreClaims.lean, the band queries' in Proof/Sub/BandClaims.lean,
   the sample's latent projections' in Proof/Sub/StepClaims.lean, the sample's keys' and values' in Proof/Sub/CacheClaims.lean. -/
module

public import proofs.«01_k».proof.Defs
public import proofs.«01_k».proof.Proof.Sub.Claims
public import proofs.«01_k».proof.Proof.Sub.KvClaims
public import proofs.«01_k».proof.Proof.Sub.PreClaims
public import proofs.«01_k».proof.Proof.Sub.BandClaims
public import proofs.«01_k».proof.Proof.Sub.StepClaims
public import proofs.«01_k».proof.Proof.Sub.CacheClaims
public import proofs.«01_k».proof.Proof.Gen.KernelKv
public import proofs.«01_k».proof.Proof.Gen.KernelKv.Skeleton
public import proofs.«01_k».proof.Proof.Gen.KernelKv.Launch
public import proofs.«01_k».proof.Proof.Gen.KernelKv.Points
public import proofs.«01_k».proof.Proof.Gen.KernelKv.Frame
public import proofs.«01_k».proof.Proof.Gen.KernelKvIdeal
public import proofs.«01_k».proof.Proof.Gen.KernelKvIdeal.Skeleton
public import proofs.«01_k».proof.Proof.Gen.KernelKvIdeal.Launch
public import proofs.«01_k».proof.Proof.Gen.KernelKvIdeal.Points
public import proofs.«01_k».proof.Proof.Gen.KernelKvIdeal.Frame
public import proofs.«01_k».proof.Proof.Gen.KernelKvIdeal.Value
public import proofs.«01_k».proof.Proof.Gen.ReferenceKvIdeal
public import proofs.«01_k».proof.Proof.Gen.ReferenceKvIdeal.Run
public import proofs.«01_k».proof.Proof.Gen.Pre_weights_finite
public import proofs.«01_k».proof.Proof.Gen.KernelPre
public import proofs.«01_k».proof.Proof.Gen.KernelPre.Skeleton
public import proofs.«01_k».proof.Proof.Gen.KernelPre.Launch
public import proofs.«01_k».proof.Proof.Gen.KernelPre.Points
public import proofs.«01_k».proof.Proof.Gen.KernelPre.Frame
public import proofs.«01_k».proof.Proof.Gen.KernelPreIdeal
public import proofs.«01_k».proof.Proof.Gen.KernelPreIdeal.Skeleton
public import proofs.«01_k».proof.Proof.Gen.KernelPreIdeal.Launch
public import proofs.«01_k».proof.Proof.Gen.KernelPreIdeal.Points
public import proofs.«01_k».proof.Proof.Gen.KernelPreIdeal.Frame
public import proofs.«01_k».proof.Proof.Gen.KernelPreIdeal.Value
public import proofs.«01_k».proof.Proof.Gen.ReferencePreIdeal
public import proofs.«01_k».proof.Proof.Gen.ReferencePreIdeal.Run
public import proofs.«01_k».proof.Proof.Gen.KernelBand
public import proofs.«01_k».proof.Proof.Gen.KernelBand.Skeleton
public import proofs.«01_k».proof.Proof.Gen.KernelBand.Launch
public import proofs.«01_k».proof.Proof.Gen.KernelBand.Points
public import proofs.«01_k».proof.Proof.Gen.KernelBand.Frame
public import proofs.«01_k».proof.Proof.Gen.KernelBandIdeal
public import proofs.«01_k».proof.Proof.Gen.KernelBandIdeal.Skeleton
public import proofs.«01_k».proof.Proof.Gen.KernelBandIdeal.Launch
public import proofs.«01_k».proof.Proof.Gen.KernelBandIdeal.Points
public import proofs.«01_k».proof.Proof.Gen.KernelBandIdeal.Frame
public import proofs.«01_k».proof.Proof.Gen.KernelBandIdeal.Value
public import proofs.«01_k».proof.Proof.Gen.ReferenceBandIdeal
public import proofs.«01_k».proof.Proof.Gen.ReferenceBandIdeal.Run
public import proofs.«01_k».proof.Proof.Gen.Pre_query_weights_finite
public import proofs.«01_k».proof.Proof.Gen.KernelStep
public import proofs.«01_k».proof.Proof.Gen.KernelStep.Skeleton
public import proofs.«01_k».proof.Proof.Gen.KernelStep.Launch
public import proofs.«01_k».proof.Proof.Gen.KernelStep.Points
public import proofs.«01_k».proof.Proof.Gen.KernelStep.Frame
public import proofs.«01_k».proof.Proof.Gen.KernelStepIdeal
public import proofs.«01_k».proof.Proof.Gen.KernelStepIdeal.Skeleton
public import proofs.«01_k».proof.Proof.Gen.KernelStepIdeal.Launch
public import proofs.«01_k».proof.Proof.Gen.KernelStepIdeal.Points
public import proofs.«01_k».proof.Proof.Gen.KernelStepIdeal.Frame
public import proofs.«01_k».proof.Proof.Gen.KernelStepIdeal.Value
public import proofs.«01_k».proof.Proof.Gen.ReferenceStepIdeal
public import proofs.«01_k».proof.Proof.Gen.ReferenceStepIdeal.Run
public import proofs.«01_k».proof.Proof.Gen.KernelCache
public import proofs.«01_k».proof.Proof.Gen.KernelCache.Skeleton
public import proofs.«01_k».proof.Proof.Gen.KernelCache.Launch
public import proofs.«01_k».proof.Proof.Gen.KernelCache.Points
public import proofs.«01_k».proof.Proof.Gen.KernelCache.Frame
public import proofs.«01_k».proof.Proof.Gen.KernelCacheIdeal
public import proofs.«01_k».proof.Proof.Gen.KernelCacheIdeal.Skeleton
public import proofs.«01_k».proof.Proof.Gen.KernelCacheIdeal.Launch
public import proofs.«01_k».proof.Proof.Gen.KernelCacheIdeal.Points
public import proofs.«01_k».proof.Proof.Gen.KernelCacheIdeal.Frame
public import proofs.«01_k».proof.Proof.Gen.KernelCacheIdeal.Value
public import proofs.«01_k».proof.Proof.Gen.ReferenceCacheIdeal
public import proofs.«01_k».proof.Proof.Gen.ReferenceCacheIdeal.Run
public import proofs.«01_k».proof.Proof.Gen.Pre_step_weights_finite
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.KernelKv.Gen.facts, Cert.KernelKvIdeal.Gen.facts, Cert.ReferenceKvIdeal.Gen.facts,
    Cert.KernelPre.Gen.facts, Cert.KernelPreIdeal.Gen.facts, Cert.ReferencePreIdeal.Gen.facts,
    Cert.KernelBand.Gen.facts, Cert.KernelBandIdeal.Gen.facts, Cert.ReferenceBandIdeal.Gen.facts,
    Cert.KernelStep.Gen.facts, Cert.KernelStepIdeal.Gen.facts, Cert.ReferenceStepIdeal.Gen.facts,
    Cert.KernelCache.Gen.facts, Cert.KernelCacheIdeal.Gen.facts, Cert.ReferenceCacheIdeal.Gen.facts,
    Attn.preFacts, Cert.Pre_weights_finite.Gen.facts, Cert.Pre_query_weights_finite.Gen.facts,
    Cert.Pre_step_weights_finite.Gen.facts,
    Attn.frame_p, Attn.frame_pi, Attn.frame_pi_pre, Attn.frame_ri, Attn.frame_ri_pre,
    Kv.frame_p, Kv.frame_pi, Kv.frame_pi_pre, Kv.frame_ri, Kv.frame_ri_pre,
    Pre.frame_p, Pre.frame_pi, Pre.frame_ri,
    Band.frame_p, Band.frame_pi, Band.frame_pi_pre, Band.frame_ri, Band.frame_ri_pre,
    Step.frame_p, Step.frame_pi, Step.frame_ri,
    Cache.frame_p, Cache.frame_pi, Cache.frame_pi_pre, Cache.frame_ri, Cache.frame_ri_pre,
    Attn.preserves, Attn.algebraic, Kv.preserves, Kv.algebraic, Pre.preserves, Pre.algebraic,
    Band.preserves, Band.algebraic, Step.preserves, Step.algebraic,
    Cache.preserves, Cache.algebraic⟩

end Cert.Proof

end
